-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![128, 2048]⟩ ⟨2, ![4096, 2048]⟩ 0 32 c (m' (((0 : Dev Cert.GatherReferenceIdeal.nD).tc : Thread Cert.GatherReferenceIdeal.nD Cert.GatherReferenceIdeal.τ).loc Cert.GatherReferenceIdeal.main_arg0))) →
    ∃ (v0 : Buf (Elt Ideal) (((0 : Dev Cert.GatherReferenceIdeal.nD).tc : Thread Cert.GatherReferenceIdeal.nD Cert.GatherReferenceIdeal.τ).loc Cert.GatherReferenceIdeal.main_v34)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v16) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v34) = v0
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather)
    ∧ quiescent_GatherIdeal (hGatherIdeal := hGatherIdeal)
    ∧ quiescent_GatherReferenceIdeal (hGatherReferenceIdeal := hGatherReferenceIdeal)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_GatherReferenceIdeal (hGatherIdeal := hGatherIdeal) (hGatherReferenceIdeal := hGatherReferenceIdeal)
-- ==== Kernel.lean ====
abbrev S4096x128 : Shape := ⟨2, ![4096, 128]⟩
abbrev S128x2048 : Shape := ⟨2, ![128, 2048]⟩
abbrev S1 : Shape := ⟨1, ![1]⟩
abbrev S32 : Shape := ⟨1, ![32]⟩
abbrev S_ : Shape := ⟨0, ![]⟩
abbrev S3 : Shape := ⟨1, ![3]⟩
abbrev S4096x2048 : Shape := ⟨2, ![4096, 2048]⟩
abbrev S2x128x2048 : Shape := ⟨3, ![2, 128, 2048]⟩
abbrev S2x2 : Shape := ⟨2, ![2, 2]⟩
abbrev S2 : Shape := ⟨1, ![2]⟩
abbrev S128x128 : Shape := ⟨2, ![128, 128]⟩
abbrev S1x1 : Shape := ⟨2, ![1, 1]⟩
abbrev S1x128x2048 : Shape := ⟨3, ![1, 128, 2048]⟩

abbrev nBuf : Space → Nat
  | .hbm => 106
  | .vmem => 6
  | .smem => 3
  | _ => 0

abbrev bufTy : (tb : Table) → Fin (tcTables nBuf tb) → BufTy
  | .hbm, ⟨0, _⟩ => ⟨S4096x128, .fp8e4m3⟩
  | .hbm, ⟨1, _⟩ => ⟨S128x2048, .fp8e5m2⟩
  | .hbm, ⟨2, _⟩ => ⟨S1, .f32⟩
  | .hbm, ⟨3, _⟩ => ⟨S1, .f32⟩
  | .hbm, ⟨4, _⟩ => ⟨S32, .i32⟩
  | .hbm, ⟨5, _⟩ => ⟨S32, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S1, .i1⟩
  | .hbm, ⟨22, _⟩ => ⟨S1, .i1⟩
  | .hbm, ⟨23, _⟩ => ⟨S1, .i1⟩
  | .hbm, ⟨24, _⟩ => ⟨S_, .i1⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i1⟩
  | .hbm, ⟨44, _⟩ => ⟨S_, .i1⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i1⟩
  | .hbm, ⟨59, _⟩ => ⟨S1, .i1⟩
  | .hbm, ⟨60, _⟩ => ⟨S_, .i1⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i1⟩
  | .hbm, ⟨80, _⟩ => ⟨S_, .i1⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S1, .i32⟩
  | .hbm, ⟨90, _⟩ => ⟨S1, .i32⟩
  | .hbm, ⟨91, _⟩ => ⟨S_, .i32⟩
  | .hbm, ⟨92, _⟩ => ⟨S1, .i32⟩
  | .hbm, ⟨93, _⟩ => ⟨S1, .i1⟩
  | .hbm, ⟨94, _⟩ => ⟨S1, .i1⟩
  | .hbm, ⟨95, _⟩ => ⟨S1, .i1⟩
  | .hbm, ⟨96, _⟩ => ⟨S_, .i1⟩
  | .hbm, ⟨97, _⟩ => ⟨S_, .i1⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S1, .i32⟩
  | .hbm, ⟨102, _⟩ => ⟨S1, .i32⟩
  | .hbm, ⟨103, _⟩ => ⟨S1, .i32⟩
  | .hbm, ⟨104, _⟩ => ⟨S3, .i32⟩
  | .hbm, ⟨105, _⟩ => ⟨S128x2048, .f32⟩
  | .local _ .vmem, ⟨0, _⟩ => ⟨S4096x128, .fp8e4m3⟩
  | .local _ .vmem, ⟨1, _⟩ => ⟨S128x2048, .fp8e5m2⟩
  | .local _ .vmem, ⟨2, _⟩ => ⟨S128x2048, .f32⟩
  | .local _ .vmem, ⟨3, _⟩ => ⟨S4096x2048, .bf16⟩
  | .local _ .vmem, ⟨4, _⟩ => ⟨S2x128x2048, .bf16⟩
  | .local _ .vmem, ⟨5, _⟩ => ⟨S2x128x2048, .bf16⟩
  | .local _ .smem, ⟨0, _⟩ => ⟨S1, .f32⟩
  | .local _ .smem, ⟨1, _⟩ => ⟨S1, .f32⟩
  | .local _ .smem, ⟨2, _⟩ => ⟨S3, .i32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_c_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_c_1 : Ref sig .tc := ⟨.hbm, 18, rfl⟩
abbrev main_call0_c_2 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_c_3 : Ref sig .tc := ⟨.hbm, 24, rfl⟩
abbrev main_call0_v8 : Ref sig .tc := ⟨.hbm, 25, rfl⟩
abbrev main_call0_v9 : Ref sig .tc := ⟨.hbm, 26, rfl⟩
abbrev main_call0_c_4 : Ref sig .tc := ⟨.hbm, 27, rfl⟩
abbrev main_v5 : Ref sig .tc := ⟨.hbm, 28, rfl⟩
abbrev main_c_3 : Ref sig .tc := ⟨.hbm, 29, rfl⟩
abbrev main_v6 : Ref sig .tc := ⟨.hbm, 30, rfl⟩
abbrev main_c_4 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_c_1 : Ref sig .tc := ⟨.hbm, 38, rfl⟩
abbrev main_call1_v4 : Ref sig .tc := ⟨.hbm, 39, rfl⟩
abbrev main_call1_c_2 : Ref sig .tc := ⟨.hbm, 40, rfl⟩
abbrev main_call1_v5 : Ref sig .tc := ⟨.hbm, 41, rfl⟩
abbrev main_call1_c_3 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_v7 : Ref sig .tc := ⟨.hbm, 47, rfl⟩
abbrev main_call2_c : Ref sig .tc := ⟨.hbm, 48, rfl⟩
abbrev main_call2_v0 : Ref sig .tc := ⟨.hbm, 49, rfl⟩
abbrev main_call2_c_0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_c_1 : Ref sig .tc := ⟨.hbm, 54, rfl⟩
abbrev main_call2_c_2 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_c_3 : Ref sig .tc := ⟨.hbm, 60, rfl⟩
abbrev main_call2_v8 : Ref sig .tc := ⟨.hbm, 61, rfl⟩
abbrev main_call2_v9 : Ref sig .tc := ⟨.hbm, 62, rfl⟩
abbrev main_call2_c_4 : Ref sig .tc := ⟨.hbm, 63, rfl⟩
abbrev main_v8 : Ref sig .tc := ⟨.hbm, 64, rfl⟩
abbrev main_c_5 : Ref sig .tc := ⟨.hbm, 65, rfl⟩
abbrev main_v9 : Ref sig .tc := ⟨.hbm, 66, rfl⟩
abbrev main_c_6 : Ref sig .tc := ⟨.hbm, 67, rfl⟩
abbrev main_call3_v0 : Ref sig .tc := ⟨.hbm, 68, rfl⟩
abbrev main_call3_c : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_c_1 : Ref sig .tc := ⟨.hbm, 74, rfl⟩
abbrev main_call3_v4 : Ref sig .tc := ⟨.hbm, 75, rfl⟩
abbrev main_call3_c_2 : Ref sig .tc := ⟨.hbm, 76, rfl⟩
abbrev main_call3_v5 : Ref sig .tc := ⟨.hbm, 77, rfl⟩
abbrev main_call3_c_3 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_v9 : Ref sig .tc := ⟨.hbm, 82, rfl⟩
abbrev main_v10 : Ref sig .tc := ⟨.hbm, 83, rfl⟩
abbrev main_call4_c : Ref sig .tc := ⟨.hbm, 84, rfl⟩
abbrev main_call4_v0 : Ref sig .tc := ⟨.hbm, 85, rfl⟩
abbrev main_call4_c_0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_c_1 : Ref sig .tc := ⟨.hbm, 90, rfl⟩
abbrev main_call4_c_2 : Ref sig .tc := ⟨.hbm, 91, rfl⟩
abbrev main_call4_v4 : Ref sig .tc := ⟨.hbm, 92, rfl⟩
abbrev main_call4_v5 : Ref sig .tc := ⟨.hbm, 93, rfl⟩
abbrev main_call4_v6 : Ref sig .tc := ⟨.hbm, 94, rfl⟩
abbrev main_call4_v7 : Ref sig .tc := ⟨.hbm, 95, rfl⟩
abbrev main_call4_c_3 : Ref sig .tc := ⟨.hbm, 96, rfl⟩
abbrev main_call4_v8 : Ref sig .tc := ⟨.hbm, 97, rfl⟩
abbrev main_call4_v9 : Ref sig .tc := ⟨.hbm, 98, rfl⟩
abbrev main_call4_c_4 : Ref sig .tc := ⟨.hbm, 99, rfl⟩
abbrev main_v11 : Ref sig .tc := ⟨.hbm, 100, rfl⟩
abbrev main_v12 : Ref sig .tc := ⟨.hbm, 101, rfl⟩
abbrev main_v13 : Ref sig .tc := ⟨.hbm, 102, rfl⟩
abbrev main_v14 : Ref sig .tc := ⟨.hbm, 103, rfl⟩
abbrev main_v15 : Ref sig .tc := ⟨.hbm, 104, rfl⟩
abbrev main_v16 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 32
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v6 : BitVec 32 := Scalar.addi c0_i32 c32_i32
  let c1_i32 : BitVec 32 := 1#32
  ⟨c0_i32, v6, c1_i32⟩
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_126 : BitVec 32 := 128#32
  let v145 : BitVec 32 := Scalar.muli arg12 c128_i32_126
  let v146 : Index := Scalar.indexCast v145
  let c0_127 : Index := 0#32
  ![v146.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_129 : BitVec 32 := 128#32
  let v152 : BitVec 32 := Scalar.muli arg12 c128_i32_129
  let v153 : Index := Scalar.indexCast v152
  let c0_130 : Index := 0#32
  ![v153.toNat, 0]
def k0_dev1 (v1 : BitVec 32) : Nat :=
  let c0_i32_5 : BitVec 32 := 0#32
  let c1_i32_4 : BitVec 32 := 1#32
  let v8 : BitVec 32 := Scalar.muli v1 c1_i32_4
  let v9 : BitVec 32 := Scalar.addi c0_i32_5 v8
  v9.toNat

def k0_dev2 (v2 : BitVec 32) : Nat :=
  let c0_i32_8 : BitVec 32 := 0#32
  let c1_i32_7 : BitVec 32 := 1#32
  let v10 : BitVec 32 := Scalar.muli v2 c1_i32_7
  let v11 : BitVec 32 := Scalar.addi c0_i32_8 v10
  v11.toNat

def k0_off3 (v0 : BitVec 32) (c16_i32 : BitVec 32) : Fin 2 → Nat :=
  let v12 : BitVec 32 := Scalar.addi v0 c16_i32
  let c32_i32_9 : BitVec 32 := 32#32
  let c0_i32_10 : BitVec 32 := 0#32
  let v13 : BitVec 1 := Scalar.cmpi .eq c32_i32_9 c0_i32_10
  let c1_i32_11 : BitVec 32 := 1#32
  let v14 : BitVec 32 := Scalar.select v13 c1_i32_11 c32_i32_9
  let v15 : BitVec 32 := Scalar.remsi v12 v14
  let c0_i32_13 : BitVec 32 := 0#32
  let v17 : BitVec 1 := Scalar.cmpi .slt v15 c0_i32_13
  let c0_i32_14 : BitVec 32 := 0#32
  let v18 : BitVec 1 := Scalar.cmpi .slt v14 c0_i32_14
  let v19 : BitVec 1 := Scalar.xori v17 v18
  let c0_i32_12 : BitVec 32 := 0#32
  let v16 : BitVec 1 := Scalar.cmpi .ne v15 c0_i32_12
  let v20 : BitVec 1 := Scalar.andi v19 v16
  let v21 : BitVec 32 := Scalar.addi v15 v14
  let v22 : BitVec 32 := Scalar.select v20 v21 v15
  let c128_i32 : BitVec 32 := 128#32
  let v23 : BitVec 32 := Scalar.muli v22 c128_i32
  let c0_i32_24 : BitVec 32 := 0#32
  ![v23.toNat, 0]

def k0_dev3 (v2 : BitVec 32) : Nat :=
  let c0_i32_21 : BitVec 32 := 0#32
  let c1_i32_20 : BitVec 32 := 1#32
  let v24 : BitVec 32 := Scalar.muli v2 c1_i32_20
  let v25 : BitVec 32 := Scalar.addi c0_i32_21 v24
  v25.toNat
def k0_off4 (v0 : BitVec 32) (c15_i32 : BitVec 32) : Fin 2 → Nat :=
  let v33 : BitVec 32 := Scalar.subi v0 c15_i32
  let c32_i32_25 : BitVec 32 := 32#32
  let c0_i32_26 : BitVec 32 := 0#32
  let v34 : BitVec 1 := Scalar.cmpi .eq c32_i32_25 c0_i32_26
  let c1_i32_27 : BitVec 32 := 1#32
  let v35 : BitVec 32 := Scalar.select v34 c1_i32_27 c32_i32_25
  let v36 : BitVec 32 := Scalar.remsi v33 v35
  let c0_i32_29 : BitVec 32 := 0#32
  let v38 : BitVec 1 := Scalar.cmpi .slt v36 c0_i32_29
  let c0_i32_30 : BitVec 32 := 0#32
  let v39 : BitVec 1 := Scalar.cmpi .slt v35 c0_i32_30
  let v40 : BitVec 1 := Scalar.xori v38 v39
  let c0_i32_28 : BitVec 32 := 0#32
  let v37 : BitVec 1 := Scalar.cmpi .ne v36 c0_i32_28
  let v41 : BitVec 1 := Scalar.andi v40 v37
  let v42 : BitVec 32 := Scalar.addi v36 v35
  let v43 : BitVec 32 := Scalar.select v41 v42 v36
  let c128_i32_31 : BitVec 32 := 128#32
  let v44 : BitVec 32 := Scalar.muli v43 c128_i32_31
  let c0_i32_41 : BitVec 32 := 0#32
  ![v44.toNat, 0]
def k0_dev4 (v1 : BitVec 32) : Nat :=
  let c0_i32_38 : BitVec 32 := 0#32
  let c1_i32_37 : BitVec 32 := 1#32
  let v45 : BitVec 32 := Scalar.muli v1 c1_i32_37
  let v46 : BitVec 32 := Scalar.addi c0_i32_38 v45
  v46.toNat
@[reducible] def k0_t2_loop : Scf.Loop 32 :=
  let c0_i32_42 : BitVec 32 := 0#32
  let c16_i32_43 : BitVec 32 := 16#32
  let v54 : BitVec 32 := Scalar.addi c0_i32_42 c16_i32_43
  let c1_i32_44 : BitVec 32 := 1#32
  ⟨c0_i32_42, v54, c1_i32_44⟩
def k0_off5 (k0_t2 : Fin k0_t2_loop.trips) : Fin 2 → Nat :=
  let c0_i32_147 : BitVec 32 := 0#32
  let c0_i32_42 : BitVec 32 := 0#32
  let c1_i32_44 : BitVec 32 := 1#32
  let arg12 : BitVec 32 := Scf.iv c0_i32_42 c1_i32_44 k0_t2
  let c2_i32_126 : BitVec 32 := 2#32
  let c0_i32_127 : BitVec 32 := 0#32
  let v145 : BitVec 1 := Scalar.cmpi .eq c2_i32_126 c0_i32_127
  let c1_i32_128 : BitVec 32 := 1#32
  let v146 : BitVec 32 := Scalar.select v145 c1_i32_128 c2_i32_126
  let v147 : BitVec 32 := Scalar.remsi arg12 v146
  let c0_i32_130 : BitVec 32 := 0#32
  let v149 : BitVec 1 := Scalar.cmpi .slt v147 c0_i32_130
  let c0_i32_131 : BitVec 32 := 0#32
  let v150 : BitVec 1 := Scalar.cmpi .slt v146 c0_i32_131
  let v151 : BitVec 1 := Scalar.xori v149 v150
  let c0_i32_129 : BitVec 32 := 0#32
  let v148 : BitVec 1 := Scalar.cmpi .ne v147 c0_i32_129
  let v152 : BitVec 1 := Scalar.andi v151 v148
  let v153 : BitVec 32 := Scalar.addi v147 v146
  let v154 : BitVec 32 := Scalar.select v152 v153 v147
  ![0, v154.toNat]
def k0_off6 (k0_t2 : Fin k0_t2_loop.trips) : Fin 3 → Nat :=
  let c0_i32_42 : BitVec 32 := 0#32
  let c1_i32_44 : BitVec 32 := 1#32
  let arg12 : BitVec 32 := Scf.iv c0_i32_42 c1_i32_44 k0_t2
  let c2_i32_126 : BitVec 32 := 2#32
  let c0_i32_127 : BitVec 32 := 0#32
  let v145 : BitVec 1 := Scalar.cmpi .eq c2_i32_126 c0_i32_127
  let c1_i32_128 : BitVec 32 := 1#32
  let v146 : BitVec 32 := Scalar.select v145 c1_i32_128 c2_i32_126
  let v147 : BitVec 32 := Scalar.remsi arg12 v146
  let c0_i32_130 : BitVec 32 := 0#32
  let v149 : BitVec 1 := Scalar.cmpi .slt v147 c0_i32_130
  let c0_i32_131 : BitVec 32 := 0#32
  let v150 : BitVec 1 := Scalar.cmpi .slt v146 c0_i32_131
  let v151 : BitVec 1 := Scalar.xori v149 v150
  let c0_i32_129 : BitVec 32 := 0#32
  let v148 : BitVec 1 := Scalar.cmpi .ne v147 c0_i32_129
  let v152 : BitVec 1 := Scalar.andi v151 v148
  let v153 : BitVec 32 := Scalar.addi v147 v146
  let v154 : BitVec 32 := Scalar.select v152 v153 v147
  let c0_i32_151 : BitVec 32 := 0#32
  let c0_i32_152 : BitVec 32 := 0#32
  ![v154.toNat, 0, 0]
def k0_off7 (v0 : BitVec 32) (k0_t2 : Fin k0_t2_loop.trips) : Fin 2 → Nat :=
  let c15_i32_139 : BitVec 32 := 15#32
  let v166 : BitVec 32 := Scalar.addi v0 c15_i32_139
  let c0_i32_42 : BitVec 32 := 0#32
  let c1_i32_44 : BitVec 32 := 1#32
  let arg12 : BitVec 32 := Scf.iv c0_i32_42 c1_i32_44 k0_t2
  let v167 : BitVec 32 := Scalar.subi v166 arg12
  let c32_i32_140 : BitVec 32 := 32#32
  let c0_i32_141 : BitVec 32 := 0#32
  let v168 : BitVec 1 := Scalar.cmpi .eq c32_i32_140 c0_i32_141
  let c1_i32_142 : BitVec 32 := 1#32
  let v169 : BitVec 32 := Scalar.select v168 c1_i32_142 c32_i32_140
  let v170 : BitVec 32 := Scalar.remsi v167 v169
  let c0_i32_144 : BitVec 32 := 0#32
  let v172 : BitVec 1 := Scalar.cmpi .slt v170 c0_i32_144
  let c0_i32_145 : BitVec 32 := 0#32
  let v173 : BitVec 1 := Scalar.cmpi .slt v169 c0_i32_145
  let v174 : BitVec 1 := Scalar.xori v172 v173
  let c0_i32_143 : BitVec 32 := 0#32
  let v171 : BitVec 1 := Scalar.cmpi .ne v170 c0_i32_143
  let v175 : BitVec 1 := Scalar.andi v174 v171
  let v176 : BitVec 32 := Scalar.addi v170 v169
  let v177 : BitVec 32 := Scalar.select v175 v176 v170
  let c128_i32_146 : BitVec 32 := 128#32
  let v178 : BitVec 32 := Scalar.muli v177 c128_i32_146
  let c0_i32_153 : BitVec 32 := 0#32
  ![v178.toNat, 0]
def k0_off8 (v0 : BitVec 32) (k0_t2 : Fin k0_t2_loop.trips) : Fin 2 → Nat :=
  let c15_i32_139 : BitVec 32 := 15#32
  let v166 : BitVec 32 := Scalar.addi v0 c15_i32_139
  let c0_i32_42 : BitVec 32 := 0#32
  let c1_i32_44 : BitVec 32 := 1#32
  let arg12 : BitVec 32 := Scf.iv c0_i32_42 c1_i32_44 k0_t2
  let v167 : BitVec 32 := Scalar.subi v166 arg12
  let c32_i32_140 : BitVec 32 := 32#32
  let c0_i32_141 : BitVec 32 := 0#32
  let v168 : BitVec 1 := Scalar.cmpi .eq c32_i32_140 c0_i32_141
  let c1_i32_142 : BitVec 32 := 1#32
  let v169 : BitVec 32 := Scalar.select v168 c1_i32_142 c32_i32_140
  let v170 : BitVec 32 := Scalar.remsi v167 v169
  let c0_i32_144 : BitVec 32 := 0#32
  let v172 : BitVec 1 := Scalar.cmpi .slt v170 c0_i32_144
  let c0_i32_145 : BitVec 32 := 0#32
  let v173 : BitVec 1 := Scalar.cmpi .slt v169 c0_i32_145
  let v174 : BitVec 1 := Scalar.xori v172 v173
  let c0_i32_143 : BitVec 32 := 0#32
  let v171 : BitVec 1 := Scalar.cmpi .ne v170 c0_i32_143
  let v175 : BitVec 1 := Scalar.andi v174 v171
  let v176 : BitVec 32 := Scalar.addi v170 v169
  let v177 : BitVec 32 := Scalar.select v175 v176 v170
  let c128_i32_146 : BitVec 32 := 128#32
  let v178 : BitVec 32 := Scalar.muli v177 c128_i32_146
  let v186 : Index := Scalar.indexCast v178
  let c0_154 : Index := 0#32
  ![v186.toNat, 0]
def k0_off9 (k0_t2 : Fin k0_t2_loop.trips) : Fin 3 → Nat :=
  let c0_i32_42 : BitVec 32 := 0#32
  let c1_i32_44 : BitVec 32 := 1#32
  let arg12 : BitVec 32 := Scf.iv c0_i32_42 c1_i32_44 k0_t2
  let c2_i32_126 : BitVec 32 := 2#32
  let c0_i32_127 : BitVec 32 := 0#32
  let v145 : BitVec 1 := Scalar.cmpi .eq c2_i32_126 c0_i32_127
  let c1_i32_128 : BitVec 32 := 1#32
  let v146 : BitVec 32 := Scalar.select v145 c1_i32_128 c2_i32_126
  let v147 : BitVec 32 := Scalar.remsi arg12 v146
  let c0_i32_130 : BitVec 32 := 0#32
  let v149 : BitVec 1 := Scalar.cmpi .slt v147 c0_i32_130
  let c0_i32_131 : BitVec 32 := 0#32
  let v150 : BitVec 1 := Scalar.cmpi .slt v146 c0_i32_131
  let v151 : BitVec 1 := Scalar.xori v149 v150
  let c0_i32_129 : BitVec 32 := 0#32
  let v148 : BitVec 1 := Scalar.cmpi .ne v147 c0_i32_129
  let v152 : BitVec 1 := Scalar.andi v151 v148
  let v153 : BitVec 32 := Scalar.addi v147 v146
  let v154 : BitVec 32 := Scalar.select v152 v153 v147
  let v188 : Index := Scalar.indexCast v154
  let c0_155 : Index := 0#32
  let c0_156 : Index := 0#32
  ![v188.toNat, 0, 0]
def k0_cond1 (k0_t2 : Fin k0_t2_loop.trips) : BitVec 1 :=
  let c0_i32_42 : BitVec 32 := 0#32
  let c1_i32_44 : BitVec 32 := 1#32
  let arg12 : BitVec 32 := Scf.iv c0_i32_42 c1_i32_44 k0_t2
  let c15_i32_158 : BitVec 32 := 15#32
  let v196 : BitVec 1 := Scalar.cmpi .slt arg12 c15_i32_158
  let v197 : BitVec 32 := Scalar.extui v196
  let c0_i32_159 : BitVec 32 := 0#32
  let v198 : BitVec 1 := Scalar.cmpi .ne v197 c0_i32_159
  v198

def k0_cond2 (k0_t2 : Fin k0_t2_loop.trips) : BitVec 1 :=
  let c0_i32_42 : BitVec 32 := 0#32
  let c1_i32_44 : BitVec 32 := 1#32
  let arg12 : BitVec 32 := Scf.iv c0_i32_42 c1_i32_44 k0_t2
  let c1_i32_163 : BitVec 32 := 1#32
  let v205 : BitVec 1 := Scalar.cmpi .sge arg12 c1_i32_163
  let v206 : BitVec 32 := Scalar.extui v205
  let c0_i32_164 : BitVec 32 := 0#32
  let v207 : BitVec 1 := Scalar.cmpi .ne v206 c0_i32_164
  v207

def k0_off10 (k0_t2 : Fin k0_t2_loop.trips) : Fin 2 → Nat :=
  let c0_i32_172 : BitVec 32 := 0#32
  let c0_i32_42 : BitVec 32 := 0#32
  let c1_i32_44 : BitVec 32 := 1#32
  let arg12 : BitVec 32 := Scf.iv c0_i32_42 c1_i32_44 k0_t2
  let c1_i32_132 : BitVec 32 := 1#32
  let v155 : BitVec 32 := Scalar.addi arg12 c1_i32_132
  let c2_i32_133 : BitVec 32 := 2#32
  let c0_i32_134 : BitVec 32 := 0#32
  let v156 : BitVec 1 := Scalar.cmpi .eq c2_i32_133 c0_i32_134
  let c1_i32_135 : BitVec 32 := 1#32
  let v157 : BitVec 32 := Scalar.select v156 c1_i32_135 c2_i32_133
  let v158 : BitVec 32 := Scalar.remsi v155 v157
  let c0_i32_137 : BitVec 32 := 0#32
  let v160 : BitVec 1 := Scalar.cmpi .slt v158 c0_i32_137
  let c0_i32_138 : BitVec 32 := 0#32
  let v161 : BitVec 1 := Scalar.cmpi .slt v157 c0_i32_138
  let v162 : BitVec 1 := Scalar.xori v160 v161
  let c0_i32_136 : BitVec 32 := 0#32
  let v159 : BitVec 1 := Scalar.cmpi .ne v158 c0_i32_136
  let v163 : BitVec 1 := Scalar.andi v162 v159
  let v164 : BitVec 32 := Scalar.addi v158 v157
  let v165 : BitVec 32 := Scalar.select v163 v164 v158
  ![0, v165.toNat]
def k0_off11 (v0 : BitVec 32) (k0_t2 : Fin k0_t2_loop.trips) : Fin 2 → Nat :=
  let c15_i32_139 : BitVec 32 := 15#32
  let v166 : BitVec 32 := Scalar.addi v0 c15_i32_139
  let c0_i32_42 : BitVec 32 := 0#32
  let c1_i32_44 : BitVec 32 := 1#32
  let arg12 : BitVec 32 := Scf.iv c0_i32_42 c1_i32_44 k0_t2
  let v167 : BitVec 32 := Scalar.subi v166 arg12
  let c32_i32_140 : BitVec 32 := 32#32
  let c0_i32_141 : BitVec 32 := 0#32
  let v168 : BitVec 1 := Scalar.cmpi .eq c32_i32_140 c0_i32_141
  let c1_i32_142 : BitVec 32 := 1#32
  let v169 : BitVec 32 := Scalar.select v168 c1_i32_142 c32_i32_140
  let v170 : BitVec 32 := Scalar.remsi v167 v169
  let c0_i32_144 : BitVec 32 := 0#32
  let v172 : BitVec 1 := Scalar.cmpi .slt v170 c0_i32_144
  let c0_i32_145 : BitVec 32 := 0#32
  let v173 : BitVec 1 := Scalar.cmpi .slt v169 c0_i32_145
  let v174 : BitVec 1 := Scalar.xori v172 v173
  let c0_i32_143 : BitVec 32 := 0#32
  let v171 : BitVec 1 := Scalar.cmpi .ne v170 c0_i32_143
  let v175 : BitVec 1 := Scalar.andi v174 v171
  let v176 : BitVec 32 := Scalar.addi v170 v169
  let v177 : BitVec 32 := Scalar.select v175 v176 v170
  let c128_i32_146 : BitVec 32 := 128#32
  let v178 : BitVec 32 := Scalar.muli v177 c128_i32_146
  let c0_i32_175 : BitVec 32 := 0#32
  ![v178.toNat, 0]
def k0_off12 (k0_t2 : Fin k0_t2_loop.trips) : Fin 3 → Nat :=
  let c0_i32_42 : BitVec 32 := 0#32
  let c1_i32_44 : BitVec 32 := 1#32
  let arg12 : BitVec 32 := Scf.iv c0_i32_42 c1_i32_44 k0_t2
  let c1_i32_132 : BitVec 32 := 1#32
  let v155 : BitVec 32 := Scalar.addi arg12 c1_i32_132
  let c2_i32_133 : BitVec 32 := 2#32
  let c0_i32_134 : BitVec 32 := 0#32
  let v156 : BitVec 1 := Scalar.cmpi .eq c2_i32_133 c0_i32_134
  let c1_i32_135 : BitVec 32 := 1#32
  let v157 : BitVec 32 := Scalar.select v156 c1_i32_135 c2_i32_133
  let v158 : BitVec 32 := Scalar.remsi v155 v157
  let c0_i32_137 : BitVec 32 := 0#32
  let v160 : BitVec 1 := Scalar.cmpi .slt v158 c0_i32_137
  let c0_i32_138 : BitVec 32 := 0#32
  let v161 : BitVec 1 := Scalar.cmpi .slt v157 c0_i32_138
  let v162 : BitVec 1 := Scalar.xori v160 v161
  let c0_i32_136 : BitVec 32 := 0#32
  let v159 : BitVec 1 := Scalar.cmpi .ne v158 c0_i32_136
  let v163 : BitVec 1 := Scalar.andi v162 v159
  let v164 : BitVec 32 := Scalar.addi v158 v157
  let v165 : BitVec 32 := Scalar.select v163 v164 v158
  let c0_i32_176 : BitVec 32 := 0#32
  let c0_i32_177 : BitVec 32 := 0#32
  ![v165.toNat, 0, 0]
def k0_off13 (k0_t2 : Fin k0_t2_loop.trips) : Fin 2 → Nat :=
  let c0_i32_166 : BitVec 32 := 0#32
  let c0_i32_42 : BitVec 32 := 0#32
  let c1_i32_44 : BitVec 32 := 1#32
  let arg12 : BitVec 32 := Scf.iv c0_i32_42 c1_i32_44 k0_t2
  let c1_i32_132 : BitVec 32 := 1#32
  let v155 : BitVec 32 := Scalar.addi arg12 c1_i32_132
  let c2_i32_133 : BitVec 32 := 2#32
  let c0_i32_134 : BitVec 32 := 0#32
  let v156 : BitVec 1 := Scalar.cmpi .eq c2_i32_133 c0_i32_134
  let c1_i32_135 : BitVec 32 := 1#32
  let v157 : BitVec 32 := Scalar.select v156 c1_i32_135 c2_i32_133
  let v158 : BitVec 32 := Scalar.remsi v155 v157
  let c0_i32_137 : BitVec 32 := 0#32
  let v160 : BitVec 1 := Scalar.cmpi .slt v158 c0_i32_137
  let c0_i32_138 : BitVec 32 := 0#32
  let v161 : BitVec 1 := Scalar.cmpi .slt v157 c0_i32_138
  let v162 : BitVec 1 := Scalar.xori v160 v161
  let c0_i32_136 : BitVec 32 := 0#32
  let v159 : BitVec 1 := Scalar.cmpi .ne v158 c0_i32_136
  let v163 : BitVec 1 := Scalar.andi v162 v159
  let v164 : BitVec 32 := Scalar.addi v158 v157
  let v165 : BitVec 32 := Scalar.select v163 v164 v158
  ![0, v165.toNat]
def k0_off14 (k0_t2 : Fin k0_t2_loop.trips) : Fin 3 → Nat :=
  let c0_i32_42 : BitVec 32 := 0#32
  let c1_i32_44 : BitVec 32 := 1#32
  let arg12 : BitVec 32 := Scf.iv c0_i32_42 c1_i32_44 k0_t2
  let c1_i32_132 : BitVec 32 := 1#32
  let v155 : BitVec 32 := Scalar.addi arg12 c1_i32_132
  let c2_i32_133 : BitVec 32 := 2#32
  let c0_i32_134 : BitVec 32 := 0#32
  let v156 : BitVec 1 := Scalar.cmpi .eq c2_i32_133 c0_i32_134
  let c1_i32_135 : BitVec 32 := 1#32
  let v157 : BitVec 32 := Scalar.select v156 c1_i32_135 c2_i32_133
  let v158 : BitVec 32 := Scalar.remsi v155 v157
  let c0_i32_137 : BitVec 32 := 0#32
  let v160 : BitVec 1 := Scalar.cmpi .slt v158 c0_i32_137
  let c0_i32_138 : BitVec 32 := 0#32
  let v161 : BitVec 1 := Scalar.cmpi .slt v157 c0_i32_138
  let v162 : BitVec 1 := Scalar.xori v160 v161
  let c0_i32_136 : BitVec 32 := 0#32
  let v159 : BitVec 1 := Scalar.cmpi .ne v158 c0_i32_136
  let v163 : BitVec 1 := Scalar.andi v162 v159
  let v164 : BitVec 32 := Scalar.addi v158 v157
  let v165 : BitVec 32 := Scalar.select v163 v164 v158
  let c0_i32_169 : BitVec 32 := 0#32
  let c0_i32_170 : BitVec 32 := 0#32
  ![v165.toNat, 0, 0]
def k0_off15 (v0 : BitVec 32) (k0_t2 : Fin k0_t2_loop.trips) : Fin 2 → Nat :=
  let c15_i32_139 : BitVec 32 := 15#32
  let v166 : BitVec 32 := Scalar.addi v0 c15_i32_139
  let c0_i32_42 : BitVec 32 := 0#32
  let c1_i32_44 : BitVec 32 := 1#32
  let arg12 : BitVec 32 := Scf.iv c0_i32_42 c1_i32_44 k0_t2
  let v167 : BitVec 32 := Scalar.subi v166 arg12
  let c32_i32_140 : BitVec 32 := 32#32
  let c0_i32_141 : BitVec 32 := 0#32
  let v168 : BitVec 1 := Scalar.cmpi .eq c32_i32_140 c0_i32_141
  let c1_i32_142 : BitVec 32 := 1#32
  let v169 : BitVec 32 := Scalar.select v168 c1_i32_142 c32_i32_140
  let v170 : BitVec 32 := Scalar.remsi v167 v169
  let c0_i32_144 : BitVec 32 := 0#32
  let v172 : BitVec 1 := Scalar.cmpi .slt v170 c0_i32_144
  let c0_i32_145 : BitVec 32 := 0#32
  let v173 : BitVec 1 := Scalar.cmpi .slt v169 c0_i32_145
  let v174 : BitVec 1 := Scalar.xori v172 v173
  let c0_i32_143 : BitVec 32 := 0#32
  let v171 : BitVec 1 := Scalar.cmpi .ne v170 c0_i32_143
  let v175 : BitVec 1 := Scalar.andi v174 v171
  let v176 : BitVec 32 := Scalar.addi v170 v169
  let v177 : BitVec 32 := Scalar.select v175 v176 v170
  let c128_i32_146 : BitVec 32 := 128#32
  let v178 : BitVec 32 := Scalar.muli v177 c128_i32_146
  let c0_i32_171 : BitVec 32 := 0#32
  ![v178.toNat, 0]
def k0_dev5 (v2 : BitVec 32) : Nat :=
  let c0_i32_168 : BitVec 32 := 0#32
  let c1_i32_167 : BitVec 32 := 1#32
  let v208 : BitVec 32 := Scalar.muli v2 c1_i32_167
  let v209 : BitVec 32 := Scalar.addi c0_i32_168 v208
  v209.toNat
def k0_cond3 (k0_t2 : Fin k0_t2_loop.trips) : BitVec 1 :=
  let c0_i32_42 : BitVec 32 := 0#32
  let c1_i32_44 : BitVec 32 := 1#32
  let arg12 : BitVec 32 := Scf.iv c0_i32_42 c1_i32_44 k0_t2
  let c14_i32 : BitVec 32 := 14#32
  let v199 : BitVec 1 := Scalar.cmpi .slt arg12 c14_i32
  let v200 : BitVec 32 := Scalar.extui v199
  let c0_i32_160 : BitVec 32 := 0#32
  let v201 : BitVec 1 := Scalar.cmpi .ne v200 c0_i32_160
  v201

def k0_dev6 (v1 : BitVec 32) : Nat :=
  let c0_i32_166 : BitVec 32 := 0#32
  let c1_i32_165 : BitVec 32 := 1#32
  let v207 : BitVec 32 := Scalar.muli v1 c1_i32_165
  let v208 : BitVec 32 := Scalar.addi c0_i32_166 v207
  v208.toNat
def k0_cond4 (k0_t2 : Fin k0_t2_loop.trips) : BitVec 1 :=
  let c0_i32_42 : BitVec 32 := 0#32
  let c1_i32_44 : BitVec 32 := 1#32
  let arg12 : BitVec 32 := Scf.iv c0_i32_42 c1_i32_44 k0_t2
  let c15_i32_161 : BitVec 32 := 15#32
  let v202 : BitVec 1 := Scalar.cmpi .slt arg12 c15_i32_161
  let v203 : BitVec 32 := Scalar.extui v202
  let c0_i32_162 : BitVec 32 := 0#32
  let v204 : BitVec 1 := Scalar.cmpi .ne v203 c0_i32_162
  v204

def k0_off16 (k0_t2 : Fin k0_t2_loop.trips) : Fin 2 → Nat :=
  let c1_i32_171 : BitVec 32 := 1#32
  let c0_i32_42 : BitVec 32 := 0#32
  let c1_i32_44 : BitVec 32 := 1#32
  let arg12 : BitVec 32 := Scf.iv c0_i32_42 c1_i32_44 k0_t2
  let c2_i32_126 : BitVec 32 := 2#32
  let c0_i32_127 : BitVec 32 := 0#32
  let v145 : BitVec 1 := Scalar.cmpi .eq c2_i32_126 c0_i32_127
  let c1_i32_128 : BitVec 32 := 1#32
  let v146 : BitVec 32 := Scalar.select v145 c1_i32_128 c2_i32_126
  let v147 : BitVec 32 := Scalar.remsi arg12 v146
  let c0_i32_130 : BitVec 32 := 0#32
  let v149 : BitVec 1 := Scalar.cmpi .slt v147 c0_i32_130
  let c0_i32_131 : BitVec 32 := 0#32
  let v150 : BitVec 1 := Scalar.cmpi .slt v146 c0_i32_131
  let v151 : BitVec 1 := Scalar.xori v149 v150
  let c0_i32_129 : BitVec 32 := 0#32
  let v148 : BitVec 1 := Scalar.cmpi .ne v147 c0_i32_129
  let v152 : BitVec 1 := Scalar.andi v151 v148
  let v153 : BitVec 32 := Scalar.addi v147 v146
  let v154 : BitVec 32 := Scalar.select v152 v153 v147
  ![1, v154.toNat]
def k0_off17 (k0_t2 : Fin k0_t2_loop.trips) : Fin 3 → Nat :=
  let c0_i32_42 : BitVec 32 := 0#32
  let c1_i32_44 : BitVec 32 := 1#32
  let arg12 : BitVec 32 := Scf.iv c0_i32_42 c1_i32_44 k0_t2
  let c2_i32_126 : BitVec 32 := 2#32
  let c0_i32_127 : BitVec 32 := 0#32
  let v145 : BitVec 1 := Scalar.cmpi .eq c2_i32_126 c0_i32_127
  let c1_i32_128 : BitVec 32 := 1#32
  let v146 : BitVec 32 := Scalar.select v145 c1_i32_128 c2_i32_126
  let v147 : BitVec 32 := Scalar.remsi arg12 v146
  let c0_i32_130 : BitVec 32 := 0#32
  let v149 : BitVec 1 := Scalar.cmpi .slt v147 c0_i32_130
  let c0_i32_131 : BitVec 32 := 0#32
  let v150 : BitVec 1 := Scalar.cmpi .slt v146 c0_i32_131
  let v151 : BitVec 1 := Scalar.xori v149 v150
  let c0_i32_129 : BitVec 32 := 0#32
  let v148 : BitVec 1 := Scalar.cmpi .ne v147 c0_i32_129
  let v152 : BitVec 1 := Scalar.andi v151 v148
  let v153 : BitVec 32 := Scalar.addi v147 v146
  let v154 : BitVec 32 := Scalar.select v152 v153 v147
  let c0_i32_175 : BitVec 32 := 0#32
  let c0_i32_176 : BitVec 32 := 0#32
  ![v154.toNat, 0, 0]
def k0_off18 (v0 : BitVec 32) (k0_t2 : Fin k0_t2_loop.trips) : Fin 2 → Nat :=
  let c14_i32_163 : BitVec 32 := 14#32
  let v205 : BitVec 32 := Scalar.subi v0 c14_i32_163
  let c0_i32_42 : BitVec 32 := 0#32
  let c1_i32_44 : BitVec 32 := 1#32
  let arg12 : BitVec 32 := Scf.iv c0_i32_42 c1_i32_44 k0_t2
  let v206 : BitVec 32 := Scalar.addi v205 arg12
  let c32_i32_164 : BitVec 32 := 32#32
  let c0_i32_165 : BitVec 32 := 0#32
  let v207 : BitVec 1 := Scalar.cmpi .eq c32_i32_164 c0_i32_165
  let c1_i32_166 : BitVec 32 := 1#32
  let v208 : BitVec 32 := Scalar.select v207 c1_i32_166 c32_i32_164
  let v209 : BitVec 32 := Scalar.remsi v206 v208
  let c0_i32_168 : BitVec 32 := 0#32
  let v211 : BitVec 1 := Scalar.cmpi .slt v209 c0_i32_168
  let c0_i32_169 : BitVec 32 := 0#32
  let v212 : BitVec 1 := Scalar.cmpi .slt v208 c0_i32_169
  let v213 : BitVec 1 := Scalar.xori v211 v212
  let c0_i32_167 : BitVec 32 := 0#32
  let v210 : BitVec 1 := Scalar.cmpi .ne v209 c0_i32_167
  let v214 : BitVec 1 := Scalar.andi v213 v210
  let v215 : BitVec 32 := Scalar.addi v209 v208
  let v216 : BitVec 32 := Scalar.select v214 v215 v209
  let c128_i32_170 : BitVec 32 := 128#32
  let v217 : BitVec 32 := Scalar.muli v216 c128_i32_170
  let c0_i32_177 : BitVec 32 := 0#32
  ![v217.toNat, 0]
def k0_off19 (v0 : BitVec 32) (k0_t2 : Fin k0_t2_loop.trips) : Fin 2 → Nat :=
  let c14_i32_163 : BitVec 32 := 14#32
  let v205 : BitVec 32 := Scalar.subi v0 c14_i32_163
  let c0_i32_42 : BitVec 32 := 0#32
  let c1_i32_44 : BitVec 32 := 1#32
  let arg12 : BitVec 32 := Scf.iv c0_i32_42 c1_i32_44 k0_t2
  let v206 : BitVec 32 := Scalar.addi v205 arg12
  let c32_i32_164 : BitVec 32 := 32#32
  let c0_i32_165 : BitVec 32 := 0#32
  let v207 : BitVec 1 := Scalar.cmpi .eq c32_i32_164 c0_i32_165
  let c1_i32_166 : BitVec 32 := 1#32
  let v208 : BitVec 32 := Scalar.select v207 c1_i32_166 c32_i32_164
  let v209 : BitVec 32 := Scalar.remsi v206 v208
  let c0_i32_168 : BitVec 32 := 0#32
  let v211 : BitVec 1 := Scalar.cmpi .slt v209 c0_i32_168
  let c0_i32_169 : BitVec 32 := 0#32
  let v212 : BitVec 1 := Scalar.cmpi .slt v208 c0_i32_169
  let v213 : BitVec 1 := Scalar.xori v211 v212
  let c0_i32_167 : BitVec 32 := 0#32
  let v210 : BitVec 1 := Scalar.cmpi .ne v209 c0_i32_167
  let v214 : BitVec 1 := Scalar.andi v213 v210
  let v215 : BitVec 32 := Scalar.addi v209 v208
  let v216 : BitVec 32 := Scalar.select v214 v215 v209
  let c128_i32_170 : BitVec 32 := 128#32
  let v217 : BitVec 32 := Scalar.muli v216 c128_i32_170
  let v225 : Index := Scalar.indexCast v217
  let c0_178 : Index := 0#32
  ![v225.toNat, 0]
def k0_off20 (k0_t2 : Fin k0_t2_loop.trips) : Fin 3 → Nat :=
  let c0_i32_42 : BitVec 32 := 0#32
  let c1_i32_44 : BitVec 32 := 1#32
  let arg12 : BitVec 32 := Scf.iv c0_i32_42 c1_i32_44 k0_t2
  let c2_i32_126 : BitVec 32 := 2#32
  let c0_i32_127 : BitVec 32 := 0#32
  let v145 : BitVec 1 := Scalar.cmpi .eq c2_i32_126 c0_i32_127
  let c1_i32_128 : BitVec 32 := 1#32
  let v146 : BitVec 32 := Scalar.select v145 c1_i32_128 c2_i32_126
  let v147 : BitVec 32 := Scalar.remsi arg12 v146
  let c0_i32_130 : BitVec 32 := 0#32
  let v149 : BitVec 1 := Scalar.cmpi .slt v147 c0_i32_130
  let c0_i32_131 : BitVec 32 := 0#32
  let v150 : BitVec 1 := Scalar.cmpi .slt v146 c0_i32_131
  let v151 : BitVec 1 := Scalar.xori v149 v150
  let c0_i32_129 : BitVec 32 := 0#32
  let v148 : BitVec 1 := Scalar.cmpi .ne v147 c0_i32_129
  let v152 : BitVec 1 := Scalar.andi v151 v148
  let v153 : BitVec 32 := Scalar.addi v147 v146
  let v154 : BitVec 32 := Scalar.select v152 v153 v147
  let v227 : Index := Scalar.indexCast v154
  let c0_179 : Index := 0#32
  let c0_180 : Index := 0#32
  ![v227.toNat, 0, 0]
def k0_cond5 (k0_t2 : Fin k0_t2_loop.trips) : BitVec 1 :=
  let c0_i32_42 : BitVec 32 := 0#32
  let c1_i32_44 : BitVec 32 := 1#32
  let arg12 : BitVec 32 := Scf.iv c0_i32_42 c1_i32_44 k0_t2
  let c14_i32_182 : BitVec 32 := 14#32
  let v235 : BitVec 1 := Scalar.cmpi .slt arg12 c14_i32_182
  let v236 : BitVec 32 := Scalar.extui v235
  let c0_i32_183 : BitVec 32 := 0#32
  let v237 : BitVec 1 := Scalar.cmpi .ne v236 c0_i32_183
  v237

def k0_cond6 (k0_t2 : Fin k0_t2_loop.trips) : BitVec 1 :=
  let c0_i32_42 : BitVec 32 := 0#32
  let c1_i32_44 : BitVec 32 := 1#32
  let arg12 : BitVec 32 := Scf.iv c0_i32_42 c1_i32_44 k0_t2
  let c1_i32_185 : BitVec 32 := 1#32
  let v241 : BitVec 1 := Scalar.cmpi .sge arg12 c1_i32_185
  let v242 : BitVec 32 := Scalar.extui v241
  let c0_i32_186 : BitVec 32 := 0#32
  let v243 : BitVec 1 := Scalar.cmpi .ne v242 c0_i32_186
  v243

def k0_off21 (k0_t2 : Fin k0_t2_loop.trips) : Fin 2 → Nat :=
  let c1_i32_194 : BitVec 32 := 1#32
  let c0_i32_42 : BitVec 32 := 0#32
  let c1_i32_44 : BitVec 32 := 1#32
  let arg12 : BitVec 32 := Scf.iv c0_i32_42 c1_i32_44 k0_t2
  let c1_i32_132 : BitVec 32 := 1#32
  let v155 : BitVec 32 := Scalar.addi arg12 c1_i32_132
  let c2_i32_133 : BitVec 32 := 2#32
  let c0_i32_134 : BitVec 32 := 0#32
  let v156 : BitVec 1 := Scalar.cmpi .eq c2_i32_133 c0_i32_134
  let c1_i32_135 : BitVec 32 := 1#32
  let v157 : BitVec 32 := Scalar.select v156 c1_i32_135 c2_i32_133
  let v158 : BitVec 32 := Scalar.remsi v155 v157
  let c0_i32_137 : BitVec 32 := 0#32
  let v160 : BitVec 1 := Scalar.cmpi .slt v158 c0_i32_137
  let c0_i32_138 : BitVec 32 := 0#32
  let v161 : BitVec 1 := Scalar.cmpi .slt v157 c0_i32_138
  let v162 : BitVec 1 := Scalar.xori v160 v161
  let c0_i32_136 : BitVec 32 := 0#32
  let v159 : BitVec 1 := Scalar.cmpi .ne v158 c0_i32_136
  let v163 : BitVec 1 := Scalar.andi v162 v159
  let v164 : BitVec 32 := Scalar.addi v158 v157
  let v165 : BitVec 32 := Scalar.select v163 v164 v158
  ![1, v165.toNat]
def k0_off22 (v0 : BitVec 32) (k0_t2 : Fin k0_t2_loop.trips) : Fin 2 → Nat :=
  let c14_i32_163 : BitVec 32 := 14#32
  let v205 : BitVec 32 := Scalar.subi v0 c14_i32_163
  let c0_i32_42 : BitVec 32 := 0#32
  let c1_i32_44 : BitVec 32 := 1#32
  let arg12 : BitVec 32 := Scf.iv c0_i32_42 c1_i32_44 k0_t2
  let v206 : BitVec 32 := Scalar.addi v205 arg12
  let c32_i32_164 : BitVec 32 := 32#32
  let c0_i32_165 : BitVec 32 := 0#32
  let v207 : BitVec 1 := Scalar.cmpi .eq c32_i32_164 c0_i32_165
  let c1_i32_166 : BitVec 32 := 1#32
  let v208 : BitVec 32 := Scalar.select v207 c1_i32_166 c32_i32_164
  let v209 : BitVec 32 := Scalar.remsi v206 v208
  let c0_i32_168 : BitVec 32 := 0#32
  let v211 : BitVec 1 := Scalar.cmpi .slt v209 c0_i32_168
  let c0_i32_169 : BitVec 32 := 0#32
  let v212 : BitVec 1 := Scalar.cmpi .slt v208 c0_i32_169
  let v213 : BitVec 1 := Scalar.xori v211 v212
  let c0_i32_167 : BitVec 32 := 0#32
  let v210 : BitVec 1 := Scalar.cmpi .ne v209 c0_i32_167
  let v214 : BitVec 1 := Scalar.andi v213 v210
  let v215 : BitVec 32 := Scalar.addi v209 v208
  let v216 : BitVec 32 := Scalar.select v214 v215 v209
  let c128_i32_170 : BitVec 32 := 128#32
  let v217 : BitVec 32 := Scalar.muli v216 c128_i32_170
  let c0_i32_197 : BitVec 32 := 0#32
  ![v217.toNat, 0]
def k0_off23 (k0_t2 : Fin k0_t2_loop.trips) : Fin 3 → Nat :=
  let c0_i32_42 : BitVec 32 := 0#32
  let c1_i32_44 : BitVec 32 := 1#32
  let arg12 : BitVec 32 := Scf.iv c0_i32_42 c1_i32_44 k0_t2
  let c1_i32_132 : BitVec 32 := 1#32
  let v155 : BitVec 32 := Scalar.addi arg12 c1_i32_132
  let c2_i32_133 : BitVec 32 := 2#32
  let c0_i32_134 : BitVec 32 := 0#32
  let v156 : BitVec 1 := Scalar.cmpi .eq c2_i32_133 c0_i32_134
  let c1_i32_135 : BitVec 32 := 1#32
  let v157 : BitVec 32 := Scalar.select v156 c1_i32_135 c2_i32_133
  let v158 : BitVec 32 := Scalar.remsi v155 v157
  let c0_i32_137 : BitVec 32 := 0#32
  let v160 : BitVec 1 := Scalar.cmpi .slt v158 c0_i32_137
  let c0_i32_138 : BitVec 32 := 0#32
  let v161 : BitVec 1 := Scalar.cmpi .slt v157 c0_i32_138
  let v162 : BitVec 1 := Scalar.xori v160 v161
  let c0_i32_136 : BitVec 32 := 0#32
  let v159 : BitVec 1 := Scalar.cmpi .ne v158 c0_i32_136
  let v163 : BitVec 1 := Scalar.andi v162 v159
  let v164 : BitVec 32 := Scalar.addi v158 v157
  let v165 : BitVec 32 := Scalar.select v163 v164 v158
  let c0_i32_198 : BitVec 32 := 0#32
  let c0_i32_199 : BitVec 32 := 0#32
  ![v165.toNat, 0, 0]
def k0_off24 (k0_t2 : Fin k0_t2_loop.trips) : Fin 2 → Nat :=
  let c1_i32_188 : BitVec 32 := 1#32
  let c0_i32_42 : BitVec 32 := 0#32
  let c1_i32_44 : BitVec 32 := 1#32
  let arg12 : BitVec 32 := Scf.iv c0_i32_42 c1_i32_44 k0_t2
  let c1_i32_132 : BitVec 32 := 1#32
  let v155 : BitVec 32 := Scalar.addi arg12 c1_i32_132
  let c2_i32_133 : BitVec 32 := 2#32
  let c0_i32_134 : BitVec 32 := 0#32
  let v156 : BitVec 1 := Scalar.cmpi .eq c2_i32_133 c0_i32_134
  let c1_i32_135 : BitVec 32 := 1#32
  let v157 : BitVec 32 := Scalar.select v156 c1_i32_135 c2_i32_133
  let v158 : BitVec 32 := Scalar.remsi v155 v157
  let c0_i32_137 : BitVec 32 := 0#32
  let v160 : BitVec 1 := Scalar.cmpi .slt v158 c0_i32_137
  let c0_i32_138 : BitVec 32 := 0#32
  let v161 : BitVec 1 := Scalar.cmpi .slt v157 c0_i32_138
  let v162 : BitVec 1 := Scalar.xori v160 v161
  let c0_i32_136 : BitVec 32 := 0#32
  let v159 : BitVec 1 := Scalar.cmpi .ne v158 c0_i32_136
  let v163 : BitVec 1 := Scalar.andi v162 v159
  let v164 : BitVec 32 := Scalar.addi v158 v157
  let v165 : BitVec 32 := Scalar.select v163 v164 v158
  ![1, v165.toNat]
def k0_off25 (k0_t2 : Fin k0_t2_loop.trips) : Fin 3 → Nat :=
  let c0_i32_42 : BitVec 32 := 0#32
  let c1_i32_44 : BitVec 32 := 1#32
  let arg12 : BitVec 32 := Scf.iv c0_i32_42 c1_i32_44 k0_t2
  let c1_i32_132 : BitVec 32 := 1#32
  let v155 : BitVec 32 := Scalar.addi arg12 c1_i32_132
  let c2_i32_133 : BitVec 32 := 2#32
  let c0_i32_134 : BitVec 32 := 0#32
  let v156 : BitVec 1 := Scalar.cmpi .eq c2_i32_133 c0_i32_134
  let c1_i32_135 : BitVec 32 := 1#32
  let v157 : BitVec 32 := Scalar.select v156 c1_i32_135 c2_i32_133
  let v158 : BitVec 32 := Scalar.remsi v155 v157
  let c0_i32_137 : BitVec 32 := 0#32
  let v160 : BitVec 1 := Scalar.cmpi .slt v158 c0_i32_137
  let c0_i32_138 : BitVec 32 := 0#32
  let v161 : BitVec 1 := Scalar.cmpi .slt v157 c0_i32_138
  let v162 : BitVec 1 := Scalar.xori v160 v161
  let c0_i32_136 : BitVec 32 := 0#32
  let v159 : BitVec 1 := Scalar.cmpi .ne v158 c0_i32_136
  let v163 : BitVec 1 := Scalar.andi v162 v159
  let v164 : BitVec 32 := Scalar.addi v158 v157
  let v165 : BitVec 32 := Scalar.select v163 v164 v158
  let c0_i32_191 : BitVec 32 := 0#32
  let c0_i32_192 : BitVec 32 := 0#32
  ![v165.toNat, 0, 0]
def k0_off26 (v0 : BitVec 32) (k0_t2 : Fin k0_t2_loop.trips) : Fin 2 → Nat :=
  let c14_i32_163 : BitVec 32 := 14#32
  let v205 : BitVec 32 := Scalar.subi v0 c14_i32_163
  let c0_i32_42 : BitVec 32 := 0#32
  let c1_i32_44 : BitVec 32 := 1#32
  let arg12 : BitVec 32 := Scf.iv c0_i32_42 c1_i32_44 k0_t2
  let v206 : BitVec 32 := Scalar.addi v205 arg12
  let c32_i32_164 : BitVec 32 := 32#32
  let c0_i32_165 : BitVec 32 := 0#32
  let v207 : BitVec 1 := Scalar.cmpi .eq c32_i32_164 c0_i32_165
  let c1_i32_166 : BitVec 32 := 1#32
  let v208 : BitVec 32 := Scalar.select v207 c1_i32_166 c32_i32_164
  let v209 : BitVec 32 := Scalar.remsi v206 v208
  let c0_i32_168 : BitVec 32 := 0#32
  let v211 : BitVec 1 := Scalar.cmpi .slt v209 c0_i32_168
  let c0_i32_169 : BitVec 32 := 0#32
  let v212 : BitVec 1 := Scalar.cmpi .slt v208 c0_i32_169
  let v213 : BitVec 1 := Scalar.xori v211 v212
  let c0_i32_167 : BitVec 32 := 0#32
  let v210 : BitVec 1 := Scalar.cmpi .ne v209 c0_i32_167
  let v214 : BitVec 1 := Scalar.andi v213 v210
  let v215 : BitVec 32 := Scalar.addi v209 v208
  let v216 : BitVec 32 := Scalar.select v214 v215 v209
  let c128_i32_170 : BitVec 32 := 128#32
  let v217 : BitVec 32 := Scalar.muli v216 c128_i32_170
  let c0_i32_193 : BitVec 32 := 0#32
  ![v217.toNat, 0]
def k0_dev7 (v1 : BitVec 32) : Nat :=
  let c0_i32_190 : BitVec 32 := 0#32
  let c1_i32_189 : BitVec 32 := 1#32
  let v244 : BitVec 32 := Scalar.muli v1 c1_i32_189
  let v245 : BitVec 32 := Scalar.addi c0_i32_190 v244
  v245.toNat

def k0_chk1 (v1 : BitVec 32) : Prop :=
  ((k0_dev1 v1) < nD) ∧
  ((k0_dev4 v1) < nD) ∧
  (∀ k0_t2 : Fin k0_t2_loop.trips, ∀ (k0_h3 : k0_cond3 k0_t2 = 1#1), (k0_dev6 v1) < nD) ∧
  (∀ k0_t2 : Fin k0_t2_loop.trips, ∀ (k0_h4 : k0_cond4 k0_t2 = 1#1), ∀ (k0_h5 : k0_cond5 k0_t2 = 1#1), (k0_dev7 v1) < nD)
theorem k0_dev1_lt : ∀ (v1 : BitVec 32) (k0_hw1 : k0_chk1 v1), (k0_dev1 v1) < nD := fun v1 k0_hw1 => k0_hw1.1
theorem k0_dev4_lt : ∀ (v1 : BitVec 32) (k0_hw1 : k0_chk1 v1), (k0_dev4 v1) < nD := fun v1 k0_hw1 => k0_hw1.2.1
theorem k0_dev6_lt : ∀ (v1 : BitVec 32) (k0_hw1 : k0_chk1 v1) (k0_t2 : Fin k0_t2_loop.trips), ∀ (k0_h3 : k0_cond3 k0_t2 = 1#1), (k0_dev6 v1) < nD := fun v1 k0_hw1 k0_t2 k0_h3 => k0_hw1.2.2.1 k0_t2 k0_h3
theorem k0_dev7_lt : ∀ (v1 : BitVec 32) (k0_hw1 : k0_chk1 v1) (k0_t2 : Fin k0_t2_loop.trips), ∀ (k0_h4 : k0_cond4 k0_t2 = 1#1), ∀ (k0_h5 : k0_cond5 k0_t2 = 1#1), (k0_dev7 v1) < nD := fun v1 k0_hw1 k0_t2 k0_h4 k0_h5 => k0_hw1.2.2.2 k0_t2 k0_h4 k0_h5

def k0_cond7 (k0_t2 : Fin k0_t2_loop.trips) : BitVec 1 :=
  let c0_i32_42 : BitVec 32 := 0#32
  let c1_i32_44 : BitVec 32 := 1#32
  let arg12 : BitVec 32 := Scf.iv c0_i32_42 c1_i32_44 k0_t2
  let c13_i32 : BitVec 32 := 13#32
  let v238 : BitVec 1 := Scalar.cmpi .slt arg12 c13_i32
  let v239 : BitVec 32 := Scalar.extui v238
  let c0_i32_184 : BitVec 32 := 0#32
  let v240 : BitVec 1 := Scalar.cmpi .ne v239 c0_i32_184
  v240

def k0_dev8 (v2 : BitVec 32) : Nat :=
  let c0_i32_188 : BitVec 32 := 0#32
  let c1_i32_187 : BitVec 32 := 1#32
  let v243 : BitVec 32 := Scalar.muli v2 c1_i32_187
  let v244 : BitVec 32 := Scalar.addi c0_i32_188 v243
  v244.toNat

def k0_chk2 (v2 : BitVec 32) : Prop :=
  ((k0_dev2 v2) < nD) ∧
  ((k0_dev3 v2) < nD) ∧
  (∀ k0_t2 : Fin k0_t2_loop.trips, ∀ (k0_h1 : k0_cond1 k0_t2 = 1#1), (k0_dev5 v2) < nD) ∧
  (∀ k0_t2 : Fin k0_t2_loop.trips, ∀ (k0_h4 : k0_cond4 k0_t2 = 1#1), ∀ (k0_h7 : k0_cond7 k0_t2 = 1#1), (k0_dev8 v2) < nD)
theorem k0_dev2_lt : ∀ (v2 : BitVec 32) (k0_hw2 : k0_chk2 v2), (k0_dev2 v2) < nD := fun v2 k0_hw2 => k0_hw2.1
theorem k0_dev3_lt : ∀ (v2 : BitVec 32) (k0_hw2 : k0_chk2 v2), (k0_dev3 v2) < nD := fun v2 k0_hw2 => k0_hw2.2.1
theorem k0_dev5_lt : ∀ (v2 : BitVec 32) (k0_hw2 : k0_chk2 v2) (k0_t2 : Fin k0_t2_loop.trips), ∀ (k0_h1 : k0_cond1 k0_t2 = 1#1), (k0_dev5 v2) < nD := fun v2 k0_hw2 k0_t2 k0_h1 => k0_hw2.2.2.1 k0_t2 k0_h1
theorem k0_dev8_lt : ∀ (v2 : BitVec 32) (k0_hw2 : k0_chk2 v2) (k0_t2 : Fin k0_t2_loop.trips), ∀ (k0_h4 : k0_cond4 k0_t2 = 1#1), ∀ (k0_h7 : k0_cond7 k0_t2 = 1#1), (k0_dev8 v2) < nD := fun v2 k0_hw2 k0_t2 k0_h4 k0_h7 => k0_hw2.2.2.2 k0_t2 k0_h4 k0_h7

def k0_off27 (v0 : BitVec 32) : Fin 2 → Nat :=
  let c32_i32_116 : BitVec 32 := 32#32
  let c0_i32_117 : BitVec 32 := 0#32
  let v126 : BitVec 1 := Scalar.cmpi .eq c32_i32_116 c0_i32_117
  let c1_i32_118 : BitVec 32 := 1#32
  let v127 : BitVec 32 := Scalar.select v126 c1_i32_118 c32_i32_116
  let v128 : BitVec 32 := Scalar.remsi v0 v127
  let c0_i32_120 : BitVec 32 := 0#32
  let v130 : BitVec 1 := Scalar.cmpi .slt v128 c0_i32_120
  let c0_i32_121 : BitVec 32 := 0#32
  let v131 : BitVec 1 := Scalar.cmpi .slt v127 c0_i32_121
  let v132 : BitVec 1 := Scalar.xori v130 v131
  let c0_i32_119 : BitVec 32 := 0#32
  let v129 : BitVec 1 := Scalar.cmpi .ne v128 c0_i32_119
  let v133 : BitVec 1 := Scalar.andi v132 v129
  let v134 : BitVec 32 := Scalar.addi v128 v127
  let v135 : BitVec 32 := Scalar.select v133 v134 v128
  let c128_i32_122 : BitVec 32 := 128#32
  let v136 : BitVec 32 := Scalar.muli v135 c128_i32_122
  let v137 : Index := Scalar.indexCast v136
  let c0_123 : Index := 0#32
  ![v137.toNat, 0]

def k0_chk3 (v0 : BitVec 32) : Prop :=
  (∀ (r : Fin 2), ∀ a, (k0_off3 v0 (BitVec.ofNat 32 (1 + 15 * r.val))) a + S128x2048.size a ≤ S4096x2048.size a) ∧
  (∀ (r : Fin 2), ∀ (hinb : ∀ a, (k0_off3 v0 (BitVec.ofNat 32 (1 + 15 * r.val))) a + S128x2048.size a ≤ S4096x2048.size a), (Rect.unit (s := S4096x2048) (k0_off3 v0 (BitVec.ofNat 32 (1 + 15 * r.val))) S128x2048.size hinb).WholeWords (EltTy.packing .bf16)) ∧
  (∀ (r : Fin 2), ∀ a, (k0_off4 v0 (BitVec.ofNat 32 (1 + 14 * r.val))) a + S128x2048.size a ≤ S4096x2048.size a) ∧
  (∀ (r : Fin 2), ∀ (hinb : ∀ a, (k0_off4 v0 (BitVec.ofNat 32 (1 + 14 * r.val))) a + S128x2048.size a ≤ S4096x2048.size a), (Rect.unit (s := S4096x2048) (k0_off4 v0 (BitVec.ofNat 32 (1 + 14 * r.val))) S128x2048.size hinb).WholeWords (EltTy.packing .bf16)) ∧
  (∀ k0_t2 : Fin k0_t2_loop.trips, ∀ a, (k0_off7 v0 k0_t2) a + S128x2048.size a ≤ S4096x2048.size a) ∧
  (∀ k0_t2 : Fin k0_t2_loop.trips, ∀ (hinb : ∀ a, (k0_off7 v0 k0_t2) a + S128x2048.size a ≤ S4096x2048.size a), (Rect.unit (s := S4096x2048) (k0_off7 v0 k0_t2) S128x2048.size hinb).WholeWords (EltTy.packing .bf16)) ∧
  (∀ k0_t2 : Fin k0_t2_loop.trips, ∀ a, (k0_off8 v0 k0_t2) a + S128x2048.size a ≤ S4096x2048.size a) ∧
  (∀ k0_t2 : Fin k0_t2_loop.trips, ∀ (hinb : ∀ a, (k0_off8 v0 k0_t2) a + S128x2048.size a ≤ S4096x2048.size a), (Rect.unit (s := S4096x2048) (k0_off8 v0 k0_t2) S128x2048.size hinb).PackedRows (EltTy.packing .bf16)) ∧
  (∀ k0_t2 : Fin k0_t2_loop.trips, ∀ (k0_h1 : k0_cond1 k0_t2 = 1#1), ∀ (k0_h2 : k0_cond2 k0_t2 = 1#1), ∀ a, (k0_off11 v0 k0_t2) a + S128x2048.size a ≤ S4096x2048.size a) ∧
  (∀ k0_t2 : Fin k0_t2_loop.trips, ∀ (k0_h1 : k0_cond1 k0_t2 = 1#1), ∀ (k0_h2 : k0_cond2 k0_t2 = 1#1), ∀ (hinb : ∀ a, (k0_off11 v0 k0_t2) a + S128x2048.size a ≤ S4096x2048.size a), (Rect.unit (s := S4096x2048) (k0_off11 v0 k0_t2) S128x2048.size hinb).WholeWords (EltTy.packing .bf16)) ∧
  (∀ k0_t2 : Fin k0_t2_loop.trips, ∀ (k0_h1 : k0_cond1 k0_t2 = 1#1), ∀ a, (k0_off15 v0 k0_t2) a + S128x2048.size a ≤ S4096x2048.size a) ∧
  (∀ k0_t2 : Fin k0_t2_loop.trips, ∀ (k0_h1 : k0_cond1 k0_t2 = 1#1), ∀ (hinb : ∀ a, (k0_off15 v0 k0_t2) a + S128x2048.size a ≤ S4096x2048.size a), (Rect.unit (s := S4096x2048) (k0_off15 v0 k0_t2) S128x2048.size hinb).WholeWords (EltTy.packing .bf16)) ∧
  (∀ k0_t2 : Fin k0_t2_loop.trips, ∀ (k0_h4 : k0_cond4 k0_t2 = 1#1), ∀ a, (k0_off18 v0 k0_t2) a + S128x2048.size a ≤ S4096x2048.size a) ∧
  (∀ k0_t2 : Fin k0_t2_loop.trips, ∀ (k0_h4 : k0_cond4 k0_t2 = 1#1), ∀ (hinb : ∀ a, (k0_off18 v0 k0_t2) a + S128x2048.size a ≤ S4096x2048.size a), (Rect.unit (s := S4096x2048) (k0_off18 v0 k0_t2) S128x2048.size hinb).WholeWords (EltTy.packing .bf16)) ∧
  (∀ k0_t2 : Fin k0_t2_loop.trips, ∀ (k0_h4 : k0_cond4 k0_t2 = 1#1), ∀ a, (k0_off19 v0 k0_t2) a + S128x2048.size a ≤ S4096x2048.size a) ∧
  (∀ k0_t2 : Fin k0_t2_loop.trips, ∀ (k0_h4 : k0_cond4 k0_t2 = 1#1), ∀ (hinb : ∀ a, (k0_off19 v0 k0_t2) a + S128x2048.size a ≤ S4096x2048.size a), (Rect.unit (s := S4096x2048) (k0_off19 v0 k0_t2) S128x2048.size hinb).PackedRows (EltTy.packing .bf16)) ∧
  (∀ k0_t2 : Fin k0_t2_loop.trips, ∀ (k0_h4 : k0_cond4 k0_t2 = 1#1), ∀ (k0_h5 : k0_cond5 k0_t2 = 1#1), ∀ (k0_h6 : k0_cond6 k0_t2 = 1#1), ∀ a, (k0_off22 v0 k0_t2) a + S128x2048.size a ≤ S4096x2048.size a) ∧
  (∀ k0_t2 : Fin k0_t2_loop.trips, ∀ (k0_h4 : k0_cond4 k0_t2 = 1#1), ∀ (k0_h5 : k0_cond5 k0_t2 = 1#1), ∀ (k0_h6 : k0_cond6 k0_t2 = 1#1), ∀ (hinb : ∀ a, (k0_off22 v0 k0_t2) a + S128x2048.size a ≤ S4096x2048.size a), (Rect.unit (s := S4096x2048) (k0_off22 v0 k0_t2) S128x2048.size hinb).WholeWords (EltTy.packing .bf16)) ∧
  (∀ k0_t2 : Fin k0_t2_loop.trips, ∀ (k0_h4 : k0_cond4 k0_t2 = 1#1), ∀ (k0_h5 : k0_cond5 k0_t2 = 1#1), ∀ a, (k0_off26 v0 k0_t2) a + S128x2048.size a ≤ S4096x2048.size a) ∧
  (∀ k0_t2 : Fin k0_t2_loop.trips, ∀ (k0_h4 : k0_cond4 k0_t2 = 1#1), ∀ (k0_h5 : k0_cond5 k0_t2 = 1#1), ∀ (hinb : ∀ a, (k0_off26 v0 k0_t2) a + S128x2048.size a ≤ S4096x2048.size a), (Rect.unit (s := S4096x2048) (k0_off26 v0 k0_t2) S128x2048.size hinb).WholeWords (EltTy.packing .bf16)) ∧
  (∀ a, (k0_off27 v0) a + S128x2048.size a ≤ S4096x2048.size a)
theorem k0_off3_inb : ∀ (v0 : BitVec 32) (k0_hw3 : k0_chk3 v0), ∀ (r : Fin 2), ∀ a, (k0_off3 v0 (BitVec.ofNat 32 (1 + 15 * r.val))) a + S128x2048.size a ≤ S4096x2048.size a := fun v0 k0_hw3 r => k0_hw3.1 r
theorem k0_off3_wordsbf16 : ∀ (v0 : BitVec 32) (k0_hw3 : k0_chk3 v0), ∀ (r : Fin 2), (Rect.unit (s := S4096x2048) (k0_off3 v0 (BitVec.ofNat 32 (1 + 15 * r.val))) S128x2048.size (k0_off3_inb v0 k0_hw3 r)).WholeWords (EltTy.packing .bf16) := fun v0 k0_hw3 r => k0_hw3.2.1 r (k0_off3_inb v0 k0_hw3 r)
theorem k0_off4_inb : ∀ (v0 : BitVec 32) (k0_hw3 : k0_chk3 v0), ∀ (r : Fin 2), ∀ a, (k0_off4 v0 (BitVec.ofNat 32 (1 + 14 * r.val))) a + S128x2048.size a ≤ S4096x2048.size a := fun v0 k0_hw3 r => k0_hw3.2.2.1 r
theorem k0_off4_wordsbf16 : ∀ (v0 : BitVec 32) (k0_hw3 : k0_chk3 v0), ∀ (r : Fin 2), (Rect.unit (s := S4096x2048) (k0_off4 v0 (BitVec.ofNat 32 (1 + 14 * r.val))) S128x2048.size (k0_off4_inb v0 k0_hw3 r)).WholeWords (EltTy.packing .bf16) := fun v0 k0_hw3 r => k0_hw3.2.2.2.1 r (k0_off4_inb v0 k0_hw3 r)
theorem k0_off7_inb : ∀ (v0 : BitVec 32) (k0_hw3 : k0_chk3 v0) (k0_t2 : Fin k0_t2_loop.trips), ∀ a, (k0_off7 v0 k0_t2) a + S128x2048.size a ≤ S4096x2048.size a := fun v0 k0_hw3 k0_t2 => k0_hw3.2.2.2.2.1 k0_t2
theorem k0_off7_wordsbf16 : ∀ (v0 : BitVec 32) (k0_hw3 : k0_chk3 v0) (k0_t2 : Fin k0_t2_loop.trips), (Rect.unit (s := S4096x2048) (k0_off7 v0 k0_t2) S128x2048.size (k0_off7_inb v0 k0_hw3 k0_t2)).WholeWords (EltTy.packing .bf16) := fun v0 k0_hw3 k0_t2 => k0_hw3.2.2.2.2.2.1 k0_t2 (k0_off7_inb v0 k0_hw3 k0_t2)
theorem k0_off8_inb : ∀ (v0 : BitVec 32) (k0_hw3 : k0_chk3 v0) (k0_t2 : Fin k0_t2_loop.trips), ∀ a, (k0_off8 v0 k0_t2) a + S128x2048.size a ≤ S4096x2048.size a := fun v0 k0_hw3 k0_t2 => k0_hw3.2.2.2.2.2.2.1 k0_t2
theorem k0_off8_packedbf16 : ∀ (v0 : BitVec 32) (k0_hw3 : k0_chk3 v0) (k0_t2 : Fin k0_t2_loop.trips), (Rect.unit (s := S4096x2048) (k0_off8 v0 k0_t2) S128x2048.size (k0_off8_inb v0 k0_hw3 k0_t2)).PackedRows (EltTy.packing .bf16) := fun v0 k0_hw3 k0_t2 => k0_hw3.2.2.2.2.2.2.2.1 k0_t2 (k0_off8_inb v0 k0_hw3 k0_t2)
theorem k0_off11_inb : ∀ (v0 : BitVec 32) (k0_hw3 : k0_chk3 v0) (k0_t2 : Fin k0_t2_loop.trips), ∀ (k0_h1 : k0_cond1 k0_t2 = 1#1), ∀ (k0_h2 : k0_cond2 k0_t2 = 1#1), ∀ a, (k0_off11 v0 k0_t2) a + S128x2048.size a ≤ S4096x2048.size a := fun v0 k0_hw3 k0_t2 k0_h1 k0_h2 => k0_hw3.2.2.2.2.2.2.2.2.1 k0_t2 k0_h1 k0_h2
theorem k0_off11_wordsbf16 : ∀ (v0 : BitVec 32) (k0_hw3 : k0_chk3 v0) (k0_t2 : Fin k0_t2_loop.trips), ∀ (k0_h1 : k0_cond1 k0_t2 = 1#1), ∀ (k0_h2 : k0_cond2 k0_t2 = 1#1), (Rect.unit (s := S4096x2048) (k0_off11 v0 k0_t2) S128x2048.size (k0_off11_inb v0 k0_hw3 k0_t2 k0_h1 k0_h2)).WholeWords (EltTy.packing .bf16) := fun v0 k0_hw3 k0_t2 k0_h1 k0_h2 => k0_hw3.2.2.2.2.2.2.2.2.2.1 k0_t2 k0_h1 k0_h2 (k0_off11_inb v0 k0_hw3 k0_t2 k0_h1 k0_h2)
theorem k0_off15_inb : ∀ (v0 : BitVec 32) (k0_hw3 : k0_chk3 v0) (k0_t2 : Fin k0_t2_loop.trips), ∀ (k0_h1 : k0_cond1 k0_t2 = 1#1), ∀ a, (k0_off15 v0 k0_t2) a + S128x2048.size a ≤ S4096x2048.size a := fun v0 k0_hw3 k0_t2 k0_h1 => k0_hw3.2.2.2.2.2.2.2.2.2.2.1 k0_t2 k0_h1
theorem k0_off15_wordsbf16 : ∀ (v0 : BitVec 32) (k0_hw3 : k0_chk3 v0) (k0_t2 : Fin k0_t2_loop.trips), ∀ (k0_h1 : k0_cond1 k0_t2 = 1#1), (Rect.unit (s := S4096x2048) (k0_off15 v0 k0_t2) S128x2048.size (k0_off15_inb v0 k0_hw3 k0_t2 k0_h1)).WholeWords (EltTy.packing .bf16) := fun v0 k0_hw3 k0_t2 k0_h1 => k0_hw3.2.2.2.2.2.2.2.2.2.2.2.1 k0_t2 k0_h1 (k0_off15_inb v0 k0_hw3 k0_t2 k0_h1)
theorem k0_off18_inb : ∀ (v0 : BitVec 32) (k0_hw3 : k0_chk3 v0) (k0_t2 : Fin k0_t2_loop.trips), ∀ (k0_h4 : k0_cond4 k0_t2 = 1#1), ∀ a, (k0_off18 v0 k0_t2) a + S128x2048.size a ≤ S4096x2048.size a := fun v0 k0_hw3 k0_t2 k0_h4 => k0_hw3.2.2.2.2.2.2.2.2.2.2.2.2.1 k0_t2 k0_h4
theorem k0_off18_wordsbf16 : ∀ (v0 : BitVec 32) (k0_hw3 : k0_chk3 v0) (k0_t2 : Fin k0_t2_loop.trips), ∀ (k0_h4 : k0_cond4 k0_t2 = 1#1), (Rect.unit (s := S4096x2048) (k0_off18 v0 k0_t2) S128x2048.size (k0_off18_inb v0 k0_hw3 k0_t2 k0_h4)).WholeWords (EltTy.packing .bf16) := fun v0 k0_hw3 k0_t2 k0_h4 => k0_hw3.2.2.2.2.2.2.2.2.2.2.2.2.2.1 k0_t2 k0_h4 (k0_off18_inb v0 k0_hw3 k0_t2 k0_h4)
theorem k0_off19_inb : ∀ (v0 : BitVec 32) (k0_hw3 : k0_chk3 v0) (k0_t2 : Fin k0_t2_loop.trips), ∀ (k0_h4 : k0_cond4 k0_t2 = 1#1), ∀ a, (k0_off19 v0 k0_t2) a + S128x2048.size a ≤ S4096x2048.size a := fun v0 k0_hw3 k0_t2 k0_h4 => k0_hw3.2.2.2.2.2.2.2.2.2.2.2.2.2.2.1 k0_t2 k0_h4
theorem k0_off19_packedbf16 : ∀ (v0 : BitVec 32) (k0_hw3 : k0_chk3 v0) (k0_t2 : Fin k0_t2_loop.trips), ∀ (k0_h4 : k0_cond4 k0_t2 = 1#1), (Rect.unit (s := S4096x2048) (k0_off19 v0 k0_t2) S128x2048.size (k0_off19_inb v0 k0_hw3 k0_t2 k0_h4)).PackedRows (EltTy.packing .bf16) := fun v0 k0_hw3 k0_t2 k0_h4 => k0_hw3.2.2.2.2.2.2.2.2.2.2.2.2.2.2.2.1 k0_t2 k0_h4 (k0_off19_inb v0 k0_hw3 k0_t2 k0_h4)
theorem k0_off22_inb : ∀ (v0 : BitVec 32) (k0_hw3 : k0_chk3 v0) (k0_t2 : Fin k0_t2_loop.trips), ∀ (k0_h4 : k0_cond4 k0_t2 = 1#1), ∀ (k0_h5 : k0_cond5 k0_t2 = 1#1), ∀ (k0_h6 : k0_cond6 k0_t2 = 1#1), ∀ a, (k0_off22 v0 k0_t2) a + S128x2048.size a ≤ S4096x2048.size a := fun v0 k0_hw3 k0_t2 k0_h4 k0_h5 k0_h6 => k0_hw3.2.2.2.2.2.2.2.2.2.2.2.2.2.2.2.2.1 k0_t2 k0_h4 k0_h5 k0_h6
theorem k0_off22_wordsbf16 : ∀ (v0 : BitVec 32) (k0_hw3 : k0_chk3 v0) (k0_t2 : Fin k0_t2_loop.trips), ∀ (k0_h4 : k0_cond4 k0_t2 = 1#1), ∀ (k0_h5 : k0_cond5 k0_t2 = 1#1), ∀ (k0_h6 : k0_cond6 k0_t2 = 1#1), (Rect.unit (s := S4096x2048) (k0_off22 v0 k0_t2) S128x2048.size (k0_off22_inb v0 k0_hw3 k0_t2 k0_h4 k0_h5 k0_h6)).WholeWords (EltTy.packing .bf16) := fun v0 k0_hw3 k0_t2 k0_h4 k0_h5 k0_h6 => k0_hw3.2.2.2.2.2.2.2.2.2.2.2.2.2.2.2.2.2.1 k0_t2 k0_h4 k0_h5 k0_h6 (k0_off22_inb v0 k0_hw3 k0_t2 k0_h4 k0_h5 k0_h6)
theorem k0_off26_inb : ∀ (v0 : BitVec 32) (k0_hw3 : k0_chk3 v0) (k0_t2 : Fin k0_t2_loop.trips), ∀ (k0_h4 : k0_cond4 k0_t2 = 1#1), ∀ (k0_h5 : k0_cond5 k0_t2 = 1#1), ∀ a, (k0_off26 v0 k0_t2) a + S128x2048.size a ≤ S4096x2048.size a := fun v0 k0_hw3 k0_t2 k0_h4 k0_h5 => k0_hw3.2.2.2.2.2.2.2.2.2.2.2.2.2.2.2.2.2.2.1 k0_t2 k0_h4 k0_h5
theorem k0_off26_wordsbf16 : ∀ (v0 : BitVec 32) (k0_hw3 : k0_chk3 v0) (k0_t2 : Fin k0_t2_loop.trips), ∀ (k0_h4 : k0_cond4 k0_t2 = 1#1), ∀ (k0_h5 : k0_cond5 k0_t2 = 1#1), (Rect.unit (s := S4096x2048) (k0_off26 v0 k0_t2) S128x2048.size (k0_off26_inb v0 k0_hw3 k0_t2 k0_h4 k0_h5)).WholeWords (EltTy.packing .bf16) := fun v0 k0_hw3 k0_t2 k0_h4 k0_h5 => k0_hw3.2.2.2.2.2.2.2.2.2.2.2.2.2.2.2.2.2.2.2.1 k0_t2 k0_h4 k0_h5 (k0_off26_inb v0 k0_hw3 k0_t2 k0_h4 k0_h5)
theorem k0_off27_inb : ∀ (v0 : BitVec 32) (k0_hw3 : k0_chk3 v0), ∀ a, (k0_off27 v0) a + S128x2048.size a ≤ S4096x2048.size a := fun v0 k0_hw3 => k0_hw3.2.2.2.2.2.2.2.2.2.2.2.2.2.2.2.2.2.2.2.2

abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S3 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S128x2048 : Shape := ⟨2, ![128, 2048]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Gather.lean ====
abbrev S128x2048 : Shape := ⟨2, ![128, 2048]⟩
abbrev S32 : Shape := ⟨1, ![32]⟩
abbrev S_ : Shape := ⟨0, ![]⟩
abbrev S1 : Shape := ⟨1, ![1]⟩
abbrev S3 : Shape := ⟨1, ![3]⟩
abbrev S4096x2048 : Shape := ⟨2, ![4096, 2048]⟩
abbrev S2x128x2048 : Shape := ⟨3, ![2, 128, 2048]⟩
abbrev S2x2 : Shape := ⟨2, ![2, 2]⟩
abbrev S2 : Shape := ⟨1, ![2]⟩
abbrev S1x1 : Shape := ⟨2, ![1, 1]⟩
abbrev S1x128x2048 : Shape := ⟨3, ![1, 128, 2048]⟩

abbrev nBuf : Space → Nat
  | .hbm => 103
  | .vmem => 5
  | .smem => 1
  | _ => 0

abbrev bufTy : (tb : Table) → Fin (tcTables nBuf tb) → BufTy
  | .hbm, ⟨0, _⟩ => ⟨S128x2048, .f32⟩
  | .hbm, ⟨1, _⟩ => ⟨S32, .i32⟩
  | .hbm, ⟨2, _⟩ => ⟨S32, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S1, .i1⟩
  | .hbm, ⟨19, _⟩ => ⟨S1, .i1⟩
  | .hbm, ⟨20, _⟩ => ⟨S1, .i1⟩
  | .hbm, ⟨21, _⟩ => ⟨S_, .i1⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i1⟩
  | .hbm, ⟨41, _⟩ => ⟨S_, .i1⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S1, .i1⟩
  | .hbm, ⟨55, _⟩ => ⟨S1, .i1⟩
  | .hbm, ⟨56, _⟩ => ⟨S1, .i1⟩
  | .hbm, ⟨57, _⟩ => ⟨S_, .i1⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i1⟩
  | .hbm, ⟨77, _⟩ => ⟨S_, .i1⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S1, .i32⟩
  | .hbm, ⟨87, _⟩ => ⟨S1, .i32⟩
  | .hbm, ⟨88, _⟩ => ⟨S_, .i32⟩
  | .hbm, ⟨89, _⟩ => ⟨S1, .i32⟩
  | .hbm, ⟨90, _⟩ => ⟨S1, .i1⟩
  | .hbm, ⟨91, _⟩ => ⟨S1, .i1⟩
  | .hbm, ⟨92, _⟩ => ⟨S1, .i1⟩
  | .hbm, ⟨93, _⟩ => ⟨S_, .i1⟩
  | .hbm, ⟨94, _⟩ => ⟨S_, .i1⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S1, .i32⟩
  | .hbm, ⟨99, _⟩ => ⟨S1, .i32⟩
  | .hbm, ⟨100, _⟩ => ⟨S1, .i32⟩
  | .hbm, ⟨101, _⟩ => ⟨S3, .i32⟩
  | .hbm, ⟨102, _⟩ => ⟨S4096x2048, .f32⟩
  | .local _ .vmem, ⟨0, _⟩ => ⟨S128x2048, .f32⟩
  | .local _ .vmem, ⟨1, _⟩ => ⟨S4096x2048, .f32⟩
  | .local _ .vmem, ⟨2, _⟩ => ⟨S4096x2048, .bf16⟩
  | .local _ .vmem, ⟨3, _⟩ => ⟨S2x128x2048, .bf16⟩
  | .local _ .vmem, ⟨4, _⟩ => ⟨S2x128x2048, .bf16⟩
  | .local _ .smem, ⟨0, _⟩ => ⟨S3, .i32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 3 11 bufScoped semScoped dmaSemScoped tileCredit tileCredit_eq_zero tileCredit_pos).withBarriers [(0, 2)]

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_c_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_c_1 : Ref sig .tc := ⟨.hbm, 15, rfl⟩
abbrev main_call0_c_2 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_c_3 : Ref sig .tc := ⟨.hbm, 21, rfl⟩
abbrev main_call0_v8 : Ref sig .tc := ⟨.hbm, 22, rfl⟩
abbrev main_call0_v9 : Ref sig .tc := ⟨.hbm, 23, rfl⟩
abbrev main_call0_c_4 : Ref sig .tc := ⟨.hbm, 24, rfl⟩
abbrev main_v5 : Ref sig .tc := ⟨.hbm, 25, rfl⟩
abbrev main_c_3 : Ref sig .tc := ⟨.hbm, 26, rfl⟩
abbrev main_v6 : Ref sig .tc := ⟨.hbm, 27, rfl⟩
abbrev main_c_4 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_c_1 : Ref sig .tc := ⟨.hbm, 35, rfl⟩
abbrev main_call1_v4 : Ref sig .tc := ⟨.hbm, 36, rfl⟩
abbrev main_call1_c_2 : Ref sig .tc := ⟨.hbm, 37, rfl⟩
abbrev main_call1_v5 : Ref sig .tc := ⟨.hbm, 38, rfl⟩
abbrev main_call1_c_3 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_v7 : Ref sig .tc := ⟨.hbm, 44, rfl⟩
abbrev main_call2_c : Ref sig .tc := ⟨.hbm, 45, rfl⟩
abbrev main_call2_v0 : Ref sig .tc := ⟨.hbm, 46, rfl⟩
abbrev main_call2_c_0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_c_1 : Ref sig .tc := ⟨.hbm, 51, rfl⟩
abbrev main_call2_c_2 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_c_3 : Ref sig .tc := ⟨.hbm, 57, rfl⟩
abbrev main_call2_v8 : Ref sig .tc := ⟨.hbm, 58, rfl⟩
abbrev main_call2_v9 : Ref sig .tc := ⟨.hbm, 59, rfl⟩
abbrev main_call2_c_4 : Ref sig .tc := ⟨.hbm, 60, rfl⟩
abbrev main_v8 : Ref sig .tc := ⟨.hbm, 61, rfl⟩
abbrev main_c_5 : Ref sig .tc := ⟨.hbm, 62, rfl⟩
abbrev main_v9 : Ref sig .tc := ⟨.hbm, 63, rfl⟩
abbrev main_c_6 : Ref sig .tc := ⟨.hbm, 64, rfl⟩
abbrev main_call3_v0 : Ref sig .tc := ⟨.hbm, 65, rfl⟩
abbrev main_call3_c : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_c_1 : Ref sig .tc := ⟨.hbm, 71, rfl⟩
abbrev main_call3_v4 : Ref sig .tc := ⟨.hbm, 72, rfl⟩
abbrev main_call3_c_2 : Ref sig .tc := ⟨.hbm, 73, rfl⟩
abbrev main_call3_v5 : Ref sig .tc := ⟨.hbm, 74, rfl⟩
abbrev main_call3_c_3 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_v10 : Ref sig .tc := ⟨.hbm, 80, rfl⟩
abbrev main_call4_c : Ref sig .tc := ⟨.hbm, 81, rfl⟩
abbrev main_call4_v0 : Ref sig .tc := ⟨.hbm, 82, rfl⟩
abbrev main_call4_c_0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_c_1 : Ref sig .tc := ⟨.hbm, 87, rfl⟩
abbrev main_call4_c_2 : Ref sig .tc := ⟨.hbm, 88, rfl⟩
abbrev main_call4_v4 : Ref sig .tc := ⟨.hbm, 89, rfl⟩
abbrev main_call4_v5 : Ref sig .tc := ⟨.hbm, 90, rfl⟩
abbrev main_call4_v6 : Ref sig .tc := ⟨.hbm, 91, rfl⟩
abbrev main_call4_v7 : Ref sig .tc := ⟨.hbm, 92, rfl⟩
abbrev main_call4_c_3 : Ref sig .tc := ⟨.hbm, 93, rfl⟩
abbrev main_call4_v8 : Ref sig .tc := ⟨.hbm, 94, rfl⟩
abbrev main_call4_v9 : Ref sig .tc := ⟨.hbm, 95, rfl⟩
abbrev main_call4_c_4 : Ref sig .tc := ⟨.hbm, 96, rfl⟩
abbrev main_v11 : Ref sig .tc := ⟨.hbm, 97, rfl⟩
abbrev main_v12 : Ref sig .tc := ⟨.hbm, 98, rfl⟩
abbrev main_v13 : Ref sig .tc := ⟨.hbm, 99, rfl⟩
abbrev main_v14 : Ref sig .tc := ⟨.hbm, 100, rfl⟩
abbrev main_v15 : Ref sig .tc := ⟨.hbm, 101, rfl⟩
abbrev main_v16 : Ref sig .tc := ⟨.hbm, 102, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 2

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k0_dev2 (v2 : BitVec 32) : Nat :=
  let c0_i32_3 : BitVec 32 := 0#32
  let c1_i32_2 : BitVec 32 := 1#32
  let v6 : BitVec 32 := Scalar.muli v2 c1_i32_2
  let v7 : BitVec 32 := Scalar.addi c0_i32_3 v6
  v7.toNat

def k0_off1 (v0 : BitVec 32) : Fin 2 → Nat :=
  let c32_i32 : BitVec 32 := 32#32
  let c0_i32_4 : BitVec 32 := 0#32
  let v8 : BitVec 1 := Scalar.cmpi .eq c32_i32 c0_i32_4
  let c1_i32_5 : BitVec 32 := 1#32
  let v9 : BitVec 32 := Scalar.select v8 c1_i32_5 c32_i32
  let v10 : BitVec 32 := Scalar.remsi v0 v9
  let c0_i32_7 : BitVec 32 := 0#32
  let v12 : BitVec 1 := Scalar.cmpi .slt v10 c0_i32_7
  let c0_i32_8 : BitVec 32 := 0#32
  let v13 : BitVec 1 := Scalar.cmpi .slt v9 c0_i32_8
  let v14 : BitVec 1 := Scalar.xori v12 v13
  let c0_i32_6 : BitVec 32 := 0#32
  let v11 : BitVec 1 := Scalar.cmpi .ne v10 c0_i32_6
  let v15 : BitVec 1 := Scalar.andi v14 v11
  let v16 : BitVec 32 := Scalar.addi v10 v9
  let v17 : BitVec 32 := Scalar.select v15 v16 v10
  let c128_i32 : BitVec 32 := 128#32
  let v18 : BitVec 32 := Scalar.muli v17 c128_i32
  let v21 : Index := Scalar.indexCast v18
  let c0_11 : Index := 0#32
  ![v21.toNat, 0]

def k0_off2 (v0 : BitVec 32) : Fin 2 → Nat :=
  let c32_i32 : BitVec 32 := 32#32
  let c0_i32_4 : BitVec 32 := 0#32
  let v8 : BitVec 1 := Scalar.cmpi .eq c32_i32 c0_i32_4
  let c1_i32_5 : BitVec 32 := 1#32
  let v9 : BitVec 32 := Scalar.select v8 c1_i32_5 c32_i32
  let v10 : BitVec 32 := Scalar.remsi v0 v9
  let c0_i32_7 : BitVec 32 := 0#32
  let v12 : BitVec 1 := Scalar.cmpi .slt v10 c0_i32_7
  let c0_i32_8 : BitVec 32 := 0#32
  let v13 : BitVec 1 := Scalar.cmpi .slt v9 c0_i32_8
  let v14 : BitVec 1 := Scalar.xori v12 v13
  let c0_i32_6 : BitVec 32 := 0#32
  let v11 : BitVec 1 := Scalar.cmpi .ne v10 c0_i32_6
  let v15 : BitVec 1 := Scalar.andi v14 v11
  let v16 : BitVec 32 := Scalar.addi v10 v9
  let v17 : BitVec 32 := Scalar.select v15 v16 v10
  let c128_i32 : BitVec 32 := 128#32
  let v18 : BitVec 32 := Scalar.muli v17 c128_i32
  let c0_i32_22 : BitVec 32 := 0#32
  ![v18.toNat, 0]
def k0_dev3 (v2 : BitVec 32) : Nat :=
  let c0_i32_19 : BitVec 32 := 0#32
  let c1_i32_18 : BitVec 32 := 1#32
  let v28 : BitVec 32 := Scalar.muli v2 c1_i32_18
  let v29 : BitVec 32 := Scalar.addi c0_i32_19 v28
  v29.toNat
def k0_dev4 (v1 : BitVec 32) : Nat :=
  let c0_i32_29 : BitVec 32 := 0#32
  let c1_i32_28 : BitVec 32 := 1#32
  let v37 : BitVec 32 := Scalar.muli v1 c1_i32_28
  let v38 : BitVec 32 := Scalar.addi c0_i32_29 v37
  v38.toNat
@[reducible] def k0_t1_loop : Scf.Loop 32 :=
  let c0_i32_33 : BitVec 32 := 0#32
  let c16_i32 : BitVec 32 := 16#32
  let v46 : BitVec 32 := Scalar.addi c0_i32_33 c16_i32
  let c1_i32_34 : BitVec 32 := 1#32
  ⟨c0_i32_33, v46, c1_i32_34⟩
def k0_cond1 (k0_t1 : Fin k0_t1_loop.trips) : BitVec 1 :=
  let c0_i32_33 : BitVec 32 := 0#32
  let c1_i32_34 : BitVec 32 := 1#32
  let arg9 : BitVec 32 := Scf.iv c0_i32_33 c1_i32_34 k0_t1
  let c15_i32 : BitVec 32 := 15#32
  let v68 : BitVec 1 := Scalar.cmpi .slt arg9 c15_i32
  let v69 : BitVec 32 := Scalar.extui v68
  let c0_i32_49 : BitVec 32 := 0#32
  let v70 : BitVec 1 := Scalar.cmpi .ne v69 c0_i32_49
  v70

def k0_off3 (k0_t1 : Fin k0_t1_loop.trips) : Fin 2 → Nat :=
  let c0_i32_74 : BitVec 32 := 0#32
  let c0_i32_33 : BitVec 32 := 0#32
  let c1_i32_34 : BitVec 32 := 1#32
  let arg9 : BitVec 32 := Scf.iv c0_i32_33 c1_i32_34 k0_t1
  let c2_i32_36 : BitVec 32 := 2#32
  let c0_i32_37 : BitVec 32 := 0#32
  let v47 : BitVec 1 := Scalar.cmpi .eq c2_i32_36 c0_i32_37
  let c1_i32_38 : BitVec 32 := 1#32
  let v48 : BitVec 32 := Scalar.select v47 c1_i32_38 c2_i32_36
  let v49 : BitVec 32 := Scalar.remsi arg9 v48
  let c0_i32_40 : BitVec 32 := 0#32
  let v51 : BitVec 1 := Scalar.cmpi .slt v49 c0_i32_40
  let c0_i32_41 : BitVec 32 := 0#32
  let v52 : BitVec 1 := Scalar.cmpi .slt v48 c0_i32_41
  let v53 : BitVec 1 := Scalar.xori v51 v52
  let c0_i32_39 : BitVec 32 := 0#32
  let v50 : BitVec 1 := Scalar.cmpi .ne v49 c0_i32_39
  let v54 : BitVec 1 := Scalar.andi v53 v50
  let v55 : BitVec 32 := Scalar.addi v49 v48
  let v56 : BitVec 32 := Scalar.select v54 v55 v49
  ![0, v56.toNat]
def k0_off4 (k0_t1 : Fin k0_t1_loop.trips) : Fin 3 → Nat :=
  let c0_i32_33 : BitVec 32 := 0#32
  let c1_i32_34 : BitVec 32 := 1#32
  let arg9 : BitVec 32 := Scf.iv c0_i32_33 c1_i32_34 k0_t1
  let c2_i32_36 : BitVec 32 := 2#32
  let c0_i32_37 : BitVec 32 := 0#32
  let v47 : BitVec 1 := Scalar.cmpi .eq c2_i32_36 c0_i32_37
  let c1_i32_38 : BitVec 32 := 1#32
  let v48 : BitVec 32 := Scalar.select v47 c1_i32_38 c2_i32_36
  let v49 : BitVec 32 := Scalar.remsi arg9 v48
  let c0_i32_40 : BitVec 32 := 0#32
  let v51 : BitVec 1 := Scalar.cmpi .slt v49 c0_i32_40
  let c0_i32_41 : BitVec 32 := 0#32
  let v52 : BitVec 1 := Scalar.cmpi .slt v48 c0_i32_41
  let v53 : BitVec 1 := Scalar.xori v51 v52
  let c0_i32_39 : BitVec 32 := 0#32
  let v50 : BitVec 1 := Scalar.cmpi .ne v49 c0_i32_39
  let v54 : BitVec 1 := Scalar.andi v53 v50
  let v55 : BitVec 32 := Scalar.addi v49 v48
  let v56 : BitVec 32 := Scalar.select v54 v55 v49
  let c0_i32_78 : BitVec 32 := 0#32
  let c0_i32_79 : BitVec 32 := 0#32
  ![v56.toNat, 0, 0]
def k0_cond2 (k0_t1 : Fin k0_t1_loop.trips) : BitVec 1 :=
  let c0_i32_33 : BitVec 32 := 0#32
  let c1_i32_34 : BitVec 32 := 1#32
  let arg9 : BitVec 32 := Scf.iv c0_i32_33 c1_i32_34 k0_t1
  let c14_i32_82 : BitVec 32 := 14#32
  let v115 : BitVec 1 := Scalar.cmpi .slt arg9 c14_i32_82
  let v116 : BitVec 32 := Scalar.extui v115
  let c0_i32_83 : BitVec 32 := 0#32
  let v117 : BitVec 1 := Scalar.cmpi .ne v116 c0_i32_83
  v117

def k0_off5 (k0_t1 : Fin k0_t1_loop.trips) : Fin 2 → Nat :=
  let c0_i32_101 : BitVec 32 := 0#32
  let c0_i32_33 : BitVec 32 := 0#32
  let c1_i32_34 : BitVec 32 := 1#32
  let arg9 : BitVec 32 := Scf.iv c0_i32_33 c1_i32_34 k0_t1
  let c1_i32_42 : BitVec 32 := 1#32
  let v57 : BitVec 32 := Scalar.addi arg9 c1_i32_42
  let c2_i32_43 : BitVec 32 := 2#32
  let c0_i32_44 : BitVec 32 := 0#32
  let v58 : BitVec 1 := Scalar.cmpi .eq c2_i32_43 c0_i32_44
  let c1_i32_45 : BitVec 32 := 1#32
  let v59 : BitVec 32 := Scalar.select v58 c1_i32_45 c2_i32_43
  let v60 : BitVec 32 := Scalar.remsi v57 v59
  let c0_i32_47 : BitVec 32 := 0#32
  let v62 : BitVec 1 := Scalar.cmpi .slt v60 c0_i32_47
  let c0_i32_48 : BitVec 32 := 0#32
  let v63 : BitVec 1 := Scalar.cmpi .slt v59 c0_i32_48
  let v64 : BitVec 1 := Scalar.xori v62 v63
  let c0_i32_46 : BitVec 32 := 0#32
  let v61 : BitVec 1 := Scalar.cmpi .ne v60 c0_i32_46
  let v65 : BitVec 1 := Scalar.andi v64 v61
  let v66 : BitVec 32 := Scalar.addi v60 v59
  let v67 : BitVec 32 := Scalar.select v65 v66 v60
  ![0, v67.toNat]
def k0_off6 (k0_t1 : Fin k0_t1_loop.trips) : Fin 3 → Nat :=
  let c0_i32_33 : BitVec 32 := 0#32
  let c1_i32_34 : BitVec 32 := 1#32
  let arg9 : BitVec 32 := Scf.iv c0_i32_33 c1_i32_34 k0_t1
  let c1_i32_42 : BitVec 32 := 1#32
  let v57 : BitVec 32 := Scalar.addi arg9 c1_i32_42
  let c2_i32_43 : BitVec 32 := 2#32
  let c0_i32_44 : BitVec 32 := 0#32
  let v58 : BitVec 1 := Scalar.cmpi .eq c2_i32_43 c0_i32_44
  let c1_i32_45 : BitVec 32 := 1#32
  let v59 : BitVec 32 := Scalar.select v58 c1_i32_45 c2_i32_43
  let v60 : BitVec 32 := Scalar.remsi v57 v59
  let c0_i32_47 : BitVec 32 := 0#32
  let v62 : BitVec 1 := Scalar.cmpi .slt v60 c0_i32_47
  let c0_i32_48 : BitVec 32 := 0#32
  let v63 : BitVec 1 := Scalar.cmpi .slt v59 c0_i32_48
  let v64 : BitVec 1 := Scalar.xori v62 v63
  let c0_i32_46 : BitVec 32 := 0#32
  let v61 : BitVec 1 := Scalar.cmpi .ne v60 c0_i32_46
  let v65 : BitVec 1 := Scalar.andi v64 v61
  let v66 : BitVec 32 := Scalar.addi v60 v59
  let v67 : BitVec 32 := Scalar.select v65 v66 v60
  let c0_i32_104 : BitVec 32 := 0#32
  let c0_i32_105 : BitVec 32 := 0#32
  ![v67.toNat, 0, 0]
def k0_off7 (k0_t1 : Fin k0_t1_loop.trips) : Fin 3 → Nat :=
  let c0_i32_33 : BitVec 32 := 0#32
  let c1_i32_34 : BitVec 32 := 1#32
  let arg9 : BitVec 32 := Scf.iv c0_i32_33 c1_i32_34 k0_t1
  let c2_i32_36 : BitVec 32 := 2#32
  let c0_i32_37 : BitVec 32 := 0#32
  let v47 : BitVec 1 := Scalar.cmpi .eq c2_i32_36 c0_i32_37
  let c1_i32_38 : BitVec 32 := 1#32
  let v48 : BitVec 32 := Scalar.select v47 c1_i32_38 c2_i32_36
  let v49 : BitVec 32 := Scalar.remsi arg9 v48
  let c0_i32_40 : BitVec 32 := 0#32
  let v51 : BitVec 1 := Scalar.cmpi .slt v49 c0_i32_40
  let c0_i32_41 : BitVec 32 := 0#32
  let v52 : BitVec 1 := Scalar.cmpi .slt v48 c0_i32_41
  let v53 : BitVec 1 := Scalar.xori v51 v52
  let c0_i32_39 : BitVec 32 := 0#32
  let v50 : BitVec 1 := Scalar.cmpi .ne v49 c0_i32_39
  let v54 : BitVec 1 := Scalar.andi v53 v50
  let v55 : BitVec 32 := Scalar.addi v49 v48
  let v56 : BitVec 32 := Scalar.select v54 v55 v49
  let c0_i32_106 : BitVec 32 := 0#32
  let c0_i32_107 : BitVec 32 := 0#32
  ![v56.toNat, 0, 0]
def k0_dev5 (v2 : BitVec 32) : Nat :=
  let c0_i32_103 : BitVec 32 := 0#32
  let c1_i32_102 : BitVec 32 := 1#32
  let v146 : BitVec 32 := Scalar.muli v2 c1_i32_102
  let v147 : BitVec 32 := Scalar.addi c0_i32_103 v146
  v147.toNat
def k0_off8 (k0_t1 : Fin k0_t1_loop.trips) : Fin 3 → Nat :=
  let c0_i32_33 : BitVec 32 := 0#32
  let c1_i32_34 : BitVec 32 := 1#32
  let arg9 : BitVec 32 := Scf.iv c0_i32_33 c1_i32_34 k0_t1
  let c2_i32_36 : BitVec 32 := 2#32
  let c0_i32_37 : BitVec 32 := 0#32
  let v47 : BitVec 1 := Scalar.cmpi .eq c2_i32_36 c0_i32_37
  let c1_i32_38 : BitVec 32 := 1#32
  let v48 : BitVec 32 := Scalar.select v47 c1_i32_38 c2_i32_36
  let v49 : BitVec 32 := Scalar.remsi arg9 v48
  let c0_i32_40 : BitVec 32 := 0#32
  let v51 : BitVec 1 := Scalar.cmpi .slt v49 c0_i32_40
  let c0_i32_41 : BitVec 32 := 0#32
  let v52 : BitVec 1 := Scalar.cmpi .slt v48 c0_i32_41
  let v53 : BitVec 1 := Scalar.xori v51 v52
  let c0_i32_39 : BitVec 32 := 0#32
  let v50 : BitVec 1 := Scalar.cmpi .ne v49 c0_i32_39
  let v54 : BitVec 1 := Scalar.andi v53 v50
  let v55 : BitVec 32 := Scalar.addi v49 v48
  let v56 : BitVec 32 := Scalar.select v54 v55 v49
  let v118 : Index := Scalar.indexCast v56
  let c0_84 : Index := 0#32
  let c0_85 : Index := 0#32
  ![v118.toNat, 0, 0]
def k0_off9 (v0 : BitVec 32) (k0_t1 : Fin k0_t1_loop.trips) : Fin 2 → Nat :=
  let c1_i32_86 : BitVec 32 := 1#32
  let v122 : BitVec 32 := Scalar.subi v0 c1_i32_86
  let c0_i32_33 : BitVec 32 := 0#32
  let c1_i32_34 : BitVec 32 := 1#32
  let arg9 : BitVec 32 := Scf.iv c0_i32_33 c1_i32_34 k0_t1
  let v123 : BitVec 32 := Scalar.subi v122 arg9
  let c32_i32_87 : BitVec 32 := 32#32
  let c0_i32_88 : BitVec 32 := 0#32
  let v124 : BitVec 1 := Scalar.cmpi .eq c32_i32_87 c0_i32_88
  let c1_i32_89 : BitVec 32 := 1#32
  let v125 : BitVec 32 := Scalar.select v124 c1_i32_89 c32_i32_87
  let v126 : BitVec 32 := Scalar.remsi v123 v125
  let c0_i32_91 : BitVec 32 := 0#32
  let v128 : BitVec 1 := Scalar.cmpi .slt v126 c0_i32_91
  let c0_i32_92 : BitVec 32 := 0#32
  let v129 : BitVec 1 := Scalar.cmpi .slt v125 c0_i32_92
  let v130 : BitVec 1 := Scalar.xori v128 v129
  let c0_i32_90 : BitVec 32 := 0#32
  let v127 : BitVec 1 := Scalar.cmpi .ne v126 c0_i32_90
  let v131 : BitVec 1 := Scalar.andi v130 v127
  let v132 : BitVec 32 := Scalar.addi v126 v125
  let v133 : BitVec 32 := Scalar.select v131 v132 v126
  let c128_i32_93 : BitVec 32 := 128#32
  let v134 : BitVec 32 := Scalar.muli v133 c128_i32_93
  let v135 : Index := Scalar.indexCast v134
  let c0_94 : Index := 0#32
  ![v135.toNat, 0]
def k0_cond4 (k0_t1 : Fin k0_t1_loop.trips) : BitVec 1 :=
  let c0_i32_33 : BitVec 32 := 0#32
  let c1_i32_34 : BitVec 32 := 1#32
  let arg9 : BitVec 32 := Scf.iv c0_i32_33 c1_i32_34 k0_t1
  let c14_i32_95 : BitVec 32 := 14#32
  let v137 : BitVec 1 := Scalar.cmpi .slt arg9 c14_i32_95
  let v138 : BitVec 32 := Scalar.extui v137
  let c0_i32_96 : BitVec 32 := 0#32
  let v139 : BitVec 1 := Scalar.cmpi .ne v138 c0_i32_96
  v139

def k0_cond5 (k0_t1 : Fin k0_t1_loop.trips) : BitVec 1 :=
  let c0_i32_33 : BitVec 32 := 0#32
  let c1_i32_34 : BitVec 32 := 1#32
  let arg9 : BitVec 32 := Scf.iv c0_i32_33 c1_i32_34 k0_t1
  let c0_i32_98 : BitVec 32 := 0#32
  let v143 : BitVec 1 := Scalar.cmpi .eq arg9 c0_i32_98
  let v144 : BitVec 32 := Scalar.extui v143
  let c0_i32_99 : BitVec 32 := 0#32
  let v145 : BitVec 1 := Scalar.cmpi .ne v144 c0_i32_99
  v145

def k0_off10 (v0 : BitVec 32) : Fin 2 → Nat :=
  let c32_i32 : BitVec 32 := 32#32
  let c0_i32_4 : BitVec 32 := 0#32
  let v8 : BitVec 1 := Scalar.cmpi .eq c32_i32 c0_i32_4
  let c1_i32_5 : BitVec 32 := 1#32
  let v9 : BitVec 32 := Scalar.select v8 c1_i32_5 c32_i32
  let v10 : BitVec 32 := Scalar.remsi v0 v9
  let c0_i32_7 : BitVec 32 := 0#32
  let v12 : BitVec 1 := Scalar.cmpi .slt v10 c0_i32_7
  let c0_i32_8 : BitVec 32 := 0#32
  let v13 : BitVec 1 := Scalar.cmpi .slt v9 c0_i32_8
  let v14 : BitVec 1 := Scalar.xori v12 v13
  let c0_i32_6 : BitVec 32 := 0#32
  let v11 : BitVec 1 := Scalar.cmpi .ne v10 c0_i32_6
  let v15 : BitVec 1 := Scalar.andi v14 v11
  let v16 : BitVec 32 := Scalar.addi v10 v9
  let v17 : BitVec 32 := Scalar.select v15 v16 v10
  let c128_i32 : BitVec 32 := 128#32
  let v18 : BitVec 32 := Scalar.muli v17 c128_i32
  let c0_i32_113 : BitVec 32 := 0#32
  ![v18.toNat, 0]
def k0_off11 (k0_t1 : Fin k0_t1_loop.trips) : Fin 2 → Nat :=
  let c0_i32_100 : BitVec 32 := 0#32
  let c0_i32_33 : BitVec 32 := 0#32
  let c1_i32_34 : BitVec 32 := 1#32
  let arg9 : BitVec 32 := Scf.iv c0_i32_33 c1_i32_34 k0_t1
  let c1_i32_42 : BitVec 32 := 1#32
  let v57 : BitVec 32 := Scalar.addi arg9 c1_i32_42
  let c2_i32_43 : BitVec 32 := 2#32
  let c0_i32_44 : BitVec 32 := 0#32
  let v58 : BitVec 1 := Scalar.cmpi .eq c2_i32_43 c0_i32_44
  let c1_i32_45 : BitVec 32 := 1#32
  let v59 : BitVec 32 := Scalar.select v58 c1_i32_45 c2_i32_43
  let v60 : BitVec 32 := Scalar.remsi v57 v59
  let c0_i32_47 : BitVec 32 := 0#32
  let v62 : BitVec 1 := Scalar.cmpi .slt v60 c0_i32_47
  let c0_i32_48 : BitVec 32 := 0#32
  let v63 : BitVec 1 := Scalar.cmpi .slt v59 c0_i32_48
  let v64 : BitVec 1 := Scalar.xori v62 v63
  let c0_i32_46 : BitVec 32 := 0#32
  let v61 : BitVec 1 := Scalar.cmpi .ne v60 c0_i32_46
  let v65 : BitVec 1 := Scalar.andi v64 v61
  let v66 : BitVec 32 := Scalar.addi v60 v59
  let v67 : BitVec 32 := Scalar.select v65 v66 v60
  ![0, v67.toNat]
def k0_off12 (k0_t1 : Fin k0_t1_loop.trips) : Fin 3 → Nat :=
  let c0_i32_33 : BitVec 32 := 0#32
  let c1_i32_34 : BitVec 32 := 1#32
  let arg9 : BitVec 32 := Scf.iv c0_i32_33 c1_i32_34 k0_t1
  let c2_i32_36 : BitVec 32 := 2#32
  let c0_i32_37 : BitVec 32 := 0#32
  let v47 : BitVec 1 := Scalar.cmpi .eq c2_i32_36 c0_i32_37
  let c1_i32_38 : BitVec 32 := 1#32
  let v48 : BitVec 32 := Scalar.select v47 c1_i32_38 c2_i32_36
  let v49 : BitVec 32 := Scalar.remsi arg9 v48
  let c0_i32_40 : BitVec 32 := 0#32
  let v51 : BitVec 1 := Scalar.cmpi .slt v49 c0_i32_40
  let c0_i32_41 : BitVec 32 := 0#32
  let v52 : BitVec 1 := Scalar.cmpi .slt v48 c0_i32_41
  let v53 : BitVec 1 := Scalar.xori v51 v52
  let c0_i32_39 : BitVec 32 := 0#32
  let v50 : BitVec 1 := Scalar.cmpi .ne v49 c0_i32_39
  let v54 : BitVec 1 := Scalar.andi v53 v50
  let v55 : BitVec 32 := Scalar.addi v49 v48
  let v56 : BitVec 32 := Scalar.select v54 v55 v49
  let c0_i32_103 : BitVec 32 := 0#32
  let c0_i32_104 : BitVec 32 := 0#32
  ![v56.toNat, 0, 0]
def k0_off13 (k0_t1 : Fin k0_t1_loop.trips) : Fin 3 → Nat :=
  let c0_i32_33 : BitVec 32 := 0#32
  let c1_i32_34 : BitVec 32 := 1#32
  let arg9 : BitVec 32 := Scf.iv c0_i32_33 c1_i32_34 k0_t1
  let c1_i32_42 : BitVec 32 := 1#32
  let v57 : BitVec 32 := Scalar.addi arg9 c1_i32_42
  let c2_i32_43 : BitVec 32 := 2#32
  let c0_i32_44 : BitVec 32 := 0#32
  let v58 : BitVec 1 := Scalar.cmpi .eq c2_i32_43 c0_i32_44
  let c1_i32_45 : BitVec 32 := 1#32
  let v59 : BitVec 32 := Scalar.select v58 c1_i32_45 c2_i32_43
  let v60 : BitVec 32 := Scalar.remsi v57 v59
  let c0_i32_47 : BitVec 32 := 0#32
  let v62 : BitVec 1 := Scalar.cmpi .slt v60 c0_i32_47
  let c0_i32_48 : BitVec 32 := 0#32
  let v63 : BitVec 1 := Scalar.cmpi .slt v59 c0_i32_48
  let v64 : BitVec 1 := Scalar.xori v62 v63
  let c0_i32_46 : BitVec 32 := 0#32
  let v61 : BitVec 1 := Scalar.cmpi .ne v60 c0_i32_46
  let v65 : BitVec 1 := Scalar.andi v64 v61
  let v66 : BitVec 32 := Scalar.addi v60 v59
  let v67 : BitVec 32 := Scalar.select v65 v66 v60
  let c0_i32_105 : BitVec 32 := 0#32
  let c0_i32_106 : BitVec 32 := 0#32
  ![v67.toNat, 0, 0]
def k0_cond6 (k0_t1 : Fin k0_t1_loop.trips) : BitVec 1 :=
  let c0_i32_33 : BitVec 32 := 0#32
  let c1_i32_34 : BitVec 32 := 1#32
  let arg9 : BitVec 32 := Scf.iv c0_i32_33 c1_i32_34 k0_t1
  let c13_i32 : BitVec 32 := 13#32
  let v140 : BitVec 1 := Scalar.cmpi .slt arg9 c13_i32
  let v141 : BitVec 32 := Scalar.extui v140
  let c0_i32_97 : BitVec 32 := 0#32
  let v142 : BitVec 1 := Scalar.cmpi .ne v141 c0_i32_97
  v142

def k0_dev6 (v1 : BitVec 32) : Nat :=
  let c0_i32_101 : BitVec 32 := 0#32
  let c1_i32_100 : BitVec 32 := 1#32
  let v145 : BitVec 32 := Scalar.muli v1 c1_i32_100
  let v146 : BitVec 32 := Scalar.addi c0_i32_101 v145
  v146.toNat
def k0_off14 (k0_t1 : Fin k0_t1_loop.trips) : Fin 2 → Nat :=
  let c1_i32_50 : BitVec 32 := 1#32
  let c0_i32_33 : BitVec 32 := 0#32
  let c1_i32_34 : BitVec 32 := 1#32
  let arg9 : BitVec 32 := Scf.iv c0_i32_33 c1_i32_34 k0_t1
  let c2_i32_36 : BitVec 32 := 2#32
  let c0_i32_37 : BitVec 32 := 0#32
  let v47 : BitVec 1 := Scalar.cmpi .eq c2_i32_36 c0_i32_37
  let c1_i32_38 : BitVec 32 := 1#32
  let v48 : BitVec 32 := Scalar.select v47 c1_i32_38 c2_i32_36
  let v49 : BitVec 32 := Scalar.remsi arg9 v48
  let c0_i32_40 : BitVec 32 := 0#32
  let v51 : BitVec 1 := Scalar.cmpi .slt v49 c0_i32_40
  let c0_i32_41 : BitVec 32 := 0#32
  let v52 : BitVec 1 := Scalar.cmpi .slt v48 c0_i32_41
  let v53 : BitVec 1 := Scalar.xori v51 v52
  let c0_i32_39 : BitVec 32 := 0#32
  let v50 : BitVec 1 := Scalar.cmpi .ne v49 c0_i32_39
  let v54 : BitVec 1 := Scalar.andi v53 v50
  let v55 : BitVec 32 := Scalar.addi v49 v48
  let v56 : BitVec 32 := Scalar.select v54 v55 v49
  ![1, v56.toNat]
def k0_off15 (k0_t1 : Fin k0_t1_loop.trips) : Fin 3 → Nat :=
  let c0_i32_33 : BitVec 32 := 0#32
  let c1_i32_34 : BitVec 32 := 1#32
  let arg9 : BitVec 32 := Scf.iv c0_i32_33 c1_i32_34 k0_t1
  let c2_i32_36 : BitVec 32 := 2#32
  let c0_i32_37 : BitVec 32 := 0#32
  let v47 : BitVec 1 := Scalar.cmpi .eq c2_i32_36 c0_i32_37
  let c1_i32_38 : BitVec 32 := 1#32
  let v48 : BitVec 32 := Scalar.select v47 c1_i32_38 c2_i32_36
  let v49 : BitVec 32 := Scalar.remsi arg9 v48
  let c0_i32_40 : BitVec 32 := 0#32
  let v51 : BitVec 1 := Scalar.cmpi .slt v49 c0_i32_40
  let c0_i32_41 : BitVec 32 := 0#32
  let v52 : BitVec 1 := Scalar.cmpi .slt v48 c0_i32_41
  let v53 : BitVec 1 := Scalar.xori v51 v52
  let c0_i32_39 : BitVec 32 := 0#32
  let v50 : BitVec 1 := Scalar.cmpi .ne v49 c0_i32_39
  let v54 : BitVec 1 := Scalar.andi v53 v50
  let v55 : BitVec 32 := Scalar.addi v49 v48
  let v56 : BitVec 32 := Scalar.select v54 v55 v49
  let c0_i32_54 : BitVec 32 := 0#32
  let c0_i32_55 : BitVec 32 := 0#32
  ![v56.toNat, 0, 0]
def k0_cond7 (k0_t1 : Fin k0_t1_loop.trips) : BitVec 1 :=
  let c0_i32_33 : BitVec 32 := 0#32
  let c1_i32_34 : BitVec 32 := 1#32
  let arg9 : BitVec 32 := Scf.iv c0_i32_33 c1_i32_34 k0_t1
  let c15_i32_58 : BitVec 32 := 15#32
  let v79 : BitVec 1 := Scalar.cmpi .slt arg9 c15_i32_58
  let v80 : BitVec 32 := Scalar.extui v79
  let c0_i32_59 : BitVec 32 := 0#32
  let v81 : BitVec 1 := Scalar.cmpi .ne v80 c0_i32_59
  v81

def k0_off16 (k0_t1 : Fin k0_t1_loop.trips) : Fin 2 → Nat :=
  let c1_i32_77 : BitVec 32 := 1#32
  let c0_i32_33 : BitVec 32 := 0#32
  let c1_i32_34 : BitVec 32 := 1#32
  let arg9 : BitVec 32 := Scf.iv c0_i32_33 c1_i32_34 k0_t1
  let c1_i32_42 : BitVec 32 := 1#32
  let v57 : BitVec 32 := Scalar.addi arg9 c1_i32_42
  let c2_i32_43 : BitVec 32 := 2#32
  let c0_i32_44 : BitVec 32 := 0#32
  let v58 : BitVec 1 := Scalar.cmpi .eq c2_i32_43 c0_i32_44
  let c1_i32_45 : BitVec 32 := 1#32
  let v59 : BitVec 32 := Scalar.select v58 c1_i32_45 c2_i32_43
  let v60 : BitVec 32 := Scalar.remsi v57 v59
  let c0_i32_47 : BitVec 32 := 0#32
  let v62 : BitVec 1 := Scalar.cmpi .slt v60 c0_i32_47
  let c0_i32_48 : BitVec 32 := 0#32
  let v63 : BitVec 1 := Scalar.cmpi .slt v59 c0_i32_48
  let v64 : BitVec 1 := Scalar.xori v62 v63
  let c0_i32_46 : BitVec 32 := 0#32
  let v61 : BitVec 1 := Scalar.cmpi .ne v60 c0_i32_46
  let v65 : BitVec 1 := Scalar.andi v64 v61
  let v66 : BitVec 32 := Scalar.addi v60 v59
  let v67 : BitVec 32 := Scalar.select v65 v66 v60
  ![1, v67.toNat]
def k0_off17 (k0_t1 : Fin k0_t1_loop.trips) : Fin 3 → Nat :=
  let c0_i32_33 : BitVec 32 := 0#32
  let c1_i32_34 : BitVec 32 := 1#32
  let arg9 : BitVec 32 := Scf.iv c0_i32_33 c1_i32_34 k0_t1
  let c1_i32_42 : BitVec 32 := 1#32
  let v57 : BitVec 32 := Scalar.addi arg9 c1_i32_42
  let c2_i32_43 : BitVec 32 := 2#32
  let c0_i32_44 : BitVec 32 := 0#32
  let v58 : BitVec 1 := Scalar.cmpi .eq c2_i32_43 c0_i32_44
  let c1_i32_45 : BitVec 32 := 1#32
  let v59 : BitVec 32 := Scalar.select v58 c1_i32_45 c2_i32_43
  let v60 : BitVec 32 := Scalar.remsi v57 v59
  let c0_i32_47 : BitVec 32 := 0#32
  let v62 : BitVec 1 := Scalar.cmpi .slt v60 c0_i32_47
  let c0_i32_48 : BitVec 32 := 0#32
  let v63 : BitVec 1 := Scalar.cmpi .slt v59 c0_i32_48
  let v64 : BitVec 1 := Scalar.xori v62 v63
  let c0_i32_46 : BitVec 32 := 0#32
  let v61 : BitVec 1 := Scalar.cmpi .ne v60 c0_i32_46
  let v65 : BitVec 1 := Scalar.andi v64 v61
  let v66 : BitVec 32 := Scalar.addi v60 v59
  let v67 : BitVec 32 := Scalar.select v65 v66 v60
  let c0_i32_80 : BitVec 32 := 0#32
  let c0_i32_81 : BitVec 32 := 0#32
  ![v67.toNat, 0, 0]
def k0_off18 (k0_t1 : Fin k0_t1_loop.trips) : Fin 3 → Nat :=
  let c0_i32_33 : BitVec 32 := 0#32
  let c1_i32_34 : BitVec 32 := 1#32
  let arg9 : BitVec 32 := Scf.iv c0_i32_33 c1_i32_34 k0_t1
  let c2_i32_36 : BitVec 32 := 2#32
  let c0_i32_37 : BitVec 32 := 0#32
  let v47 : BitVec 1 := Scalar.cmpi .eq c2_i32_36 c0_i32_37
  let c1_i32_38 : BitVec 32 := 1#32
  let v48 : BitVec 32 := Scalar.select v47 c1_i32_38 c2_i32_36
  let v49 : BitVec 32 := Scalar.remsi arg9 v48
  let c0_i32_40 : BitVec 32 := 0#32
  let v51 : BitVec 1 := Scalar.cmpi .slt v49 c0_i32_40
  let c0_i32_41 : BitVec 32 := 0#32
  let v52 : BitVec 1 := Scalar.cmpi .slt v48 c0_i32_41
  let v53 : BitVec 1 := Scalar.xori v51 v52
  let c0_i32_39 : BitVec 32 := 0#32
  let v50 : BitVec 1 := Scalar.cmpi .ne v49 c0_i32_39
  let v54 : BitVec 1 := Scalar.andi v53 v50
  let v55 : BitVec 32 := Scalar.addi v49 v48
  let v56 : BitVec 32 := Scalar.select v54 v55 v49
  let c0_i32_82 : BitVec 32 := 0#32
  let c0_i32_83 : BitVec 32 := 0#32
  ![v56.toNat, 0, 0]
def k0_dev7 (v1 : BitVec 32) : Nat :=
  let c0_i32_79 : BitVec 32 := 0#32
  let c1_i32_78 : BitVec 32 := 1#32
  let v110 : BitVec 32 := Scalar.muli v1 c1_i32_78
  let v111 : BitVec 32 := Scalar.addi c0_i32_79 v110
  v111.toNat

def k0_chk1 (v1 : BitVec 32) : Prop :=
  ((k0_dev1 v1) < nD) ∧
  ((k0_dev4 v1) < nD) ∧
  (∀ k0_t1 : Fin k0_t1_loop.trips, ∀ (k0_h1 : k0_cond1 k0_t1 = 1#1), ∀ (k0_h6 : k0_cond6 k0_t1 = 1#1), (k0_dev6 v1) < nD) ∧
  (∀ k0_t1 : Fin k0_t1_loop.trips, ∀ (k0_h7 : k0_cond7 k0_t1 = 1#1), (k0_dev7 v1) < nD)
theorem k0_dev1_lt : ∀ (v1 : BitVec 32) (k0_hw1 : k0_chk1 v1), (k0_dev1 v1) < nD := fun v1 k0_hw1 => k0_hw1.1
theorem k0_dev4_lt : ∀ (v1 : BitVec 32) (k0_hw1 : k0_chk1 v1), (k0_dev4 v1) < nD := fun v1 k0_hw1 => k0_hw1.2.1
theorem k0_dev6_lt : ∀ (v1 : BitVec 32) (k0_hw1 : k0_chk1 v1) (k0_t1 : Fin k0_t1_loop.trips), ∀ (k0_h1 : k0_cond1 k0_t1 = 1#1), ∀ (k0_h6 : k0_cond6 k0_t1 = 1#1), (k0_dev6 v1) < nD := fun v1 k0_hw1 k0_t1 k0_h1 k0_h6 => k0_hw1.2.2.1 k0_t1 k0_h1 k0_h6
theorem k0_dev7_lt : ∀ (v1 : BitVec 32) (k0_hw1 : k0_chk1 v1) (k0_t1 : Fin k0_t1_loop.trips), ∀ (k0_h7 : k0_cond7 k0_t1 = 1#1), (k0_dev7 v1) < nD := fun v1 k0_hw1 k0_t1 k0_h7 => k0_hw1.2.2.2 k0_t1 k0_h7

def k0_off19 (k0_t1 : Fin k0_t1_loop.trips) : Fin 3 → Nat :=
  let c0_i32_33 : BitVec 32 := 0#32
  let c1_i32_34 : BitVec 32 := 1#32
  let arg9 : BitVec 32 := Scf.iv c0_i32_33 c1_i32_34 k0_t1
  let c2_i32_36 : BitVec 32 := 2#32
  let c0_i32_37 : BitVec 32 := 0#32
  let v47 : BitVec 1 := Scalar.cmpi .eq c2_i32_36 c0_i32_37
  let c1_i32_38 : BitVec 32 := 1#32
  let v48 : BitVec 32 := Scalar.select v47 c1_i32_38 c2_i32_36
  let v49 : BitVec 32 := Scalar.remsi arg9 v48
  let c0_i32_40 : BitVec 32 := 0#32
  let v51 : BitVec 1 := Scalar.cmpi .slt v49 c0_i32_40
  let c0_i32_41 : BitVec 32 := 0#32
  let v52 : BitVec 1 := Scalar.cmpi .slt v48 c0_i32_41
  let v53 : BitVec 1 := Scalar.xori v51 v52
  let c0_i32_39 : BitVec 32 := 0#32
  let v50 : BitVec 1 := Scalar.cmpi .ne v49 c0_i32_39
  let v54 : BitVec 1 := Scalar.andi v53 v50
  let v55 : BitVec 32 := Scalar.addi v49 v48
  let v56 : BitVec 32 := Scalar.select v54 v55 v49
  let v82 : Index := Scalar.indexCast v56
  let c0_60 : Index := 0#32
  let c0_61 : Index := 0#32
  ![v82.toNat, 0, 0]
def k0_off20 (v0 : BitVec 32) (k0_t1 : Fin k0_t1_loop.trips) : Fin 2 → Nat :=
  let c1_i32_62 : BitVec 32 := 1#32
  let v86 : BitVec 32 := Scalar.addi v0 c1_i32_62
  let c0_i32_33 : BitVec 32 := 0#32
  let c1_i32_34 : BitVec 32 := 1#32
  let arg9 : BitVec 32 := Scf.iv c0_i32_33 c1_i32_34 k0_t1
  let v87 : BitVec 32 := Scalar.addi v86 arg9
  let c32_i32_63 : BitVec 32 := 32#32
  let c0_i32_64 : BitVec 32 := 0#32
  let v88 : BitVec 1 := Scalar.cmpi .eq c32_i32_63 c0_i32_64
  let c1_i32_65 : BitVec 32 := 1#32
  let v89 : BitVec 32 := Scalar.select v88 c1_i32_65 c32_i32_63
  let v90 : BitVec 32 := Scalar.remsi v87 v89
  let c0_i32_67 : BitVec 32 := 0#32
  let v92 : BitVec 1 := Scalar.cmpi .slt v90 c0_i32_67
  let c0_i32_68 : BitVec 32 := 0#32
  let v93 : BitVec 1 := Scalar.cmpi .slt v89 c0_i32_68
  let v94 : BitVec 1 := Scalar.xori v92 v93
  let c0_i32_66 : BitVec 32 := 0#32
  let v91 : BitVec 1 := Scalar.cmpi .ne v90 c0_i32_66
  let v95 : BitVec 1 := Scalar.andi v94 v91
  let v96 : BitVec 32 := Scalar.addi v90 v89
  let v97 : BitVec 32 := Scalar.select v95 v96 v90
  let c128_i32_69 : BitVec 32 := 128#32
  let v98 : BitVec 32 := Scalar.muli v97 c128_i32_69
  let v99 : Index := Scalar.indexCast v98
  let c0_70 : Index := 0#32
  ![v99.toNat, 0]
def k0_cond9 (k0_t1 : Fin k0_t1_loop.trips) : BitVec 1 :=
  let c0_i32_33 : BitVec 32 := 0#32
  let c1_i32_34 : BitVec 32 := 1#32
  let arg9 : BitVec 32 := Scf.iv c0_i32_33 c1_i32_34 k0_t1
  let c15_i32_71 : BitVec 32 := 15#32
  let v101 : BitVec 1 := Scalar.cmpi .slt arg9 c15_i32_71
  let v102 : BitVec 32 := Scalar.extui v101
  let c0_i32_72 : BitVec 32 := 0#32
  let v103 : BitVec 1 := Scalar.cmpi .ne v102 c0_i32_72
  v103

def k0_cond10 (k0_t1 : Fin k0_t1_loop.trips) : BitVec 1 :=
  let c0_i32_33 : BitVec 32 := 0#32
  let c1_i32_34 : BitVec 32 := 1#32
  let arg9 : BitVec 32 := Scf.iv c0_i32_33 c1_i32_34 k0_t1
  let c0_i32_74 : BitVec 32 := 0#32
  let v107 : BitVec 1 := Scalar.cmpi .eq arg9 c0_i32_74
  let v108 : BitVec 32 := Scalar.extui v107
  let c0_i32_75 : BitVec 32 := 0#32
  let v109 : BitVec 1 := Scalar.cmpi .ne v108 c0_i32_75
  v109

def k0_off21 (v0 : BitVec 32) : Fin 2 → Nat :=
  let c32_i32 : BitVec 32 := 32#32
  let c0_i32_4 : BitVec 32 := 0#32
  let v8 : BitVec 1 := Scalar.cmpi .eq c32_i32 c0_i32_4
  let c1_i32_5 : BitVec 32 := 1#32
  let v9 : BitVec 32 := Scalar.select v8 c1_i32_5 c32_i32
  let v10 : BitVec 32 := Scalar.remsi v0 v9
  let c0_i32_7 : BitVec 32 := 0#32
  let v12 : BitVec 1 := Scalar.cmpi .slt v10 c0_i32_7
  let c0_i32_8 : BitVec 32 := 0#32
  let v13 : BitVec 1 := Scalar.cmpi .slt v9 c0_i32_8
  let v14 : BitVec 1 := Scalar.xori v12 v13
  let c0_i32_6 : BitVec 32 := 0#32
  let v11 : BitVec 1 := Scalar.cmpi .ne v10 c0_i32_6
  let v15 : BitVec 1 := Scalar.andi v14 v11
  let v16 : BitVec 32 := Scalar.addi v10 v9
  let v17 : BitVec 32 := Scalar.select v15 v16 v10
  let c128_i32 : BitVec 32 := 128#32
  let v18 : BitVec 32 := Scalar.muli v17 c128_i32
  let c0_i32_89 : BitVec 32 := 0#32
  ![v18.toNat, 0]

def k0_chk3 (v0 : BitVec 32) : Prop :=
  (∀ a, (k0_off1 v0) a + S128x2048.size a ≤ S4096x2048.size a) ∧
  (∀ (hinb : ∀ a, (k0_off1 v0) a + S128x2048.size a ≤ S4096x2048.size a), (Rect.unit (s := S4096x2048) (k0_off1 v0) S128x2048.size hinb).PackedRows (EltTy.packing .bf16)) ∧
  (∀ a, (k0_off2 v0) a + S128x2048.size a ≤ S4096x2048.size a) ∧
  (∀ (hinb : ∀ a, (k0_off2 v0) a + S128x2048.size a ≤ S4096x2048.size a), (Rect.unit (s := S4096x2048) (k0_off2 v0) S128x2048.size hinb).WholeWords (EltTy.packing .bf16)) ∧
  (∀ k0_t1 : Fin k0_t1_loop.trips, ∀ (k0_h1 : k0_cond1 k0_t1 = 1#1), ∀ a, (k0_off9 v0 k0_t1) a + S128x2048.size a ≤ S4096x2048.size a) ∧
  (∀ k0_t1 : Fin k0_t1_loop.trips, ∀ (k0_h1 : k0_cond1 k0_t1 = 1#1), ∀ (k0_h4 : k0_cond4 k0_t1 = 1#1), ∀ (k0_h5 : k0_cond5 k0_t1 = 1#1), ∀ a, (k0_off10 v0) a + S128x2048.size a ≤ S4096x2048.size a) ∧
  (∀ k0_t1 : Fin k0_t1_loop.trips, ∀ (k0_h1 : k0_cond1 k0_t1 = 1#1), ∀ (k0_h4 : k0_cond4 k0_t1 = 1#1), ∀ (k0_h5 : k0_cond5 k0_t1 = 1#1), ∀ (hinb : ∀ a, (k0_off10 v0) a + S128x2048.size a ≤ S4096x2048.size a), (Rect.unit (s := S4096x2048) (k0_off10 v0) S128x2048.size hinb).WholeWords (EltTy.packing .bf16)) ∧
  (∀ k0_t1 : Fin k0_t1_loop.trips, ∀ a, (k0_off20 v0 k0_t1) a + S128x2048.size a ≤ S4096x2048.size a) ∧
  (∀ k0_t1 : Fin k0_t1_loop.trips, ∀ (k0_h9 : k0_cond9 k0_t1 = 1#1), ∀ (k0_h10 : k0_cond10 k0_t1 = 1#1), ∀ a, (k0_off21 v0) a + S128x2048.size a ≤ S4096x2048.size a) ∧
  (∀ k0_t1 : Fin k0_t1_loop.trips, ∀ (k0_h9 : k0_cond9 k0_t1 = 1#1), ∀ (k0_h10 : k0_cond10 k0_t1 = 1#1), ∀ (hinb : ∀ a, (k0_off21 v0) a + S128x2048.size a ≤ S4096x2048.size a), (Rect.unit (s := S4096x2048) (k0_off21 v0) S128x2048.size hinb).WholeWords (EltTy.packing .bf16))
theorem k0_off1_inb : ∀ (v0 : BitVec 32) (k0_hw3 : k0_chk3 v0), ∀ a, (k0_off1 v0) a + S128x2048.size a ≤ S4096x2048.size a := fun v0 k0_hw3 => k0_hw3.1
theorem k0_off1_packedbf16 : ∀ (v0 : BitVec 32) (k0_hw3 : k0_chk3 v0), (Rect.unit (s := S4096x2048) (k0_off1 v0) S128x2048.size (k0_off1_inb v0 k0_hw3)).PackedRows (EltTy.packing .bf16) := fun v0 k0_hw3 => k0_hw3.2.1 (k0_off1_inb v0 k0_hw3)
theorem k0_off2_inb : ∀ (v0 : BitVec 32) (k0_hw3 : k0_chk3 v0), ∀ a, (k0_off2 v0) a + S128x2048.size a ≤ S4096x2048.size a := fun v0 k0_hw3 => k0_hw3.2.2.1
theorem k0_off2_wordsbf16 : ∀ (v0 : BitVec 32) (k0_hw3 : k0_chk3 v0), (Rect.unit (s := S4096x2048) (k0_off2 v0) S128x2048.size (k0_off2_inb v0 k0_hw3)).WholeWords (EltTy.packing .bf16) := fun v0 k0_hw3 => k0_hw3.2.2.2.1 (k0_off2_inb v0 k0_hw3)
theorem k0_off9_inb : ∀ (v0 : BitVec 32) (k0_hw3 : k0_chk3 v0) (k0_t1 : Fin k0_t1_loop.trips), ∀ (k0_h1 : k0_cond1 k0_t1 = 1#1), ∀ a, (k0_off9 v0 k0_t1) a + S128x2048.size a ≤ S4096x2048.size a := fun v0 k0_hw3 k0_t1 k0_h1 => k0_hw3.2.2.2.2.1 k0_t1 k0_h1
theorem k0_off10_inb : ∀ (v0 : BitVec 32) (k0_hw3 : k0_chk3 v0) (k0_t1 : Fin k0_t1_loop.trips), ∀ (k0_h1 : k0_cond1 k0_t1 = 1#1), ∀ (k0_h4 : k0_cond4 k0_t1 = 1#1), ∀ (k0_h5 : k0_cond5 k0_t1 = 1#1), ∀ a, (k0_off10 v0) a + S128x2048.size a ≤ S4096x2048.size a := fun v0 k0_hw3 k0_t1 k0_h1 k0_h4 k0_h5 => k0_hw3.2.2.2.2.2.1 k0_t1 k0_h1 k0_h4 k0_h5
theorem k0_off10_wordsbf16 : ∀ (v0 : BitVec 32) (k0_hw3 : k0_chk3 v0) (k0_t1 : Fin k0_t1_loop.trips), ∀ (k0_h1 : k0_cond1 k0_t1 = 1#1), ∀ (k0_h4 : k0_cond4 k0_t1 = 1#1), ∀ (k0_h5 : k0_cond5 k0_t1 = 1#1), (Rect.unit (s := S4096x2048) (k0_off10 v0) S128x2048.size (k0_off10_inb v0 k0_hw3 k0_t1 k0_h1 k0_h4 k0_h5)).WholeWords (EltTy.packing .bf16) := fun v0 k0_hw3 k0_t1 k0_h1 k0_h4 k0_h5 => k0_hw3.2.2.2.2.2.2.1 k0_t1 k0_h1 k0_h4 k0_h5 (k0_off10_inb v0 k0_hw3 k0_t1 k0_h1 k0_h4 k0_h5)
theorem k0_off20_inb : ∀ (v0 : BitVec 32) (k0_hw3 : k0_chk3 v0) (k0_t1 : Fin k0_t1_loop.trips), ∀ a, (k0_off20 v0 k0_t1) a + S128x2048.size a ≤ S4096x2048.size a := fun v0 k0_hw3 k0_t1 => k0_hw3.2.2.2.2.2.2.2.1 k0_t1
theorem k0_off21_inb : ∀ (v0 : BitVec 32) (k0_hw3 : k0_chk3 v0) (k0_t1 : Fin k0_t1_loop.trips), ∀ (k0_h9 : k0_cond9 k0_t1 = 1#1), ∀ (k0_h10 : k0_cond10 k0_t1 = 1#1), ∀ a, (k0_off21 v0) a + S128x2048.size a ≤ S4096x2048.size a := fun v0 k0_hw3 k0_t1 k0_h9 k0_h10 => k0_hw3.2.2.2.2.2.2.2.2.1 k0_t1 k0_h9 k0_h10
theorem k0_off21_wordsbf16 : ∀ (v0 : BitVec 32) (k0_hw3 : k0_chk3 v0) (k0_t1 : Fin k0_t1_loop.trips), ∀ (k0_h9 : k0_cond9 k0_t1 = 1#1), ∀ (k0_h10 : k0_cond10 k0_t1 = 1#1), (Rect.unit (s := S4096x2048) (k0_off21 v0) S128x2048.size (k0_off21_inb v0 k0_hw3 k0_t1 k0_h9 k0_h10)).WholeWords (EltTy.packing .bf16) := fun v0 k0_hw3 k0_t1 k0_h9 k0_h10 => k0_hw3.2.2.2.2.2.2.2.2.2 k0_t1 k0_h9 k0_h10 (k0_off21_inb v0 k0_hw3 k0_t1 k0_h9 k0_h10)

def k0_off22 (k0_t1 : Fin k0_t1_loop.trips) : Fin 2 → Nat :=
  let c1_i32_76 : BitVec 32 := 1#32
  let c0_i32_33 : BitVec 32 := 0#32
  let c1_i32_34 : BitVec 32 := 1#32
  let arg9 : BitVec 32 := Scf.iv c0_i32_33 c1_i32_34 k0_t1
  let c1_i32_42 : BitVec 32 := 1#32
  let v57 : BitVec 32 := Scalar.addi arg9 c1_i32_42
  let c2_i32_43 : BitVec 32 := 2#32
  let c0_i32_44 : BitVec 32 := 0#32
  let v58 : BitVec 1 := Scalar.cmpi .eq c2_i32_43 c0_i32_44
  let c1_i32_45 : BitVec 32 := 1#32
  let v59 : BitVec 32 := Scalar.select v58 c1_i32_45 c2_i32_43
  let v60 : BitVec 32 := Scalar.remsi v57 v59
  let c0_i32_47 : BitVec 32 := 0#32
  let v62 : BitVec 1 := Scalar.cmpi .slt v60 c0_i32_47
  let c0_i32_48 : BitVec 32 := 0#32
  let v63 : BitVec 1 := Scalar.cmpi .slt v59 c0_i32_48
  let v64 : BitVec 1 := Scalar.xori v62 v63
  let c0_i32_46 : BitVec 32 := 0#32
  let v61 : BitVec 1 := Scalar.cmpi .ne v60 c0_i32_46
  let v65 : BitVec 1 := Scalar.andi v64 v61
  let v66 : BitVec 32 := Scalar.addi v60 v59
  let v67 : BitVec 32 := Scalar.select v65 v66 v60
  ![1, v67.toNat]
def k0_off23 (k0_t1 : Fin k0_t1_loop.trips) : Fin 3 → Nat :=
  let c0_i32_33 : BitVec 32 := 0#32
  let c1_i32_34 : BitVec 32 := 1#32
  let arg9 : BitVec 32 := Scf.iv c0_i32_33 c1_i32_34 k0_t1
  let c2_i32_36 : BitVec 32 := 2#32
  let c0_i32_37 : BitVec 32 := 0#32
  let v47 : BitVec 1 := Scalar.cmpi .eq c2_i32_36 c0_i32_37
  let c1_i32_38 : BitVec 32 := 1#32
  let v48 : BitVec 32 := Scalar.select v47 c1_i32_38 c2_i32_36
  let v49 : BitVec 32 := Scalar.remsi arg9 v48
  let c0_i32_40 : BitVec 32 := 0#32
  let v51 : BitVec 1 := Scalar.cmpi .slt v49 c0_i32_40
  let c0_i32_41 : BitVec 32 := 0#32
  let v52 : BitVec 1 := Scalar.cmpi .slt v48 c0_i32_41
  let v53 : BitVec 1 := Scalar.xori v51 v52
  let c0_i32_39 : BitVec 32 := 0#32
  let v50 : BitVec 1 := Scalar.cmpi .ne v49 c0_i32_39
  let v54 : BitVec 1 := Scalar.andi v53 v50
  let v55 : BitVec 32 := Scalar.addi v49 v48
  let v56 : BitVec 32 := Scalar.select v54 v55 v49
  let c0_i32_79 : BitVec 32 := 0#32
  let c0_i32_80 : BitVec 32 := 0#32
  ![v56.toNat, 0, 0]
def k0_off24 (k0_t1 : Fin k0_t1_loop.trips) : Fin 3 → Nat :=
  let c0_i32_33 : BitVec 32 := 0#32
  let c1_i32_34 : BitVec 32 := 1#32
  let arg9 : BitVec 32 := Scf.iv c0_i32_33 c1_i32_34 k0_t1
  let c1_i32_42 : BitVec 32 := 1#32
  let v57 : BitVec 32 := Scalar.addi arg9 c1_i32_42
  let c2_i32_43 : BitVec 32 := 2#32
  let c0_i32_44 : BitVec 32 := 0#32
  let v58 : BitVec 1 := Scalar.cmpi .eq c2_i32_43 c0_i32_44
  let c1_i32_45 : BitVec 32 := 1#32
  let v59 : BitVec 32 := Scalar.select v58 c1_i32_45 c2_i32_43
  let v60 : BitVec 32 := Scalar.remsi v57 v59
  let c0_i32_47 : BitVec 32 := 0#32
  let v62 : BitVec 1 := Scalar.cmpi .slt v60 c0_i32_47
  let c0_i32_48 : BitVec 32 := 0#32
  let v63 : BitVec 1 := Scalar.cmpi .slt v59 c0_i32_48
  let v64 : BitVec 1 := Scalar.xori v62 v63
  let c0_i32_46 : BitVec 32 := 0#32
  let v61 : BitVec 1 := Scalar.cmpi .ne v60 c0_i32_46
  let v65 : BitVec 1 := Scalar.andi v64 v61
  let v66 : BitVec 32 := Scalar.addi v60 v59
  let v67 : BitVec 32 := Scalar.select v65 v66 v60
  let c0_i32_81 : BitVec 32 := 0#32
  let c0_i32_82 : BitVec 32 := 0#32
  ![v67.toNat, 0, 0]
def k0_cond11 (k0_t1 : Fin k0_t1_loop.trips) : BitVec 1 :=
  let c0_i32_33 : BitVec 32 := 0#32
  let c1_i32_34 : BitVec 32 := 1#32
  let arg9 : BitVec 32 := Scf.iv c0_i32_33 c1_i32_34 k0_t1
  let c14_i32 : BitVec 32 := 14#32
  let v104 : BitVec 1 := Scalar.cmpi .slt arg9 c14_i32
  let v105 : BitVec 32 := Scalar.extui v104
  let c0_i32_73 : BitVec 32 := 0#32
  let v106 : BitVec 1 := Scalar.cmpi .ne v105 c0_i32_73
  v106

def k0_dev8 (v2 : BitVec 32) : Nat :=
  let c0_i32_77 : BitVec 32 := 0#32
  let c1_i32_76 : BitVec 32 := 1#32
  let v109 : BitVec 32 := Scalar.muli v2 c1_i32_76
  let v110 : BitVec 32 := Scalar.addi c0_i32_77 v109
  v110.toNat

def k0_chk2 (v2 : BitVec 32) : Prop :=
  ((k0_dev2 v2) < nD) ∧
  ((k0_dev3 v2) < nD) ∧
  (∀ k0_t1 : Fin k0_t1_loop.trips, ∀ (k0_h1 : k0_cond1 k0_t1 = 1#1), ∀ (k0_h2 : k0_cond2 k0_t1 = 1#1), (k0_dev5 v2) < nD) ∧
  (∀ k0_t1 : Fin k0_t1_loop.trips, ∀ (k0_h11 : k0_cond11 k0_t1 = 1#1), (k0_dev8 v2) < nD)
theorem k0_dev2_lt : ∀ (v2 : BitVec 32) (k0_hw2 : k0_chk2 v2), (k0_dev2 v2) < nD := fun v2 k0_hw2 => k0_hw2.1
theorem k0_dev3_lt : ∀ (v2 : BitVec 32) (k0_hw2 : k0_chk2 v2), (k0_dev3 v2) < nD := fun v2 k0_hw2 => k0_hw2.2.1
theorem k0_dev5_lt : ∀ (v2 : BitVec 32) (k0_hw2 : k0_chk2 v2) (k0_t1 : Fin k0_t1_loop.trips), ∀ (k0_h1 : k0_cond1 k0_t1 = 1#1), ∀ (k0_h2 : k0_cond2 k0_t1 = 1#1), (k0_dev5 v2) < nD := fun v2 k0_hw2 k0_t1 k0_h1 k0_h2 => k0_hw2.2.2.1 k0_t1 k0_h1 k0_h2
theorem k0_dev8_lt : ∀ (v2 : BitVec 32) (k0_hw2 : k0_chk2 v2) (k0_t1 : Fin k0_t1_loop.trips), ∀ (k0_h11 : k0_cond11 k0_t1 = 1#1), (k0_dev8 v2) < nD := fun v2 k0_hw2 k0_t1 k0_h11 => k0_hw2.2.2.2 k0_t1 k0_h11

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S3 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== GatherReferenceIdeal.lean ====
abbrev S4096x2048 : Shape := ⟨2, ![4096, 2048]⟩
abbrev S128x2048 : Shape := ⟨2, ![128, 2048]⟩
abbrev S2048x2048 : Shape := ⟨2, ![2048, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S128x2048, .f32⟩
  | .hbm, ⟨2, _⟩ => ⟨S128x2048, .f32⟩
  | .hbm, ⟨3, _⟩ => ⟨S128x2048, .f32⟩
  | .hbm, ⟨4, _⟩ => ⟨S128x2048, .f32⟩
  | .hbm, ⟨5, _⟩ => ⟨S128x2048, .f32⟩
  | .hbm, ⟨6, _⟩ => ⟨S128x2048, .f32⟩
  | .hbm, ⟨7, _⟩ => ⟨S128x2048, .f32⟩
  | .hbm, ⟨8, _⟩ => ⟨S128x2048, .f32⟩
  | .hbm, ⟨9, _⟩ => ⟨S128x2048, .f32⟩
  | .hbm, ⟨10, _⟩ => ⟨S128x2048, .f32⟩
  | .hbm, ⟨11, _⟩ => ⟨S128x2048, .f32⟩
  | .hbm, ⟨12, _⟩ => ⟨S128x2048, .f32⟩
  | .hbm, ⟨13, _⟩ => ⟨S128x2048, .f32⟩
  | .hbm, ⟨14, _⟩ => ⟨S128x2048, .f32⟩
  | .hbm, ⟨15, _⟩ => ⟨S128x2048, .f32⟩
  | .hbm, ⟨16, _⟩ => ⟨S128x2048, .f32⟩
  | .hbm, ⟨17, _⟩ => ⟨S128x2048, .f32⟩
  | .hbm, ⟨18, _⟩ => ⟨S128x2048, .f32⟩
  | .hbm, ⟨19, _⟩ => ⟨S128x2048, .f32⟩
  | .hbm, ⟨20, _⟩ => ⟨S128x2048, .f32⟩
  | .hbm, ⟨21, _⟩ => ⟨S128x2048, .f32⟩
  | .hbm, ⟨22, _⟩ => ⟨S128x2048, .f32⟩
  | .hbm, ⟨23, _⟩ => ⟨S128x2048, .f32⟩
  | .hbm, ⟨24, _⟩ => ⟨S128x2048, .f32⟩
  | .hbm, ⟨25, _⟩ => ⟨S128x2048, .f32⟩
  | .hbm, ⟨26, _⟩ => ⟨S128x2048, .f32⟩
  | .hbm, ⟨27, _⟩ => ⟨S128x2048, .f32⟩
  | .hbm, ⟨28, _⟩ => ⟨S128x2048, .f32⟩
  | .hbm, ⟨29, _⟩ => ⟨S128x2048, .f32⟩
  | .hbm, ⟨30, _⟩ => ⟨S128x2048, .f32⟩
  | .hbm, ⟨31, _⟩ => ⟨S128x2048, .f32⟩
  | .hbm, ⟨32, _⟩ => ⟨S128x2048, .f32⟩
  | .hbm, ⟨33, _⟩ => ⟨S2048x2048, .f32⟩
  | .hbm, ⟨34, _⟩ => ⟨S2048x2048, .f32⟩
  | .hbm, ⟨35, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩

abbrev nD : Nat := 1
abbrev τ : Topo := Topo.v7x

variable {F : FTy → Type} [FloatOps F]
-- ==== Proof.Ring.lean ====
/-
  The ring the 32 devices form, and what the kernel's index words come to on it.

  Device `c` stands at position `pos c` of a Hamiltonian cycle of the devices; `nxt c` and `prv c` are its two
  neighbours on the cycle. The kernel reads three words — its own position and the two neighbours' device numbers —
  and computes every row, slot, semaphore and device index it uses from them and from the trip of its loop. Each of
  those is stated here in closed form.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Pipeline.Value
public import Idealize.ShloMosaic.Lib.Release
public import Idealize.ShloMosaic.Lib.Tactic

@[expose] public section

noncomputable section

namespace Cert.RingProof

open Cert.KernelIdeal Cert.KernelIdeal.Gen
open Idealize.ShloMosaic
open Idealize.ShloMosaic.TcCoe

/-! ## Positions on the ring -/

/-- The device at each position of the cycle. -/
def cyc : Fin 32 → Fin 32 :=
  ![1, 2, 5, 6, 14, 13, 10, 9, 17, 18, 21, 22, 30, 29, 26, 25, 24, 27, 28, 31, 23, 20, 19, 16, 8, 11, 12, 15, 7, 4, 3, 0]

/-- The position of each device on the cycle. -/
def pos : Fin 32 → Fin 32 :=
  ![31, 0, 1, 30, 29, 2, 3, 28, 24, 7, 6, 25, 26, 5, 4, 27, 23, 8, 9, 22, 21, 10, 11, 20, 16, 15, 14, 17, 18, 13, 12, 19]

theorem pos_cyc (p : Fin 32) : pos (cyc p) = p := by revert p; decide
theorem cyc_pos (c : Fin 32) : cyc (pos c) = c := by revert c; decide

/-- Positions and devices, one for one. -/
def posEquiv : Dev nD ≃ Fin 32 := ⟨pos, cyc, cyc_pos, pos_cyc⟩

/-- The next device along the cycle, and the one before. -/
def nxt (c : Dev nD) : Dev nD := cyc (pos c + 1)
def prv (c : Dev nD) : Dev nD := cyc (pos c - 1)

theorem prv_nxt (c : Dev nD) : prv (nxt c) = c := by revert c; decide
theorem nxt_prv (c : Dev nD) : nxt (prv c) = c := by revert c; decide
theorem nxt_ne_prv (c : Dev nD) : nxt c ≠ prv c := by revert c; decide
theorem nxt_ne (c : Dev nD) : nxt c ≠ c := by revert c; decide
theorem prv_ne (c : Dev nD) : prv c ≠ c := by revert c; decide
theorem pos_nxt (c : Dev nD) : pos (nxt c) = pos c + 1 := pos_cyc _
theorem pos_prv (c : Dev nD) : pos (prv c) = pos c - 1 := pos_cyc _

/-- Going round, as a permutation of the devices. -/
def ring : Dev nD ≃ Dev nD := ⟨nxt, prv, prv_nxt, nxt_prv⟩

/-! ## The two directions

  Direction 0 travels to the next device, direction 1 to the one before. -/

/-- Whom device `c` sends to in a direction, and whom it receives from. -/
def dst (st : Fin 2) (c : Dev nD) : Dev nD := if st = 0 then nxt c else prv c
def src (st : Fin 2) (c : Dev nD) : Dev nD := if st = 0 then prv c else nxt c

theorem src_dst (st : Fin 2) (c : Dev nD) : src st (dst st c) = c := by revert st c; decide
theorem dst_src (st : Fin 2) (c : Dev nD) : dst st (src st c) = c := by revert st c; decide

/-- Going along a direction, as a permutation of the devices. -/
def along (st : Fin 2) : Dev nD ≃ Dev nD := ⟨dst st, src st, src_dst st, dst_src st⟩

/-- How many messages a device sends (and receives) in a direction. -/
def nM (st : Fin 2) : ℕ := if st = 0 then 16 else 15

theorem nM_zero : nM 0 = 16 := rfl
theorem nM_one : nM 1 = 15 := rfl

/-- The block of rows a device at position `p` sends as message `j` of a direction (and, one message later than it was
    received, the block of rows the message received is added into). -/
def row (st : Fin 2) (j : ℕ) (p : Fin 32) : Fin 32 :=
  if st = 0 then ⟨(p.val + 48 - j) % 32, Nat.mod_lt _ (by decide)⟩ else ⟨(p.val + 17 + j) % 32, Nat.mod_lt _ (by decide)⟩

theorem row_last (st : Fin 2) (p : Fin 32) : row st (nM st) p = p := by revert st p; decide

theorem row_src (st : Fin 2) (c : Dev nD) (j : ℕ) (hj : j < 16) : row st j (pos (src st c)) = row st (j + 1) (pos c) := by
  have : ∀ (st : Fin 2) (c : Dev nD) (j : Fin 16), row st j.val (pos (src st c)) = row st (j.val + 1) (pos c) := by decide +kernel
  exact this st c ⟨j, hj⟩

/-- Where each row block goes: its own, or a message of one of the two directions, each once. -/
theorem rows_disj : ∀ (p : Fin 32) (a b : Fin 2) (i j : Fin 16), i.val < nM a → j.val < nM b →
    row a i.val p = row b j.val p → a = b ∧ i = j := by decide +kernel
theorem rows_ne : ∀ (p : Fin 32) (a : Fin 2) (i : Fin 16), i.val < nM a → row a i.val p ≠ p := by decide +kernel

/-! ## The words the kernel reads -/

/-- The word of a position or device number. -/
abbrev word (d : Fin 32) : BitVec 32 := BitVec.ofNat 32 d.val

abbrev w0 (c : Dev nD) : BitVec 32 := word (pos c)
abbrev w1 (c : Dev nD) : BitVec 32 := word (prv c)
abbrev w2 (c : Dev nD) : BitVec 32 := word (nxt c)

set_option maxRecDepth 100000 in
theorem chk1_word : ∀ d : Fin 32, k0_chk1 (word d) := by decide +kernel
set_option maxRecDepth 100000 in
theorem chk2_word : ∀ d : Fin 32, k0_chk2 (word d) := by decide +kernel
set_option maxRecDepth 100000 in
theorem chk3_word : ∀ d : Fin 32, k0_chk3 (word d) := by decide +kernel

abbrev T2 : Type := Fin k0_t2_loop.trips

theorem t2_lt (s : T2) : s.val < 16 := s.isLt

theorem dev1_word : ∀ d : Fin 32, k0_dev1 (word d) = d.val := by decide +kernel
theorem dev2_word : ∀ d : Fin 32, k0_dev2 (word d) = d.val := by decide +kernel
theorem dev3_word : ∀ d : Fin 32, k0_dev3 (word d) = d.val := by decide +kernel
theorem dev4_word : ∀ d : Fin 32, k0_dev4 (word d) = d.val := by decide +kernel
theorem dev5_word : ∀ d : Fin 32, k0_dev5 (word d) = d.val := by decide +kernel
theorem dev6_word : ∀ d : Fin 32, k0_dev6 (word d) = d.val := by decide +kernel
theorem dev7_word : ∀ d : Fin 32, k0_dev7 (word d) = d.val := by decide +kernel
theorem dev8_word : ∀ d : Fin 32, k0_dev8 (word d) = d.val := by decide +kernel

/-! Rows. -/
theorem off3_word : ∀ d : Fin 32, k0_off3 (word d) 16#32 = ![(row 0 0 d).val * 128, 0] := by decide +kernel
theorem off4_word : ∀ d : Fin 32, k0_off4 (word d) 15#32 = ![(row 1 0 d).val * 128, 0] := by decide +kernel
theorem off8_word : ∀ (d : Fin 32) (s : T2), k0_off8 (word d) s = ![(row 0 (s.val + 1) d).val * 128, 0] := by decide +kernel
theorem off15_word : ∀ (d : Fin 32) (s : T2), k0_off15 (word d) s = ![(row 0 (s.val + 1) d).val * 128, 0] := by decide +kernel
theorem off19_word : ∀ (d : Fin 32) (s : T2), k0_off19 (word d) s = ![(row 1 (s.val + 1) d).val * 128, 0] := by decide +kernel
theorem off26_word : ∀ (d : Fin 32) (s : T2), k0_off26 (word d) s = ![(row 1 (s.val + 1) d).val * 128, 0] := by decide +kernel
theorem off27_word : ∀ (d : Fin 32), k0_off27 (word d) = ![d.val * 128, 0] := by decide +kernel

/-! Slots. -/
theorem off9_eq : ∀ s : T2, k0_off9 s = ![s.val % 2, 0, 0] := by decide +kernel
theorem off14_eq : ∀ s : T2, k0_off14 s = ![(s.val + 1) % 2, 0, 0] := by decide +kernel
theorem off20_eq : ∀ s : T2, k0_off20 s = ![s.val % 2, 0, 0] := by decide +kernel
theorem off25_eq : ∀ s : T2, k0_off25 s = ![(s.val + 1) % 2, 0, 0] := by decide +kernel

/-! Semaphores. -/
theorem off5_eq : ∀ s : T2, k0_off5 s = ![0, s.val % 2] := by decide +kernel
theorem off10_eq : ∀ s : T2, k0_off10 s = ![0, (s.val + 1) % 2] := by decide +kernel
theorem off13_eq : ∀ s : T2, k0_off13 s = ![0, (s.val + 1) % 2] := by decide +kernel
theorem off16_eq : ∀ s : T2, k0_off16 s = ![1, s.val % 2] := by decide +kernel
theorem off21_eq : ∀ s : T2, k0_off21 s = ![1, (s.val + 1) % 2] := by decide +kernel
theorem off24_eq : ∀ s : T2, k0_off24 s = ![1, (s.val + 1) % 2] := by decide +kernel

/-! Conditions. -/
theorem cond1_iff : ∀ s : T2, k0_cond1 s = 1#1 ↔ s.val + 1 < 16 := by decide +kernel
theorem cond2_iff : ∀ s : T2, k0_cond2 s = 1#1 ↔ 1 ≤ s.val := by decide +kernel
theorem cond3_iff : ∀ s : T2, k0_cond3 s = 1#1 ↔ s.val + 2 < 16 := by decide +kernel
theorem cond4_iff : ∀ s : T2, k0_cond4 s = 1#1 ↔ s.val < 15 := by decide +kernel
theorem cond5_iff : ∀ s : T2, k0_cond5 s = 1#1 ↔ s.val + 1 < 15 := by decide +kernel
theorem cond6_iff : ∀ s : T2, k0_cond6 s = 1#1 ↔ 1 ≤ s.val := by decide +kernel
theorem cond7_iff : ∀ s : T2, k0_cond7 s = 1#1 ↔ s.val + 2 < 15 := by decide +kernel

/-! ## The semaphores -/

/-- A direction and a parity, as one index. -/
def sidx (st par : Fin 2) : Fin 4 := ⟨2 * st.val + par.val, by omega⟩

/-- The parity of a message. -/
def par (j : ℕ) : Fin 2 := ⟨j % 2, Nat.mod_lt _ (by decide)⟩

abbrev sendS (i : Fin 4) : DmaSem sig := ⟨6 + i.val, by have := i.isLt; change _ < 14; omega⟩
abbrev recvS (i : Fin 4) : DmaSem sig := ⟨10 + i.val, by have := i.isLt; change _ < 14; omega⟩
abbrev crS (st : Fin 2) : Sem sig := ⟨st.val, by have := st.isLt; change _ < 3; omega⟩
abbrev barS : Sem sig := (2 : Fin 3)

theorem send_sem (st par : Fin 2) (o : Fin 2 → ℕ) (ho : o = ![st.val, par.val]) (h) (hs) :
    ((cc0_scratch3.slice (Rect.unit (s := S2x2) o S1x1.size h)).squeeze S_ hs).sem = sendS (sidx st par) := by
  subst ho; revert st par; decide
theorem recv_sem (st par : Fin 2) (o : Fin 2 → ℕ) (ho : o = ![st.val, par.val]) (h) (hs) :
    ((cc0_scratch4.slice (Rect.unit (s := S2x2) o S1x1.size h)).squeeze S_ hs).sem = recvS (sidx st par) := by
  subst ho; revert st par; decide
theorem cr_sem (st : Fin 2) (o : Fin 1 → ℕ) (ho : o = ![st.val]) (h) (hs) :
    ((cc0_scratch5.slice (Rect.unit (s := S2) o S1.size h)).squeeze S_ hs).sem = crS st := by
  subst ho; revert st; decide
theorem bar_sem : (SemArray.scalar (sig.barrier 0 rfl) : Sems sig S_).sem = barS := rfl

end Cert.RingProof
-- ==== Proof.Proto.lean ====
/-
  The protocol of the reduce-scatter: what the cells, slots and messages are, and what each credit carries.

  In each direction a device sends its messages `0, 1, …` to one neighbour, message `j` through the slot and the pair of
  DMA semaphores of parity `j % 2`. A message is a block of 128 rows of the partial product, and each device on the way
  adds its own block to it. The receiver frees a slot by a credit to its sender once it has added the message in; the
  sender waits for one credit before each message from the third on. Credits are counted, not named, so a credit carries
  the facts of every message freed up to it, and a sender that has counted `n` of them holds the fact of the `n`-th.
-/
module

public import proofs.«01_k».proof.Proof.Ring

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The algebra -/

/-- The pipeline library's rounds, this protocol's rounds (duties are numbers), and the slots' release counts. -/
abbrev UU : Type := UR sig nD τ × (URounds (GSem nD τ sig) ℕ × USlots (Dev nD × Fin 4))

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) :=
  (Emb.inl : Emb (URounds (GSem nD τ sig) ℕ) (URounds (GSem nD τ sig) ℕ × USlots (Dev nD × Fin 4))).trans embR
def ES : Emb (USlots (Dev nD × Fin 4)) (MT nD τ sig ℕ (Elt F) ℕ UU ℕ) :=
  (Emb.inr : Emb (USlots (Dev nD × Fin 4)) (URounds (GSem nD τ sig) ℕ × USlots (Dev nD × Fin 4))).trans embR

instance ER_landsIn : (ER (F := F)).LandsIn (upEmb : UEmb _ 𝕄) := by unfold ER; infer_instance
instance ES_landsIn : (ES (F := F)).LandsIn (upEmb : UEmb _ 𝕄) := by unfold ES; infer_instance

/-! ## Blocks of rows and slots -/

theorem chunk_inb (q : Fin 32) : ∀ a, (![q.val * 128, 0] : Fin 2 → ℕ) a + S128x2048.size a ≤ S4096x2048.size a := by
  revert q; decide
abbrev chunkRect (q : Fin 32) : Rect S4096x2048 := Rect.unit (s := S4096x2048) ![q.val * 128, 0] S128x2048.size (chunk_inb q)
abbrev accM : Memref sig .tc .vmem S4096x2048 .bf16 := Memref.whole cc0_scratch0
abbrev chunkM (q : Fin 32) : Memref sig .tc .vmem S128x2048 .bf16 := accM.slice (chunkRect q) (fun _ => rfl)

theorem slot_inb (p : Fin 2) : ∀ a, (![p.val, 0, 0] : Fin 3 → ℕ) a + S1x128x2048.size a ≤ S2x128x2048.size a := by
  revert p; decide
abbrev slotRect (p : Fin 2) : Rect S2x128x2048 := Rect.unit (s := S2x128x2048) ![p.val, 0, 0] S1x128x2048.size (slot_inb p)
def rsM : Fin 2 → Memref sig .tc .vmem S2x128x2048 .bf16
  | 0 => Memref.whole cc0_scratch1
  | 1 => Memref.whole cc0_scratch2
abbrev slotM (st p : Fin 2) : Memref sig .tc .vmem S128x2048 .bf16 :=
  ((rsM st).slice (slotRect p) (fun _ => rfl)).squeeze S128x2048 squeezes_S1x128x2048_S128x2048

/-- A block of rows of the accumulator at given contents, and a slot at given contents. -/
abbrev chunkIs (c : Dev nD) (q : Fin 32) (X : FVec F S128x2048 .bf16) : sProp 𝕄 := owns (c : Thread nD τ) (chunkM q) fullShare X
abbrev slotIs (c : Dev nD) (st p : Fin 2) (X : FVec F S128x2048 .bf16) : sProp 𝕄 := owns (c : Thread nD τ) (slotM st p) fullShare X
def chunkAny (c : Dev nD) (q : Fin 32) : sProp 𝕄 := iprop(∃ X, chunkIs (F := F) c q X)
def slotAny (c : Dev nD) (st p : Fin 2) : sProp 𝕄 := iprop(∃ X, slotIs (F := F) c st p X)

instance chunkAny_storable (c : Dev nD) (q : Fin 32) : Storable (upEmb : UEmb _ 𝕄) (chunkAny (F := F) c q) := by
  unfold chunkAny; infer_instance
instance slotAny_storable (c : Dev nD) (st p : Fin 2) : Storable (upEmb : UEmb _ 𝕄) (slotAny (F := F) c st p) := by
  unfold slotAny; infer_instance

/-- What a transfer of one block of rows adds to a DMA semaphore. -/
abbrev N : ℕ := (chunkM 0).view.dmaCredit
theorem N_pos : 0 < N := View.dmaCredit_pos _ (by decide)
theorem slot_credit (st p : Fin 2) : (slotM st p).view.dmaCredit = N := by fin_cases st <;> rfl

theorem slot_excl (c : Dev nD) (st p : Fin 2) : iprop(slotAny (F := F) c st p ∗ slotAny c st p) ⊢ (False : sProp 𝕄) := by
  have hne : (slotM st p).view.set.Nonempty := Finset.card_pos.mp (by rw [View.card_set]; decide)
  obtain ⟨i, hi'⟩ := hne
  have hi : (show Idx ((slotM st p).view.loc (c : Thread nD τ)) from i)
    ∈ (show Finset (Idx ((slotM st p).view.loc (c : Thread nD τ))) from (slotM st p).view.set) := hi'
  unfold slotAny slotIs owns
  iintro ⟨⟨%X, %f, -, Hf⟩, ⟨%Y, %g, -, Hg⟩⟩
  iapply (pointsTo_overlap_false (q := fullShare) (f := f) (g := g) hi hi)
  isplitl [Hf] <;> iassumption

/-! ## The values -/

variable (X : Dev nD → Vec F S4096x128 .fp8e4m3) (Wt : Dev nD → Vec F S128x2048 .fp8e5m2)

theorem xrect_inb (q : Fin 32) : ∀ a, (![q.val * 128, 0] : Fin 2 → ℕ) a + S128x128.size a ≤ S4096x128.size a := by
  revert q; decide
abbrev xRect (q : Fin 32) : Rect S4096x128 := Rect.unit (s := S4096x128) ![q.val * 128, 0] S128x128.size (xrect_inb q)

/-- Device `c`'s own contribution to block `q` of the result: 128 of its rows times its part of the weights. -/
def part (c : Dev nD) (q : Fin 32) : FVec F S128x2048 .bf16 := k0_pay2 (Wt c) (fun i => X c ((xRect q).emb i))

/-- The message `j` a device sends in a direction: its own contribution to the block, added to what it received. -/
def msg (st : Fin 2) : ℕ → Dev nD → FVec F S128x2048 .bf16
  | 0, c => part X Wt c (row st 0 (pos c))
  | j + 1, c => addf (part X Wt c (row st (j + 1) (pos c))) (msg st j (src st c))

/-- The block a device keeps: its own contribution and the last message of either direction. -/
def own1 (c : Dev nD) : FVec F S128x2048 .bf16 := addf (part X Wt c (pos c)) (msg X Wt 1 14 (nxt c))
def own2 (c : Dev nD) : FVec F S128x2048 .bf16 := addf (own1 X Wt c) (msg X Wt 0 15 (prv c))

/-! ## Cells -/

abbrev sendG (c : Dev nD) (st p : Fin 2) : GSem nD τ sig := ((c : Thread nD τ), .dma (sendS (sidx st p)))
abbrev recvG (c : Dev nD) (st p : Fin 2) : GSem nD τ sig := ((c : Thread nD τ), .dma (recvS (sidx st p)))
abbrev crG (c : Dev nD) (st : Fin 2) : GSem nD τ sig := ((c : Thread nD τ), .reg (crS st))
abbrev barG (c : Dev nD) : GSem nD τ sig := ((c : Thread nD τ), .reg barS)

/-- The direction and the parity an index names. -/
def stOf (i : Fin 4) : Fin 2 := ⟨i.val / 2, by omega⟩
def parOf (i : Fin 4) : Fin 2 := ⟨i.val % 2, by omega⟩
theorem stOf_sidx : ∀ st p : Fin 2, stOf (sidx st p) = st := by decide
theorem parOf_sidx : ∀ st p : Fin 2, parOf (sidx st p) = p := by decide

/-- How many of the first `n` messages have a parity; how many messages wait for a credit. -/
def cnt (n : ℕ) (p : Fin 2) : ℕ := (n + 1 - p.val) / 2
def nCr (st : Fin 2) : ℕ := if st = 0 then 14 else 13

theorem nM_le (st : Fin 2) : nM st ≤ 16 := by revert st; decide
theorem nCr_le (st : Fin 2) : nCr st ≤ 14 := by revert st; decide
theorem nCr_add (st : Fin 2) : nCr st + 2 = nM st := by revert st; decide

theorem cnt_zero (p : Fin 2) : cnt 0 p = 0 := by revert p; decide
theorem cnt_par (j : ℕ) : cnt j (par j) = j / 2 := by unfold cnt par; dsimp only; omega
theorem cnt_succ_par (j : ℕ) : cnt (j + 1) (par j) = j / 2 + 1 := by unfold cnt par; dsimp only; omega
theorem cnt_succ_ne (j : ℕ) (p : Fin 2) (h : p ≠ par j) : cnt (j + 1) p = cnt j p := by
  have h' : p.val ≠ j % 2 := fun e => h (Fin.ext e)
  have := p.isLt
  unfold cnt; omega

/-! ## Facts about other devices -/

/-- Device `e` (whom the messages go to) has taken in message `j` and freed its slot. -/
def fact (st : Fin 2) (e : Dev nD) (j : ℕ) : sProp 𝕄 :=
  iprop(reached (ER (F := F)) (recvG e st (par j)) (j / 2 + 1) ∗ released (ES (F := F)) (e, sidx st (par j)) (j / 2 + 2))

instance fact_persistent (st : Fin 2) (e : Dev nD) (j : ℕ) : BI.Persistent (fact (F := F) st e j) := by unfold fact; infer_instance
instance fact_storable (st : Fin 2) (e : Dev nD) (j : ℕ) : Storable (upEmb : UEmb _ 𝕄) (fact (F := F) st e j) := by
  unfold fact; infer_instance

theorem fact_mono (st : Fin 2) (e : Dev nD) {i j : ℕ} (h : i ≤ j) (hp : par i = par j) : fact (F := F) st e j ⊢ fact st e i := by
  unfold fact
  rw [hp]
  iintro ⟨H1, H2⟩
  isplitl [H1]
  · iapply (reached_mono (E := ER) (show i / 2 + 1 ≤ j / 2 + 1 by omega)); iexact H1
  · iapply (released_mono (E := ES) (show i / 2 + 2 ≤ j / 2 + 2 by omega)); iexact H2

/-- The fact of message `j` and of the one before it. -/
def facts2 (st : Fin 2) (e : Dev nD) : ℕ → sProp 𝕄
  | 0 => fact (F := F) st e 0
  | j + 1 => iprop(fact (F := F) st e (j + 1) ∗ fact (F := F) st e j)

instance facts2_persistent (st : Fin 2) (e : Dev nD) (j : ℕ) : BI.Persistent (facts2 (F := F) st e j) := by
  cases j <;> unfold facts2 <;> infer_instance
instance facts2_storable (st : Fin 2) (e : Dev nD) (j : ℕ) : Storable (upEmb : UEmb _ 𝕄) (facts2 (F := F) st e j) := by
  cases j <;> unfold facts2 <;> infer_instance

/-- The facts of any message give the fact of an earlier one. -/
theorem facts2_elim (st : Fin 2) (e : Dev nD) {i j : ℕ} (h : i ≤ j) : facts2 (F := F) st e j ⊢ fact st e i := by
  cases j with
  | zero => obtain rfl : i = 0 := by omega
            exact .rfl
  | succ j =>
    unfold facts2
    by_cases hp : par i = par (j + 1)
    · iintro ⟨H, -⟩; iapply (fact_mono st e h hp); iexact H
    · have hp' : i % 2 ≠ (j + 1) % 2 := fun e => hp (Fin.ext e)
      have hij : i ≤ j := by rcases Nat.lt_or_eq_of_le h with h | h
                             · omega
                             · subst h; exact absurd rfl hp'
      have hpj : par i = par j := Fin.ext (show i % 2 = j % 2 by omega)
      iintro ⟨-, H⟩; iapply (fact_mono st e hij hpj); iexact H

/-- What a device lets its sender know at the barrier: both slots of the direction are free, nothing has arrived in
    them, and its counter of the other direction's credits is in place. -/
def barPay (st : Fin 2) (e : Dev nD) : sProp 𝕄 :=
  iprop((reached (ER (F := F)) (recvG e st 0) 0 ∗ released (ES (F := F)) (e, sidx st 0) 1)
    ∗ (reached (ER (F := F)) (recvG e st 1) 0 ∗ released (ES (F := F)) (e, sidx st 1) 1)
    ∗ reached (ER (F := F)) (crG e (1 - st)) 0)

instance barPay_persistent (st : Fin 2) (e : Dev nD) : BI.Persistent (barPay (F := F) st e) := by unfold barPay; infer_instance
instance barPay_storable (st : Fin 2) (e : Dev nD) : Storable (upEmb : UEmb _ 𝕄) (barPay (F := F) st e) := by
  unfold barPay; infer_instance

/-! ## The schedule -/

/-- Which direction and parity a DMA semaphore serves. -/
def dmaIx (s : DmaSem sig) : Fin 4 := ⟨(s.val - 6) % 4, Nat.mod_lt _ (by decide)⟩
theorem dmaIx_send : ∀ i : Fin 4, dmaIx (sendS i) = i := by decide
theorem dmaIx_recv : ∀ i : Fin 4, dmaIx (recvS i) = i := by decide

def dutiesOf : SemLoc sig → ℕ → Finset ℕ
  | .reg s, r => if r = 0 then (if s.val = 2 then {0, 1} else if s.val = 0 then Finset.range 14 else Finset.range 13) else ∅
  | .dma s, r => if 6 ≤ s.val ∧ r < cnt (nM (stOf (dmaIx s))) (parOf (dmaIx s)) then {0} else ∅

def amountFor : SemLoc sig → ℕ
  | .reg _ => 1
  | .dma _ => N

def payFor (c : Dev nD) : SemLoc sig → ℕ → ℕ → sProp 𝕄
  | .reg s, _, d =>
    if s.val = 2 then (if d = 0 then barPay (F := F) 0 (dst 0 c) else barPay (F := F) 1 (dst 1 c))
    else if s.val = 0 then facts2 (F := F) 0 (dst 0 c) d else facts2 (F := F) 1 (dst 1 c) d
  | .dma s, r, _ =>
    if s.val < 10 then chunkAny (F := F) c (row (stOf (dmaIx s)) (2 * r + (parOf (dmaIx s)).val) (pos c))
    else slotIs (F := F) c (stOf (dmaIx s)) (parOf (dmaIx s))
      (msg X Wt (stOf (dmaIx s)) (2 * r + (parOf (dmaIx s)).val) (src (stOf (dmaIx s)) c))

/-- One duty per message on its send and receive cells, one per credit on the credit counters, two on the barrier. -/
def rd : Rounds.Schedule (GSem nD τ sig) ℕ 𝕄 where
  duties g r := if g.1.2 = .tc then dutiesOf g.2 r else ∅
  amount g _ _ := amountFor g.2
  payload g r d := payFor X Wt g.1.1 g.2 r d
  amount_pos g _ _ _ := by
    show 0 < amountFor g.2
    cases g.2 with
    | reg s => exact Nat.one_pos
    | dma s => exact N_pos

instance rd_storable (g : GSem nD τ sig) (r d : ℕ) : BI.Storable (upEmb : UEmb _ 𝕄) ((rd (F := F) X Wt).payload g r d) := by
  show BI.Storable upEmb (payFor X Wt g.1.1 g.2 r d)
  cases g.2 <;> unfold payFor <;> (repeat' split) <;> infer_instance

section Sched

variable (c : Dev nD) (st : Fin 2)

theorem duties_bar : (rd (F := F) X Wt).duties (barG c) 0 = {0, 1} := rfl
theorem duties_cr : (rd (F := F) X Wt).duties (crG c st) 0 = Finset.range (nCr st) := by fin_cases st <;> rfl
theorem duties_send (j : ℕ) (hj : j < nM st) : (rd (F := F) X Wt).duties (sendG c st (par j)) (j / 2) = {0} := by
  show dutiesOf (.dma (sendS (sidx st (par j)))) (j / 2) = {0}
  dsimp only [dutiesOf]
  rw [dmaIx_send, stOf_sidx, parOf_sidx]
  refine if_pos ⟨by show 6 ≤ 6 + _; omega, ?_⟩
  unfold cnt par; dsimp only; omega
theorem duties_recv (j : ℕ) (hj : j < nM st) : (rd (F := F) X Wt).duties (recvG c st (par j)) (j / 2) = {0} := by
  show dutiesOf (.dma (recvS (sidx st (par j)))) (j / 2) = {0}
  dsimp only [dutiesOf]
  rw [dmaIx_recv, stOf_sidx, parOf_sidx]
  refine if_pos ⟨by show 6 ≤ 10 + _; omega, ?_⟩
  unfold cnt par; dsimp only; omega

theorem duties_bar_later : ∀ r, 1 ≤ r → (rd (F := F) X Wt).duties (barG c) r = ∅ := fun r hr => by
  show dutiesOf (.reg barS) r = ∅
  dsimp only [dutiesOf]; exact if_neg (by omega)
theorem duties_cr_later : ∀ r, 1 ≤ r → (rd (F := F) X Wt).duties (crG c st) r = ∅ := fun r hr => by
  show dutiesOf (.reg (crS st)) r = ∅
  dsimp only [dutiesOf]; exact if_neg (by omega)
theorem duties_send_later (p : Fin 2) : ∀ r, cnt (nM st) p ≤ r → (rd (F := F) X Wt).duties (sendG c st p) r = ∅ := fun r hr => by
  show dutiesOf (.dma (sendS (sidx st p))) r = ∅
  dsimp only [dutiesOf]; rw [dmaIx_send, stOf_sidx, parOf_sidx]; exact if_neg (by omega)
theorem duties_recv_later (p : Fin 2) : ∀ r, cnt (nM st) p ≤ r → (rd (F := F) X Wt).duties (recvG c st p) r = ∅ := fun r hr => by
  show dutiesOf (.dma (recvS (sidx st p))) r = ∅
  dsimp only [dutiesOf]; rw [dmaIx_recv, stOf_sidx, parOf_sidx]; exact if_neg (by omega)

theorem expect_bar : (rd (F := F) X Wt).expect (barG c) 0 = 2 := by
  unfold Schedule.expect Schedule.amountOf; rw [duties_bar]; rfl
theorem expect_cr : (rd (F := F) X Wt).expect (crG c st) 0 = nCr st := by
  unfold Schedule.expect Schedule.amountOf
  rw [duties_cr, Finset.sum_congr rfl (fun d _ => show (rd (F := F) X Wt).amount (crG c st) 0 d = 1 from rfl)]
  simp
theorem expect_send (j : ℕ) (hj : j < nM st) : (rd (F := F) X Wt).expect (sendG c st (par j)) (j / 2) = N := by
  unfold Schedule.expect Schedule.amountOf; rw [duties_send X Wt c st j hj, Finset.sum_singleton]; rfl
theorem expect_recv (j : ℕ) (hj : j < nM st) : (rd (F := F) X Wt).expect (recvG c st (par j)) (j / 2) = N := by
  unfold Schedule.expect Schedule.amountOf; rw [duties_recv X Wt c st j hj, Finset.sum_singleton]; rfl

theorem payload_bar0 : (rd (F := F) X Wt).payload (barG c) 0 0 = barPay 0 (dst 0 c) := rfl
theorem payload_bar1 : (rd (F := F) X Wt).payload (barG c) 0 1 = barPay 1 (dst 1 c) := rfl
theorem payload_cr (d : ℕ) : (rd (F := F) X Wt).payload (crG c st) 0 d = facts2 st (dst st c) d := by
  fin_cases st <;> rfl
theorem half_par (j : ℕ) : 2 * (j / 2) + (par j).val = j := by show 2 * (j / 2) + j % 2 = j; omega
theorem payload_send (j d : ℕ) : (rd (F := F) X Wt).payload (sendG c st (par j)) (j / 2) d = chunkAny c (row st j (pos c)) := by
  show payFor X Wt c (.dma (sendS (sidx st (par j)))) (j / 2) d = _
  dsimp only [payFor]
  rw [dmaIx_send, stOf_sidx, parOf_sidx, half_par]
  exact if_pos (by show 6 + (sidx st (par j)).val < 10; omega)
theorem payload_recv (j d : ℕ) : (rd (F := F) X Wt).payload (recvG c st (par j)) (j / 2) d
    = slotIs c st (par j) (msg X Wt st j (src st c)) := by
  show payFor X Wt c (.dma (recvS (sidx st (par j)))) (j / 2) d = _
  dsimp only [payFor]
  rw [dmaIx_recv, stOf_sidx, parOf_sidx, half_par]
  exact if_neg (by show ¬(10 + (sidx st (par j)).val < 10); omega)

end Sched

/-! ## What a device owes; the levels -/

/-- The messages from `a` on in a direction, and the credits from `p` on. -/
def owM (st : Fin 2) (a : ℕ) (c : Dev nD) : CellTallies nD τ sig ℕ :=
  ∑ h ∈ Finset.Ico a (nM st), tallyAt (recvG (dst st c) st (par h)) h N
def owC (st : Fin 2) (p : ℕ) (c : Dev nD) : CellTallies nD τ sig ℕ :=
  ∑ j ∈ Finset.Ico p (nCr st), tallyAt (crG (src st c) st) j 1
def ow (a b p q : ℕ) (c : Dev nD) : CellTallies nD τ sig ℕ := owM 0 a c + owM 1 b c + (owC 0 p c + owC 1 q c)
/-- At launch: all of them, and one unit to either neighbour's barrier. -/
def ow₀ (c : Dev nD) : CellTallies nD τ sig ℕ := ow 0 0 0 0 c + tallyAt (barG (nxt c)) 0 1 + tallyAt (barG (prv c)) 0 1

theorem Ico_peel {a n : ℕ} (h : a < n) : Finset.Ico a n = insert a (Finset.Ico (a + 1) n) := by
  ext i; simp only [Finset.mem_insert, Finset.mem_Ico]; omega
theorem Ico_peel_not (a n : ℕ) : a ∉ Finset.Ico (a + 1) n := by simp

theorem owM_peel (st : Fin 2) (a : ℕ) (c : Dev nD) (h : a < nM st) :
    owM st a c = owM st (a + 1) c + tallyAt (recvG (dst st c) st (par a)) a N := by
  unfold owM; rw [Ico_peel h, Finset.sum_insert (Ico_peel_not _ _), add_comm]
theorem owC_peel (st : Fin 2) (p : ℕ) (c : Dev nD) (h : p < nCr st) :
    owC st p c = owC st (p + 1) c + tallyAt (crG (src st c) st) p 1 := by
  unfold owC; rw [Ico_peel h, Finset.sum_insert (Ico_peel_not _ _), add_comm]
theorem owM_zero (st : Fin 2) (a : ℕ) (c : Dev nD) (h : nM st ≤ a) : owM st a c = 0 := by
  unfold owM; rw [Finset.Ico_eq_empty (by omega), Finset.sum_empty]
theorem owC_zero (st : Fin 2) (p : ℕ) (c : Dev nD) (h : nCr st ≤ p) : owC st p c = 0 := by
  unfold owC; rw [Finset.Ico_eq_empty (by omega), Finset.sum_empty]
theorem owM_stay (st : Fin 2) (a : ℕ) (c : Dev nD) (h : nM st ≤ a) : owM st a c = owM st (a + 1) c := by
  rw [owM_zero st a c h, owM_zero st (a + 1) c (by omega)]
theorem owC_stay (st : Fin 2) (p : ℕ) (c : Dev nD) (h : nCr st ≤ p) : owC st p c = owC st (p + 1) c := by
  rw [owC_zero st p c h, owC_zero st (p + 1) c (by omega)]

def L (g : GSem nD τ sig) : Finset ℕ := if g.1.2 = .tc then Finset.range 20 else ∅
def levOf : SemLoc sig → ℕ → ℕ
  | .reg s, i => if s.val = 2 then 1 else i + 3
  | .dma s, i => if s.val < 10 then 0 else i + 2
def lv (g : GSem nD τ sig) (i : ℕ) : ℕ := levOf g.2 i

theorem L_of_ne (g : GSem nD τ sig) (h : g.1.2 ≠ .tc) : L g = ∅ := if_neg h
theorem L_tc (c : Dev nD) (sm : SemLoc sig) : L ((c : Thread nD τ), sm) = Finset.range 20 := if_pos rfl

theorem owM_pos (st : Fin 2) (a : ℕ) (c : Dev nD) (g : GSem nD τ sig) (i : ℕ) (h : 0 < owM st a c g i) :
    i ∈ L g ∧ a + 2 ≤ lv g i := by
  unfold owM at h
  rw [Finset.sum_apply, Finsupp.finset_sum_apply] at h
  obtain ⟨j, hj, hp⟩ := Finset.exists_ne_zero_of_sum_ne_zero (Nat.pos_iff_ne_zero.mp h)
  rw [tallyAt_apply] at hp
  have hc : g = recvG (dst st c) st (par j) ∧ i = j := by
    by_contra hn; rw [if_neg hn] at hp; exact hp rfl
  have hb := Finset.mem_Ico.mp hj
  have h16 : nM st ≤ 16 := nM_le st
  rw [hc.1, hc.2, L_tc]
  refine ⟨Finset.mem_range.mpr (by omega), ?_⟩
  show a + 2 ≤ levOf (.dma (recvS (sidx st (par j)))) j
  dsimp only [levOf]
  rw [if_neg (by show ¬(10 + _ < 10); omega)]; omega

theorem owC_pos (st : Fin 2) (p : ℕ) (c : Dev nD) (g : GSem nD τ sig) (i : ℕ) (h : 0 < owC st p c g i) :
    i ∈ L g ∧ p + 3 ≤ lv g i := by
  unfold owC at h
  rw [Finset.sum_apply, Finsupp.finset_sum_apply] at h
  obtain ⟨j, hj, hp⟩ := Finset.exists_ne_zero_of_sum_ne_zero (Nat.pos_iff_ne_zero.mp h)
  rw [tallyAt_apply] at hp
  have hc : g = crG (src st c) st ∧ i = j := by
    by_contra hn; rw [if_neg hn] at hp; exact hp rfl
  have hb := Finset.mem_Ico.mp hj
  have h16 : nCr st ≤ 14 := nCr_le st
  rw [hc.1, hc.2, L_tc]
  refine ⟨Finset.mem_range.mpr (by omega), ?_⟩
  show p + 3 ≤ levOf (.reg (crS st)) j
  dsimp only [levOf]
  rw [if_neg (by show ¬(st.val = 2); omega)]; omega

theorem ow_pos (a b p q : ℕ) (c : Dev nD) (g : GSem nD τ sig) (i : ℕ) (h : 0 < ow a b p q c g i) :
    i ∈ L g ∧ (a + 2 ≤ lv g i ∨ b + 2 ≤ lv g i ∨ p + 3 ≤ lv g i ∨ q + 3 ≤ lv g i) := by
  have h' : 0 < owM 0 a c g i + owM 1 b c g i + (owC 0 p c g i + owC 1 q c g i) := h
  by_cases h1 : 0 < owM 0 a c g i
  · exact ⟨(owM_pos 0 a c g i h1).1, .inl (owM_pos 0 a c g i h1).2⟩
  by_cases h2 : 0 < owM 1 b c g i
  · exact ⟨(owM_pos 1 b c g i h2).1, .inr (.inl (owM_pos 1 b c g i h2).2)⟩
  by_cases h3 : 0 < owC 0 p c g i
  · exact ⟨(owC_pos 0 p c g i h3).1, .inr (.inr (.inl (owC_pos 0 p c g i h3).2))⟩
  have h4 : 0 < owC 1 q c g i := by omega
  exact ⟨(owC_pos 1 q c g i h4).1, .inr (.inr (.inr (owC_pos 1 q c g i h4).2))⟩

/-- A device may wait on a cell whose level is below everything it still owes. -/
theorem mayWait_ow (c : Dev nD) (sm : SemLoc sig) (i a b p q : ℕ) (hi : i < 20)
    (h : levOf sm i < a + 2 ∧ levOf sm i < b + 2 ∧ levOf sm i < p + 3 ∧ levOf sm i < q + 3) :
    (levAts L lv : sProp 𝕄) ⊢ MayWait (c : Thread nD τ) sm i (ow a b p q c) :=
  MayOwe.of_cut (L := L) (lev := lv) (levOf sm i)
    (fun x hx => by rw [Finset.mem_singleton.mp hx, L_tc]; exact Finset.mem_range.mpr hi)
    (fun g u hg => (ow_pos a b p q c g u hg).1)
    (fun x hx => by rw [Finset.mem_singleton.mp hx]; exact le_refl _)
    (fun g u hg => by have := (ow_pos a b p q c g u hg).2; omega)

/-! ## The cells and the slots, all together -/

/-- The scoped semaphores of the kernel: sends, receives, credits. -/
def osem : Fin 10 → SemLoc sig :=
  ![.dma (sendS 0), .dma (sendS 1), .dma (sendS 2), .dma (sendS 3), .dma (recvS 0), .dma (recvS 1), .dma (recvS 2), .dma (recvS 3),
    .reg (crS 0), .reg (crS 1)]

theorem osem_inj : Function.Injective osem := by decide

def liveCells : Finset (GSem nD τ sig) := Finset.univ.map ⟨fun c : Dev nD => barG c, fun a b h => by simpa using h⟩
def dormCells : Finset (GSem nD τ sig) :=
  Finset.univ.map ⟨fun x : Dev nD × Fin 10 => (((x.1 : Dev nD) : Thread nD τ), osem x.2), fun a b h => by
    have h1 := congrArg (fun g => g.1.1) h
    have h2 := congrArg (fun g => g.2) h
    exact Prod.ext h1 (osem_inj h2)⟩

theorem mem_dorm (c : Dev nD) (k : Fin 10) : (((c : Thread nD τ), osem k) : GSem nD τ sig) ∈ dormCells :=
  Finset.mem_map.mpr ⟨(c, k), Finset.mem_univ _, rfl⟩
theorem send_mem (c : Dev nD) (st p : Fin 2) : sendG c st p ∈ liveCells ∪ dormCells := by
  refine Finset.mem_union_right _ ?_
  have h : osem ⟨(sidx st p).val, by omega⟩ = .dma (sendS (sidx st p)) := by revert st p; decide
  have := mem_dorm c ⟨(sidx st p).val, by omega⟩; rwa [h] at this
theorem recv_mem (c : Dev nD) (st p : Fin 2) : recvG c st p ∈ liveCells ∪ dormCells := by
  refine Finset.mem_union_right _ ?_
  have h : osem ⟨4 + (sidx st p).val, by omega⟩ = .dma (recvS (sidx st p)) := by revert st p; decide
  have := mem_dorm c ⟨4 + (sidx st p).val, by omega⟩; rwa [h] at this
theorem cr_mem (c : Dev nD) (st : Fin 2) : crG c st ∈ liveCells ∪ dormCells := by
  refine Finset.mem_union_right _ ?_
  have h : osem ⟨8 + st.val, by omega⟩ = .reg (crS st) := by revert st; decide
  have := mem_dorm c ⟨8 + st.val, by omega⟩; rwa [h] at this
theorem bar_mem (c : Dev nD) : barG c ∈ liveCells ∪ dormCells :=
  Finset.mem_union_left _ (Finset.mem_map.mpr ⟨c, Finset.mem_univ _, rfl⟩)

/-- Every cell's and every slot's invariant, at the names the launch gave them. -/
def invs (κ : GSem nD τ sig → ℕ) (ιs : Dev nD × Fin 4 → ℕ) : sProp 𝕄 :=
  iprop(bigSep (liveCells ∪ dormCells) (fun g => cellInv (ER (F := F)) (rd X Wt) (κ g) g)
    ∗ bigSep Finset.univ (fun k : Dev nD × Fin 4 => slotInv (ES (F := F)) (ιs k) k (slotAny k.1 (stOf k.2) (parOf k.2))))

instance invs_persistent (κ : GSem nD τ sig → ℕ) (ιs : Dev nD × Fin 4 → ℕ) : BI.Persistent (invs (F := F) X Wt κ ιs) := by
  unfold invs; infer_instance

variable (κ : GSem nD τ sig → ℕ) (ιs : Dev nD × Fin 4 → ℕ)

theorem invs_cell {g : GSem nD τ sig} (hg : g ∈ liveCells ∪ dormCells) :
    invs (F := F) X Wt κ ιs ⊢ cellInv (ER (F := F)) (rd X Wt) (κ g) g := by
  unfold invs
  iintro ⟨H, -⟩
  iapply (show bigSep (liveCells ∪ dormCells) (fun g => cellInv (ER (F := F)) (rd X Wt) (κ g) g)
    ⊢ cellInv (ER (F := F)) (rd X Wt) (κ g) g from bigSep_elim hg)
  iexact H
theorem invs_slot (c : Dev nD) (st p : Fin 2) :
    invs (F := F) X Wt κ ιs ⊢ slotInv (ES (F := F)) (ιs (c, sidx st p)) (c, sidx st p) (slotAny c st p) := by
  unfold invs
  iintro ⟨-, H⟩
  have h : bigSep Finset.univ (fun k : Dev nD × Fin 4 => slotInv (ES (F := F)) (ιs k) k (slotAny k.1 (stOf k.2) (parOf k.2)))
      ⊢ slotInv (ES (F := F)) (ιs (c, sidx st p)) (c, sidx st p) (slotAny c (stOf (sidx st p)) (parOf (sidx st p))) :=
    bigSep_elim (Finset.mem_univ (c, sidx st p))
  rw [stOf_sidx, parOf_sidx] at h
  iapply h
  iexact H

end Cert.RingProof
-- ==== Proof.Steps.lean ====
/-
  The steps of a hop, in either direction: taking a message in, waiting until a slot may be written again, sending, and
  freeing a slot. Each is stated with the part of the device's holdings it moves.
-/
module

public import proofs.«01_k».proof.Proof.Proto

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

/-! ## Taking from and adding to a numbered family -/

theorem bs_take {a n : ℕ} (h : a < n) (Φ : ℕ → sProp 𝕄) :
    bigSep (Finset.Ico a n) Φ = iprop(Φ a ∗ bigSep (Finset.Ico (a + 1) n) Φ) := by
  rw [Ico_peel h, bigSep_insert (Ico_peel_not _ _)]
  rfl
theorem bs_put {a n : ℕ} (h : a ≤ n) (Φ : ℕ → sProp 𝕄) :
    bigSep (Finset.Ico a (n + 1)) Φ = iprop(Φ n ∗ bigSep (Finset.Ico a n) Φ) := by
  rw [show Finset.Ico a (n + 1) = insert n (Finset.Ico a n) from by ext i; simp only [Finset.mem_insert, Finset.mem_Ico]; omega,
    bigSep_insert (by simp)]
  rfl

theorem par_two (n : ℕ) : par (n + 2) = par n := Fin.ext (show (n + 2) % 2 = n % 2 by omega)

/-! ## What a device holds -/

variable (X : Dev nD → Vec F S4096x128 .fp8e4m3) (Wt : Dev nD → Vec F S128x2048 .fp8e5m2)
variable (κ : GSem nD τ sig → ℕ) (ιs : Dev nD × Fin 4 → ℕ)
variable (c : Dev nD) (st : Fin 2)

/-- What is owed, whatever was waited on. -/
def ows (O : CellTallies nD τ sig ℕ) : sProp 𝕄 := iprop(∃ W, owes (c : Thread nD τ) O W)

/-- For receiving message `s` and the later ones. -/
def RV (s : ℕ) : sProp 𝕄 :=
  iprop(atPos (ER (F := F)) (recvG c st (par s)) (s / 2) ∅ 0 ∗ atPos (ER (F := F)) (recvG c st (par (s + 1))) ((s + 1) / 2) ∅ 0
    ∗ bigSep (Finset.Ico s (nM st)) (fun j => cred (tallyAt (recvG c st (par j)) j N)))

/-- For waiting for the sends from `w` on to have left. -/
def SP (w : ℕ) : sProp 𝕄 :=
  iprop(atPos (ER (F := F)) (sendG c st (par w)) (w / 2) ∅ 0 ∗ atPos (ER (F := F)) (sendG c st (par (w + 1))) ((w + 1) / 2) ∅ 0
    ∗ reached (ER (F := F)) (sendG c st (par w)) (w / 2) ∗ reached (ER (F := F)) (sendG c st (par (w + 1))) ((w + 1) / 2))
/-- For sending message `n` and the later ones. -/
def TK (n : ℕ) : sProp 𝕄 :=
  bigSep (Finset.Ico n (nM st)) (fun j => iprop(dutyTok (ER (F := F)) (sendG c st (par j)) (j / 2) 0
    ∗ dutyTok (ER (F := F)) (recvG (dst st c) st (par j)) (j / 2) 0 ∗ writeTok (ES (F := F)) (dst st c, sidx st (par j)) (j / 2 + 1)))
/-- The messages sent and not yet waited for. -/
def IFL (w n : ℕ) : sProp 𝕄 := bigSep (Finset.Ico w n) (fun j => cred (tallyAt (sendG c st (par j)) 0 N))
def SD (n w : ℕ) : sProp 𝕄 := iprop(SP (F := F) c st w ∗ TK (F := F) c st n ∗ IFL (F := F) c st w n)

/-- For waiting for the credits from `m` on. -/
def CRp (m : ℕ) : sProp 𝕄 :=
  if m < nCr st then iprop(∃ T, atPos (ER (F := F)) (crG c st) 0 T m ∗ bigSep T (fun d => facts2 (F := F) st (dst st c) d))
  else atPos (ER (F := F)) (crG c st) 1 ∅ 0
def CR (m : ℕ) : sProp 𝕄 :=
  iprop(CRp (F := F) c st m ∗ bigSep (Finset.Ico m (nCr st)) (fun j => cred (tallyAt (crG c st) j 1)))

/-- For freeing the slots of the messages from `i` on. -/
def prevFact : ℕ → sProp 𝕄
  | 0 => iprop(emp)
  | i + 1 => fact (F := F) st c i
def SG (i : ℕ) : sProp 𝕄 :=
  iprop(bigSep (Finset.Ico i (nCr st)) (fun j => dutyTok (ER (F := F)) (crG (src st c) st) 0 j)
    ∗ reached (ER (F := F)) (crG (src st c) st) 0
    ∗ readerAt (ES (F := F)) (c, sidx st (par i)) (i / 2 + 1) ∗ readerAt (ES (F := F)) (c, sidx st (par (i + 1))) ((i + 1) / 2 + 1)
    ∗ prevFact (F := F) c st i)

instance prevFact_persistent (i : ℕ) : BI.Persistent (prevFact (F := F) c st i) := by
  cases i <;> unfold prevFact <;> infer_instance

theorem facts2_of (i : ℕ) : iprop(fact (F := F) st c i ∗ prevFact (F := F) c st i) ⊢ facts2 (F := F) st c i := by
  cases i with
  | zero => dsimp only [facts2]; iintro ⟨H, -⟩; iexact H
  | succ i => exact .rfl
theorem prevFact_succ (i : ℕ) : fact (F := F) st c i ⊢ prevFact (F := F) c st (i + 1) := .rfl

/-- Message `j` may be sent to `e`. -/
def sendOk (e : Dev nD) (j : ℕ) : sProp 𝕄 :=
  iprop(reached (ER (F := F)) (recvG e st (par j)) (j / 2) ∗ released (ES (F := F)) (e, sidx st (par j)) (j / 2 + 1))

instance sendOk_persistent (e : Dev nD) (j : ℕ) : BI.Persistent (sendOk (F := F) st e j) := by unfold sendOk; infer_instance

theorem sendOk_of_fact (e : Dev nD) (j : ℕ) : fact (F := F) st e j ⊢ sendOk st e (j + 2) := by
  unfold fact sendOk
  rw [par_two, show (j + 2) / 2 = j / 2 + 1 from by omega]

/-! ## Taking a message in -/

/-- The wait for message `s`. -/
theorem recv_wait {sem : DmaSem sig} {sp sp' : Space} {s s' : Shape} {e e' : EltTy}
    {srcM : Memref sig .tc sp s e} {dstM : Memref sig .tc sp' s' e'} {h1 : srcM.view.WordExact} {h2 : dstM.view.WordExact}
    {α : Type} {k : PUnit → Prog (TpuEff nD τ sig (Elt F) Λ₀ .tc) α} {Q : α → sProp 𝕄}
    (j : ℕ) (hj : j < nM st) (hsem : sem = recvS (sidx st (par j))) (hN : dstM.view.dmaCredit = N) (O : CellTallies nD τ sig ℕ)
    (hW : (levAts L lv : sProp 𝕄) ⊢ MayWait (c : Thread nD τ) (.dma (recvS (sidx st (par j)))) j O) :
    iprop(invs (F := F) X Wt κ ιs ∗ levAts L lv ∗ RV (F := F) c st j ∗ ows (F := F) c O)
      ⊢ iprop(((RV (F := F) c st (j + 1) ∗ ows (F := F) c O ∗ reached (ER (F := F)) (recvG c st (par j)) (j / 2 + 1)
              ∗ slotIs c st (par j) (msg X Wt st j (src st c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM h1 h2) k) Q) := by
  subst hsem
  unfold RV ows
  rw [bs_take hj]
  iintro ⟨#HI, #Hlev, ⟨Hat, Hat', Hc, Hcs⟩, ⟨%W, HO⟩⟩ Hk
  iapply (Rounds.wp_wait_rest_token 𝒱₀ (ER (F := F)) (rd X Wt) (c : Thread nD τ) none (κ := κ (recvG c st (par j)))
      (wpE_waitDma2_eq (src := srcM) (dst := dstM) 𝒱₀ (c : Thread nD τ) none Set.univ) (Set.mem_univ _) j (O := O) (W := W) (R := j / 2) (m := 0) (T := ∅)
      (by rw [expect_recv X Wt c st j hj, Nat.zero_add]; exact hN)) $$ [Hc HO Hat]
  · isplitr; · iapply (invs_cell X Wt κ ιs (recv_mem c st (par j))); iexact HI
    isplitl [Hc]; · rw [hN]; iexact Hc
    isplitl [HO]; · iexact HO
    isplitr; · iapply hW; iexact Hlev
    iexact Hat
  iintro ⟨HO, Hat, #Hr, Hpay⟩
  ihave Hp := (Entails.of_eq (show bigSep ((rd (F := F) X Wt).duties (recvG c st (par j)) (j / 2) \ ∅)
      (fun d => (rd (F := F) X Wt).payload (recvG c st (par j)) (j / 2) d) = slotIs c st (par j) (msg X Wt st j (src st c)) from by
    rw [Finset.sdiff_empty, duties_recv X Wt c st j hj, bigSep_singleton, payload_recv])) $$ Hpay
  iapply Hk
  isplitl [Hat Hat' Hcs]
  · rw [par_two, show (j + 1 + 1) / 2 = j / 2 + 1 from by omega]
    isplitl [Hat']; · iexact Hat'
    isplitl [Hat]; · iexact Hat
    iexact Hcs
  isplitl [HO]; · iexists _; iexact HO
  isplitr; · iexact Hr
  iexact Hp

/-- The wait for message `w` to have left. -/
theorem send_wait {sem : DmaSem sig} {sp sp' : Space} {s s' : Shape} {e e' : EltTy}
    {srcM : Memref sig .tc sp s e} {dstM : Memref sig .tc sp' s' e'} {h1 : srcM.view.WordExact} {h2 : dstM.view.WordExact}
    {α : Type} {k : PUnit → Prog (TpuEff nD τ sig (Elt F) Λ₀ .tc) α} {Q : α → sProp 𝕄}
    (n w : ℕ) (hw : w < n) (hn : n ≤ nM st) (hsem : sem = sendS (sidx st (par w))) (hN : dstM.view.dmaCredit = N) (O : CellTallies nD τ sig ℕ)
    (hW : (levAts L lv : sProp 𝕄) ⊢ MayWait (c : Thread nD τ) (.dma (sendS (sidx st (par w)))) 0 O) :
    iprop(invs (F := F) X Wt κ ιs ∗ levAts L lv ∗ SD (F := F) c st n w ∗ ows (F := F) c O)
      ⊢ iprop(((SD (F := F) c st n (w + 1) ∗ ows (F := F) c O ∗ chunkAny c (row st w (pos c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM h1 h2) k) Q) := by
  subst hsem
  have hj : w < nM st := by omega
  unfold SD SP IFL ows
  rw [bs_take hw]
  iintro ⟨#HI, #Hlev, ⟨⟨Hat, Hat', -, #Hr'⟩, HT, Hc, Hcs⟩, ⟨%W, HO⟩⟩ Hk
  iapply (Rounds.wp_wait_rest_token 𝒱₀ (ER (F := F)) (rd X Wt) (c : Thread nD τ) none (κ := κ (sendG c st (par w)))
      (wpE_waitDma2_eq (src := srcM) (dst := dstM) 𝒱₀ (c : Thread nD τ) none Set.univ) (Set.mem_univ _) 0 (O := O) (W := W) (R := w / 2) (m := 0) (T := ∅)
      (by rw [expect_send X Wt c st w hj, Nat.zero_add]; exact hN)) $$ [Hc HO Hat]
  · isplitr; · iapply (invs_cell X Wt κ ιs (send_mem c st (par w))); iexact HI
    isplitl [Hc]; · rw [hN]; iexact Hc
    isplitl [HO]; · iexact HO
    isplitr; · iapply hW; iexact Hlev
    iexact Hat
  iintro ⟨HO, Hat, #Hr, Hpay⟩
  ihave Hp := (Entails.of_eq (show bigSep ((rd (F := F) X Wt).duties (sendG c st (par w)) (w / 2) \ ∅)
      (fun d => (rd (F := F) X Wt).payload (sendG c st (par w)) (w / 2) d) = chunkAny c (row st w (pos c)) from by
    rw [Finset.sdiff_empty, duties_send X Wt c st w hj, bigSep_singleton, payload_send])) $$ Hpay
  iapply Hk
  isplitr [HO Hp]
  · rw [par_two, show (w + 1 + 1) / 2 = w / 2 + 1 from by omega]
    isplitl [Hat Hat']
    · isplitl [Hat']; · iexact Hat'
      isplitl [Hat]; · iexact Hat
      isplitr; · iexact Hr'
      iexact Hr
    isplitl [HT]; · iexact HT
    iexact Hcs
  isplitl [HO]; · iexists _; iexact HO
  iexact Hp

/-- The wait for credit `m`: afterwards the slot of message `m` is known to be free. -/
theorem credit_wait {sem : Sem sig} {k' : ℕ}
    {α : Type} {k : PUnit → Prog (TpuEff nD τ sig (Elt F) Λ₀ .tc) α} {Q : α → sProp 𝕄}
    (m : ℕ) (hm : m < nCr st) (hsem : sem = crS st) (hk' : k' = 1) (O : CellTallies nD τ sig ℕ)
    (hW : (levAts L lv : sProp 𝕄) ⊢ MayWait (c : Thread nD τ) (.reg (crS st)) m O) :
    iprop(invs (F := F) X Wt κ ιs ∗ levAts L lv ∗ CR (F := F) c st m ∗ ows (F := F) c O)
      ⊢ iprop(((CR (F := F) c st (m + 1) ∗ ows (F := F) c O ∗ fact st (dst st c) m)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem k') k) Q) := by
  subst hsem hk'
  unfold CR ows
  rw [bs_take hm]
  by_cases hlast : m + 1 < nCr st
  · unfold CRp
    rw [if_pos hm, if_pos hlast]
    iintro ⟨#HI, #Hlev, ⟨⟨%T, Hat, #HT⟩, Hc, Hcs⟩, ⟨%W, HO⟩⟩ Hk
    iapply (Rounds.wp_wait 𝒱₀ (ER (F := F)) (rd X Wt) (c : Thread nD τ) none (κ := κ (crG c st))
      (wpE_semWait_eq 𝒱₀ (c : Thread nD τ) none Set.univ) (Set.mem_univ _) {(SemLoc.reg (crS st), m)} (cr := Finsupp.single m 1) (O := O) (W := W) (R := 0) (m := m) (T := T)
      (Util.total_single _ _) (image_single_subset _ m 1)) $$ [Hc HO Hat]
    · isplitr; · iapply (invs_cell X Wt κ ιs (cr_mem c st)); iexact HI
      isplitl [Hc]; · iexact Hc
      isplitl [HO]; · iexact HO
      isplitr; · iapply hW; iexact Hlev
      iexact Hat
    iintro %S ⟨%hS, HO, Hat, Hpay⟩
    obtain ⟨hTS, hSd, hcard⟩ := hS
    rw [duties_cr] at hSd hcard
    rw [expect_cr] at hcard
    have hsum : (Finset.range (nCr st) \ S).card + S.card = nCr st := by
      rw [Finset.card_sdiff_add_card_eq_card hSd, Finset.card_range]
    have hex : ∃ d ∈ S, m ≤ d := by
      by_contra hn
      push Not at hn
      have : S ⊆ Finset.range m := fun d hd => Finset.mem_range.mpr (hn d hd)
      have := Finset.card_le_card this
      rw [Finset.card_range] at this
      omega
    obtain ⟨d, hd, hmd⟩ := hex
    ihave Hpay' := (Entails.of_eq (show bigSep (S \ T) (fun d => (rd (F := F) X Wt).payload (crG c st) 0 d)
      = bigSep (S \ T) (fun d => facts2 st (dst st c) d) from bigSep_congr fun d _ => payload_cr X Wt c st d)) $$ Hpay
    icases Hpay' with #Hpay'
    ihave #HS := (show iprop(bigSep T (fun d => facts2 (F := F) st (dst st c) d) ∗ bigSep (S \ T) (fun d => facts2 (F := F) st (dst st c) d))
      ⊢ bigSep S (fun d => facts2 (F := F) st (dst st c) d) from Entails.of_eq (by
        rw [show S = T ∪ (S \ T) from (Finset.union_sdiff_of_subset hTS).symm, Finset.union_sdiff_cancel_left Finset.disjoint_sdiff,
          bigSep_union Finset.disjoint_sdiff]; rfl)) $$ []
    · isplitr; · iexact HT
      iexact Hpay'
    iapply Hk
    isplitl [Hat Hcs]
    · isplitl [Hat]
      · iexists S
        isplitl [Hat]; · iexact Hat
        iexact HS
      iexact Hcs
    isplitl [HO]; · iexists _; iexact HO
    iapply (facts2_elim st (dst st c) hmd)
    iapply (show bigSep S (fun d => facts2 (F := F) st (dst st c) d) ⊢ facts2 st (dst st c) d from bigSep_elim hd)
    iexact HS
  · unfold CRp
    rw [if_pos hm, if_neg hlast]
    iintro ⟨#HI, #Hlev, ⟨⟨%T, Hat, #HT⟩, Hc, Hcs⟩, ⟨%W, HO⟩⟩ Hk
    iapply (Rounds.wp_wait_rest_token 𝒱₀ (ER (F := F)) (rd X Wt) (c : Thread nD τ) none (κ := κ (crG c st))
      (wpE_semWait_eq 𝒱₀ (c : Thread nD τ) none Set.univ) (Set.mem_univ _) m (O := O) (W := W) (R := 0) (m := m) (T := T)
      (by rw [expect_cr]; omega)) $$ [Hc HO Hat]
    · isplitr; · iapply (invs_cell X Wt κ ιs (cr_mem c st)); iexact HI
      isplitl [Hc]; · iexact Hc
      isplitl [HO]; · iexact HO
      isplitr; · iapply hW; iexact Hlev
      iexact Hat
    iintro ⟨HO, Hat, -, Hpay⟩
    ihave Hpay' := (Entails.of_eq (show bigSep ((rd (F := F) X Wt).duties (crG c st) 0 \ T) (fun d => (rd (F := F) X Wt).payload (crG c st) 0 d)
      = bigSep (Finset.range (nCr st) \ T) (fun d => facts2 st (dst st c) d) from by
        rw [duties_cr]; exact bigSep_congr fun d _ => payload_cr X Wt c st d)) $$ Hpay
    icases Hpay' with #Hpay'
    iapply Hk
    isplitl [Hat Hcs]
    · isplitl [Hat]; · iexact Hat
      iexact Hcs
    isplitl [HO]; · iexists _; iexact HO
    iapply (facts2_elim st (dst st c) (le_refl m))
    by_cases hmT : m ∈ T
    · iapply (show bigSep T (fun d => facts2 (F := F) st (dst st c) d) ⊢ facts2 st (dst st c) m from bigSep_elim hmT)
      iexact HT
    · iapply (show bigSep (Finset.range (nCr st) \ T) (fun d => facts2 (F := F) st (dst st c) d) ⊢ facts2 st (dst st c) m from
        bigSep_elim (Finset.mem_sdiff.mpr ⟨Finset.mem_range.mpr hm, hmT⟩))
      iexact Hpay'

/-- Freeing the slot of message `i`, and the credit that says so. -/
theorem credit_signal {sem : Sem sig} {n : Dev nD} {k' : ℤ}
    {α : Type} {k : PUnit → Prog (TpuEff nD τ sig (Elt F) Λ₀ .tc) α} {Q : α → sProp 𝕄}
    (i : ℕ) (hi : i < nCr st) (hsem : sem = crS st) (hn : n = src st c) (hk' : k' = ((1 : ℕ) : ℤ)) (O₀ O : CellTallies nD τ sig ℕ)
    (hO : O₀ = O + tallyAt (crG (src st c) st) i 1) :
    iprop(invs (F := F) X Wt κ ιs ∗ SG (F := F) c st i ∗ slotAny c st (par i)
        ∗ reached (ER (F := F)) (recvG c st (par i)) (i / 2 + 1) ∗ ows (F := F) c O₀)
      ⊢ iprop(((SG (F := F) c st (i + 1) ∗ ows (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) sem k') k) Q) := by
  subst hsem hn hk'
  unfold SG ows
  rw [bs_take hi]
  iintro ⟨#HI, ⟨⟨Ht, Hts⟩, #Hrc, Hrd, Hrd', #Hpf⟩, Hslot, #Hr, ⟨%W, HO⟩⟩ Hk
  imod (slot_release (ES (F := F)) (Set.mem_univ (ιs (c, sidx st (par i)))) (slot_excl c st (par i)) (i / 2 + 1)) $$ [Hrd Hslot] with ⟨Hrd, #Hrel⟩
  · isplitr; · iapply (invs_slot X Wt κ ιs c st (par i)); iexact HI
    isplitl [Hrd]; · iexact Hrd
    iexact Hslot
  ihave #Hf := (show iprop(reached (ER (F := F)) (recvG c st (par i)) (i / 2 + 1) ∗ released (ES (F := F)) (c, sidx st (par i)) (i / 2 + 1 + 1))
    ⊢ fact (F := F) st c i from .rfl) $$ []
  · isplitr; · iexact Hr
    iexact Hrel
  iapply (Rounds.wp_signal 𝒱₀ (ER (F := F)) (rd X Wt) (c : Thread nD τ) none (dst := ((src st c : Dev nD) : Thread nD τ)) (sem := crS st) (r := 0) (d := i)
      (κ := κ (crG (src st c) st)) (by rw [duties_cr]; exact Finset.mem_range.mpr hi) (show (rd (F := F) X Wt).amount (crG (src st c) st) 0 i = 1 from rfl) i O hO)
    $$ [HO Ht]
  · isplitr; · iapply (invs_cell X Wt κ ιs (cr_mem (src st c) st)); iexact HI
    isplitl [HO]; · iexact HO
    isplitl [Ht]; · iexact Ht
    isplitr
    · rw [payload_cr, dst_src]
      iapply (facts2_of (F := F) c st i)
      isplitr; · iexact Hf
      iexact Hpf
    iexact Hrc
  iintro HO
  iapply Hk
  isplitr [HO]
  · isplitl [Hts]; · iexact Hts
    isplitr; · iexact Hrc
    rw [par_two, show (i + 1 + 1) / 2 = i / 2 + 1 from by omega]
    isplitl [Hrd']; · iexact Hrd'
    isplitl [Hrd]; · iexact Hrd
    iapply (prevFact_succ (F := F) c st i); iexact Hf
  iexists W; iexact HO

/-- Sending message `n`. -/
theorem send_step {n' : Dev nD} {q : Fin 32} {sS sR : DmaSem sig} {o : Fin 2 → ℕ} {ho' : ∀ a, o a + S128x2048.size a ≤ S4096x2048.size a}
    {rs : Memref sig .tc .vmem S2x128x2048 .bf16} {o3 : Fin 3 → ℕ} {ho3' : ∀ a, o3 a + S1x128x2048.size a ≤ S2x128x2048.size a}
    {hq : S1x128x2048.Squeezes S128x2048}
    {hr1 : ∀ a, (Rect.unit (s := S4096x2048) o S128x2048.size ho').stride a = 1}
    {hr3 : ∀ a, (Rect.unit (s := S2x128x2048) o3 S1x128x2048.size ho3').stride a = 1}
    {hx : _} {hs : _} {hd : _} {hp : _}
    {α : Type} {k : PUnit → Prog (TpuEff nD τ sig (Elt F) Λ₀ .tc) α} {Q : α → sProp 𝕄}
    (n w : ℕ) (hwn : w ≤ n) (hnw : n ≤ w + 1) (hn : n < nM st)
    (hn' : n' = dst st c) (hsS : sS = sendS (sidx st (par n))) (hsR : sR = recvS (sidx st (par n)))
    (hqr : q = row st n (pos c)) (ho : o = ![q.val * 128, 0]) (hrs : rs = rsM st) (ho3 : o3 = ![(par n).val, 0, 0])
    (O₀ O : CellTallies nD τ sig ℕ) (hO : O₀ = O + tallyAt (recvG (dst st c) st (par n)) n N) :
    iprop(invs (F := F) X Wt κ ιs ∗ SD (F := F) c st n w ∗ sendOk st (dst st c) n ∗ chunkIs c q (msg X Wt st n c) ∗ ows (F := F) c O₀)
      ⊢ iprop(((SD (F := F) c st (n + 1) w ∗ ows (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (accM.slice (Rect.unit (s := S4096x2048) o S128x2048.size ho') hr1)
              (.remote (Dev.tc n') ((rs.slice (Rect.unit (s := S2x128x2048) o3 S1x128x2048.size ho3') hr3).squeeze S128x2048 hq) (.dma sS) hx)
              (.dma sR) hs hd hp) k) Q) := by
  subst hn' hsS hsR ho hrs ho3 hqr
  unfold SD IFL TK ows
  rw [bs_take hn, bs_put hwn]
  iintro ⟨#HI, ⟨Hsp, ⟨⟨Ht1, Ht2, Hwt⟩, Hts⟩, Hif⟩, #Hok, Hch, ⟨%W, HO⟩⟩ Hk
  unfold sendOk
  icases Hok with ⟨#Hrr, #Hrel⟩
  unfold SP
  icases Hsp with ⟨Ha, Ha', #Hr1, #Hr2⟩
  imod (slot_take (ES (F := F)) (S := slotAny (F := F) (dst st c) st (par n)) (Set.mem_univ (ιs (dst st c, sidx st (par n)))) (n / 2 + 1)) $$ [Hwt] with Hslot
  · isplitr; · iapply (invs_slot X Wt κ ιs (dst st c) st (par n)); iexact HI
    isplitr; · iexact Hrel
    iexact Hwt
  unfold slotAny slotIs chunkIs owns
  icases Hslot with ⟨%Y, %fd, -, Hfd⟩
  icases Hch with ⟨%fs, %hfs, Hfs⟩
  iapply (Rounds.wp_send_pointsTo 𝒱₀ (ER (F := F)) (rd X Wt) (c : Thread nD τ) none (c' := ((dst st c : Dev nD) : Thread nD τ)) (src := chunkM (row st n (pos c))) (dst := slotM st (par n))
      (sS := .dma (sendS (sidx st (par n)))) (sem := .dma (recvS (sidx st (par n)))) (q := fullShare) (fs := fs) (fd := fd)
      (κ₁ := κ (sendG c st (par n))) (κ₂ := κ (recvG (dst st c) st (par n)))
      (r₁ := n / 2) (r₂ := n / 2) (d₁ := 0) (d₂ := 0)
      (by rw [duties_send X Wt c st n hn]; exact Finset.mem_singleton_self _) (by rw [duties_recv X Wt (dst st c) st n hn]; exact Finset.mem_singleton_self _)
      n 0 N (slot_credit st (par n)) rfl rfl O hO (W := W)
      (by rw [payload_send]; unfold chunkAny chunkIs owns; iintro H; iexists _; iexists fs; isplitr; · ipureintro; rfl
          iexact H)
      (by rw [payload_recv, src_dst]; unfold slotIs owns; iintro H; iexists ((slotM st (par n)).view.write (Elt F) fd ((chunkM (row st n (pos c))).view.read (Elt F) fs) Finset.univ); isplitr
          · ipureintro; exact (View.read_write_univ _ _).trans hfs
          iexact H)) $$ [Hfs Hfd HO Ht1 Ht2]
  · isplitr; · iapply (invs_cell X Wt κ ιs (send_mem c st (par n))); iexact HI
    isplitr; · iapply (invs_cell X Wt κ ιs (recv_mem (dst st c) st (par n))); iexact HI
    isplitl [Hfs]; · iexact Hfs
    isplitl [Hfd]; · iexact Hfd
    isplitl [HO]; · iexact HO
    isplitl [Ht1]; · iexact Ht1
    isplitr
    · rcases Nat.lt_or_ge w n with h | h
      · obtain rfl : n = w + 1 := by omega
        iexact Hr2
      · obtain rfl : n = w := by omega
        iexact Hr1
    isplitl [Ht2]; · iexact Ht2
    iexact Hrr
  iintro ⟨Hc, HO⟩
  iapply Hk
  isplitr [HO]
  · isplitl [Ha Ha']
    · isplitl [Ha]; · iexact Ha
      isplitl [Ha']; · iexact Ha'
      isplitr; · iexact Hr1
      iexact Hr2
    isplitl [Hts]; · iexact Hts
    isplitl [Hc]; · iexact Hc
    iexact Hif
  iexists W; iexact HO

/-- The addition of a slot's message into a block of rows: two loads, a load that is not used, and a store. -/
theorem add_step {q : Fin 32} {p : Fin 2} {o o' o'' : Fin 2 → ℕ} {ho1 : _} {ho1' : _} {ho1'' : _}
    {rs : Memref sig .tc .vmem S2x128x2048 .bf16} {o3 : Fin 3 → ℕ} {ho3' : _}
    {l1 : _} {l2 : _} {l3 : _} {x1 : _} {x2 : _}
    {f : Vec F S128x2048 .bf16 → Vec F S1x128x2048 .bf16 → FVec F S128x2048 .bf16}
    {α : Type} {k : PUnit → Prog (TpuEff nD τ sig (Elt F) Λ₀ .tc) α} {Q : α → sProp 𝕄}
    (ho : o = ![q.val * 128, 0]) (ho' : o' = ![q.val * 128, 0]) (ho'' : o'' = ![q.val * 128, 0]) (hrs : rs = rsM st) (ho3 : o3 = ![p.val, 0, 0])
    (hf : ∀ a b, f a b = addf a (shapeCast S128x2048 b shapeCasts_S1x128x2048_S128x2048))
    (u v : FVec F S128x2048 .bf16) :
    iprop(chunkIs c q u ∗ slotIs c st p v)
      ⊢ iprop(((chunkIs c q (addf u v) ∗ slotIs c st p v)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load accM (Rect.unit (s := S4096x2048) o S128x2048.size ho1).toLoadRect l1) fun a =>
             .op (.load rs (Rect.unit (s := S2x128x2048) o3 S1x128x2048.size ho3').toLoadRect l2) fun b =>
             .op (.load accM (Rect.unit (s := S4096x2048) o' S128x2048.size ho1').toLoadRect l3) fun _ =>
             .op (.store accM (Rect.unit (s := S4096x2048) o'' S128x2048.size ho1'') (f a b) Finset.univ x1 x2) k) Q) := by
  subst ho ho' ho'' hrs ho3
  unfold chunkIs slotIs owns
  iintro ⟨⟨%fa, %hfa, Ha⟩, ⟨%fb, %hfb, Hb⟩⟩ Hk
  iapply (wp_load_rect 𝒱₀ (c : Thread nD τ) none Set.univ (m := accM) (r := chunkRect q) (Finset.Subset.refl _)) $$ Ha
  iintro Ha
  iapply (wp_load_rect 𝒱₀ (c : Thread nD τ) none Set.univ (m := rsM st) (r := slotRect p)
    (S := (slotM st p).view.set) (by rw [View.set_reshape])) $$ Hb
  iintro Hb
  iapply (wp_load_rect 𝒱₀ (c : Thread nD τ) none Set.univ (m := accM) (r := chunkRect q) (Finset.Subset.refl _)) $$ Ha
  iintro Ha
  iapply (wp_store 𝒱₀ (c : Thread nD τ) none Set.univ (m := accM) (r := chunkRect q) (View.setOn_subset_set _ _)) $$ Ha
  iintro Ha
  iapply Hk
  isplitl [Ha]
  · iexists ((accM.access (chunkRect q)).write (Elt F) fa (f ((accM.access (chunkRect q)).read (Elt F) fa) (((rsM st).access (slotRect p)).read (Elt F) fb)) Finset.univ)
    isplitr
    · ipureintro
      refine (View.read_write_univ (v := accM.access (chunkRect q)) _ _).trans ?_
      rw [hf]
      exact congrArg₂ addf hfa hfb
    iexact Ha
  iexists fb
  isplitr; · ipureintro; exact hfb
  iexact Hb

end Cert.RingProof
-- ==== Proof.Hop.lean ====
/-
  One hop: what a device holds between two hops, and that a trip of the kernel's loop takes it from one to the next.
-/
module

public import proofs.«01_k».proof.Proof.Steps
public import proofs.«01_k».proof.Proof.Gen.KernelIdeal.Skeleton

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S4096x128 .fp8e4m3) (Wt : Dev nD → Vec F S128x2048 .fp8e5m2)
variable (κ : GSem nD τ sig → ℕ) (ιs : Dev nD × Fin 4 → ℕ)
variable (c : Dev nD) (st : Fin 2)

/-- The blocks from message `f` on, still holding the device's own contribution. -/
def FR (f : ℕ) : sProp 𝕄 :=
  bigSep (Finset.Ico f (nM st)) (fun j => chunkIs c (row st j (pos c)) (part X Wt c (row st j (pos c))))
/-- The blocks back from the first `w` sends. -/
def BK (w : ℕ) : sProp 𝕄 := bigSep (Finset.Ico 0 w) (fun j => chunkAny (F := F) c (row st j (pos c)))
/-- The slots a device no longer frees. -/
def KS (r : ℕ) : sProp 𝕄 := bigSep (Finset.Ico (nCr st) r) (fun j => slotAny (F := F) c st (par j))

/-- A device's holdings of one direction: next to receive `r`, to send `n`, sends waited for `w`, credits taken `m`, slots freed `i`,
    blocks untouched from `f`. -/
def core (r n w m i f : ℕ) : sProp 𝕄 :=
  iprop(RV (F := F) c st r ∗ SD (F := F) c st n w ∗ CR (F := F) c st m ∗ SG (F := F) c st i ∗ FR (F := F) X Wt c st f ∗ BK (F := F) c st w
    ∗ sendOk (F := F) st (dst st c) 1)

def Dir (s : ℕ) : sProp 𝕄 :=
  iprop(core (F := F) X Wt c st s (min (s + 1) (nM st)) (min (s - 1) (nCr st)) (min (s - 1) (nCr st)) (min s (nCr st)) (min (s + 1) (nM st))
    ∗ KS (F := F) c st s)

/-- What is owed, from the side of one direction. -/
def owX (st : Fin 2) (a p b q : ℕ) (c : Dev nD) : CellTallies nD τ sig ℕ :=
  owM st a c + owC st p c + (owM (1 - st) b c + owC (1 - st) q c)

theorem owX_zero (a p b q : ℕ) : owX 0 a p b q c = ow a b p q c := by
  show owM 0 a c + owC 0 p c + (owM 1 b c + owC 1 q c) = owM 0 a c + owM 1 b c + (owC 0 p c + owC 1 q c)
  ac_rfl
theorem owX_one (a p b q : ℕ) : owX 1 a p b q c = ow b a q p c := by
  show owM 1 a c + owC 1 p c + (owM 0 b c + owC 0 q c) = owM 0 b c + owM 1 a c + (owC 0 q c + owC 1 p c)
  ac_rfl
theorem owX_msg (a p b q : ℕ) (h : a < nM st) :
    owX st a p b q c = owX st (a + 1) p b q c + tallyAt (recvG (dst st c) st (par a)) a N := by
  unfold owX; rw [owM_peel st a c h]; ac_rfl
theorem owX_cr (a p b q : ℕ) (h : p < nCr st) :
    owX st a p b q c = owX st a (p + 1) b q c + tallyAt (crG (src st c) st) p 1 := by
  unfold owX; rw [owC_peel st p c h]; ac_rfl
theorem owX_msg_stay (a p b q : ℕ) (h : nM st ≤ a) : owX st a p b q c = owX st (a + 1) p b q c := by
  unfold owX; rw [owM_stay st a c h]
theorem owX_cr_stay (a p b q : ℕ) (h : nCr st ≤ p) : owX st a p b q c = owX st a (p + 1) b q c := by
  unfold owX; rw [owC_stay st p c h]
theorem mayWait_owX (sm : SemLoc sig) (i a p b q : ℕ) (hi : i < 20)
    (h : levOf sm i < a + 2 ∧ levOf sm i < p + 3 ∧ levOf sm i < b + 2 ∧ levOf sm i < q + 3) :
    (levAts L lv : sProp 𝕄) ⊢ MayWait (c : Thread nD τ) sm i (owX st a p b q c) := by
  by_cases hst : st = 0
  · subst hst; rw [owX_zero]; exact mayWait_ow c sm i a b p q hi ⟨h.1, h.2.2.1, h.2.1, h.2.2.2⟩
  · obtain rfl : st = 1 := by revert hst; revert st; decide
    rw [owX_one]; exact mayWait_ow c sm i b a q p hi ⟨h.2.2.1, h.1, h.2.2.2, h.2.1⟩

theorem lev_recv (p : Fin 2) (j : ℕ) : levOf (.dma (recvS (sidx st p))) j = j + 2 := by
  have : ∀ st p : Fin 2, ¬ (recvS (sidx st p)).val < 10 := by decide
  show (if (recvS (sidx st p)).val < 10 then 0 else j + 2) = _
  rw [if_neg (this st p)]
theorem lev_send (p : Fin 2) : levOf (.dma (sendS (sidx st p))) 0 = 0 := by
  have : ∀ st p : Fin 2, (sendS (sidx st p)).val < 10 := by decide
  show (if (sendS (sidx st p)).val < 10 then 0 else 0 + 2) = _
  rw [if_pos (this st p)]
theorem lev_cr (j : ℕ) : levOf (.reg (crS st)) j = j + 3 := by
  have : ∀ st : Fin 2, ¬ (crS st).val = 2 := by decide
  show (if (crS st).val = 2 then 1 else j + 3) = _
  rw [if_neg (this st)]

theorem ks_stay (s : ℕ) (h : s < nCr st) : KS (F := F) c st s = KS (F := F) c st (s + 1) := by
  unfold KS; rw [Finset.Ico_eq_empty (by omega), Finset.Ico_eq_empty (by omega)]

/-- A block's next message, out of the device's contribution and the message received. -/
theorem msg_step (j : ℕ) : addf (part X Wt c (row st (j + 1) (pos c))) (msg X Wt st j (src st c)) = msg X Wt st (j + 1) c := rfl

/-! ## The steps, over all that is held -/

section steps
variable (s b q : ℕ)

/-- After taking message `s` in, before anything else of the hop. -/
def afterAdd (u : FVec F S128x2048 .bf16) : sProp 𝕄 :=
  iprop(core (F := F) X Wt c st (s + 1) (min (s + 1) (nM st)) (min (s - 1) (nCr st)) (min (s - 1) (nCr st)) (min s (nCr st)) (min (s + 2) (nM st))
    ∗ KS (F := F) c st s
    ∗ (if s + 1 < nM st then iprop(chunkIs c (row st (s + 1) (pos c)) (msg X Wt st (s + 1) c) ∗ chunkIs c (pos c) u)
        else chunkIs c (pos c) (addf u (msg X Wt st s (src st c))))
    ∗ slotAny (F := F) c st (par s) ∗ reached (ER (F := F)) (recvG c st (par s)) (s / 2 + 1)
    ∗ ows (F := F) c (owX st (s + 1) s b q c))

/-- After sending what was received on. -/
def afterSend (u : FVec F S128x2048 .bf16) : sProp 𝕄 :=
  iprop(core (F := F) X Wt c st (s + 1) (min (s + 2) (nM st)) (min s (nCr st)) (min s (nCr st)) (min s (nCr st)) (min (s + 2) (nM st))
    ∗ KS (F := F) c st s
    ∗ chunkIs c (pos c) (if s + 1 < nM st then u else addf u (msg X Wt st s (src st c)))
    ∗ slotAny (F := F) c st (par s) ∗ reached (ER (F := F)) (recvG c st (par s)) (s / 2 + 1)
    ∗ ows (F := F) c (owX st (s + 2) s b q c))

/-- After the hop. -/
def afterHop (u : FVec F S128x2048 .bf16) : sProp 𝕄 :=
  iprop(Dir (F := F) X Wt c st (s + 1)
    ∗ chunkIs c (pos c) (if s + 1 < nM st then u else addf u (msg X Wt st s (src st c)))
    ∗ ows (F := F) c (owX st (s + 2) (s + 1) b q c))

theorem afterSend_last (u : FVec F S128x2048 .bf16) (h : ¬ s + 1 < nM st) (hs : s < nM st) :
    afterAdd X Wt c st s b q u ⊢ afterSend X Wt c st s b q u := by
  have hc := nCr_add st
  unfold afterAdd afterSend
  rw [if_neg h, if_neg h, show min (s + 1) (nM st) = min (s + 2) (nM st) from by omega, show min (s - 1) (nCr st) = min s (nCr st) from by omega,
    owX_msg_stay c st (s + 1) s b q (by omega)]

theorem afterHop_last (u : FVec F S128x2048 .bf16) (h : ¬ s + 2 < nM st) (hs : s < nM st) :
    afterSend X Wt c st s b q u ⊢ afterHop X Wt c st s b q u := by
  have hc := nCr_add st
  unfold afterSend afterHop Dir
  rw [show min s (nCr st) = min (s + 1) (nCr st) from by omega, show (s + 1 - 1) = s from rfl, show min (s + 1) (nCr st) = min s (nCr st) from by omega,
    owX_cr_stay c st (s + 2) s b q (by omega), show KS (F := F) c st (s + 1) = iprop(slotAny (F := F) c st (par s) ∗ KS (F := F) c st s) from by
      unfold KS; exact bs_put (by omega) _]
  iintro ⟨Hc, HK, Hu, Hs, -, HO⟩
  isplitl [Hc HK Hs]
  · isplitl [Hc]; · iexact Hc
    isplitl [Hs]; · iexact Hs
    iexact HK
  isplitl [Hu]; · iexact Hu
  iexact HO

/-- Taking message `s` in and adding it. -/
theorem recv_add {sem : DmaSem sig} {sp sp' : Space} {sh sh' : Shape} {e e' : EltTy}
    {srcM : Memref sig .tc sp sh e} {dstM : Memref sig .tc sp' sh' e'} {h1 : srcM.view.WordExact} {h2 : dstM.view.WordExact}
    {o o' o'' : Fin 2 → ℕ} {ho1 : _} {ho1' : _} {ho1'' : _}
    {rs : Memref sig .tc .vmem S2x128x2048 .bf16} {o3 : Fin 3 → ℕ} {ho3' : _}
    {l1 : _} {l2 : _} {l3 : _} {x1 : _} {x2 : _}
    {f : Vec F S128x2048 .bf16 → Vec F S1x128x2048 .bf16 → FVec F S128x2048 .bf16}
    {k : PUnit → Prog (TpuEff nD τ sig (Elt F) Λ₀ .tc) PUnit} {Q : PUnit → sProp 𝕄}
    (u : FVec F S128x2048 .bf16)
    (hs : s < nM st) (hsem : sem = recvS (sidx st (par s))) (hN : dstM.view.dmaCredit = N)
    (ho : o = ![(row st (s + 1) (pos c)).val * 128, 0]) (ho' : o' = ![(row st (s + 1) (pos c)).val * 128, 0])
    (ho'' : o'' = ![(row st (s + 1) (pos c)).val * 128, 0]) (hrs : rs = rsM st) (ho3 : o3 = ![(par s).val, 0, 0])
    (hf : ∀ a b, f a b = addf a (shapeCast S128x2048 b shapeCasts_S1x128x2048_S128x2048))
    (hb : s < b) (hq : s ≤ q) :
    iprop(invs (F := F) X Wt κ ιs ∗ levAts L lv ∗ Dir (F := F) X Wt c st s ∗ chunkIs c (pos c) u ∗ ows (F := F) c (owX st (s + 1) s b q c))
      ⊢ iprop((afterAdd (F := F) X Wt c st s b q u
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM h1 h2) fun _ =>
             .op (.load accM (Rect.unit (s := S4096x2048) o S128x2048.size ho1).toLoadRect l1) fun a =>
             .op (.load rs (Rect.unit (s := S2x128x2048) o3 S1x128x2048.size ho3').toLoadRect l2) fun b =>
             .op (.load accM (Rect.unit (s := S4096x2048) o' S128x2048.size ho1').toLoadRect l3) fun _ =>
             .op (.store accM (Rect.unit (s := S4096x2048) o'' S128x2048.size ho1'') (f a b) Finset.univ x1 x2) k) Q) := by
  have hc := nCr_add st
  have h16 := nM_le st
  unfold Dir core
  iintro ⟨#HI, #Hlev, ⟨⟨HRV, HSD, HCR, HSG, HFR, HBK, #Hok⟩, HK⟩, Hu, HO⟩ Hk
  iapply (recv_wait X Wt κ ιs c st (srcM := srcM) (dstM := dstM) (h1 := h1) (h2 := h2) s hs hsem hN (owX st (s + 1) s b q c)
    (mayWait_owX c st _ s (s + 1) s b q (by omega) (by rw [lev_recv]; omega))) $$ [HRV HO]
  · isplitr; · iexact HI
    isplitr; · iexact Hlev
    isplitl [HRV]; · iexact HRV
    iexact HO
  iintro ⟨HRV, HO, #Hr, Hslot⟩
  by_cases hl : s + 1 < nM st
  · ihave HFR := (Entails.of_eq (show FR (F := F) X Wt c st (min (s + 1) (nM st))
      = iprop(chunkIs c (row st (s + 1) (pos c)) (part X Wt c (row st (s + 1) (pos c))) ∗ FR (F := F) X Wt c st (min (s + 2) (nM st))) from by
        rw [show min (s + 1) (nM st) = s + 1 from by omega, show min (s + 2) (nM st) = s + 1 + 1 from by omega]
        unfold FR; exact bs_take hl _)) $$ HFR
    icases HFR with ⟨Hch, HFR⟩
    iapply (add_step c st (q := row st (s + 1) (pos c)) (p := par s) (f := f) ho ho' ho'' hrs ho3 hf (part X Wt c (row st (s + 1) (pos c))) (msg X Wt st s (src st c))) $$ [Hch Hslot]
    · isplitl [Hch]; · iexact Hch
      iexact Hslot
    iintro ⟨Hch, Hslot⟩
    iapply Hk
    unfold afterAdd core
    rw [if_pos hl]
    isplitl [HRV HSD HCR HSG HFR HBK]
    · isplitl [HRV]; · iexact HRV
      isplitl [HSD]; · iexact HSD
      isplitl [HCR]; · iexact HCR
      isplitl [HSG]; · iexact HSG
      isplitl [HFR]; · iexact HFR
      isplitl [HBK]; · iexact HBK
      iexact Hok
    isplitl [HK]; · iexact HK
    isplitl [Hch Hu]
    · isplitl [Hch]; · iexact Hch
      iexact Hu
    isplitl [Hslot]; · unfold slotAny; iexists _; iexact Hslot
    isplitr; · iexact Hr
    iexact HO
  · have hpos : row st (s + 1) (pos c) = pos c := by rw [show s + 1 = nM st from by omega]; exact row_last st (pos c)
    rw [hpos] at ho ho' ho''
    iapply (add_step c st (q := pos c) (p := par s) (f := f) ho ho' ho'' hrs ho3 hf u (msg X Wt st s (src st c))) $$ [Hu Hslot]
    · isplitl [Hu]; · iexact Hu
      iexact Hslot
    iintro ⟨Hu, Hslot⟩
    iapply Hk
    unfold afterAdd core
    rw [if_neg hl]
    ihave HFR := (Entails.of_eq (show FR (F := F) X Wt c st (min (s + 1) (nM st)) = FR (F := F) X Wt c st (min (s + 2) (nM st)) from by
      rw [show min (s + 2) (nM st) = min (s + 1) (nM st) from by omega])) $$ HFR
    isplitl [HRV HSD HCR HSG HFR HBK]
    · isplitl [HRV]; · iexact HRV
      isplitl [HSD]; · iexact HSD
      isplitl [HCR]; · iexact HCR
      isplitl [HSG]; · iexact HSG
      isplitl [HFR]; · iexact HFR
      isplitl [HBK]; · iexact HBK
      iexact Hok
    isplitl [HK]; · iexact HK
    isplitl [Hu]; · iexact Hu
    isplitl [Hslot]; · unfold slotAny; iexists _; iexact Hslot
    isplitr; · iexact Hr
    iexact HO

/-- Between the two: the message may be sent. -/
def ready (u : FVec F S128x2048 .bf16) : sProp 𝕄 :=
  iprop(core (F := F) X Wt c st (s + 1) (s + 1) (min s (nCr st)) (min s (nCr st)) (min s (nCr st)) (min (s + 2) (nM st))
    ∗ sendOk (F := F) st (dst st c) (s + 1)
    ∗ KS (F := F) c st s
    ∗ chunkIs c (row st (s + 1) (pos c)) (msg X Wt st (s + 1) c) ∗ chunkIs c (pos c) u
    ∗ slotAny (F := F) c st (par s) ∗ reached (ER (F := F)) (recvG c st (par s)) (s / 2 + 1)
    ∗ ows (F := F) c (owX st (s + 1) s b q c))

theorem ready_first (u : FVec F S128x2048 .bf16) (hs : s = 0) : afterAdd X Wt c st s b q u ⊢ ready X Wt c st s b q u := by
  subst hs
  have h2 : 2 ≤ nM st := by have := nCr_add st; omega
  have h13 : 1 < nM st := by omega
  unfold afterAdd ready
  rw [if_pos (by omega : 0 + 1 < nM st), show min (0 + 1) (nM st) = 0 + 1 from by omega]
  unfold core
  iintro ⟨⟨HRV, HSD, HCR, HSG, HFR, HBK, #Hok⟩, HK, ⟨Hch, Hu⟩, Hs, #Hr, HO⟩
  isplitl [HRV HSD HCR HSG HFR HBK]
  · isplitl [HRV]; · iexact HRV
    isplitl [HSD]; · iexact HSD
    isplitl [HCR]; · iexact HCR
    isplitl [HSG]; · iexact HSG
    isplitl [HFR]; · iexact HFR
    isplitl [HBK]; · iexact HBK
    iexact Hok
  isplitr; · iexact Hok
  isplitl [HK]; · iexact HK
  isplitl [Hch]; · iexact Hch
  isplitl [Hu]; · iexact Hu
  isplitl [Hs]; · iexact Hs
  isplitr; · iexact Hr
  iexact HO

/-- The two waits before a send but the first two. -/
theorem waits {sem : DmaSem sig} {sp sp' : Space} {sh sh' : Shape} {e e' : EltTy}
    {srcM : Memref sig .tc sp sh e} {dstM : Memref sig .tc sp' sh' e'} {h1 : srcM.view.WordExact} {h2 : dstM.view.WordExact}
    {sem' : Sem sig} {k' : ℕ}
    {k : PUnit → Prog (TpuEff nD τ sig (Elt F) Λ₀ .tc) PUnit} {Q : PUnit → sProp 𝕄}
    (u : FVec F S128x2048 .bf16) (h0 : 1 ≤ s) (hs : s + 1 < nM st) (hsem : sem = sendS (sidx st (par (s + 1)))) (hN : dstM.view.dmaCredit = N)
    (hsem' : sem' = crS st) (hk' : k' = 1) (hb : s < b) (hq : s ≤ q) :
    iprop(invs (F := F) X Wt κ ιs ∗ levAts L lv ∗ afterAdd (F := F) X Wt c st s b q u)
      ⊢ iprop((ready (F := F) X Wt c st s b q u
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM h1 h2) fun _ => .op (.semWait sem' k') k) Q) := by
  have hc := nCr_add st
  have h16 := nM_le st
  obtain ⟨r, rfl⟩ : ∃ r, s = r + 1 := ⟨s - 1, by omega⟩
  rw [show par (r + 1 + 1) = par r from par_two r] at hsem
  unfold afterAdd ready
  rw [if_pos hs, show min (r + 1 + 1) (nM st) = r + 1 + 1 from by omega, show min (r + 1 - 1) (nCr st) = r from by omega,
    show min (r + 1) (nCr st) = r + 1 from by omega]
  unfold core BK
  rw [show bigSep (Finset.Ico 0 (r + 1)) (fun j => chunkAny (F := F) c (row st j (pos c))) = _ from bs_put (Nat.zero_le r) _]
  iintro ⟨#HI, #Hlev, ⟨HRV, HSD, HCR, HSG, HFR, HBK, #Hok⟩, HK, ⟨Hch, Hu⟩, Hs, #Hr, HO⟩ Hk
  iapply (send_wait X Wt κ ιs c st (srcM := srcM) (dstM := dstM) (h1 := h1) (h2 := h2) (r + 1 + 1) r (by omega) (by omega) hsem hN (owX st (r + 1 + 1) (r + 1) b q c)
    (mayWait_owX c st _ 0 _ _ b q (by omega) (by rw [lev_send]; omega))) $$ [HSD HO]
  · isplitr; · iexact HI
    isplitr; · iexact Hlev
    isplitl [HSD]; · iexact HSD
    iexact HO
  iintro ⟨HSD, HO, Hback⟩
  iapply (credit_wait X Wt κ ιs c st r (by omega) hsem' hk' (owX st (r + 1 + 1) (r + 1) b q c)
    (mayWait_owX c st _ r _ _ b q (by omega) (by rw [lev_cr]; omega))) $$ [HCR HO]
  · isplitr; · iexact HI
    isplitr; · iexact Hlev
    isplitl [HCR]; · iexact HCR
    iexact HO
  iintro ⟨HCR, HO, #Hf⟩
  iapply Hk
  isplitl [HRV HSD HCR HSG HFR HBK Hback]
  · isplitl [HRV]; · iexact HRV
    isplitl [HSD]; · iexact HSD
    isplitl [HCR]; · iexact HCR
    isplitl [HSG]; · iexact HSG
    isplitl [HFR]; · iexact HFR
    isplitl [HBK Hback]
    · isplitl [Hback]; · iexact Hback
      iexact HBK
    iexact Hok
  isplitr; · iapply (sendOk_of_fact (F := F) st (dst st c) r); iexact Hf
  isplitl [HK]; · iexact HK
  isplitl [Hch]; · iexact Hch
  isplitl [Hu]; · iexact Hu
  isplitl [Hs]; · iexact Hs
  isplitr; · iexact Hr
  iexact HO

/-- The send. -/
theorem pass_on {n' : Dev nD} {sS sR : DmaSem sig} {o : Fin 2 → ℕ} {ho' : ∀ a, o a + S128x2048.size a ≤ S4096x2048.size a}
    {rs : Memref sig .tc .vmem S2x128x2048 .bf16} {o3 : Fin 3 → ℕ} {ho3' : ∀ a, o3 a + S1x128x2048.size a ≤ S2x128x2048.size a}
    {hsq : S1x128x2048.Squeezes S128x2048}
    {hr1 : ∀ a, (Rect.unit (s := S4096x2048) o S128x2048.size ho').stride a = 1}
    {hr3 : ∀ a, (Rect.unit (s := S2x128x2048) o3 S1x128x2048.size ho3').stride a = 1}
    {hx : _} {hs : _} {hd : _} {hp : _}
    {k : PUnit → Prog (TpuEff nD τ sig (Elt F) Λ₀ .tc) PUnit} {Q : PUnit → sProp 𝕄}
    (u : FVec F S128x2048 .bf16) (hn : s + 1 < nM st)
    (hn' : n' = dst st c) (hsS : sS = sendS (sidx st (par (s + 1)))) (hsR : sR = recvS (sidx st (par (s + 1))))
    (ho : o = ![(row st (s + 1) (pos c)).val * 128, 0]) (hrs : rs = rsM st) (ho3 : o3 = ![(par (s + 1)).val, 0, 0]) :
    iprop(invs (F := F) X Wt κ ιs ∗ ready (F := F) X Wt c st s b q u)
      ⊢ iprop((afterSend (F := F) X Wt c st s b q u
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (accM.slice (Rect.unit (s := S4096x2048) o S128x2048.size ho') hr1)
              (.remote (Dev.tc n') ((rs.slice (Rect.unit (s := S2x128x2048) o3 S1x128x2048.size ho3') hr3).squeeze S128x2048 hsq) (.dma sS) hx)
              (.dma sR) hs hd hp) k) Q) := by
  have hc := nCr_add st
  unfold ready afterSend core
  rw [if_pos hn, show min (s + 2) (nM st) = s + 1 + 1 from by omega]
  iintro ⟨#HI, ⟨HRV, HSD, HCR, HSG, HFR, HBK, #Hok⟩, #Hsok, HK, Hch, Hu, Hs, #Hr, HO⟩ Hk
  iapply (send_step X Wt κ ιs c st (s + 1) (min s (nCr st)) (by omega) (by omega) hn hn' hsS hsR (q := row st (s + 1) (pos c)) rfl ho hrs ho3
    _ _ (owX_msg c st (s + 1) s b q hn)) $$ [HSD Hch HO]
  · isplitr; · iexact HI
    isplitl [HSD]; · iexact HSD
    isplitr; · iexact Hsok
    isplitl [Hch]; · iexact Hch
    iexact HO
  iintro ⟨HSD, HO⟩
  iapply Hk
  isplitl [HRV HSD HCR HSG HFR HBK]
  · isplitl [HRV]; · iexact HRV
    isplitl [HSD]; · iexact HSD
    isplitl [HCR]; · iexact HCR
    isplitl [HSG]; · iexact HSG
    isplitl [HFR]; · iexact HFR
    isplitl [HBK]; · iexact HBK
    iexact Hok
  isplitl [HK]; · iexact HK
  isplitl [Hu]; · iexact Hu
  isplitl [Hs]; · iexact Hs
  isplitr; · iexact Hr
  iexact HO

/-- The credit back. -/
theorem give_back {sem : Sem sig} {n : Dev nD} {k' : ℤ}
    {k : PUnit → Prog (TpuEff nD τ sig (Elt F) Λ₀ .tc) PUnit} {Q : PUnit → sProp 𝕄}
    (u : FVec F S128x2048 .bf16) (hs : s + 2 < nM st) (hsem : sem = crS st) (hn : n = src st c) (hk' : k' = ((1 : ℕ) : ℤ)) :
    iprop(invs (F := F) X Wt κ ιs ∗ afterSend (F := F) X Wt c st s b q u)
      ⊢ iprop((afterHop (F := F) X Wt c st s b q u
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) sem k') k) Q) := by
  have hc := nCr_add st
  have hsn : s < nCr st := by omega
  unfold afterSend afterHop Dir core
  rw [show s + 1 - 1 = s from rfl, show min s (nCr st) = s from by omega, show min (s + 1) (nCr st) = s + 1 from by omega]
  iintro ⟨#HI, ⟨HRV, HSD, HCR, HSG, HFR, HBK, #Hok⟩, HK, Hu, Hs, #Hr, HO⟩ Hk
  iapply (credit_signal X Wt κ ιs c st s hsn hsem hn hk' _ _ (owX_cr c st (s + 2) s b q hsn)) $$ [HSG Hs HO]
  · isplitr; · iexact HI
    isplitl [HSG]; · iexact HSG
    isplitl [Hs]; · iexact Hs
    isplitr; · iexact Hr
    iexact HO
  iintro ⟨HSG, HO⟩
  iapply Hk
  rw [← ks_stay c st s hsn]
  isplitl [HRV HSD HCR HSG HFR HBK HK]
  · isplitr [HK]
    · isplitl [HRV]; · iexact HRV
      isplitl [HSD]; · iexact HSD
      isplitl [HCR]; · iexact HCR
      isplitl [HSG]; · iexact HSG
      isplitl [HFR]; · iexact HFR
      isplitl [HBK]; · iexact HBK
      iexact Hok
    iexact HK
  isplitl [Hu]; · iexact Hu
  iexact HO

end steps

end Cert.RingProof
-- ==== Proof.Trip.lean ====
/-
  A trip of the kernel's ring loop: a hop to the right, then a hop to the left.
-/
module

public import proofs.«01_k».proof.Proof.Hop

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S4096x128 .fp8e4m3) (Wt : Dev nD → Vec F S128x2048 .fp8e5m2)
variable (κ : GSem nD τ sig → ℕ) (ιs : Dev nD × Fin 4 → ℕ)
variable (c : Dev nD)

theorem pay1_eq (a : Vec F S128x2048 .bf16) (b : Vec F S1x128x2048 .bf16) :
    k0_pay1 a b = addf a (shapeCast S128x2048 b shapeCasts_S1x128x2048_S128x2048) := shapeCast_self _ _
theorem pay3_eq (a : Vec F S128x2048 .bf16) (b : Vec F S1x128x2048 .bf16) :
    k0_pay3 a b = addf a (shapeCast S128x2048 b shapeCasts_S1x128x2048_S128x2048) := shapeCast_self _ _

/-- The device's own block before trip `k`. -/
def ownAt (k : ℕ) : FVec F S128x2048 .bf16 :=
  if k < 15 then part X Wt c (pos c) else if k < 16 then own1 X Wt c else own2 X Wt c

/-- What a device holds before trip `k`. -/
def between (k : ℕ) : sProp 𝕄 :=
  iprop(invs (F := F) X Wt κ ιs ∗ levAts L lv ∗ Dir (F := F) X Wt c 0 k ∗ Dir (F := F) X Wt c 1 (min k 15) ∗ chunkIs c (pos c) (ownAt X Wt c k)
    ∗ ows (F := F) c (ow (k + 1) (k + 1) k k c))

theorem ownAt_right (k : ℕ) (h : k < 16) :
    (if k + 1 < nM 0 then ownAt X Wt c k else addf (ownAt X Wt c k) (msg X Wt 0 k (src 0 c))) = if k < 15 then ownAt X Wt c k else own2 X Wt c := by
  show (if k + 1 < 16 then _ else _) = _
  by_cases hk : k < 15
  · rw [if_pos hk, if_pos (by omega)]
  · obtain rfl : k = 15 := by omega
    rfl
theorem ownAt_left (k : ℕ) (h : k < 15) :
    (if k + 1 < nM 1 then ownAt X Wt c k else addf (ownAt X Wt c k) (msg X Wt 1 k (src 1 c))) = ownAt X Wt c (k + 1) := by
  show (if k + 1 < 15 then _ else _) = _
  unfold ownAt
  by_cases hk : k + 1 < 15
  · rw [if_pos hk, if_pos (by omega), if_pos hk]
  · obtain rfl : k = 14 := by omega
    rfl

theorem credit_of (M : Memref sig .tc .vmem S128x2048 .bf16) : M.view.dmaCredit = N := rfl

section
variable (a0 : Memref sig .tc .vmem S4096x128 .fp8e4m3) (h0 : a0.IsWhole) (a1 : Memref sig .tc .vmem S128x2048 .fp8e5m2) (h1 : a1.IsWhole)
    (a2 : Memref sig .tc .smem S1 .f32) (h2 : a2.IsWhole) (a3 : Memref sig .tc .smem S1 .f32) (h3 : a3.IsWhole)
    (a4 : Memref sig .tc .smem S3 .i32) (h4 : a4.IsWhole) (a5 : Memref sig .tc .vmem S128x2048 .f32) (h5 : a5.IsWhole)
variable (hw3 : k0_chk3 (w0 c)) (hw1 : k0_chk1 (w1 c)) (hw2 : k0_chk2 (w2 c)) (z o : BitVec 32) (k : T2)

theorem words_ret : ∃ v, k0_part2 (F := F) a0 h0 a1 h1 a2 h2 a3 h3 a4 h4 a5 h5 accM (Memref.isWhole_whole _) (rsM 0) (Memref.isWhole_whole _)
            (rsM 1) (Memref.isWhole_whole _) cc0_scratch3 cc0_scratch4 cc0_scratch5 (w0 c) (w2 c) z o k = .ret v := ⟨_, rfl⟩

/-- The hop to the right and what follows. -/
def tripGoal : Prop :=
    between (F := F) X Wt κ ιs c k.val
      ⊢ wp frame (wpE (defs₀ (F := F)) 𝒱₀ (c : Thread nD τ) none) Set.univ
          (k0_t2_body (F := F) a0 h0 a1 h1 a2 h2 a3 h3 a4 h4 a5 h5 accM (Memref.isWhole_whole _) (rsM 0) (Memref.isWhole_whole _)
            (rsM 1) (Memref.isWhole_whole _) cc0_scratch3 cc0_scratch4 cc0_scratch5 (w0 c) hw3 (w1 c) hw1 (w2 c) hw2 z o k ())
          (fun _ => between (F := F) X Wt κ ιs c (k.val + 1))

theorem right_done (hk : k.val < 16) :
    iprop(invs (F := F) X Wt κ ιs ∗ levAts L lv ∗ Dir (F := F) X Wt c 1 (min k.val 15) ∗ afterHop (F := F) X Wt c 0 k.val (k.val + 1) k.val (ownAt X Wt c k.val))
      ⊢ iprop(Dir (F := F) X Wt c 0 (k.val + 1) ∗ Dir (F := F) X Wt c 1 (min k.val 15)
        ∗ chunkIs c (pos c) (if k.val < 15 then ownAt X Wt c k.val else own2 X Wt c)
        ∗ ows (F := F) c (owX 1 (k.val + 1) k.val (k.val + 1 + 1) (k.val + 1) c)) := by
  unfold afterHop
  rw [ownAt_right X Wt c k.val hk, owX_zero, owX_one]
  iintro ⟨-, -, HL, HR, Hu, HO⟩
  isplitl [HR]; · iexact HR
  isplitl [HL]; · iexact HL
  isplitl [Hu]; · iexact Hu
  iexact HO

theorem left_done (hk : k.val < 15) :
    iprop(invs (F := F) X Wt κ ιs ∗ levAts L lv ∗ Dir (F := F) X Wt c 0 (k.val + 1)
        ∗ afterHop (F := F) X Wt c 1 k.val (k.val + 1 + 1) (k.val + 1) (ownAt X Wt c k.val))
      ⊢ between (F := F) X Wt κ ιs c (k.val + 1) := by
  unfold afterHop between
  rw [ownAt_left X Wt c k.val hk, owX_one, show min (k.val + 1) 15 = k.val + 1 from by omega]

theorem none_left (hk : k.val = 15) :
    iprop(invs (F := F) X Wt κ ιs ∗ levAts L lv ∗ Dir (F := F) X Wt c 0 (k.val + 1) ∗ Dir (F := F) X Wt c 1 (min k.val 15)
        ∗ chunkIs c (pos c) (if k.val < 15 then ownAt X Wt c k.val else own2 X Wt c)
        ∗ ows (F := F) c (owX 1 (k.val + 1) k.val (k.val + 1 + 1) (k.val + 1) c))
      ⊢ between (F := F) X Wt κ ιs c (k.val + 1) := by
  unfold between
  rw [if_neg (by omega), owX_one, show min (k.val + 1) 15 = min k.val 15 from by omega,
    show own2 X Wt c = ownAt X Wt c (k.val + 1) from by rw [hk]; rfl,
    show ow (k.val + 1 + 1) (k.val + 1) (k.val + 1) k.val c = ow (k.val + 1 + 1) (k.val + 1 + 1) (k.val + 1) (k.val + 1) c from by
      unfold ow
      rw [owM_stay 1 (k.val + 1) c (by rw [hk]; decide), owC_stay 1 k.val c (by rw [hk]; decide)]]

set_option maxHeartbeats 4000000 in
theorem trip_first (hk : k.val = 0) : tripGoal (F := F) X Wt κ ιs c a0 h0 a1 h1 a2 h2 a3 h3 a4 h4 a5 h5 hw3 hw1 hw2 z o k := by
  obtain ⟨v, hv⟩ := words_ret (F := F) c a0 h0 a1 h1 a2 h2 a3 h3 a4 h4 a5 h5 z o k
  have e1 : k0_cond1 k = 1#1 := (cond1_iff k).mpr (by omega)
  have e2 : ¬ k0_cond2 k = 1#1 := fun h => absurd ((cond2_iff k).mp h) (by omega)
  have e3 : k0_cond3 k = 1#1 := (cond3_iff k).mpr (by omega)
  have e4 : k0_cond4 k = 1#1 := (cond4_iff k).mpr (by omega)
  have e5 : k0_cond5 k = 1#1 := (cond5_iff k).mpr (by omega)
  have e6 : ¬ k0_cond6 k = 1#1 := fun h => absurd ((cond6_iff k).mp h) (by omega)
  have e7 : k0_cond7 k = 1#1 := (cond7_iff k).mpr (by omega)
  unfold tripGoal between k0_t2_body
  rw [hv]
  simp only [k0_part1_eq_skeleton, k0_part1_skel, Prog.lift, Prog.bind_op, Prog.bind_ret, Prog.pure_eq_ret, Prog.bind_assoc, semSignalWord, semWaitWord,
    dif_pos e1, dif_neg e2, dif_pos e3, dif_pos e4, dif_pos e5, dif_neg e6, dif_pos e7]
  rw [← owX_zero]
  iintro ⟨#HI, #Hlev, HR, HL, Hu, HO⟩
  iapply (recv_add X Wt κ ιs c 0 k.val (k.val + 1) k.val (f := k0_pay3) (ownAt X Wt c k.val) (show k.val < 16 from by omega) (recv_sem 0 (par k.val) _ (off5_eq k) _ _)
    (credit_of _) (off8_word _ k) (off8_word _ k) (off8_word _ k) rfl (off9_eq k) pay3_eq (by omega) (by omega)) $$ [HR Hu HO]
  · isplitr; · iexact HI
    isplitr; · iexact Hlev
    isplitl [HR]; · iexact HR
    isplitl [Hu]; · iexact Hu
    iexact HO
  iintro H
  ihave H := (ready_first X Wt c 0 k.val (k.val + 1) k.val (ownAt X Wt c k.val) (by omega)) $$ H
  iapply (pass_on X Wt κ ιs c 0 k.val (k.val + 1) k.val (ownAt X Wt c k.val) (show _ < 16 from by omega) (Fin.ext (dev5_word _)) (send_sem 0 (par (k.val + 1)) _ (off13_eq k) _ _)
    (recv_sem 0 (par (k.val + 1)) _ (off13_eq k) _ _) (off15_word _ k) rfl (off14_eq k)) $$ [H]
  · isplitr; · iexact HI
    iexact H
  iintro H
  iapply (give_back X Wt κ ιs c 0 k.val (k.val + 1) k.val (ownAt X Wt c k.val) (show _ < 16 from by omega) (cr_sem 0 _ rfl _ _) (Fin.ext (dev6_word _)) rfl) $$ [H]
  · isplitr; · iexact HI
    iexact H
  iintro H
  ihave H := (right_done X Wt κ ιs c k (by omega)) $$ [HL H]
  · isplitr; · iexact HI
    isplitr; · iexact Hlev
    isplitl [HL]; · iexact HL
    iexact H
  icases H with ⟨HR, HL, Hu, HO⟩
  ihave HL := (Entails.of_eq (congrArg (Dir (F := F) X Wt c 1) (show min k.val 15 = k.val from by omega))) $$ HL
  ihave Hu := (Entails.of_eq (congrArg (chunkIs c (pos c)) (show (if k.val < 15 then ownAt X Wt c k.val else own2 X Wt c) = ownAt X Wt c k.val from if_pos (by omega)))) $$ Hu
  iapply (recv_add X Wt κ ιs c 1 k.val (k.val + 1 + 1) (k.val + 1) (f := k0_pay1) (ownAt X Wt c k.val) (show k.val < 15 from by omega) (recv_sem 1 (par k.val) _ (off16_eq k) _ _)
    (credit_of _) (off19_word _ k) (off19_word _ k) (off19_word _ k) rfl (off20_eq k) pay1_eq (by omega) (by omega)) $$ [HL Hu HO]
  · isplitr; · iexact HI
    isplitr; · iexact Hlev
    isplitl [HL]; · iexact HL
    isplitl [Hu]; · iexact Hu
    iexact HO
  iintro H
  ihave H := (ready_first X Wt c 1 k.val (k.val + 1 + 1) (k.val + 1) (ownAt X Wt c k.val) (by omega)) $$ H
  iapply (pass_on X Wt κ ιs c 1 k.val (k.val + 1 + 1) (k.val + 1) (ownAt X Wt c k.val) (show _ < 15 from by omega) (Fin.ext (dev7_word _)) (send_sem 1 (par (k.val + 1)) _ (off24_eq k) _ _)
    (recv_sem 1 (par (k.val + 1)) _ (off24_eq k) _ _) (off26_word _ k) rfl (off25_eq k)) $$ [H]
  · isplitr; · iexact HI
    iexact H
  iintro H
  iapply (give_back X Wt κ ιs c 1 k.val (k.val + 1 + 1) (k.val + 1) (ownAt X Wt c k.val) (show _ < 15 from by omega) (cr_sem 1 _ rfl _ _) (Fin.ext (dev8_word _)) rfl) $$ [H]
  · isplitr; · iexact HI
    iexact H
  iintro H
  rw [wp_ret]
  imodintro
  have hd := left_done X Wt κ ιs c k (by omega)
  unfold between at hd
  iapply hd
  isplitr; · iexact HI
  isplitr; · iexact Hlev
  isplitl [HR]; · iexact HR
  iexact H

set_option maxHeartbeats 4000000 in
theorem trip_mid (hk : 1 ≤ k.val) (hk' : k.val ≤ 12) : tripGoal (F := F) X Wt κ ιs c a0 h0 a1 h1 a2 h2 a3 h3 a4 h4 a5 h5 hw3 hw1 hw2 z o k := by
  obtain ⟨v, hv⟩ := words_ret (F := F) c a0 h0 a1 h1 a2 h2 a3 h3 a4 h4 a5 h5 z o k
  have e1 : k0_cond1 k = 1#1 := (cond1_iff k).mpr (by omega)
  have e2 : k0_cond2 k = 1#1 := (cond2_iff k).mpr (by omega)
  have e3 : k0_cond3 k = 1#1 := (cond3_iff k).mpr (by omega)
  have e4 : k0_cond4 k = 1#1 := (cond4_iff k).mpr (by omega)
  have e5 : k0_cond5 k = 1#1 := (cond5_iff k).mpr (by omega)
  have e6 : k0_cond6 k = 1#1 := (cond6_iff k).mpr (by omega)
  have e7 : k0_cond7 k = 1#1 := (cond7_iff k).mpr (by omega)
  unfold tripGoal between k0_t2_body
  rw [hv]
  simp only [k0_part1_eq_skeleton, k0_part1_skel, Prog.lift, Prog.bind_op, Prog.bind_ret, Prog.pure_eq_ret, Prog.bind_assoc, semSignalWord, semWaitWord,
    dif_pos e1, dif_pos e2, dif_pos e3, dif_pos e4, dif_pos e5, dif_pos e6, dif_pos e7]
  rw [← owX_zero]
  iintro ⟨#HI, #Hlev, HR, HL, Hu, HO⟩
  iapply (recv_add X Wt κ ιs c 0 k.val (k.val + 1) k.val (f := k0_pay3) (ownAt X Wt c k.val) (show k.val < 16 from by omega) (recv_sem 0 (par k.val) _ (off5_eq k) _ _)
    (credit_of _) (off8_word _ k) (off8_word _ k) (off8_word _ k) rfl (off9_eq k) pay3_eq (by omega) (by omega)) $$ [HR Hu HO]
  · isplitr; · iexact HI
    isplitr; · iexact Hlev
    isplitl [HR]; · iexact HR
    isplitl [Hu]; · iexact Hu
    iexact HO
  iintro H
  iapply (waits X Wt κ ιs c 0 k.val (k.val + 1) k.val (ownAt X Wt c k.val) (by omega) (show _ < 16 from by omega) (send_sem 0 (par (k.val + 1)) _ (off10_eq k) _ _)
    (credit_of _) (cr_sem 0 _ rfl _ _) rfl (by omega) (by omega)) $$ [H]
  · isplitr; · iexact HI
    isplitr; · iexact Hlev
    iexact H
  iintro H
  iapply (pass_on X Wt κ ιs c 0 k.val (k.val + 1) k.val (ownAt X Wt c k.val) (show _ < 16 from by omega) (Fin.ext (dev5_word _)) (send_sem 0 (par (k.val + 1)) _ (off13_eq k) _ _)
    (recv_sem 0 (par (k.val + 1)) _ (off13_eq k) _ _) (off15_word _ k) rfl (off14_eq k)) $$ [H]
  · isplitr; · iexact HI
    iexact H
  iintro H
  iapply (give_back X Wt κ ιs c 0 k.val (k.val + 1) k.val (ownAt X Wt c k.val) (show _ < 16 from by omega) (cr_sem 0 _ rfl _ _) (Fin.ext (dev6_word _)) rfl) $$ [H]
  · isplitr; · iexact HI
    iexact H
  iintro H
  ihave H := (right_done X Wt κ ιs c k (by omega)) $$ [HL H]
  · isplitr; · iexact HI
    isplitr; · iexact Hlev
    isplitl [HL]; · iexact HL
    iexact H
  icases H with ⟨HR, HL, Hu, HO⟩
  ihave HL := (Entails.of_eq (congrArg (Dir (F := F) X Wt c 1) (show min k.val 15 = k.val from by omega))) $$ HL
  ihave Hu := (Entails.of_eq (congrArg (chunkIs c (pos c)) (show (if k.val < 15 then ownAt X Wt c k.val else own2 X Wt c) = ownAt X Wt c k.val from if_pos (by omega)))) $$ Hu
  iapply (recv_add X Wt κ ιs c 1 k.val (k.val + 1 + 1) (k.val + 1) (f := k0_pay1) (ownAt X Wt c k.val) (show k.val < 15 from by omega) (recv_sem 1 (par k.val) _ (off16_eq k) _ _)
    (credit_of _) (off19_word _ k) (off19_word _ k) (off19_word _ k) rfl (off20_eq k) pay1_eq (by omega) (by omega)) $$ [HL Hu HO]
  · isplitr; · iexact HI
    isplitr; · iexact Hlev
    isplitl [HL]; · iexact HL
    isplitl [Hu]; · iexact Hu
    iexact HO
  iintro H
  iapply (waits X Wt κ ιs c 1 k.val (k.val + 1 + 1) (k.val + 1) (ownAt X Wt c k.val) (by omega) (show _ < 15 from by omega) (send_sem 1 (par (k.val + 1)) _ (off21_eq k) _ _)
    (credit_of _) (cr_sem 1 _ rfl _ _) rfl (by omega) (by omega)) $$ [H]
  · isplitr; · iexact HI
    isplitr; · iexact Hlev
    iexact H
  iintro H
  iapply (pass_on X Wt κ ιs c 1 k.val (k.val + 1 + 1) (k.val + 1) (ownAt X Wt c k.val) (show _ < 15 from by omega) (Fin.ext (dev7_word _)) (send_sem 1 (par (k.val + 1)) _ (off24_eq k) _ _)
    (recv_sem 1 (par (k.val + 1)) _ (off24_eq k) _ _) (off26_word _ k) rfl (off25_eq k)) $$ [H]
  · isplitr; · iexact HI
    iexact H
  iintro H
  iapply (give_back X Wt κ ιs c 1 k.val (k.val + 1 + 1) (k.val + 1) (ownAt X Wt c k.val) (show _ < 15 from by omega) (cr_sem 1 _ rfl _ _) (Fin.ext (dev8_word _)) rfl) $$ [H]
  · isplitr; · iexact HI
    iexact H
  iintro H
  rw [wp_ret]
  imodintro
  have hd := left_done X Wt κ ιs c k (by omega)
  unfold between at hd
  iapply hd
  isplitr; · iexact HI
  isplitr; · iexact Hlev
  isplitl [HR]; · iexact HR
  iexact H

set_option maxHeartbeats 4000000 in
theorem trip_thirteen (hk : k.val = 13) : tripGoal (F := F) X Wt κ ιs c a0 h0 a1 h1 a2 h2 a3 h3 a4 h4 a5 h5 hw3 hw1 hw2 z o k := by
  obtain ⟨v, hv⟩ := words_ret (F := F) c a0 h0 a1 h1 a2 h2 a3 h3 a4 h4 a5 h5 z o k
  have e1 : k0_cond1 k = 1#1 := (cond1_iff k).mpr (by omega)
  have e2 : k0_cond2 k = 1#1 := (cond2_iff k).mpr (by omega)
  have e3 : k0_cond3 k = 1#1 := (cond3_iff k).mpr (by omega)
  have e4 : k0_cond4 k = 1#1 := (cond4_iff k).mpr (by omega)
  have e5 : k0_cond5 k = 1#1 := (cond5_iff k).mpr (by omega)
  have e6 : k0_cond6 k = 1#1 := (cond6_iff k).mpr (by omega)
  have e7 : ¬ k0_cond7 k = 1#1 := fun h => absurd ((cond7_iff k).mp h) (by omega)
  unfold tripGoal between k0_t2_body
  rw [hv]
  simp only [k0_part1_eq_skeleton, k0_part1_skel, Prog.lift, Prog.bind_op, Prog.bind_ret, Prog.pure_eq_ret, Prog.bind_assoc, semSignalWord, semWaitWord,
    dif_pos e1, dif_pos e2, dif_pos e3, dif_pos e4, dif_pos e5, dif_pos e6, dif_neg e7]
  rw [← owX_zero]
  iintro ⟨#HI, #Hlev, HR, HL, Hu, HO⟩
  iapply (recv_add X Wt κ ιs c 0 k.val (k.val + 1) k.val (f := k0_pay3) (ownAt X Wt c k.val) (show k.val < 16 from by omega) (recv_sem 0 (par k.val) _ (off5_eq k) _ _)
    (credit_of _) (off8_word _ k) (off8_word _ k) (off8_word _ k) rfl (off9_eq k) pay3_eq (by omega) (by omega)) $$ [HR Hu HO]
  · isplitr; · iexact HI
    isplitr; · iexact Hlev
    isplitl [HR]; · iexact HR
    isplitl [Hu]; · iexact Hu
    iexact HO
  iintro H
  iapply (waits X Wt κ ιs c 0 k.val (k.val + 1) k.val (ownAt X Wt c k.val) (by omega) (show _ < 16 from by omega) (send_sem 0 (par (k.val + 1)) _ (off10_eq k) _ _)
    (credit_of _) (cr_sem 0 _ rfl _ _) rfl (by omega) (by omega)) $$ [H]
  · isplitr; · iexact HI
    isplitr; · iexact Hlev
    iexact H
  iintro H
  iapply (pass_on X Wt κ ιs c 0 k.val (k.val + 1) k.val (ownAt X Wt c k.val) (show _ < 16 from by omega) (Fin.ext (dev5_word _)) (send_sem 0 (par (k.val + 1)) _ (off13_eq k) _ _)
    (recv_sem 0 (par (k.val + 1)) _ (off13_eq k) _ _) (off15_word _ k) rfl (off14_eq k)) $$ [H]
  · isplitr; · iexact HI
    iexact H
  iintro H
  iapply (give_back X Wt κ ιs c 0 k.val (k.val + 1) k.val (ownAt X Wt c k.val) (show _ < 16 from by omega) (cr_sem 0 _ rfl _ _) (Fin.ext (dev6_word _)) rfl) $$ [H]
  · isplitr; · iexact HI
    iexact H
  iintro H
  ihave H := (right_done X Wt κ ιs c k (by omega)) $$ [HL H]
  · isplitr; · iexact HI
    isplitr; · iexact Hlev
    isplitl [HL]; · iexact HL
    iexact H
  icases H with ⟨HR, HL, Hu, HO⟩
  ihave HL := (Entails.of_eq (congrArg (Dir (F := F) X Wt c 1) (show min k.val 15 = k.val from by omega))) $$ HL
  ihave Hu := (Entails.of_eq (congrArg (chunkIs c (pos c)) (show (if k.val < 15 then ownAt X Wt c k.val else own2 X Wt c) = ownAt X Wt c k.val from if_pos (by omega)))) $$ Hu
  iapply (recv_add X Wt κ ιs c 1 k.val (k.val + 1 + 1) (k.val + 1) (f := k0_pay1) (ownAt X Wt c k.val) (show k.val < 15 from by omega) (recv_sem 1 (par k.val) _ (off16_eq k) _ _)
    (credit_of _) (off19_word _ k) (off19_word _ k) (off19_word _ k) rfl (off20_eq k) pay1_eq (by omega) (by omega)) $$ [HL Hu HO]
  · isplitr; · iexact HI
    isplitr; · iexact Hlev
    isplitl [HL]; · iexact HL
    isplitl [Hu]; · iexact Hu
    iexact HO
  iintro H
  iapply (waits X Wt κ ιs c 1 k.val (k.val + 1 + 1) (k.val + 1) (ownAt X Wt c k.val) (by omega) (show _ < 15 from by omega) (send_sem 1 (par (k.val + 1)) _ (off21_eq k) _ _)
    (credit_of _) (cr_sem 1 _ rfl _ _) rfl (by omega) (by omega)) $$ [H]
  · isplitr; · iexact HI
    isplitr; · iexact Hlev
    iexact H
  iintro H
  iapply (pass_on X Wt κ ιs c 1 k.val (k.val + 1 + 1) (k.val + 1) (ownAt X Wt c k.val) (show _ < 15 from by omega) (Fin.ext (dev7_word _)) (send_sem 1 (par (k.val + 1)) _ (off24_eq k) _ _)
    (recv_sem 1 (par (k.val + 1)) _ (off24_eq k) _ _) (off26_word _ k) rfl (off25_eq k)) $$ [H]
  · isplitr; · iexact HI
    iexact H
  iintro H
  ihave H := (afterHop_last X Wt c 1 k.val (k.val + 1 + 1) (k.val + 1) (ownAt X Wt c k.val) (show ¬ _ < 15 from by omega) (show _ < 15 from by omega)) $$ H
  rw [wp_ret]
  imodintro
  have hd := left_done X Wt κ ιs c k (by omega)
  unfold between at hd
  iapply hd
  isplitr; · iexact HI
  isplitr; · iexact Hlev
  isplitl [HR]; · iexact HR
  iexact H

set_option maxHeartbeats 4000000 in
theorem trip_fourteen (hk : k.val = 14) : tripGoal (F := F) X Wt κ ιs c a0 h0 a1 h1 a2 h2 a3 h3 a4 h4 a5 h5 hw3 hw1 hw2 z o k := by
  obtain ⟨v, hv⟩ := words_ret (F := F) c a0 h0 a1 h1 a2 h2 a3 h3 a4 h4 a5 h5 z o k
  have e1 : k0_cond1 k = 1#1 := (cond1_iff k).mpr (by omega)
  have e2 : k0_cond2 k = 1#1 := (cond2_iff k).mpr (by omega)
  have e3 : ¬ k0_cond3 k = 1#1 := fun h => absurd ((cond3_iff k).mp h) (by omega)
  have e4 : k0_cond4 k = 1#1 := (cond4_iff k).mpr (by omega)
  have e5 : ¬ k0_cond5 k = 1#1 := fun h => absurd ((cond5_iff k).mp h) (by omega)
  have e6 : k0_cond6 k = 1#1 := (cond6_iff k).mpr (by omega)
  have e7 : ¬ k0_cond7 k = 1#1 := fun h => absurd ((cond7_iff k).mp h) (by omega)
  unfold tripGoal between k0_t2_body
  rw [hv]
  simp only [k0_part1_eq_skeleton, k0_part1_skel, Prog.lift, Prog.bind_op, Prog.bind_ret, Prog.pure_eq_ret, Prog.bind_assoc, semSignalWord, semWaitWord,
    dif_pos e1, dif_pos e2, dif_neg e3, dif_pos e4, dif_neg e5, dif_pos e6, dif_neg e7]
  rw [← owX_zero]
  iintro ⟨#HI, #Hlev, HR, HL, Hu, HO⟩
  iapply (recv_add X Wt κ ιs c 0 k.val (k.val + 1) k.val (f := k0_pay3) (ownAt X Wt c k.val) (show k.val < 16 from by omega) (recv_sem 0 (par k.val) _ (off5_eq k) _ _)
    (credit_of _) (off8_word _ k) (off8_word _ k) (off8_word _ k) rfl (off9_eq k) pay3_eq (by omega) (by omega)) $$ [HR Hu HO]
  · isplitr; · iexact HI
    isplitr; · iexact Hlev
    isplitl [HR]; · iexact HR
    isplitl [Hu]; · iexact Hu
    iexact HO
  iintro H
  iapply (waits X Wt κ ιs c 0 k.val (k.val + 1) k.val (ownAt X Wt c k.val) (by omega) (show _ < 16 from by omega) (send_sem 0 (par (k.val + 1)) _ (off10_eq k) _ _)
    (credit_of _) (cr_sem 0 _ rfl _ _) rfl (by omega) (by omega)) $$ [H]
  · isplitr; · iexact HI
    isplitr; · iexact Hlev
    iexact H
  iintro H
  iapply (pass_on X Wt κ ιs c 0 k.val (k.val + 1) k.val (ownAt X Wt c k.val) (show _ < 16 from by omega) (Fin.ext (dev5_word _)) (send_sem 0 (par (k.val + 1)) _ (off13_eq k) _ _)
    (recv_sem 0 (par (k.val + 1)) _ (off13_eq k) _ _) (off15_word _ k) rfl (off14_eq k)) $$ [H]
  · isplitr; · iexact HI
    iexact H
  iintro H
  ihave H := (afterHop_last X Wt c 0 k.val (k.val + 1) k.val (ownAt X Wt c k.val) (show ¬ _ < 16 from by omega) (show _ < 16 from by omega)) $$ H
  ihave H := (right_done X Wt κ ιs c k (by omega)) $$ [HL H]
  · isplitr; · iexact HI
    isplitr; · iexact Hlev
    isplitl [HL]; · iexact HL
    iexact H
  icases H with ⟨HR, HL, Hu, HO⟩
  ihave HL := (Entails.of_eq (congrArg (Dir (F := F) X Wt c 1) (show min k.val 15 = k.val from by omega))) $$ HL
  ihave Hu := (Entails.of_eq (congrArg (chunkIs c (pos c)) (show (if k.val < 15 then ownAt X Wt c k.val else own2 X Wt c) = ownAt X Wt c k.val from if_pos (by omega)))) $$ Hu
  iapply (recv_add X Wt κ ιs c 1 k.val (k.val + 1 + 1) (k.val + 1) (f := k0_pay1) (ownAt X Wt c k.val) (show k.val < 15 from by omega) (recv_sem 1 (par k.val) _ (off16_eq k) _ _)
    (credit_of _) (off19_word _ k) (off19_word _ k) (off19_word _ k) rfl (off20_eq k) pay1_eq (by omega) (by omega)) $$ [HL Hu HO]
  · isplitr; · iexact HI
    isplitr; · iexact Hlev
    isplitl [HL]; · iexact HL
    isplitl [Hu]; · iexact Hu
    iexact HO
  iintro H
  ihave H := (afterSend_last X Wt c 1 k.val (k.val + 1 + 1) (k.val + 1) (ownAt X Wt c k.val) (show ¬ _ < 15 from by omega) (show _ < 15 from by omega)) $$ H
  ihave H := (afterHop_last X Wt c 1 k.val (k.val + 1 + 1) (k.val + 1) (ownAt X Wt c k.val) (show ¬ _ < 15 from by omega) (show _ < 15 from by omega)) $$ H
  rw [wp_ret]
  imodintro
  have hd := left_done X Wt κ ιs c k (by omega)
  unfold between at hd
  iapply hd
  isplitr; · iexact HI
  isplitr; · iexact Hlev
  isplitl [HR]; · iexact HR
  iexact H

set_option maxHeartbeats 4000000 in
theorem trip_last (hk : k.val = 15) : tripGoal (F := F) X Wt κ ιs c a0 h0 a1 h1 a2 h2 a3 h3 a4 h4 a5 h5 hw3 hw1 hw2 z o k := by
  obtain ⟨v, hv⟩ := words_ret (F := F) c a0 h0 a1 h1 a2 h2 a3 h3 a4 h4 a5 h5 z o k
  have e1 : ¬ k0_cond1 k = 1#1 := fun h => absurd ((cond1_iff k).mp h) (by omega)
  have e2 : k0_cond2 k = 1#1 := (cond2_iff k).mpr (by omega)
  have e3 : ¬ k0_cond3 k = 1#1 := fun h => absurd ((cond3_iff k).mp h) (by omega)
  have e4 : ¬ k0_cond4 k = 1#1 := fun h => absurd ((cond4_iff k).mp h) (by omega)
  have e7 : ¬ k0_cond7 k = 1#1 := fun h => absurd ((cond7_iff k).mp h) (by omega)
  unfold tripGoal between k0_t2_body
  rw [hv]
  simp only [k0_part1_eq_skeleton, k0_part1_skel, Prog.lift, Prog.bind_op, Prog.bind_ret, Prog.pure_eq_ret, Prog.bind_assoc, semSignalWord, semWaitWord,
    dif_neg e1, dif_pos e2, dif_neg e3, dif_neg e4, dif_neg e7]
  rw [← owX_zero]
  iintro ⟨#HI, #Hlev, HR, HL, Hu, HO⟩
  iapply (recv_add X Wt κ ιs c 0 k.val (k.val + 1) k.val (f := k0_pay3) (ownAt X Wt c k.val) (show k.val < 16 from by omega) (recv_sem 0 (par k.val) _ (off5_eq k) _ _)
    (credit_of _) (off8_word _ k) (off8_word _ k) (off8_word _ k) rfl (off9_eq k) pay3_eq (by omega) (by omega)) $$ [HR Hu HO]
  · isplitr; · iexact HI
    isplitr; · iexact Hlev
    isplitl [HR]; · iexact HR
    isplitl [Hu]; · iexact Hu
    iexact HO
  iintro H
  ihave H := (afterSend_last X Wt c 0 k.val (k.val + 1) k.val (ownAt X Wt c k.val) (show ¬ _ < 16 from by omega) (show _ < 16 from by omega)) $$ H
  ihave H := (afterHop_last X Wt c 0 k.val (k.val + 1) k.val (ownAt X Wt c k.val) (show ¬ _ < 16 from by omega) (show _ < 16 from by omega)) $$ H
  ihave H := (right_done X Wt κ ιs c k (by omega)) $$ [HL H]
  · isplitr; · iexact HI
    isplitr; · iexact Hlev
    isplitl [HL]; · iexact HL
    iexact H
  icases H with ⟨HR, HL, Hu, HO⟩
  rw [wp_ret]
  imodintro
  have hd := none_left X Wt κ ιs c k hk
  unfold between at hd
  iapply hd
  isplitr; · iexact HI
  isplitr; · iexact Hlev
  isplitl [HR]; · iexact HR
  isplitl [HL]; · iexact HL
  isplitl [Hu]; · iexact Hu
  iexact HO

theorem trip : tripGoal (F := F) X Wt κ ιs c a0 h0 a1 h1 a2 h2 a3 h3 a4 h4 a5 h5 hw3 hw1 hw2 z o k := by
  have hk := t2_lt k
  rcases (by omega : k.val = 0 ∨ (1 ≤ k.val ∧ k.val ≤ 12) ∨ k.val = 13 ∨ k.val = 14 ∨ k.val = 15) with h | ⟨h, h'⟩ | h | h | h
  · exact trip_first X Wt κ ιs c a0 h0 a1 h1 a2 h2 a3 h3 a4 h4 a5 h5 hw3 hw1 hw2 z o k h
  · exact trip_mid X Wt κ ιs c a0 h0 a1 h1 a2 h2 a3 h3 a4 h4 a5 h5 hw3 hw1 hw2 z o k h h'
  · exact trip_thirteen X Wt κ ιs c a0 h0 a1 h1 a2 h2 a3 h3 a4 h4 a5 h5 hw3 hw1 hw2 z o k h
  · exact trip_fourteen X Wt κ ιs c a0 h0 a1 h1 a2 h2 a3 h3 a4 h4 a5 h5 hw3 hw1 hw2 z o k h
  · exact trip_last X Wt κ ιs c a0 h0 a1 h1 a2 h2 a3 h3 a4 h4 a5 h5 hw3 hw1 hw2 z o k h

end

end Cert.RingProof
-- ==== Proof.Start.lean ====
/-
  Buffers cut into the blocks and slots the protocol hands around, and put together again; the barrier at the kernel's
  start; the waits at its end; what the counters are at the end.
-/
module

public import proofs.«01_k».proof.Proof.Trip

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Cutting and joining buffers -/

theorem chunks_disj : ∀ t t' : Fin 32, t ≠ t' → Disjoint (chunkRect t).set (chunkRect t').set := by
  intro t t' h
  refine Rect.unit_disjoint 0 ?_
  have : t.val ≠ t'.val := fun e => h (Fin.ext e)
  show t.val * 128 + 128 ≤ t'.val * 128 ∨ t'.val * 128 + 128 ≤ t.val * 128
  omega
theorem chunks_cover : (Finset.univ : Finset (Fin 32)).biUnion (fun t => (chunkRect t).set) = Finset.univ := by
  refine Finset.eq_univ_of_forall fun i => Finset.mem_biUnion.mpr ?_
  have h0 : (i 0).val < 4096 := (i 0).isLt
  refine ⟨⟨(i 0).val / 128, by omega⟩, Finset.mem_univ _, Rect.mem_set_unit.mpr fun a => ?_⟩
  fin_cases a
  · show (i 0).val / 128 * 128 ≤ (i 0).val ∧ (i 0).val < (i 0).val / 128 * 128 + 128
    omega
  · have h1 : (i 1).val < 2048 := (i 1).isLt
    exact ⟨Nat.zero_le _, show (i 1).val < 0 + 2048 by omega⟩
theorem slots_disj : ∀ t t' : Fin 2, t ≠ t' → Disjoint (slotRect t).set (slotRect t').set := by
  intro t t' h
  refine Rect.unit_disjoint 0 ?_
  have : t.val ≠ t'.val := fun e => h (Fin.ext e)
  show t.val + 1 ≤ t'.val ∨ t'.val + 1 ≤ t.val
  omega
theorem slots_cover : (Finset.univ : Finset (Fin 2)).biUnion (fun t => (slotRect t).set) = Finset.univ := by
  refine Finset.eq_univ_of_forall fun i => Finset.mem_biUnion.mpr ?_
  refine ⟨i 0, Finset.mem_univ _, Rect.mem_set_unit.mpr fun a => ?_⟩
  fin_cases a
  · exact ⟨le_refl _, Nat.lt_succ_self _⟩
  · have h1 : (i 1).val < 128 := (i 1).isLt
    exact ⟨Nat.zero_le _, show (i 1).val < 0 + 128 by omega⟩
  · have h1 : (i 2).val < 2048 := (i 2).isLt
    exact ⟨Nat.zero_le _, show (i 2).val < 0 + 2048 by omega⟩

theorem elt_nonempty (e : EltTy) : Nonempty (Elt F e) := by infer_instance

variable (c : Dev nD)

/-- A device's accumulator, and a direction's two slots, at some contents. -/
def accAny : sProp 𝕄 := iprop(∃ X, owns (c : Thread nD τ) accM fullShare X)
def rsAny (st : Fin 2) : sProp 𝕄 := iprop(∃ X, owns (c : Thread nD τ) (rsM st) fullShare X)

theorem chunk_any (q : Fin 32) (Y : FVec F S128x2048 .bf16) : chunkIs (F := F) c q Y ⊢ chunkAny c q := by
  unfold chunkAny; iintro H; iexists Y; iexact H

theorem acc_cut : accAny (F := F) c ⊢ bigSep Finset.univ (fun q => chunkAny (F := F) c q) := by
  unfold accAny
  iintro ⟨%X, H⟩
  iapply (show owns (c : Thread nD τ) accM fullShare X ⊢ bigSep Finset.univ (fun q => chunkAny (F := F) c q) from
    (owns_rects (c : Thread nD τ) accM fullShare chunkRect (fun _ _ => rfl) chunks_disj chunks_cover X).trans
      (bigSep_mono fun q _ => chunk_any (F := F) c q _))
  iexact H

theorem acc_join : bigSep Finset.univ (fun q => chunkAny (F := F) c q) ⊢ accAny (F := F) c := by
  haveI : ∀ e, Nonempty (Elt F e) := elt_nonempty
  haveI : Nonempty (FVec F S128x2048 .bf16) := inferInstanceAs (Nonempty (S128x2048.Idx → Elt F .bf16))
  unfold chunkAny accAny
  refine (bigSep_exists_pi Finset.univ (fun q (X : FVec F S128x2048 .bf16) => chunkIs (F := F) c q X)).trans ?_
  iintro ⟨%Xs, H⟩
  have hg (t : Fin 32) : (fun j => Rect.glue chunkRect chunks_cover Xs ((chunkRect t).emb j)) = Xs t :=
    funext fun y => Rect.glue_emb chunkRect chunks_cover chunks_disj Xs t y
  iexists (Rect.glue chunkRect chunks_cover Xs)
  iapply (owns_of_rects (c : Thread nD τ) accM fullShare chunkRect (fun _ _ => rfl) chunks_disj chunks_cover (Rect.glue chunkRect chunks_cover Xs))
  simp only [hg]
  iexact H

variable (st : Fin 2)

theorem slot_squeeze (p : Fin 2) (X : FVec F S1x128x2048 .bf16) :
    owns (c : Thread nD τ) ((rsM st).slice (slotRect p) (fun _ => rfl)) fullShare X ⊢ slotAny (F := F) c st p := by
  unfold slotAny slotIs owns
  iintro ⟨%f, -, H⟩
  iexists ((slotM st p).view.read (Elt F) f)
  iexists f
  isplitr; · ipureintro; rfl
  iapply (show _ ⊢ _ from Entails.of_eq (by rw [View.set_reshape])) $$ H
theorem slot_unsqueeze (p : Fin 2) :
    slotAny (F := F) c st p ⊢ iprop(∃ X, owns (c : Thread nD τ) ((rsM st).slice (slotRect p) (fun _ => rfl)) fullShare X) := by
  unfold slotAny slotIs owns
  iintro ⟨%X, %f, -, H⟩
  iexists (((rsM st).slice (slotRect p) (fun _ => rfl)).view.read (Elt F) f)
  iexists f
  isplitr; · ipureintro; rfl
  iapply (show _ ⊢ _ from Entails.of_eq (by rw [View.set_reshape])) $$ H

theorem rs_cut : rsAny (F := F) c st ⊢ iprop(slotAny (F := F) c st 0 ∗ slotAny (F := F) c st 1) := by
  unfold rsAny
  iintro ⟨%X, H⟩
  iapply (show owns (c : Thread nD τ) (rsM st) fullShare X ⊢ iprop(slotAny (F := F) c st 0 ∗ slotAny (F := F) c st 1) from
    ((owns_rects (c : Thread nD τ) (rsM st) fullShare slotRect (fun _ _ => rfl) slots_disj slots_cover X).trans
      (bigSep_mono fun p _ => slot_squeeze (F := F) c st p _)).trans (Entails.of_eq (BI.bigSep_fin_two _)))
  iexact H

theorem rs_join : iprop(slotAny (F := F) c st 0 ∗ slotAny (F := F) c st 1) ⊢ rsAny (F := F) c st := by
  haveI : ∀ e, Nonempty (Elt F e) := elt_nonempty
  refine (Entails.of_eq (BI.bigSep_fin_two (fun p => slotAny (F := F) c st p)).symm).trans ?_
  haveI : Nonempty (FVec F S1x128x2048 .bf16) := inferInstanceAs (Nonempty (S1x128x2048.Idx → Elt F .bf16))
  refine (bigSep_mono fun p _ => slot_unsqueeze (F := F) c st p).trans ?_
  unfold rsAny
  refine (bigSep_exists_pi Finset.univ (fun p (X : FVec F S1x128x2048 .bf16) => owns (Val := Elt F) (c : Thread nD τ) ((rsM st).slice (slotRect p) (fun _ => rfl)) fullShare X)).trans ?_
  iintro ⟨%Xs, H⟩
  have hg (t : Fin 2) : (fun j => Rect.glue slotRect slots_cover Xs ((slotRect t).emb j)) = Xs t :=
    funext fun y => Rect.glue_emb slotRect slots_cover slots_disj Xs t y
  iexists (Rect.glue slotRect slots_cover Xs)
  iapply (owns_of_rects (c : Thread nD τ) (rsM st) fullShare slotRect (fun _ _ => rfl) slots_disj slots_cover (Rect.glue slotRect slots_cover Xs))
  simp only [hg]
  iexact H

/-! ## The blocks of the two directions -/

theorem row_family (Φ : Fin 32 → sProp 𝕄) (p : Fin 32) (n : ℕ) (hn : n ≤ nM st) :
    bigSep (Finset.Ico 0 n) (fun j => Φ (row st j p)) = bigSep ((Finset.Ico 0 n).image (fun j => row st j p)) Φ := by
  induction n with
  | zero => rfl
  | succ n ih =>
    have hl := nM_le st
    have hni : row st n p ∉ (Finset.Ico 0 n).image (fun j => row st j p) := by
      intro h
      obtain ⟨j, hj, e⟩ := Finset.mem_image.mp h
      have hj' := (Finset.mem_Ico.mp hj).2
      have := (rows_disj p st st ⟨j, by omega⟩ ⟨n, by omega⟩ (show j < nM st by omega) (show n < nM st by omega) e).2
      have := Fin.mk.inj_iff.mp this
      omega
    rw [bs_put (Nat.zero_le n), ih (by omega),
      show (Finset.Ico 0 (n + 1)).image (fun j => row st j p) = insert (row st n p) ((Finset.Ico 0 n).image (fun j => row st j p)) from by
        rw [show Finset.Ico 0 (n + 1) = insert n (Finset.Ico 0 n) from by ext i; simp only [Finset.mem_insert, Finset.mem_Ico]; omega,
          Finset.image_insert],
      bigSep_insert hni]
    rfl

set_option maxRecDepth 100000 in
theorem rows_split : ∀ p : Fin 32, (Finset.univ : Finset (Fin 32))
      = insert p ((Finset.Ico 0 (nM 0)).image (fun j => row 0 j p) ∪ (Finset.Ico 0 (nM 1)).image (fun j => row 1 j p))
    ∧ p ∉ (Finset.Ico 0 (nM 0)).image (fun j => row 0 j p) ∪ (Finset.Ico 0 (nM 1)).image (fun j => row 1 j p)
    ∧ Disjoint ((Finset.Ico 0 (nM 0)).image (fun j => row 0 j p)) ((Finset.Ico 0 (nM 1)).image (fun j => row 1 j p)) := by
  decide +kernel

theorem rows_all (Φ : Fin 32 → sProp 𝕄) (p : Fin 32) :
    bigSep Finset.univ Φ = iprop(Φ p ∗ bigSep (Finset.Ico 0 (nM 0)) (fun j => Φ (row 0 j p)) ∗ bigSep (Finset.Ico 0 (nM 1)) (fun j => Φ (row 1 j p))) := by
  obtain ⟨h1, h2, h3⟩ := rows_split p
  rw [row_family (F := F) 0 Φ p _ (le_refl _), row_family (F := F) 1 Φ p _ (le_refl _), h1, bigSep_insert h2, bigSep_union h3]
  rfl

/-! ## The barrier -/

variable (X : Dev nD → Vec F S4096x128 .fp8e4m3) (Wt : Dev nD → Vec F S128x2048 .fp8e5m2)
variable (κ : GSem nD τ sig → ℕ) (ιs : Dev nD × Fin 4 → ℕ)

/-- Giving a direction's two slots to the neighbour that writes them. -/
theorem lend : iprop(invs (F := F) X Wt κ ιs ∗ slotAny (F := F) c st 0 ∗ slotAny (F := F) c st 1
      ∗ readerAt (ES (F := F)) (c, sidx st 0) 0 ∗ readerAt (ES (F := F)) (c, sidx st 1) 0)
    ⊢ |={Set.univ}=> iprop((readerAt (ES (F := F)) (c, sidx st 0) 1 ∗ readerAt (ES (F := F)) (c, sidx st 1) 1)
        ∗ released (ES (F := F)) (c, sidx st 0) 1 ∗ released (ES (F := F)) (c, sidx st 1) 1) := by
  iintro ⟨#HI, H0, H1, R0, R1⟩
  imod (slot_release (ES (F := F)) (Set.mem_univ (ιs (c, sidx st 0))) (slot_excl c st 0) 0) $$ [R0 H0] with ⟨R0, #Hr0⟩
  · isplitr; · iapply (invs_slot X Wt κ ιs c st 0); iexact HI
    isplitl [R0]; · iexact R0
    iexact H0
  imod (slot_release (ES (F := F)) (Set.mem_univ (ιs (c, sidx st 1))) (slot_excl c st 1) 0) $$ [R1 H1] with ⟨R1, #Hr1⟩
  · isplitr; · iapply (invs_slot X Wt κ ιs c st 1); iexact HI
    isplitl [R1]; · iexact R1
    iexact H1
  imodintro
  isplitl [R0 R1]
  · isplitl [R0] <;> iassumption
  isplitr <;> iassumption

/-- Telling the device that sends to this one in a direction. -/
theorem bar_signal {sem : Sem sig} {n : Dev nD} {k' : ℤ} {α : Type} {k : PUnit → Prog (TpuEff nD τ sig (Elt F) Λ₀ .tc) α} {Q : α → sProp 𝕄}
    (hsem : sem = barS) (hn : n = src st c) (hk' : k' = ((1 : ℕ) : ℤ)) (O₀ O : CellTallies nD τ sig ℕ)
    (hO : O₀ = O + tallyAt (barG (src st c)) 0 1) :
    iprop(invs (F := F) X Wt κ ιs ∗ dutyTok (ER (F := F)) (barG (src st c)) 0 st.val ∗ reached (ER (F := F)) (barG (src st c)) 0
        ∗ barPay (F := F) st c ∗ ows (F := F) c O₀)
      ⊢ iprop((ows (F := F) c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) sem k') k) Q) := by
  subst hsem hn hk'
  unfold ows
  iintro ⟨#HI, Ht, #Hr, #Hp, ⟨%W, HO⟩⟩ Hk
  iapply (Rounds.wp_signal 𝒱₀ (ER (F := F)) (rd X Wt) (c : Thread nD τ) none (dst := ((src st c : Dev nD) : Thread nD τ)) (sem := barS) (r := 0) (d := st.val)
      (κ := κ (barG (src st c))) (by rw [duties_bar]; fin_cases st <;> decide) (show (rd (F := F) X Wt).amount (barG (src st c)) 0 st.val = 1 from rfl) 0 O hO)
    $$ [HO Ht]
  · isplitr; · iapply (invs_cell X Wt κ ιs (bar_mem (src st c))); iexact HI
    isplitl [HO]; · iexact HO
    isplitl [Ht]; · iexact Ht
    isplitr
    · iapply (show barPay (F := F) st c ⊢ (rd (F := F) X Wt).payload (barG (src st c)) 0 st.val from Entails.of_eq (by
        fin_cases st
        · exact (congrArg (barPay (F := F) 0) (dst_src 0 c)).symm
        · exact (congrArg (barPay (F := F) 1) (dst_src 1 c)).symm))
      iexact Hp
    iexact Hr
  iintro HO
  iapply Hk
  iexists W; iexact HO

theorem bar_wait {sem : Sem sig} {k' : ℕ} {α : Type} {k : PUnit → Prog (TpuEff nD τ sig (Elt F) Λ₀ .tc) α} {Q : α → sProp 𝕄}
    (hsem : sem = barS) (hk' : k' = 2) (O : CellTallies nD τ sig ℕ)
    (hW : (levAts L lv : sProp 𝕄) ⊢ MayWait (c : Thread nD τ) (.reg barS) 0 O) :
    iprop(invs (F := F) X Wt κ ιs ∗ levAts L lv ∗ atPos (ER (F := F)) (barG c) 0 ∅ 0 ∗ cred (tallyAt (barG c) 0 2) ∗ ows (F := F) c O)
      ⊢ iprop(((atPos (ER (F := F)) (barG c) 1 ∅ 0 ∗ ows (F := F) c O ∗ barPay (F := F) 0 (dst 0 c) ∗ barPay (F := F) 1 (dst 1 c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem k') k) Q) := by
  subst hsem hk'
  unfold ows
  iintro ⟨#HI, #Hlev, Hat, Hc, ⟨%W, HO⟩⟩ Hk
  iapply (Rounds.wp_wait_rest_token 𝒱₀ (ER (F := F)) (rd X Wt) (c : Thread nD τ) none (κ := κ (barG c))
      (wpE_semWait_eq 𝒱₀ (c : Thread nD τ) none Set.univ) (Set.mem_univ _) 0 (O := O) (W := W) (R := 0) (m := 0) (T := ∅)
      (by rw [expect_bar])) $$ [Hc HO Hat]
  · isplitr; · iapply (invs_cell X Wt κ ιs (bar_mem c)); iexact HI
    isplitl [Hc]; · iexact Hc
    isplitl [HO]; · iexact HO
    isplitr; · iapply hW; iexact Hlev
    iexact Hat
  iintro ⟨HO, Hat, -, Hpay⟩
  ihave Hp := (Entails.of_eq (show bigSep ((rd (F := F) X Wt).duties (barG c) 0 \ ∅) (fun d => (rd (F := F) X Wt).payload (barG c) 0 d)
      = iprop(barPay (F := F) 0 (dst 0 c) ∗ barPay (F := F) 1 (dst 1 c)) from by
    rw [Finset.sdiff_empty, duties_bar, bigSep_insert (by decide), bigSep_singleton, payload_bar0, payload_bar1]; rfl)) $$ Hpay
  iapply Hk
  isplitl [Hat]; · iexact Hat
  isplitl [HO]; · iexists _; iexact HO
  iexact Hp

/-! ## The waits at the end -/

/-- For one send not yet waited for. -/
def LW (w : ℕ) : sProp 𝕄 := iprop(atPos (ER (F := F)) (sendG c st (par w)) (w / 2) ∅ 0 ∗ cred (tallyAt (sendG c st (par w)) 0 N))

theorem last_sends (w : ℕ) (h : w + 2 = nM st) : SD (F := F) c st (nM st) w ⊢ iprop(LW (F := F) c st w ∗ LW (F := F) c st (w + 1)) := by
  unfold SD SP IFL LW
  rw [bs_take (show w < nM st by omega), bs_take (show w + 1 < nM st by omega)]
  iintro ⟨⟨H0, H1, -, -⟩, -, C0, C1, -⟩
  isplitl [H0 C0]
  · isplitl [H0] <;> iassumption
  isplitl [H1] <;> iassumption

theorem last_wait {sem : DmaSem sig} {sp sp' : Space} {s s' : Shape} {e e' : EltTy}
    {srcM : Memref sig .tc sp s e} {dstM : Memref sig .tc sp' s' e'} {h1 : srcM.view.WordExact} {h2 : dstM.view.WordExact}
    {α : Type} {k : PUnit → Prog (TpuEff nD τ sig (Elt F) Λ₀ .tc) α} {Q : α → sProp 𝕄}
    (w : ℕ) (hj : w < nM st) (hsem : sem = sendS (sidx st (par w))) (hN : dstM.view.dmaCredit = N) :
    iprop(invs (F := F) X Wt κ ιs ∗ LW (F := F) c st w ∗ ows (F := F) c 0)
      ⊢ iprop(((atPos (ER (F := F)) (sendG c st (par w)) (w / 2 + 1) ∅ 0 ∗ ows (F := F) c 0 ∗ chunkAny c (row st w (pos c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM h1 h2) k) Q) := by
  subst hsem
  unfold LW ows
  iintro ⟨#HI, ⟨Hat, Hc⟩, ⟨%W, HO⟩⟩ Hk
  iapply (Rounds.wp_wait_rest_token 𝒱₀ (ER (F := F)) (rd X Wt) (c : Thread nD τ) none (κ := κ (sendG c st (par w)))
      (wpE_waitDma2_eq (src := srcM) (dst := dstM) 𝒱₀ (c : Thread nD τ) none Set.univ) (Set.mem_univ _) 0 (O := 0) (W := W) (R := w / 2) (m := 0) (T := ∅)
      (by rw [expect_send X Wt c st w hj, Nat.zero_add]; exact hN)) $$ [Hc HO Hat]
  · isplitr; · iapply (invs_cell X Wt κ ιs (send_mem c st (par w))); iexact HI
    isplitl [Hc]; · rw [hN]; iexact Hc
    isplitl [HO]; · iexact HO
    isplitr; · rw [MayWait_zero]; iempintro
    iexact Hat
  iintro ⟨HO, Hat, -, Hpay⟩
  ihave Hp := (Entails.of_eq (show bigSep ((rd (F := F) X Wt).duties (sendG c st (par w)) (w / 2) \ ∅)
      (fun d => (rd (F := F) X Wt).payload (sendG c st (par w)) (w / 2) d) = chunkAny c (row st w (pos c)) from by
    rw [Finset.sdiff_empty, duties_send X Wt c st w hj, bigSep_singleton, payload_send])) $$ Hpay
  iapply Hk
  isplitl [Hat]; · iexact Hat
  isplitl [HO]; · iexists _; iexact HO
  iexact Hp

/-! ## The counters at the end -/

/-- All of one direction's counters at zero, and the barrier's. -/
theorem close_recv (p : Fin 2) : iprop(invs (F := F) X Wt κ ιs ∗ atPos (ER (F := F)) (recvG c st p) (cnt (nM st) p) ∅ 0)
    ⊢ |={Set.univ}=> (semVal (recvG c st p) 0 : sProp 𝕄) := by
  iintro ⟨#HI, H⟩
  iapply (Rounds.cell_close (ER (F := F)) (rd X Wt) (Set.mem_univ (κ (recvG c st p))) id (duties_recv_later X Wt c st p))
  isplitr; · iapply (invs_cell X Wt κ ιs (recv_mem c st p)); iexact HI
  iexact H
theorem close_send (p : Fin 2) : iprop(invs (F := F) X Wt κ ιs ∗ atPos (ER (F := F)) (sendG c st p) (cnt (nM st) p) ∅ 0)
    ⊢ |={Set.univ}=> (semVal (sendG c st p) 0 : sProp 𝕄) := by
  iintro ⟨#HI, H⟩
  iapply (Rounds.cell_close (ER (F := F)) (rd X Wt) (Set.mem_univ (κ (sendG c st p))) id (duties_send_later X Wt c st p))
  isplitr; · iapply (invs_cell X Wt κ ιs (send_mem c st p)); iexact HI
  iexact H
theorem close_cr : iprop(invs (F := F) X Wt κ ιs ∗ atPos (ER (F := F)) (crG c st) 1 ∅ 0)
    ⊢ |={Set.univ}=> (semVal (crG c st) 0 : sProp 𝕄) := by
  iintro ⟨#HI, H⟩
  iapply (Rounds.cell_close (ER (F := F)) (rd X Wt) (Set.mem_univ (κ (crG c st))) id (duties_cr_later X Wt c st))
  isplitr; · iapply (invs_cell X Wt κ ιs (cr_mem c st)); iexact HI
  iexact H
theorem close_bar : iprop(invs (F := F) X Wt κ ιs ∗ atPos (ER (F := F)) (barG c) 1 ∅ 0)
    ⊢ |={Set.univ}=> (semVal (barG c) 0 : sProp 𝕄) := by
  iintro ⟨#HI, H⟩
  iapply (Rounds.cell_close (ER (F := F)) (rd X Wt) (Set.mem_univ (κ (barG c))) id (duties_bar_later X Wt c))
  isplitr; · iapply (invs_cell X Wt κ ιs (bar_mem c)); iexact HI
  iexact H

end Cert.RingProof
-- ==== Proof.Gemm.lean ====
/-
  The products: every block of rows of the device's contribution, computed by the kernel's first loop.
-/
module

public import proofs.«01_k».proof.Proof.Start

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (X : Dev nD → Vec F S4096x128 .fp8e4m3) (Wt : Dev nD → Vec F S128x2048 .fp8e5m2)
variable (c : Dev nD)

abbrev xM : Memref sig .tc .vmem S4096x128 .fp8e4m3 := Memref.whole cc0_stg0_0
abbrev wM : Memref sig .tc .vmem S128x2048 .fp8e5m2 := Memref.whole cc0_stg1_0
abbrev aM : Memref sig .tc .smem S1 .f32 := Memref.whole cc0_stg2_0
abbrev bM : Memref sig .tc .smem S1 .f32 := Memref.whole cc0_stg3_0
abbrev idM : Memref sig .tc .smem S3 .i32 := Memref.whole cc0_stg4_0
abbrev oM : Memref sig .tc .vmem S128x2048 .f32 := Memref.whole cc0_stg5_0

/-- A staging buffer held whole at given contents. -/
abbrev stg (b : Ref sig .tc) (f : b.ty.Contents (Elt F)) : sProp 𝕄 := ((c : Thread nD τ).loc b) ↦{fullShare} f

theorem gemm_step {q : Fin 32} {o o' o'' : Fin 2 → ℕ} {ho1 : _} {ho1' : _} {ho1'' : _} {l1 : _} {l3 : _} {x1 : _} {x2 : _}
    {α : Type} {k : PUnit → Prog (TpuEff nD τ sig (Elt F) Λ₀ .tc) α} {Q : α → sProp 𝕄}
    (ho : o = ![q.val * 128, 0]) (ho' : o' = ![q.val * 128, 0]) (ho'' : o'' = ![q.val * 128, 0]) :
    iprop(stg c cc0_stg0_0 (X c) ∗ chunkAny (F := F) c q)
      ⊢ iprop(((stg c cc0_stg0_0 (X c) ∗ chunkIs c q (part X Wt c q))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load xM (Rect.unit (s := S4096x128) o S128x128.size ho1).toLoadRect l1) fun a =>
             .op (.load accM (Rect.unit (s := S4096x2048) o' S128x2048.size ho1').toLoadRect l3) fun _ =>
             .op (.store accM (Rect.unit (s := S4096x2048) o'' S128x2048.size ho1'') (k0_pay2 (Wt c) a) Finset.univ x1 x2) k) Q) := by
  subst ho ho' ho''
  unfold chunkAny chunkIs owns
  iintro ⟨Hx, ⟨%_, %fa, -, Ha⟩⟩ Hk
  iapply (wp_load_rect 𝒱₀ (c : Thread nD τ) none Set.univ (m := xM) (r := xRect q) (Finset.subset_univ _)) $$ Hx
  iintro Hx
  iapply (wp_load_rect 𝒱₀ (c : Thread nD τ) none Set.univ (m := accM) (r := chunkRect q) (Finset.Subset.refl _)) $$ Ha
  iintro Ha
  iapply (wp_store 𝒱₀ (c : Thread nD τ) none Set.univ (m := accM) (r := chunkRect q) (View.setOn_subset_set _ _)) $$ Ha
  iintro Ha
  iapply Hk
  isplitl [Hx]; · iexact Hx
  iexists ((accM.access (chunkRect q)).write (Elt F) fa (k0_pay2 (Wt c) ((xM.access (xRect q)).read (Elt F) (X c))) Finset.univ)
  isplitr
  · ipureintro
    exact View.read_write_univ (v := accM.access (chunkRect q)) _ _
  iexact Ha

/-- Before trip `k`: the first `k` blocks computed. -/
def gem (k : ℕ) : sProp 𝕄 :=
  iprop(stg c cc0_stg0_0 (X c)
    ∗ bigSep (Finset.univ : Finset (Fin 32)) (fun q => if q.val < k then chunkIs (F := F) c q (part X Wt c q) else chunkAny (F := F) c q))

theorem gem_zero : gem X Wt c 0 = iprop(stg c cc0_stg0_0 (X c) ∗ bigSep (Finset.univ : Finset (Fin 32)) (fun q => chunkAny (F := F) c q)) := by
  unfold gem
  congr 1
theorem gem_last : gem X Wt c 32 = iprop(stg c cc0_stg0_0 (X c)
    ∗ bigSep (Finset.univ : Finset (Fin 32)) (fun q => chunkIs (F := F) c q (part X Wt c q))) := by
  unfold gem
  rw [bigSep_congr (fun (q : Fin 32) _ => if_pos q.isLt)]

theorem gemm_trip (a1 : Memref sig .tc .vmem S128x2048 .fp8e5m2) (h1 : a1.IsWhole)
    (a2 : Memref sig .tc .smem S1 .f32) (h2 : a2.IsWhole) (a3 : Memref sig .tc .smem S1 .f32) (h3 : a3.IsWhole)
    (a4 : Memref sig .tc .smem S3 .i32) (h4 : a4.IsWhole) (a5 : Memref sig .tc .vmem S128x2048 .f32) (h5 : a5.IsWhole)
    (k : Fin k0_t1_loop.trips) (u : Unit) :
    gem X Wt c k.val ⊢ wp frame (wpE (defs₀ (F := F)) 𝒱₀ (c : Thread nD τ) none) Set.univ
      (k0_t1_body xM (Memref.isWhole_whole _) a1 h1 a2 h2 a3 h3 a4 h4 a5 h5 accM (Memref.isWhole_whole _) (rsM 0) (Memref.isWhole_whole _)
            (rsM 1) (Memref.isWhole_whole _) cc0_scratch3 cc0_scratch4 cc0_scratch5 (Wt c) k u) (fun _ => gem X Wt c (k.val + 1)) := by
  have hk : k.val < 32 := k.isLt
  have e1 : k0_off1 k = ![(⟨k.val, hk⟩ : Fin 32).val * 128, 0] := by rw [k0_off1_eq, Nat.mul_comm]
  have e2 : k0_off2 k = ![(⟨k.val, hk⟩ : Fin 32).val * 128, 0] := by rw [k0_off2_eq, Nat.mul_comm]
  have hrest : bigSep ((Finset.univ : Finset (Fin 32)).erase ⟨k.val, hk⟩) (fun q => if q.val < k.val then chunkIs (F := F) c q (part X Wt c q) else chunkAny (F := F) c q)
      = bigSep ((Finset.univ : Finset (Fin 32)).erase ⟨k.val, hk⟩) (fun q => if q.val < k.val + 1 then chunkIs (F := F) c q (part X Wt c q) else chunkAny (F := F) c q) :=
    bigSep_congr fun q hq => by
      have hne : q.val ≠ k.val := fun e => (Finset.mem_erase.mp hq).1 (Fin.ext e)
      by_cases h : q.val < k.val
      · rw [if_pos h, if_pos (by omega)]
      · rw [if_neg h, if_neg (by omega)]
  unfold gem
  rw [bigSep_univ_at _ (⟨k.val, hk⟩ : Fin 32), bigSep_univ_at (fun q : Fin 32 => if q.val < k.val + 1 then chunkIs (F := F) c q (part X Wt c q) else chunkAny (F := F) c q) (⟨k.val, hk⟩ : Fin 32),
    hrest, if_neg (Nat.lt_irrefl _), if_pos (Nat.lt_succ_self _)]
  unfold k0_t1_body
  simp only [Prog.lift, Prog.bind_op, Prog.bind_ret, Prog.pure_eq_ret]
  iintro ⟨Hx, Hq, Hrest⟩
  iapply (gemm_step X Wt c e1 e2 e2) $$ [Hx Hq]
  · isplitl [Hx] <;> iassumption
  iintro ⟨Hx, Hq⟩
  rw [wp_ret]; imodintro
  isplitl [Hx]; · iexact Hx
  isplitl [Hq] <;> iassumption

end Cert.RingProof
-- ==== Proof.Open.lean ====
/-
  The kernel up to its ring loop: the words read, the products, the barrier, the first message of each direction.
-/
module

public import proofs.«01_k».proof.Proof.Gemm

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S4096x128 .fp8e4m3) (Wt : Dev nD → Vec F S128x2048 .fp8e5m2)
variable (κ : GSem nD τ sig → ℕ) (ιs : Dev nD × Fin 4 → ℕ)
variable (c : Dev nD) (st : Fin 2)

/-- The words a device reads: its position, its left neighbour, its right neighbour. -/
def idsV : (cc0_stg4_0 : Ref sig .tc).ty.Contents (Elt F) :=
  fun i => if (i (0 : Fin 1)).val = 0 then w0 c else if (i (0 : Fin 1)).val = 1 then w1 c else w2 c

/-- One word read. -/
theorem word_load {s : Shape} {e : EltTy} {M : Memref sig .tc .smem s e} {r : Rect s} {h1 : r.shape.numel = 1} {hp : e.packing = 1}
    {α : Type} {k : Elt F e → Prog (TpuEff nD τ sig (Elt F) Λ₀ .tc) α} {Q : α → sProp 𝕄} {f : M.view.ty.Contents (Elt F)} (v : Elt F e)
    (hv : (M.access r).read (Elt F) f (Shape.Idx.first (h1.symm ▸ Nat.one_pos)) = v) :
    (M.view.loc (c : Thread nD τ) ↦{fullShare} f : sProp 𝕄)
      ⊢ iprop(((M.view.loc (c : Thread nD τ) ↦{fullShare} f)
            -∗ wp frame (wpE (defs₀ (F := F)) 𝒱₀ (c : Thread nD τ) none) Set.univ (k v) Q)
          -∗ wp frame (wpE (defs₀ (F := F)) 𝒱₀ (c : Thread nD τ) none) Set.univ (smemLoad M r h1 hp >>= k) Q) := by
  subst hv
  simp only [smemLoad, smemLoadElt, Prog.bind_op, Prog.bind_ret]
  iintro H Hk
  iapply (wp_load_rect 𝒱₀ (c : Thread nD τ) none Set.univ (m := M) (r := r) (Finset.subset_univ _)) $$ H
  iintro H
  iapply Hk; iexact H

theorem two_zero : (![0, 0] : Fin 2 → ℕ) = fun _ => 0 := funext fun a => by fin_cases a <;> rfl

/-- The weights read whole. -/
theorem w_load {hb : ∀ a, (![0, 0] : Fin 2 → ℕ) a + S128x2048.size a ≤ S128x2048.size a} {hl : _} {α : Type}
    {k : Vec F S128x2048 .fp8e5m2 → Prog (TpuEff nD τ sig (Elt F) Λ₀ .tc) α} {Q : α → sProp 𝕄} (w : Vec F S128x2048 .fp8e5m2) :
    (stg c cc0_stg1_0 w : sProp 𝕄)
      ⊢ iprop((stg c cc0_stg1_0 w -∗ wp frame (wpE (defs₀ (F := F)) 𝒱₀ (c : Thread nD τ) none) Set.univ (k w) Q)
          -∗ wp frame (wpE (defs₀ (F := F)) 𝒱₀ (c : Thread nD τ) none) Set.univ
            (.op (.load wM (Rect.unit (s := S128x2048) ![0, 0] S128x2048.size hb).toLoadRect hl) k) Q) := by
  have hr := Memref.readAt_unit_zero (Elt F) cc0_stg1_0 two_zero hb w
  iintro H Hk
  iapply (wp_load 𝒱₀ (c : Thread nD τ) none Set.univ (m := wM) (Finset.subset_univ _)) $$ H; iintro H
  ihave Hk := (Entails.of_eq (congrArg (fun v => iprop(stg c cc0_stg1_0 w -∗ wp frame (wpE (defs₀ (F := F)) 𝒱₀ (c : Thread nD τ) none) Set.univ (k v) Q)) hr.symm)) $$ Hk
  iapply Hk; iexact H

/-! ## What the kernel starts with -/

/-- For one direction. -/
def startDir : sProp 𝕄 :=
  iprop(RV (F := F) c st 0 ∗ SP (F := F) c st 0 ∗ TK (F := F) c st 0
    ∗ (atPos (ER (F := F)) (crG c st) 0 ∅ 0 ∗ bigSep (Finset.Ico 0 (nCr st)) (fun j => cred (tallyAt (crG c st) j 1)))
    ∗ bigSep (Finset.Ico 0 (nCr st)) (fun j => dutyTok (ER (F := F)) (crG (src st c) st) 0 j)
    ∗ (readerAt (ES (F := F)) (c, sidx st 0) 0 ∗ readerAt (ES (F := F)) (c, sidx st 1) 0)
    ∗ (reached (ER (F := F)) (recvG c st 0) 0 ∗ reached (ER (F := F)) (recvG c st 1) 0) ∗ reached (ER (F := F)) (crG c st) 0)
/-- For the barrier. -/
def startBar : sProp 𝕄 :=
  iprop((dutyTok (ER (F := F)) (barG (src 0 c)) 0 0 ∗ reached (ER (F := F)) (barG (src 0 c)) 0)
    ∗ (dutyTok (ER (F := F)) (barG (src 1 c)) 0 1 ∗ reached (ER (F := F)) (barG (src 1 c)) 0)
    ∗ atPos (ER (F := F)) (barG c) 0 ∅ 0 ∗ cred (tallyAt (barG c) 0 2))

/-- One direction after the barrier. -/
def ready0 : sProp 𝕄 :=
  iprop(RV (F := F) c st 0 ∗ SP (F := F) c st 0 ∗ TK (F := F) c st 0
    ∗ (atPos (ER (F := F)) (crG c st) 0 ∅ 0 ∗ bigSep (Finset.Ico 0 (nCr st)) (fun j => cred (tallyAt (crG c st) j 1)))
    ∗ bigSep (Finset.Ico 0 (nCr st)) (fun j => dutyTok (ER (F := F)) (crG (src st c) st) 0 j)
    ∗ (readerAt (ES (F := F)) (c, sidx st 0) 1 ∗ readerAt (ES (F := F)) (c, sidx st 1) 1))

theorem opened : iprop(invs (F := F) X Wt κ ιs ∗ startDir (F := F) c st ∗ rsAny (F := F) c st ∗ reached (ER (F := F)) (crG c (1 - st)) 0)
    ⊢ |={Set.univ}=> iprop(ready0 (F := F) c st ∗ barPay (F := F) st c) := by
  unfold startDir ready0 barPay
  iintro ⟨#HI, ⟨H1, H2, H3, H4, H5, ⟨R0, R1⟩, ⟨#Hr0, #Hr1⟩, -⟩, Hrs, #Hcr⟩
  ihave Hs := (rs_cut (F := F) c st) $$ Hrs
  icases Hs with ⟨S0, S1⟩
  imod (lend c st X Wt κ ιs) $$ [S0 S1 R0 R1] with ⟨R, #Hl0, #Hl1⟩
  · isplitr; · iexact HI
    isplitl [S0]; · iexact S0
    isplitl [S1]; · iexact S1
    isplitl [R0] <;> iassumption
  imodintro
  isplitl [H1 H2 H3 H4 H5 R]
  · isplitl [H1]; · iexact H1
    isplitl [H2]; · iexact H2
    isplitl [H3]; · iexact H3
    isplitl [H4]; · iexact H4
    isplitl [H5]; · iexact H5
    iexact R
  isplitr
  · isplitr <;> iassumption
  isplitr
  · isplitr <;> iassumption
  iexact Hcr

theorem cr_of_start : startDir (F := F) c st ⊢ reached (ER (F := F)) (crG c st) 0 := by
  unfold startDir
  iintro ⟨-, -, -, -, -, -, -, H⟩
  iexact H

section
variable (a2 : Memref sig .tc .smem S1 .f32) (h2 : a2.IsWhole) (a3 : Memref sig .tc .smem S1 .f32) (h3 : a3.IsWhole)
    (a5 : Memref sig .tc .vmem S128x2048 .f32) (h5 : a5.IsWhole)

def pre3 : sProp 𝕄 :=
  iprop(invs (F := F) X Wt κ ιs ∗ levAts L lv ∗ stg c cc0_stg0_0 (X c) ∗ stg c cc0_stg1_0 (Wt c) ∗ stg c cc0_stg4_0 (idsV (F := F) c)
    ∗ accAny (F := F) c ∗ (startDir (F := F) c 0 ∗ rsAny (F := F) c 0) ∗ (startDir (F := F) c 1 ∗ rsAny (F := F) c 1) ∗ startBar (F := F) c ∗ ows (F := F) c (ow₀ c))
def post3 : sProp 𝕄 :=
  iprop(stg c cc0_stg0_0 (X c) ∗ stg c cc0_stg1_0 (Wt c) ∗ stg c cc0_stg4_0 (idsV (F := F) c)
    ∗ bigSep (Finset.univ : Finset (Fin 32)) (fun q => chunkIs (F := F) c q (part X Wt c q))
    ∗ (ready0 (F := F) c 0 ∗ barPay (F := F) 0 (dst 0 c)) ∗ (ready0 (F := F) c 1 ∗ barPay (F := F) 1 (dst 1 c))
    ∗ atPos (ER (F := F)) (barG c) 1 ∅ 0 ∗ ows (F := F) c (ow 0 0 0 0 c))

theorem start_wait : (levAts L lv : sProp 𝕄) ⊢ MayWait (c : Thread nD τ) (.reg barS) 0 (ow 0 0 0 0 c) :=
  mayWait_ow c (.reg barS) 0 0 0 0 0 (by decide) (by
    have : levOf (.reg barS) 0 = 1 := rfl
    rw [this]; decide)

theorem part3_run :
    pre3 X Wt κ ιs c ⊢ wp frame (wpE (defs₀ (F := F)) 𝒱₀ (c : Thread nD τ) none) Set.univ
      (k0_part3 xM (Memref.isWhole_whole _) wM (Memref.isWhole_whole _) a2 h2 a3 h3 idM (Memref.isWhole_whole _) a5 h5 accM (Memref.isWhole_whole _)
        (rsM 0) (Memref.isWhole_whole _) (rsM 1) (Memref.isWhole_whole _) cc0_scratch3 cc0_scratch4 cc0_scratch5)
      (fun r => iprop(⌜r = ⟨w0 c, chk3_word (pos c), w1 c, chk1_word (prv c), w2 c, chk2_word (nxt c)⟩⌝ ∗ post3 X Wt c)) := by
  simp only [k0_part3_eq_skeleton]
  unfold k0_part3_skel pre3
  simp only [Prog.lift, Prog.bind_op, Prog.bind_ret, Prog.pure_eq_ret, Prog.bind_assoc, semSignalWord, semWaitWord]
  iintro ⟨#HI, #Hlev, Hx, Hw, Hid, Hacc, ⟨HR, HrsR⟩, ⟨HL, HrsL⟩, HB, HO⟩
  iapply (word_load c (M := idM) (w0 c) rfl) $$ Hid; iintro Hid
  simp only [wp_assume_of _ _ _ _ (d := k0_chk3.dec _) (chk3_word (pos c))]
  iapply (word_load c (M := idM) (w1 c) rfl) $$ Hid; iintro Hid
  simp only [wp_assume_of _ _ _ _ (d := k0_chk1.dec _) (chk1_word (prv c))]
  iapply (word_load c (M := idM) (w2 c) rfl) $$ Hid; iintro Hid
  simp only [wp_assume_of _ _ _ _ (d := k0_chk2.dec _) (chk2_word (nxt c))]
  iapply (w_load c (Wt c)) $$ Hw; iintro Hw
  iapply (Scf.wp_for_bind frame (wpE (defs₀ (F := F)) 𝒱₀ c none) Set.univ k0_t1_loop.lb k0_t1_loop.ub k0_t1_loop.st k0_t1_ok _ _
      (fun k _ => gem X Wt c k) (fun k u => gemm_trip X Wt c wM (Memref.isWhole_whole _) a2 h2 a3 h3 idM (Memref.isWhole_whole _) a5 h5 k u)) $$ [Hx Hacc]
  · rw [gem_zero]
    isplitl [Hx]; · iexact Hx
    iapply (acc_cut (F := F) c); iexact Hacc
  iintro %u Hg
  ihave Hg := (Entails.of_eq (show gem X Wt c (Scf.trips k0_t1_loop.lb k0_t1_loop.ub k0_t1_loop.st) = _ from gem_last X Wt c)) $$ Hg
  icases Hg with ⟨Hx, Hch⟩
  ihave #HcR := (cr_of_start (F := F) c 0) $$ HR
  ihave #HcL := (cr_of_start (F := F) c 1) $$ HL
  imod (opened X Wt κ ιs c 0) $$ [HR HrsR] with ⟨HR, #HbR⟩
  · isplitr; · iexact HI
    isplitl [HR]; · iexact HR
    isplitl [HrsR]; · iexact HrsR
    iexact HcL
  imod (opened X Wt κ ιs c 1) $$ [HL HrsL] with ⟨HL, #HbL⟩
  · isplitr; · iexact HI
    isplitl [HL]; · iexact HL
    isplitl [HrsL]; · iexact HrsL
    iexact HcR
  unfold startBar
  icases HB with ⟨⟨Ht0, #Hr0⟩, ⟨Ht1, #Hr1⟩, Hat, Hc⟩
  iapply (bar_signal c 0 X Wt κ ιs bar_sem (Fin.ext (dev1_word (prv c))) rfl (ow₀ c) (ow 0 0 0 0 c + tallyAt (barG (nxt c)) 0 1) rfl) $$ [Ht0 HO]
  · isplitr; · iexact HI
    isplitl [Ht0]; · iexact Ht0
    isplitr; · iexact Hr0
    isplitr; · iexact HbR
    iexact HO
  iintro HO
  iapply (bar_signal c 1 X Wt κ ιs bar_sem (Fin.ext (dev2_word (nxt c))) rfl (ow 0 0 0 0 c + tallyAt (barG (nxt c)) 0 1) (ow 0 0 0 0 c) rfl) $$ [Ht1 HO]
  · isplitr; · iexact HI
    isplitl [Ht1]; · iexact Ht1
    isplitr; · iexact Hr1
    isplitr; · iexact HbL
    iexact HO
  iintro HO
  iapply (bar_wait c X Wt κ ιs bar_sem rfl (ow 0 0 0 0 c) (start_wait (F := F) c)) $$ [Hat Hc HO]
  · isplitr; · iexact HI
    isplitr; · iexact Hlev
    isplitl [Hat]; · iexact Hat
    isplitl [Hc]; · iexact Hc
    iexact HO
  iintro ⟨Hat, HO, #HpR, #HpL⟩
  rw [wp_ret]; imodintro
  isplitr; · ipureintro; rfl
  unfold post3
  isplitl [Hx]; · iexact Hx
  isplitl [Hw]; · iexact Hw
  isplitl [Hid]; · iexact Hid
  isplitl [Hch]; · iexact Hch
  isplitl [HR]
  · isplitl [HR]; · iexact HR
    iexact HpR
  isplitl [HL]
  · isplitl [HL]; · iexact HL
    iexact HpL
  isplitl [Hat]; · iexact Hat
  iexact HO

end

/-! ## The first message of each direction -/

theorem sendOk_of_bar (e : Dev nD) : barPay (F := F) st e ⊢ iprop(sendOk (F := F) st e 0 ∗ sendOk (F := F) st e 1 ∗ reached (ER (F := F)) (crG e (1 - st)) 0) := by
  unfold barPay sendOk
  iintro ⟨H0, H1, H2⟩
  isplitl [H0]; · iexact H0
  isplitl [H1]; · iexact H1
  iexact H2

theorem dir_first : core (F := F) X Wt c st 0 1 0 0 0 1 ⊢ Dir X Wt c st 0 := by
  unfold Dir KS
  rw [show min (0 + 1) (nM st) = 1 from (by decide : ∀ st, min (0 + 1) (nM st) = 1) st, show min (0 - 1) (nCr st) = 0 from by exact (by decide : ∀ st, min (0 - 1) (nCr st) = 0) st]
  rw [Finset.Ico_eq_empty (by omega), bigSep_empty]
  iintro H
  isplitl [H]; · iexact H
  iempintro

theorem first_send {n' : Dev nD} {sS sR : DmaSem sig} {o : Fin 2 → ℕ} {ho' : ∀ a, o a + S128x2048.size a ≤ S4096x2048.size a}
    {rs : Memref sig .tc .vmem S2x128x2048 .bf16} {o3 : Fin 3 → ℕ} {ho3' : ∀ a, o3 a + S1x128x2048.size a ≤ S2x128x2048.size a}
    {hq : S1x128x2048.Squeezes S128x2048}
    {hr1 : ∀ a, (Rect.unit (s := S4096x2048) o S128x2048.size ho').stride a = 1}
    {hr3 : ∀ a, (Rect.unit (s := S2x128x2048) o3 S1x128x2048.size ho3').stride a = 1}
    {hx : _} {hs : _} {hd : _} {hp : _}
    {α : Type} {k : PUnit → Prog (TpuEff nD τ sig (Elt F) Λ₀ .tc) α} {Q : α → sProp 𝕄}
    (hn' : n' = dst st c) (hsS : sS = sendS (sidx st (par 0))) (hsR : sR = recvS (sidx st (par 0)))
    (ho : o = ![(row st 0 (pos c)).val * 128, 0]) (hrs : rs = rsM st) (ho3 : o3 = ![(par 0).val, 0, 0])
    (O₀ O : CellTallies nD τ sig ℕ) (hO : O₀ = O + tallyAt (recvG (dst st c) st (par 0)) 0 N) :
    iprop(invs (F := F) X Wt κ ιs ∗ (ready0 (F := F) c st ∗ barPay (F := F) st (dst st c)) ∗ reached (ER (F := F)) (crG (src st c) st) 0
        ∗ bigSep (Finset.Ico 0 (nM st)) (fun j => chunkIs (F := F) c (row st j (pos c)) (part X Wt c (row st j (pos c)))) ∗ ows (F := F) c O₀)
      ⊢ iprop(((Dir (F := F) X Wt c st 0 ∗ ows (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (accM.slice (Rect.unit (s := S4096x2048) o S128x2048.size ho') hr1)
              (.remote (Dev.tc n') ((rs.slice (Rect.unit (s := S2x128x2048) o3 S1x128x2048.size ho3') hr3).squeeze S128x2048 hq) (.dma sS) hx)
              (.dma sR) hs hd hp) k) Q) := by
  have hpos : 0 < nM st := (by decide : ∀ st, 0 < nM st) st
  have hpc : 0 < nCr st := (by decide : ∀ st, 0 < nCr st) st
  rw [bs_take hpos]
  unfold ready0
  iintro ⟨#HI, ⟨⟨HRV, HSP, HTK, ⟨Hat, Hcs⟩, Hts, ⟨R0, R1⟩⟩, #Hb⟩, #Hcr, ⟨Hch, Hchs⟩, HO⟩ Hk
  ihave #Hok := (sendOk_of_bar (F := F) st (dst st c)) $$ Hb
  icases Hok with ⟨#Hok0, #Hok1, -⟩
  iapply (send_step X Wt κ ιs c st 0 0 (le_refl _) (by omega) hpos hn' hsS hsR rfl ho hrs ho3 O₀ O hO) $$ [HSP HTK Hch HO]
  · isplitr; · iexact HI
    isplitl [HSP HTK]
    · unfold SD IFL
      isplitl [HSP]; · iexact HSP
      isplitl [HTK]; · iexact HTK
      rw [Finset.Ico_self, bigSep_empty]; iempintro
    isplitr; · iexact Hok0
    isplitl [Hch]; · iexact Hch
    iexact HO
  iintro ⟨HSD, HO⟩
  iapply Hk
  isplitr [HO]
  · iapply (dir_first X Wt c st)
    unfold core
    isplitl [HRV]; · iexact HRV
    isplitl [HSD]; · iexact HSD
    isplitl [Hat Hcs]
    · unfold CR CRp
      rw [if_pos hpc]
      isplitl [Hat]
      · iexists ∅
        isplitl [Hat]; · iexact Hat
        rw [bigSep_empty]; iempintro
      iexact Hcs
    isplitl [Hts R0 R1]
    · unfold SG
      isplitl [Hts]; · iexact Hts
      isplitr; · iexact Hcr
      isplitl [R0]; · iexact R0
      isplitl [R1]; · iexact R1
      dsimp only [prevFact]; iempintro
    isplitl [Hchs]; · unfold FR; iexact Hchs
    isplitr
    · unfold BK; rw [Finset.Ico_self, bigSep_empty]; iempintro
    iexact Hok1
  iexact HO

theorem ow_right (c : Dev nD) : ow 0 0 0 0 c = ow 1 0 0 0 c + tallyAt (recvG (dst 0 c) 0 (par 0)) 0 N := by
  rw [← owX_zero c 0 0 0 0, ← owX_zero c 1 0 0 0]; exact owX_msg c 0 0 0 0 0 (by decide)
theorem ow_left (c : Dev nD) : ow 1 0 0 0 c = ow 1 1 0 0 c + tallyAt (recvG (dst 1 c) 1 (par 0)) 0 N := by
  rw [← owX_one c 0 0 1 0, ← owX_one c 1 0 1 0]; exact owX_msg c 1 0 0 1 0 (by decide)

section
variable (a0 : Memref sig .tc .vmem S4096x128 .fp8e4m3) (h0 : a0.IsWhole) (a1 : Memref sig .tc .vmem S128x2048 .fp8e5m2) (h1 : a1.IsWhole)
    (a2 : Memref sig .tc .smem S1 .f32) (h2 : a2.IsWhole) (a3 : Memref sig .tc .smem S1 .f32) (h3 : a3.IsWhole)
    (a4 : Memref sig .tc .smem S3 .i32) (h4 : a4.IsWhole) (a5 : Memref sig .tc .vmem S128x2048 .f32) (h5 : a5.IsWhole)
variable (hw3 : k0_chk3 (w0 c)) (hw1 : k0_chk1 (w1 c)) (hw2 : k0_chk2 (w2 c))

def pre4 : sProp 𝕄 :=
  iprop(invs (F := F) X Wt κ ιs ∗ levAts L lv ∗ bigSep (Finset.univ : Finset (Fin 32)) (fun q => chunkIs (F := F) c q (part X Wt c q))
    ∗ (ready0 (F := F) c 0 ∗ barPay (F := F) 0 (dst 0 c)) ∗ (ready0 (F := F) c 1 ∗ barPay (F := F) 1 (dst 1 c)) ∗ ows (F := F) c (ow 0 0 0 0 c))

theorem part4_run :
    pre4 X Wt κ ιs c ⊢ wp frame (wpE (defs₀ (F := F)) 𝒱₀ (c : Thread nD τ) none) Set.univ
      (k0_part4 a0 h0 a1 h1 a2 h2 a3 h3 a4 h4 a5 h5 accM (Memref.isWhole_whole _)
        (rsM 0) (Memref.isWhole_whole _) (rsM 1) (Memref.isWhole_whole _) cc0_scratch3 cc0_scratch4 cc0_scratch5 (w0 c) hw3 (w1 c) hw1 (w2 c) hw2)
      (fun r => iprop(⌜r = ⟨0#32, 1#32⟩⌝ ∗ between X Wt κ ιs c 0)) := by
  simp only [k0_part4_eq_skeleton]
  unfold k0_part4_skel pre4
  rw [rows_all _ (pos c)]
  simp only [Prog.lift, Prog.bind_op, Prog.bind_ret, Prog.pure_eq_ret, Prog.bind_assoc]
  iintro ⟨#HI, #Hlev, ⟨Hown, HfR, HfL⟩, ⟨HR, #HbR⟩, ⟨HL, #HbL⟩, HO⟩
  ihave #HkR := (sendOk_of_bar (F := F) 0 (dst 0 c)) $$ HbR
  icases HkR with ⟨-, -, #HcL⟩
  ihave #HkL := (sendOk_of_bar (F := F) 1 (dst 1 c)) $$ HbL
  icases HkL with ⟨-, -, #HcR⟩
  iapply (first_send X Wt κ ιs c 0 (Fin.ext (dev3_word (nxt c))) (send_sem 0 0 _ rfl _ _) (recv_sem 0 0 _ rfl _ _) (off3_word (pos c)) rfl rfl
    (ow 0 0 0 0 c) (ow 1 0 0 0 c) (ow_right c)) $$ [HR HfR HO]
  · isplitr; · iexact HI
    isplitl [HR]
    · isplitl [HR]; · iexact HR
      iexact HbR
    isplitr; · iexact HcR
    isplitl [HfR]; · iexact HfR
    iexact HO
  iintro ⟨HR, HO⟩
  iapply (first_send X Wt κ ιs c 1 (Fin.ext (dev4_word (prv c))) (send_sem 1 0 _ rfl _ _) (recv_sem 1 0 _ rfl _ _) (off4_word (pos c)) rfl rfl
    (ow 1 0 0 0 c) (ow 1 1 0 0 c) (ow_left c)) $$ [HL HfL HO]
  · isplitr; · iexact HI
    isplitl [HL]
    · isplitl [HL]; · iexact HL
      iexact HbL
    isplitr; · iexact HcL
    isplitl [HfL]; · iexact HfL
    iexact HO
  iintro ⟨HL, HO⟩
  rw [wp_ret]; imodintro
  isplitr; · ipureintro; rfl
  unfold between
  isplitr; · iexact HI
  isplitr; · iexact Hlev
  isplitl [HR]; · iexact HR
  isplitl [HL]; · iexact HL
  isplitl [Hown]; · iexact Hown
  iexact HO

end

end Cert.RingProof
-- ==== Proof.Body.lean ====
/-
  The whole kernel: from what it starts with to its result, with every buffer whole again and every counter at zero.
-/
module

public import proofs.«01_k».proof.Proof.Open

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S4096x128 .fp8e4m3) (Wt : Dev nD → Vec F S128x2048 .fp8e5m2)
variable (sA sB : Dev nD → Vec F S1 .f32)
variable (κ : GSem nD τ sig → ℕ) (ιs : Dev nD × Fin 4 → ℕ)
variable (c : Dev nD) (st : Fin 2)

/-- A part of the kernel, run by a lemma of its own. -/
theorem run_part {α β : Type} {p : Prog (TpuEff nD τ sig (Elt F) Λ₀ .tc) α} {k : α → Prog (TpuEff nD τ sig (Elt F) Λ₀ .tc) β} {P : sProp 𝕄}
    {R : α → sProp 𝕄} {Q : β → sProp 𝕄} (h : P ⊢ wp frame (wpE (defs₀ (F := F)) 𝒱₀ (c : Thread nD τ) none) Set.univ p R) :
    P ⊢ iprop((∀ a, R a -∗ wp frame (wpE (defs₀ (F := F)) 𝒱₀ (c : Thread nD τ) none) Set.univ (k a) Q)
        -∗ wp frame (wpE (defs₀ (F := F)) 𝒱₀ (c : Thread nD τ) none) Set.univ (p >>= k) Q) := by
  iintro HP Hk
  rw [wp_bind]
  iapply wp_wand_r
  isplitl [HP]; · iapply h; iexact HP
  iexact Hk

/-! ## One direction, its messages all taken in -/

/-- Both receive counters and the credit counter at their ends, both slots back. -/
def done : sProp 𝕄 :=
  iprop((atPos (ER (F := F)) (recvG c st 0) (cnt (nM st) 0) ∅ 0 ∗ atPos (ER (F := F)) (recvG c st 1) (cnt (nM st) 1) ∅ 0)
    ∗ atPos (ER (F := F)) (crG c st) 1 ∅ 0 ∗ (slotAny (F := F) c st 0 ∗ slotAny (F := F) c st 1))

theorem recv_done : RV (F := F) c st (nM st)
    ⊢ iprop(atPos (ER (F := F)) (recvG c st 0) (cnt (nM st) 0) ∅ 0 ∗ atPos (ER (F := F)) (recvG c st 1) (cnt (nM st) 1) ∅ 0) := by
  unfold RV
  match st with
  | 0 => iintro ⟨H0, H1, -⟩; isplitl [H0]; · iexact H0
         iexact H1
  | 1 => iintro ⟨H1, H0, -⟩; isplitl [H0]; · iexact H0
         iexact H1

theorem slots_done : KS (F := F) c st (nM st) ⊢ iprop(slotAny (F := F) c st 0 ∗ slotAny (F := F) c st 1) := by
  unfold KS
  rw [bs_take (by have := nCr_add st; omega), bs_take (by have := nCr_add st; omega)]
  match st with
  | 0 => iintro ⟨H0, H1, -⟩; isplitl [H0]; · iexact H0
         iexact H1
  | 1 => iintro ⟨H1, H0, -⟩; isplitl [H0]; · iexact H0
         iexact H1

theorem finish : Dir X Wt c st (nM st)
    ⊢ iprop(done (F := F) c st ∗ (LW (F := F) c st (nCr st) ∗ LW (F := F) c st (nCr st + 1)) ∗ BK (F := F) c st (nCr st)) := by
  have hc := nCr_add st
  unfold Dir core done
  rw [show min (nM st + 1) (nM st) = nM st from by omega, show min (nM st - 1) (nCr st) = nCr st from by omega]
  iintro ⟨⟨HR, HS, HC, -, -, HB, -⟩, HK⟩
  isplitl [HR HC HK]
  · isplitl [HR]; · iapply (recv_done (F := F) c st); iexact HR
    isplitl [HC]
    · unfold CR CRp
      rw [if_neg (lt_irrefl _)]
      icases HC with ⟨HC, -⟩
      iexact HC
    iapply (slots_done (F := F) c st); iexact HK
  isplitl [HS]; · iapply (last_sends c st (nCr st) hc); iexact HS
  iexact HB

/-- A direction's blocks all back. -/
theorem blocks_back : iprop(BK (F := F) c st (nCr st) ∗ chunkAny (F := F) c (row st (nCr st) (pos c)) ∗ chunkAny (F := F) c (row st (nCr st + 1) (pos c)))
    ⊢ bigSep (Finset.Ico 0 (nM st)) (fun j => chunkAny (F := F) c (row st j (pos c))) := by
  rw [← nCr_add st, bs_put (Nat.zero_le _), bs_put (Nat.zero_le _)]
  unfold BK
  iintro ⟨H, H0, H1⟩
  isplitl [H1]; · iexact H1
  isplitl [H0]; · iexact H0
  iexact H

/-! ## The counters -/

def zeros : sProp 𝕄 :=
  iprop((semVal (recvG c st 0) 0 ∗ semVal (recvG c st 1) 0) ∗ (semVal (sendG c st 0) 0 ∗ semVal (sendG c st 1) 0) ∗ semVal (crG c st) 0)

theorem close_dir : iprop(invs (F := F) X Wt κ ιs
      ∗ (atPos (ER (F := F)) (recvG c st 0) (cnt (nM st) 0) ∅ 0 ∗ atPos (ER (F := F)) (recvG c st 1) (cnt (nM st) 1) ∅ 0)
      ∗ atPos (ER (F := F)) (crG c st) 1 ∅ 0
      ∗ (atPos (ER (F := F)) (sendG c st 0) (cnt (nM st) 0) ∅ 0 ∗ atPos (ER (F := F)) (sendG c st 1) (cnt (nM st) 1) ∅ 0))
    ⊢ |={Set.univ}=> zeros (F := F) c st := by
  unfold zeros
  iintro ⟨#HI, ⟨R0, R1⟩, C, ⟨S0, S1⟩⟩
  imod (close_recv c st X Wt κ ιs 0) $$ [R0] with R0
  · isplitr; · iexact HI
    iexact R0
  imod (close_recv c st X Wt κ ιs 1) $$ [R1] with R1
  · isplitr; · iexact HI
    iexact R1
  imod (close_send c st X Wt κ ιs 0) $$ [S0] with S0
  · isplitr; · iexact HI
    iexact S0
  imod (close_send c st X Wt κ ιs 1) $$ [S1] with S1
  · isplitr; · iexact HI
    iexact S1
  imod (close_cr c st X Wt κ ιs) $$ [C] with C
  · isplitr; · iexact HI
    iexact C
  imodintro
  isplitl [R0 R1]
  · isplitl [R0] <;> iassumption
  isplitl [S0 S1]
  · isplitl [S0] <;> iassumption
  iexact C

/-! ## The kernel -/

/-- The single entry of a scale. -/
def sc0 (f : Vec F S1 .f32) : Elt F .f32 := f (fun a => ⟨0, by fin_cases a; decide⟩)
theorem sc0_eq (f : Vec F S1 .f32) (i : S1.Idx) : f i = sc0 f :=
  congrArg f (funext fun a => Fin.ext (by
    have h : (i a).val < S1.size a := (i a).isLt
    fin_cases a
    have h1 : S1.size 0 = 1 := rfl
    change (i 0).val < S1.size 0 at h
    show (i 0).val = 0
    omega))

/-- What a device's kernel stores. -/
def outV : Vec F S128x2048 .f32 := k0_pay4 (sc0 (sA c)) (sc0 (sB c)) (own2 X Wt c)

/-- The own block read for the result. -/
theorem own_load {q : Fin 32} {o : Fin 2 → ℕ} {ho1 : _} {l1 : _} {α : Type}
    {k : Vec F S128x2048 .bf16 → Prog (TpuEff nD τ sig (Elt F) Λ₀ .tc) α} {Q : α → sProp 𝕄}
    (ho : o = ![q.val * 128, 0]) (u : FVec F S128x2048 .bf16) :
    chunkIs c q u
      ⊢ iprop((chunkIs c q u -∗ wp frame (wpE (defs₀ (F := F)) 𝒱₀ (c : Thread nD τ) none) Set.univ (k u) Q)
          -∗ wp frame (wpE (defs₀ (F := F)) 𝒱₀ (c : Thread nD τ) none) Set.univ
            (.op (.load accM (Rect.unit (s := S4096x2048) o S128x2048.size ho1).toLoadRect l1) k) Q) := by
  subst ho
  unfold chunkIs owns
  iintro ⟨%fa, %hfa, Ha⟩ Hk
  subst hfa
  iapply (wp_load_rect 𝒱₀ (c : Thread nD τ) none Set.univ (m := accM) (r := chunkRect q) (Finset.Subset.refl _)) $$ Ha
  iintro Ha
  iapply Hk
  iexists fa
  isplitr; · ipureintro; rfl
  iexact Ha

/-- The result loaded (and thrown away), then stored. -/
theorem out_store {hb hb' : ∀ a, (![0, 0] : Fin 2 → ℕ) a + S128x2048.size a ≤ S128x2048.size a} {l1 : _} {x1 : _} {x2 : _} {α : Type}
    {k : PUnit → Prog (TpuEff nD τ sig (Elt F) Λ₀ .tc) α} {Q : α → sProp 𝕄} (f v : Vec F S128x2048 .f32) :
    (stg c cc0_stg5_0 f : sProp 𝕄)
      ⊢ iprop((stg c cc0_stg5_0 v -∗ wp frame (wpE (defs₀ (F := F)) 𝒱₀ (c : Thread nD τ) none) Set.univ (k ⟨⟩) Q)
          -∗ wp frame (wpE (defs₀ (F := F)) 𝒱₀ (c : Thread nD τ) none) Set.univ
            (.op (.load oM (Rect.unit (s := S128x2048) ![0, 0] S128x2048.size hb).toLoadRect l1) fun _ =>
              .op (.store oM (Rect.unit (s := S128x2048) ![0, 0] S128x2048.size hb') v Finset.univ x1 x2) k) Q) := by
  have hr := Memref.write_access_unit_zero_univ (Elt F) cc0_stg5_0 two_zero hb' f v
  iintro H Hk
  iapply (wp_load 𝒱₀ (c : Thread nD τ) none Set.univ (m := oM) (Finset.subset_univ _)) $$ H; iintro H
  iapply (wp_store 𝒱₀ (c : Thread nD τ) none Set.univ (m := oM) (r := Rect.unit (s := S128x2048) ![0, 0] S128x2048.size hb') (S := Finset.univ) (Mk := Finset.univ) (Finset.subset_univ _)) $$ H; iintro H
  ihave H := (Entails.of_eq (congrArg (fun v => (stg c cc0_stg5_0 v : sProp 𝕄)) hr)) $$ H
  iapply Hk; iexact H

/-- What the kernel starts with. -/
def kernelPre (f : Vec F S128x2048 .f32) : sProp 𝕄 :=
  iprop((stg c cc0_stg0_0 (X c) ∗ stg c cc0_stg1_0 (Wt c) ∗ stg c cc0_stg2_0 (sA c) ∗ stg c cc0_stg3_0 (sB c) ∗ stg c cc0_stg4_0 (idsV (F := F) c)
      ∗ stg c cc0_stg5_0 f)
    ∗ (invs (F := F) X Wt κ ιs ∗ levAts L lv) ∗ (accAny (F := F) c ∗ rsAny (F := F) c 0 ∗ rsAny (F := F) c 1)
    ∗ (startDir (F := F) c 0 ∗ startDir (F := F) c 1 ∗ startBar (F := F) c) ∗ ows (F := F) c (ow₀ c))
/-- What it ends with. -/
def kernelPost : sProp 𝕄 :=
  iprop((stg c cc0_stg0_0 (X c) ∗ stg c cc0_stg1_0 (Wt c) ∗ stg c cc0_stg2_0 (sA c) ∗ stg c cc0_stg3_0 (sB c) ∗ stg c cc0_stg4_0 (idsV (F := F) c)
      ∗ stg c cc0_stg5_0 (outV X Wt sA sB c))
    ∗ (accAny (F := F) c ∗ rsAny (F := F) c 0 ∗ rsAny (F := F) c 1)
    ∗ (zeros (F := F) c 0 ∗ zeros (F := F) c 1) ∗ semVal (barG c) 0 ∗ ows (F := F) c 0)

theorem ow_end : ow 17 17 16 16 c = 0 := by
  unfold ow
  rw [owM_zero, owM_zero, owC_zero, owC_zero, add_zero, add_zero] <;> decide

theorem kernel_run (f : Vec F S128x2048 .f32) :
    kernelPre X Wt sA sB κ ιs c f ⊢ wp frame (wpE (defs₀ (F := F)) 𝒱₀ (c : Thread nD τ) none) Set.univ
      (cc0_body xM (Memref.isWhole_whole _) wM (Memref.isWhole_whole _) aM (Memref.isWhole_whole _) bM (Memref.isWhole_whole _) idM (Memref.isWhole_whole _)
        oM (Memref.isWhole_whole _) accM (Memref.isWhole_whole _)
        (rsM 0) (Memref.isWhole_whole _) (rsM 1) (Memref.isWhole_whole _) cc0_scratch3 cc0_scratch4 cc0_scratch5)
      (fun _ => kernelPost X Wt sA sB c) := by
  simp only [cc0_body_eq_skeleton]
  unfold cc0_body_skel kernelPre
  simp only [k0_part7_eq_skeleton]
  unfold k0_part7_skel
  simp only [k0_part5_eq_skeleton, k0_part6_eq_skeleton]
  unfold k0_part5_skel k0_part6_skel
  simp only [Prog.lift, Prog.bind_op, Prog.bind_ret, Prog.pure_eq_ret, Prog.bind_assoc]
  iintro ⟨⟨Hx, Hw, Ha, Hb, Hid, Ho⟩, ⟨#HI, #Hlev⟩, ⟨Hacc, HrsR, HrsL⟩, ⟨HR, HL, HB⟩, HO⟩
  iapply (run_part c (part3_run X Wt κ ιs c aM (Memref.isWhole_whole _) bM (Memref.isWhole_whole _) oM (Memref.isWhole_whole _)))
    $$ [Hx Hw Hid Hacc HrsR HrsL HR HL HB HO]
  · unfold pre3
    isplitr; · iexact HI
    isplitr; · iexact Hlev
    isplitl [Hx]; · iexact Hx
    isplitl [Hw]; · iexact Hw
    isplitl [Hid]; · iexact Hid
    isplitl [Hacc]; · iexact Hacc
    isplitl [HR HrsR]
    · isplitl [HR] <;> iassumption
    isplitl [HL HrsL]
    · isplitl [HL] <;> iassumption
    isplitl [HB]; · iexact HB
    iexact HO
  iintro %r ⟨%hr, H⟩
  subst hr
  dsimp only
  unfold post3
  icases H with ⟨Hx, Hw, Hid, Hch, HR, HL, Hbar, HO⟩
  iapply (run_part c (part4_run X Wt κ ιs c xM (Memref.isWhole_whole _) wM (Memref.isWhole_whole _) aM (Memref.isWhole_whole _) bM (Memref.isWhole_whole _)
    idM (Memref.isWhole_whole _) oM (Memref.isWhole_whole _) (chk3_word (pos c)) (chk1_word (prv c)) (chk2_word (nxt c)))) $$ [Hch HR HL HO]
  · unfold pre4
    isplitr; · iexact HI
    isplitr; · iexact Hlev
    isplitl [Hch]; · iexact Hch
    isplitl [HR]; · iexact HR
    isplitl [HL]; · iexact HL
    iexact HO
  iintro %r ⟨%hr, H⟩
  subst hr
  dsimp only
  iapply (Scf.wp_for_bind frame (wpE (defs₀ (F := F)) 𝒱₀ c none) Set.univ k0_t2_loop.lb k0_t2_loop.ub k0_t2_loop.st k0_t2_ok _ _
      (fun k _ => between X Wt κ ιs c k)
      (fun k u => trip X Wt κ ιs c xM (Memref.isWhole_whole _) wM (Memref.isWhole_whole _) aM (Memref.isWhole_whole _) bM (Memref.isWhole_whole _)
        idM (Memref.isWhole_whole _) oM (Memref.isWhole_whole _) (chk3_word (pos c)) (chk1_word (prv c)) (chk2_word (nxt c)) 0#32 1#32 k)) $$ [H]
  · iexact H
  iintro %u H
  ihave H := (Entails.of_eq (show between X Wt κ ιs c (Scf.trips k0_t2_loop.lb k0_t2_loop.ub k0_t2_loop.st) =
      iprop(invs (F := F) X Wt κ ιs ∗ levAts L lv ∗ Dir (F := F) X Wt c 0 (nM 0) ∗ Dir (F := F) X Wt c 1 (nM 1) ∗ chunkIs c (pos c) (own2 X Wt c)
        ∗ ows (F := F) c 0) from by
    rw [← ow_end c]; rfl)) $$ H
  icases H with ⟨-, -, HR, HL, Hown, HO⟩
  ihave HR := (finish X Wt c 0) $$ HR
  ihave HL := (finish X Wt c 1) $$ HL
  icases HR with ⟨HR, ⟨R14, R15⟩, HbkR⟩
  icases HL with ⟨HL, ⟨L13, L14⟩, HbkL⟩
  iapply (last_wait c 0 X Wt κ ιs 14 (by decide) (send_sem 0 0 _ rfl _ _) (credit_of _)) $$ [R14 HO]
  · isplitr; · iexact HI
    isplitl [R14]; · iexact R14
    iexact HO
  iintro ⟨S00, HO, HcR14⟩
  iapply (last_wait c 0 X Wt κ ιs 15 (by decide) (send_sem 0 1 _ rfl _ _) (credit_of _)) $$ [R15 HO]
  · isplitr; · iexact HI
    isplitl [R15]; · iexact R15
    iexact HO
  iintro ⟨S01, HO, HcR15⟩
  iapply (last_wait c 1 X Wt κ ιs 14 (by decide) (send_sem 1 0 _ rfl _ _) (credit_of _)) $$ [L14 HO]
  · isplitr; · iexact HI
    isplitl [L14]; · iexact L14
    iexact HO
  iintro ⟨S10, HO, HcL14⟩
  iapply (last_wait c 1 X Wt κ ιs 13 (by decide) (send_sem 1 1 _ rfl _ _) (credit_of _)) $$ [L13 HO]
  · isplitr; · iexact HI
    isplitl [L13]; · iexact L13
    iexact HO
  iintro ⟨S11, HO, HcL13⟩
  iapply (word_load c (M := aM) (r := Rect.unit (s := S1) ![0] S1.size inb_S1_S1_0) (h1 := numel1_S1) (f := sA c) (sc0 (sA c)) (sc0_eq (sA c) _)) $$ Ha; iintro Ha
  iapply (word_load c (M := bM) (r := Rect.unit (s := S1) ![0] S1.size inb_S1_S1_0) (h1 := numel1_S1) (f := sB c) (sc0 (sB c)) (sc0_eq (sB c) _)) $$ Hb; iintro Hb
  iapply (own_load c (off27_word (pos c)) (own2 X Wt c)) $$ Hown; iintro Hown
  iapply (out_store c f (outV X Wt sA sB c)) $$ Ho; iintro Ho
  rw [wp_ret]
  unfold done
  icases HR with ⟨RR, CR, SR⟩
  icases HL with ⟨RL, CL, SL⟩
  imod (close_dir X Wt κ ιs c 0) $$ [RR CR S00 S01] with ZR
  · isplitr; · iexact HI
    isplitl [RR]; · iexact RR
    isplitl [CR]; · iexact CR
    isplitl [S00]; · iexact S00
    iexact S01
  imod (close_dir X Wt κ ιs c 1) $$ [RL CL S10 S11] with ZL
  · isplitr; · iexact HI
    isplitl [RL]; · iexact RL
    isplitl [CL]; · iexact CL
    isplitl [S10]; · iexact S10
    iexact S11
  imod (close_bar c X Wt κ ιs) $$ [Hbar] with Zb
  · isplitr; · iexact HI
    iexact Hbar
  imodintro
  unfold kernelPost
  isplitl [Hx Hw Ha Hb Hid Ho]
  · isplitl [Hx]; · iexact Hx
    isplitl [Hw]; · iexact Hw
    isplitl [Ha]; · iexact Ha
    isplitl [Hb]; · iexact Hb
    isplitl [Hid]; · iexact Hid
    iexact Ho
  isplitl [Hown HbkR HbkL HcR14 HcR15 HcL13 HcL14 SR SL]
  · isplitl [Hown HbkR HbkL HcR14 HcR15 HcL13 HcL14]
    · iapply (acc_join (F := F) c)
      rw [rows_all (F := F) (fun q => chunkAny c q) (pos c)]
      isplitl [Hown]; · iapply (chunk_any (F := F) c (pos c)); iexact Hown
      isplitl [HbkR HcR14 HcR15]
      · iapply (blocks_back (F := F) c 0)
        isplitl [HbkR]; · iexact HbkR
        isplitl [HcR14]; · iexact HcR14
        iexact HcR15
      iapply (blocks_back (F := F) c 1)
      isplitl [HbkL]; · iexact HbkL
      isplitl [HcL13]; · iexact HcL13
      iexact HcL14
    isplitl [SR]; · iapply (rs_join (F := F) c 0); iexact SR
    iapply (rs_join (F := F) c 1); iexact SL
  isplitl [ZR ZL]
  · isplitl [ZR] <;> iassumption
  isplitl [Zb]; · iexact Zb
  iexact HO

end Cert.RingProof
-- ==== Proof.Words.lean ====
/-
  The words the host computes for the kernel: a device's position along the cycle, and its two neighbours on it.
-/
module

public import proofs.«01_k».proof.Proof.Body
public import proofs.«01_k».proof.Proof.Gen.KernelIdeal.Regions
public import Idealize.ShloMosaic.Lib.Claim

@[expose] public section

noncomputable section

namespace Cert.RingProof

open Cert.KernelIdeal Cert.KernelIdeal.Gen
open Idealize.ShloMosaic
open Idealize.ShloMosaic.TcCoe

variable {F : FTy → Type} [FloatOps F]
variable (m : (ℓ : Loc nD τ sig) → Buf (Elt F) ℓ) (c : Dev nD)

/-- The device's own number, as the host computes it. -/
theorem v4_eq : V1 m c main_v4 = fun _ => word c := by
  unfold_abbrev_sides
  after_results
  funext i
  fin_cases c <;> sl_kernel_rfl

/-- The table of positions. -/
theorem tab_eq : V1 m c main_c = fun i => lit0 (S32.rowMajor i) := by
  unfold_abbrev_sides
  after_results
  rfl

/-- The table of the cycle. -/
theorem cyc_eq : V1 m c main_c_0 = fun i => lit1 (S32.rowMajor i) := by
  unfold_abbrev_sides
  after_results
  rfl

/-- The device's position along the cycle. -/
theorem v5_eq : V2 m c main_v5 = fun _ => w0 c := by
  have h0 : V1 m c main_v4 = fun _ => word c := v4_eq m c
  have h1 : V1 m c main_c = fun i => lit0 (S32.rowMajor i) := tab_eq m c
  generalize hW : V1 m c = W at h0 h1
  show StableHlo.after hostOps0_1 (V1 m c) _ = _
  rw [hW]
  unfold_abbrev_sides
  after_results_simp
  rw [h0, h1]
  simp only [StableHlo.TRef.ofBuf_toBuf]
  funext i
  fin_cases c <;> sl_kernel_rfl

/-- The position before it, as a word that may be below zero. -/
def before (c : Dev nD) : BitVec 32 := w0 c - 1#32
/-- The position after it, as a word that may be past the last. -/
def behind (c : Dev nD) : BitVec 32 := w0 c + 1#32

/-- One place back. -/
theorem v6_eq : V3 m c main_v6 = fun _ => before c := by
  have h0 : V2 m c main_v5 = fun _ => w0 c := v5_eq m c
  generalize hW : V2 m c = W at h0
  show StableHlo.after hostOps0_2 (V2 m c) _ = _
  rw [hW]
  unfold_abbrev_sides
  after_results_simp
  rw [h0]
  funext i
  fin_cases c <;> sl_kernel_rfl

/-- The number of devices, as the host's remainders use it. -/
theorem c4_eq : V3 m c main_c_4 = fun _ => 32#32 := by
  unfold_abbrev_sides
  after_results
  rfl

/-- One place back, around the cycle. -/
theorem v7_eq : V4 m c main_v7 = fun _ => word (pos (prv c)) := by
  have h0 : V3 m c main_v6 = fun _ => before c := v6_eq m c
  have h1 : V3 m c main_c_4 = fun _ => 32#32 := c4_eq m c
  generalize hW : V3 m c = W at h0 h1
  show StableHlo.after hostOps0_3 (V3 m c) _ = _
  rw [hW]
  unfold_abbrev_sides
  after_results_simp
  rw [h0, h1]
  simp only [StableHlo.TRef.ofBuf_toBuf]
  funext i
  fin_cases c <;> sl_kernel_rfl

/-- The device one place back. -/
theorem v8_eq : V5 m c main_v8 = fun _ => w1 c := by
  have h0 : V4 m c main_v7 = fun _ => word (pos (prv c)) := v7_eq m c
  have h1 : V4 m c main_c_0 = fun i => lit1 (S32.rowMajor i) := (V4_of m c main_c_0 (by decide)).trans <| (V3_of m c main_c_0 (by decide)).trans <| (V2_of m c main_c_0 (by decide)).trans <| cyc_eq m c
  generalize hW : V4 m c = W at h0 h1
  show StableHlo.after hostOps0_4 (V4 m c) _ = _
  rw [hW]
  unfold_abbrev_sides
  after_results_simp
  rw [h0, h1]
  simp only [StableHlo.TRef.ofBuf_toBuf]
  funext i
  fin_cases c <;> sl_kernel_rfl

/-- One place on. -/
theorem v9_eq : V6 m c main_v9 = fun _ => behind c := by
  have h0 : V5 m c main_v5 = fun _ => w0 c := (V5_of m c main_v5 (by decide)).trans <| (V4_of m c main_v5 (by decide)).trans <| (V3_of m c main_v5 (by decide)).trans <| v5_eq m c
  generalize hW : V5 m c = W at h0
  show StableHlo.after hostOps0_5 (V5 m c) _ = _
  rw [hW]
  unfold_abbrev_sides
  after_results_simp
  rw [h0]
  funext i
  fin_cases c <;> sl_kernel_rfl

/-- The number of devices, as the host's second remainder uses it. -/
theorem c6_eq : V6 m c main_c_6 = fun _ => 32#32 := by
  unfold_abbrev_sides
  after_results
  rfl

/-- One place on, around the cycle. -/
theorem v10_eq : V7 m c main_v10 = fun _ => word (pos (nxt c)) := by
  have h0 : V6 m c main_v9 = fun _ => behind c := v9_eq m c
  have h1 : V6 m c main_c_6 = fun _ => 32#32 := c6_eq m c
  generalize hW : V6 m c = W at h0 h1
  show StableHlo.after hostOps0_6 (V6 m c) _ = _
  rw [hW]
  unfold_abbrev_sides
  after_results_simp
  rw [h0, h1]
  simp only [StableHlo.TRef.ofBuf_toBuf]
  funext i
  fin_cases c <;> sl_kernel_rfl

/-- The device one place on. -/
theorem v11_eq : V8 m c main_v11 = fun _ => w2 c := by
  have h0 : V7 m c main_v10 = fun _ => word (pos (nxt c)) := v10_eq m c
  have h1 : V7 m c main_c_0 = fun i => lit1 (S32.rowMajor i) := (V7_of m c main_c_0 (by decide)).trans <| (V6_of m c main_c_0 (by decide)).trans <| (V5_of m c main_c_0 (by decide)).trans <| (V4_of m c main_c_0 (by decide)).trans <| (V3_of m c main_c_0 (by decide)).trans <| (V2_of m c main_c_0 (by decide)).trans <| cyc_eq m c
  generalize hW : V7 m c = W at h0 h1
  show StableHlo.after hostOps0_7 (V7 m c) _ = _
  rw [hW]
  unfold_abbrev_sides
  after_results_simp
  rw [h0, h1]
  simp only [StableHlo.TRef.ofBuf_toBuf]
  funext i
  fin_cases c <;> sl_kernel_rfl

/-- The last stretch puts its three words side by side. -/
theorem ids_after (W : Valuation τ sig (Elt F)) : StableHlo.after hostOps0_8 W main_v15
    = concatenate S3 0
      [⟨S1, broadcastInDim S1 ![] bcast_S_S1 (W main_v5)⟩, ⟨S1, broadcastInDim S1 ![] bcast_S_S1 (W main_v8)⟩,
        ⟨S1, broadcastInDim S1 ![] bcast_S_S1 (W main_v11)⟩] concatenates_S1_S1_S1_S3_d0 := by
  unfold_abbrev_sides
  after_results_simp
  sl_kernel_rfl

/-- Three single words side by side. -/
theorem three_words (a b d : BitVec 32) (i : S3.Idx) :
    concatenate (α := BitVec 32) S3 0 [⟨S1, broadcastInDim S1 ![] bcast_S_S1 (fun _ : S_.Idx => a)⟩, ⟨S1, broadcastInDim S1 ![] bcast_S_S1 (fun _ : S_.Idx => b)⟩,
        ⟨S1, broadcastInDim S1 ![] bcast_S_S1 (fun _ : S_.Idx => d)⟩] concatenates_S1_S1_S1_S3_d0 i
      = if (i (0 : Fin 1)).val = 0 then a else if (i (0 : Fin 1)).val = 1 then b else d := by
  obtain ⟨n, hn, rfl⟩ : ∃ (n : ℕ) (h : n < 3), i = fun k => ⟨n, by fin_cases k; exact h⟩ :=
    ⟨(i (0 : Fin 1)).val, (i (0 : Fin 1)).isLt, by funext k; fin_cases k; rfl⟩
  rcases n with _ | _ | _ | n
  · rfl
  · rfl
  · rfl
  · omega

/-- The three words the kernel is given. -/
theorem ids_eq : V9 m c main_v15 = idsV c := by
  show StableHlo.after hostOps0_8 (V8 m c) main_v15 = _
  have h0 : V8 m c main_v5 = fun _ => w0 c := (V8_of m c main_v5 (by decide)).trans <| (V7_of m c main_v5 (by decide)).trans <| (V6_of m c main_v5 (by decide)).trans <| (V5_of m c main_v5 (by decide)).trans <| (V4_of m c main_v5 (by decide)).trans <| (V3_of m c main_v5 (by decide)).trans <| v5_eq m c
  have h1 : V8 m c main_v8 = fun _ => w1 c := (V8_of m c main_v8 (by decide)).trans <| (V7_of m c main_v8 (by decide)).trans <| (V6_of m c main_v8 (by decide)).trans <| v8_eq m c
  have h2 : V8 m c main_v11 = fun _ => w2 c := v11_eq m c
  rw [ids_after, h0, h1, h2]
  funext i
  exact three_words _ _ _ i

/-- No host line writes argument 0. -/
theorem arg0_eq : V9 m c main_arg0 = m ((c : Thread nD τ).loc main_arg0) :=
  (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl

/-- No host line writes argument 1. -/
theorem arg1_eq : V9 m c main_arg1 = m ((c : Thread nD τ).loc main_arg1) :=
  (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl

/-- No host line writes argument 2. -/
theorem arg2_eq : V9 m c main_arg2 = m ((c : Thread nD τ).loc main_arg2) :=
  (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl

/-- No host line writes argument 3. -/
theorem arg3_eq : V9 m c main_arg3 = m ((c : Thread nD τ).loc main_arg3) :=
  (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl

end Cert.RingProof
-- ==== Proof.Point.lean ====
/-
  The one grid point: the kernel's run stated over the staging buffers the pipeline fills and drains.
-/
module

public import proofs.«01_k».proof.Proof.Words
public import proofs.«01_k».proof.Proof.Gen.KernelIdeal.Points
public import Idealize.ShloMosaic.Lib.Pipeline.RegionTalk
public import Idealize.ShloMosaic.Lib.Pipeline.ValueKit

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-- The four arguments as each device is given them. -/
def inX (c : Dev nD) : Vec F S4096x128 .fp8e4m3 := m ((c : Thread nD τ).loc main_arg0)
def inW (c : Dev nD) : Vec F S128x2048 .fp8e5m2 := m ((c : Thread nD τ).loc main_arg1)
def inA (c : Dev nD) : Vec F S1 .f32 := m ((c : Thread nD τ).loc main_arg2)
def inB (c : Dev nD) : Vec F S1 .f32 := m ((c : Thread nD τ).loc main_arg3)
/-- What each device computes. -/
def result (c : Dev nD) : Vec F S128x2048 .f32 := outV (inX m) (inW m) (inA m) (inB m) c

/-- What enters the kernel's one point beside the buffers. -/
def entry (c : Dev nD) : sProp 𝕄 :=
  iprop(∃ (κ : GSem nD τ sig → ℕ) (ιs : Dev nD × Fin 4 → ℕ), invs (F := F) (inX m) (inW m) κ ιs ∗ levAts L lv
    ∗ startDir (F := F) c 0 ∗ startDir (F := F) c 1 ∗ startBar (F := F) c)
/-- What leaves it. -/
def leaving (c : Dev nD) : sProp 𝕄 := iprop((zeros (F := F) c 0 ∗ zeros (F := F) c 1) ∗ semVal (barG c) 0)

def Φa (c : Dev nD) : sProp 𝕄 := iprop(Pipeline.scopedRest spec0 c ∗ (∃ r, prngReg c r) ∗ entry m c)
def Φb (c : Dev nD) : sProp 𝕄 := iprop(Pipeline.scopedRest spec0 c ∗ (∃ r, prngReg c r) ∗ leaving (F := F) c)

def pdats (_ : Fin 1) (c : Dev nD) : Dat τ (Elt F) ℕ ℕ UU ℕ cfg0 c where
  A w := V9 m c (Proc.devRef .tc (Pipeline.arrRef spec0 w))
  after w _ := match w with
    | ⟨0, _⟩ => inX m c
    | ⟨1, _⟩ => inW m c
    | ⟨2, _⟩ => inA m c
    | ⟨3, _⟩ => inB m c
    | ⟨4, _⟩ => idsV (F := F) c
    | ⟨5, _⟩ => result m c
  Φ t := match t with
    | ⟨0, _⟩ => Φa m c
    | ⟨_ + 1, _⟩ => Φb (F := F) c
  q _ := fullShare
  owed t := match t with
    | ⟨0, _⟩ => ow₀ c
    | ⟨_ + 1, _⟩ => 0

theorem whole0 (t : Fin cfg0.N) (f : Vec F S4096x128 .fp8e4m3) : (win0_0.blk t).view.read (Elt F) f = f := by
  obtain rfl := fin_N0 t
  funext y
  refine congrArg f (funext fun a => Fin.ext ?_)
  have h : win0_0.index t0_0 a = 0 := by revert a; decide
  blk_simp
  rw [h, Nat.zero_mul, Nat.zero_add]
theorem whole1 (t : Fin cfg0.N) (f : Vec F S128x2048 .fp8e5m2) : (win0_1.blk t).view.read (Elt F) f = f := by
  obtain rfl := fin_N0 t
  funext y
  refine congrArg f (funext fun a => Fin.ext ?_)
  have h : win0_1.index t0_0 a = 0 := by revert a; decide
  blk_simp
  rw [h, Nat.zero_mul, Nat.zero_add]
theorem whole2 (t : Fin cfg0.N) (f : Vec F S1 .f32) : (win0_2.blk t).view.read (Elt F) f = f := by
  obtain rfl := fin_N0 t
  funext y
  refine congrArg f (funext fun a => Fin.ext ?_)
  have h : win0_2.index t0_0 a = 0 := by revert a; decide
  blk_simp
  rw [h, Nat.zero_mul, Nat.zero_add]
theorem whole3 (t : Fin cfg0.N) (f : Vec F S1 .f32) : (win0_3.blk t).view.read (Elt F) f = f := by
  obtain rfl := fin_N0 t
  funext y
  refine congrArg f (funext fun a => Fin.ext ?_)
  have h : win0_3.index t0_0 a = 0 := by revert a; decide
  blk_simp
  rw [h, Nat.zero_mul, Nat.zero_add]
theorem whole4 (t : Fin cfg0.N) (f : Vec F S3 .i32) : (win0_4.blk t).view.read (Elt F) f = f := by
  obtain rfl := fin_N0 t
  funext y
  refine congrArg f (funext fun a => Fin.ext ?_)
  have h : win0_4.index t0_0 a = 0 := by revert a; decide
  blk_simp
  rw [h, Nat.zero_mul, Nat.zero_add]

/-! ## What each window holds when the body starts -/

variable (c : Dev nD)

theorem before0 (t : Fin cfg0.N) (d : Vec F S4096x128 .fp8e4m3) : (pdats m 0 c).before (0 : Fin 6) t d = inX m c := by
  unfold Dat.before
  rw [if_pos (fetch0_0 t)]
  show (win0_0.blk t).view.read (Elt F) (V9 m c main_arg0) = _
  rw [whole0, arg0_eq]; rfl
theorem before1 (t : Fin cfg0.N) (d : Vec F S128x2048 .fp8e5m2) : (pdats m 0 c).before (1 : Fin 6) t d = inW m c := by
  unfold Dat.before
  rw [if_pos (fetch0_1 t)]
  show (win0_1.blk t).view.read (Elt F) (V9 m c main_arg1) = _
  rw [whole1, arg1_eq]; rfl
theorem before2 (t : Fin cfg0.N) (d : Vec F S1 .f32) : (pdats m 0 c).before (2 : Fin 6) t d = inA m c := by
  unfold Dat.before
  rw [if_pos (fetch0_2 t)]
  show (win0_2.blk t).view.read (Elt F) (V9 m c main_arg2) = _
  rw [whole2, arg2_eq]; rfl
theorem before3 (t : Fin cfg0.N) (d : Vec F S1 .f32) : (pdats m 0 c).before (3 : Fin 6) t d = inB m c := by
  unfold Dat.before
  rw [if_pos (fetch0_3 t)]
  show (win0_3.blk t).view.read (Elt F) (V9 m c main_arg3) = _
  rw [whole3, arg3_eq]; rfl
theorem before4 (t : Fin cfg0.N) (d : Vec F S3 .i32) : (pdats m 0 c).before (4 : Fin 6) t d = idsV (F := F) c := by
  unfold Dat.before
  rw [if_pos (fetch0_4 t)]
  show (win0_4.blk t).view.read (Elt F) (V9 m c main_v15) = _
  rw [whole4, ids_eq]

/-! ## The body's obligation -/

theorem owes_in {t : Fin (cfg0.N + 1)} (O : CellTallies nD τ sig ℕ) (h0 : (pdats m 0 c).owed t = O) :
    (ows (F := F) c O) ⊢ ((pdats m 0 c).owesAt 0 t : sProp 𝕄) := by
  unfold ows Dat.owesAt Pipeline.owesWithin Dat.bound
  rw [h0]
  iintro ⟨%W, HO⟩; iexists W; isplitr; · ipureintro; exact fun _ _ => Or.inl trivial
  iexact HO
theorem owes_out {t : Fin (cfg0.N + 1)} (O : CellTallies nD τ sig ℕ) (h0 : (pdats m 0 c).owed t = O) :
    ((pdats m 0 c).owesAt 0 t : sProp 𝕄) ⊢ ows (F := F) c O := by
  unfold ows Dat.owesAt Pipeline.owesWithin
  rw [h0]
  iintro ⟨%W, -, HO⟩; iexists W; iexact HO

theorem owns_form (b : Ref sig .tc) (X : b.ty.Contents (Elt F)) :
    (owns (Ix := ℕ) (Name := ℕ) (U := UU) (Lvl := ℕ) (c : Thread nD τ) (Memref.whole b) fullShare X : sProp 𝕄)
      = iprop(∃ f, ⌜f = X⌝ ∗ stg c b f) := by
  unfold owns; simp only [Memref.view_whole, View.read_whole, View.set_whole]
theorem whole_out (b : Ref sig .tc) (X : b.ty.Contents (Elt F)) :
    (iprop(∃ f, ⌜f = X⌝ ∗ stg c b f) : sProp 𝕄) ⊢ stg c b X := by
  iintro ⟨%f, %h, H⟩; subst h; iexact H
theorem whole_in (b : Ref sig .tc) (X : b.ty.Contents (Elt F)) :
    (stg c b X : sProp 𝕄) ⊢ iprop(∃ f, ⌜f = X⌝ ∗ stg c b f) := by
  iintro H; iexists X; isplitr; · ipureintro; rfl
  iexact H
/-- A buffer held whole, as the whole memref owned. -/
theorem whole_owns (b : Ref sig .tc) (X : b.ty.Contents (Elt F)) :
    (owns (Ix := ℕ) (Name := ℕ) (U := UU) (Lvl := ℕ) (c : Thread nD τ) (Memref.whole b) fullShare X : sProp 𝕄)
      = stg c b X :=
  (owns_form c b X).trans (BI.Entails.antisymm (whole_out c b X) (whole_in c b X))

theorem rest_eq : (Pipeline.scopedRest spec0 c : sProp 𝕄) = iprop(accAny (F := F) c ∗ rsAny (F := F) c 0 ∗ rsAny (F := F) c 1) := by
  rw [scopedRest0_eq]
  unfold accAny rsAny rsM
  dsimp only
  simp only [whole_owns]
  rfl

/-- What the body starts with, windows resolved. -/
def bodyPre : sProp 𝕄 :=
  iprop(Φa m c ∗ (pdats m 0 c).owesAt 0 t0_0.castSucc
    ∗ (∃ d, stg c cc0_stg0_0 ((pdats m 0 c).before (0 : Fin 6) t0_0 d)) ∗ (∃ d, stg c cc0_stg1_0 ((pdats m 0 c).before (1 : Fin 6) t0_0 d))
    ∗ (∃ d, stg c cc0_stg2_0 ((pdats m 0 c).before (2 : Fin 6) t0_0 d)) ∗ (∃ d, stg c cc0_stg3_0 ((pdats m 0 c).before (3 : Fin 6) t0_0 d))
    ∗ (∃ d, stg c cc0_stg4_0 ((pdats m 0 c).before (4 : Fin 6) t0_0 d)) ∗ (∃ d, stg c cc0_stg5_0 ((pdats m 0 c).before (5 : Fin 6) t0_0 d)))
def bodyPost : sProp 𝕄 :=
  iprop(Φb (F := F) c ∗ (pdats m 0 c).owesAt 0 t0_0.succ
    ∗ stg c cc0_stg0_0 (inX m c) ∗ stg c cc0_stg1_0 (inW m c) ∗ stg c cc0_stg2_0 (inA m c) ∗ stg c cc0_stg3_0 (inB m c)
    ∗ stg c cc0_stg4_0 (idsV (F := F) c) ∗ stg c cc0_stg5_0 (result m c))

theorem pre_kernel : bodyPre m c ⊢ iprop((∃ r, prngReg c r)
    ∗ ∃ (κ : GSem nD τ sig → ℕ) (ιs : Dev nD × Fin 4 → ℕ) (f : Vec F S128x2048 .f32), kernelPre (inX m) (inW m) (inA m) (inB m) κ ιs c f) := by
  unfold bodyPre Φa entry
  rw [rest_eq]
  simp only [before0, before1, before2, before3, before4]
  iintro ⟨⟨Hs, Hp, ⟨%κ, %ιs, HI, Hl, HR, HL, HB⟩⟩, HO, ⟨%d0, H0⟩, ⟨%d1, H1⟩, ⟨%d2, H2⟩, ⟨%d3, H3⟩, ⟨%d4, H4⟩, ⟨%d5, H5⟩⟩
  isplitl [Hp]; · iexact Hp
  iexists κ; iexists ιs; iexists ((pdats m 0 c).before (5 : Fin 6) t0_0 d5)
  unfold kernelPre
  isplitl [H0 H1 H2 H3 H4 H5]
  · isplitl [H0]; · iexact H0
    isplitl [H1]; · iexact H1
    isplitl [H2]; · iexact H2
    isplitl [H3]; · iexact H3
    isplitl [H4] <;> iassumption
  isplitl [HI Hl]; · isplitl [HI] <;> iassumption
  isplitl [Hs]; · iexact Hs
  isplitl [HR HL HB]
  · isplitl [HR]; · iexact HR
    isplitl [HL] <;> iassumption
  iapply (owes_out m c (t := t0_0.castSucc) (ow₀ c) rfl); iexact HO

theorem post_kernel : iprop((∃ r, prngReg c r) ∗ kernelPost (inX m) (inW m) (inA m) (inB m) c) ⊢ bodyPost m c := by
  unfold bodyPost Φb kernelPost leaving
  rw [rest_eq]
  iintro ⟨Hp, ⟨H0, H1, H2, H3, H4, H5⟩, Hs, HZ, Hb, HO⟩
  isplitl [Hp Hs HZ Hb]
  · isplitl [Hs]; · iexact Hs
    isplitl [Hp]; · iexact Hp
    isplitl [HZ] <;> iassumption
  isplitl [HO]; · iapply (owes_in m c (t := t0_0.succ) 0 rfl); iexact HO
  isplitl [H0]; · iexact H0
  isplitl [H1]; · iexact H1
  isplitl [H2]; · iexact H2
  isplitl [H3]; · iexact H3
  isplitl [H4]; · iexact H4
  iexact H5

set_option maxRecDepth 4000 in
theorem body_obligation : BodyObligation (pdats m 0 c) (defs₀ (F := F)) 𝒱₀ 0 Set.univ := fun t => by
  obtain rfl := fin_N0 t
  rw [bigSep_W0, bigSep_W0]
  simp only [whole_owns]
  show bodyPre m c ⊢ wp frame (wpE (defs₀ (F := F)) 𝒱₀ (c : Thread nD τ) none) Set.univ
    (cc0_body xM (Memref.isWhole_whole _) wM (Memref.isWhole_whole _) aM (Memref.isWhole_whole _) bM (Memref.isWhole_whole _) idM (Memref.isWhole_whole _)
        oM (Memref.isWhole_whole _) accM (Memref.isWhole_whole _)
        (rsM 0) (Memref.isWhole_whole _) (rsM 1) (Memref.isWhole_whole _) cc0_scratch3 cc0_scratch4 cc0_scratch5) (fun _ => bodyPost m c)
  iintro H
  ihave H := (pre_kernel m c) $$ H
  icases H with ⟨Hp, ⟨%κ, %ιs, %f, H⟩⟩
  iapply wp_wand_r
  isplitl [H]; · iapply (kernel_run (inX m) (inW m) (inA m) (inB m) κ ιs c f); iexact H
  iintro %a H
  iapply (post_kernel m c)
  isplitl [Hp] <;> iassumption

theorem share_eq (w : Fin cfg0.W) : (pdats m 0 c).share w = fullShare := by unfold Dat.share; split <;> rfl

/-- The result array at the end. -/
theorem arr_result : (pdats m 0 c).arrAt (5 : Fin 6) cfg0.N = result m c := by
  refine (pdats m 0 c).arrAt_eq_of_after_last (5 : Fin 6) t0_0 (by decide +kernel) _ fun j => ?_
  blk_simp
  rfl

end Cert.RingProof
-- ==== Proof.Deal.lean ====
/-
  What the launch deals: every duty's token and every slot's writes, each to the device that spends it; and the
  counters' claims, each to the device that waits.
-/
module

public import proofs.«01_k».proof.Proof.Point

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## One device's tokens: semaphore, round, duty -/

theorem sendS_par : ∀ st p q : Fin 2, sendS (sidx st p) = sendS (sidx st q) → p = q := by decide
theorem recvS_par : ∀ st p q : Fin 2, recvS (sidx st p) = recvS (sidx st q) → p = q := by decide

theorem par_half {i j : ℕ} (hp : par i = par j) (hh : i / 2 = j / 2) : i = j := by
  rw [← half_par i, ← half_par j, hp, hh]

def tkS (st : Fin 2) : ℕ ↪ SemLoc sig × ℕ × ℕ :=
  ⟨fun j => (.dma (sendS (sidx st (par j))), j / 2, 0), fun _ _ h => par_half (sendS_par st _ _ (SemLoc.dma.inj (congrArg Prod.fst h)))
    (congrArg (fun x : SemLoc sig × ℕ × ℕ => x.2.1) h)⟩
def tkR (st : Fin 2) : ℕ ↪ SemLoc sig × ℕ × ℕ :=
  ⟨fun j => (.dma (recvS (sidx st (par j))), j / 2, 0), fun _ _ h => par_half (recvS_par st _ _ (SemLoc.dma.inj (congrArg Prod.fst h)))
    (congrArg (fun x : SemLoc sig × ℕ × ℕ => x.2.1) h)⟩
def tkC (st : Fin 2) : ℕ ↪ SemLoc sig × ℕ × ℕ :=
  ⟨fun j => (.reg (crS st), 0, j), fun _ _ h => congrArg (fun x : SemLoc sig × ℕ × ℕ => x.2.2) h⟩
def tkB : ℕ ↪ SemLoc sig × ℕ × ℕ :=
  ⟨fun j => (.reg barS, 0, j), fun _ _ h => congrArg (fun x : SemLoc sig × ℕ × ℕ => x.2.2) h⟩

def setS (st : Fin 2) : Finset (SemLoc sig × ℕ × ℕ) := (Finset.Ico 0 (nM st)).map (tkS st)
def setR (st : Fin 2) : Finset (SemLoc sig × ℕ × ℕ) := (Finset.Ico 0 (nM st)).map (tkR st)
def setC (st : Fin 2) : Finset (SemLoc sig × ℕ × ℕ) := (Finset.Ico 0 (nCr st)).map (tkC st)
def setB : Finset (SemLoc sig × ℕ × ℕ) := (Finset.range 2).map tkB
def setD (st : Fin 2) : Finset (SemLoc sig × ℕ × ℕ) := setS st ∪ (setR st ∪ setC st)
/-- All of one device's. -/
def devToks : Finset (SemLoc sig × ℕ × ℕ) := setD 0 ∪ (setD 1 ∪ setB)

theorem dis_rc : ∀ st, Disjoint (setR st) (setC st) := by decide +kernel
theorem dis_s : ∀ st, Disjoint (setS st) (setR st ∪ setC st) := by decide +kernel
theorem dis_b : Disjoint (setD 1) setB := by decide +kernel
theorem dis_d : Disjoint (setD 0) (setD 1 ∪ setB) := by decide +kernel

theorem bigSep_devToks (Φ : SemLoc sig × ℕ × ℕ → sProp 𝕄) :
    bigSep devToks Φ = iprop(((bigSep (Finset.Ico 0 (nM 0)) fun j => Φ (tkS 0 j)) ∗ (bigSep (Finset.Ico 0 (nM 0)) fun j => Φ (tkR 0 j))
        ∗ (bigSep (Finset.Ico 0 (nCr 0)) fun j => Φ (tkC 0 j)))
      ∗ ((bigSep (Finset.Ico 0 (nM 1)) fun j => Φ (tkS 1 j)) ∗ (bigSep (Finset.Ico 0 (nM 1)) fun j => Φ (tkR 1 j))
        ∗ (bigSep (Finset.Ico 0 (nCr 1)) fun j => Φ (tkC 1 j)))
      ∗ Φ (tkB 0) ∗ Φ (tkB 1)) := by
  unfold devToks
  rw [bigSep_union dis_d, bigSep_union dis_b]
  unfold setD
  rw [bigSep_union (dis_s 0), bigSep_union (dis_s 1), bigSep_union (dis_rc 0), bigSep_union (dis_rc 1)]
  unfold setS setR setC setB
  rw [bigSep_map, bigSep_map, bigSep_map, bigSep_map, bigSep_map, bigSep_map, bigSep_map,
    show Finset.range 2 = {0, 1} from rfl, bigSep_insert (by decide), bigSep_singleton]
  rfl

theorem bigSep_prod {α β : Type} [DecidableEq α] [DecidableEq β] (s : Finset α) (t : Finset β) (Φ : α × β → sProp 𝕄) :
    bigSep (s ×ˢ t) Φ = bigSep s fun a => bigSep t fun b => Φ (a, b) := by
  induction s using Finset.induction_on with
  | empty => rw [Finset.empty_product, BI.bigSep_empty, BI.bigSep_empty]
  | insert a s ha ih =>
    have hd : Disjoint ({a} ×ˢ t) (s ×ˢ t) := Finset.disjoint_product.mpr (.inl (Finset.disjoint_singleton_left.mpr ha))
    have hm : bigSep ({a} ×ˢ t) Φ = bigSep t fun b => Φ (a, b) := by
      rw [Finset.singleton_product, bigSep_map]; rfl
    rw [Finset.insert_eq, Finset.union_product, bigSep_union hd, hm, ih, ← Finset.insert_eq, bigSep_insert ha]

/-- All the tokens: of every device, each of these. -/
def toks : Finset (GSem nD τ sig × ℕ × ℕ) :=
  ((Finset.univ : Finset (Dev nD)) ×ˢ devToks).map ⟨fun x => (((x.1 : Thread nD τ), x.2.1), x.2.2.1, x.2.2.2), fun a b h => by
    have h1 : a.1 = b.1 := congrArg (fun t : GSem nD τ sig × ℕ × ℕ => t.1.1.1) h
    have h2 : a.2.1 = b.2.1 := congrArg (fun t : GSem nD τ sig × ℕ × ℕ => t.1.2) h
    have h3 : a.2.2 = b.2.2 := congrArg (fun t : GSem nD τ sig × ℕ × ℕ => t.2) h
    exact Prod.ext h1 (Prod.ext h2 h3)⟩

def dirToks (st : Fin 2) (c : Dev nD) : sProp 𝕄 :=
  iprop((bigSep (Finset.Ico 0 (nM st)) fun j => dutyTok (ER (F := F)) (sendG c st (par j)) (j / 2) 0)
    ∗ (bigSep (Finset.Ico 0 (nM st)) fun j => dutyTok (ER (F := F)) (recvG c st (par j)) (j / 2) 0)
    ∗ (bigSep (Finset.Ico 0 (nCr st)) fun j => dutyTok (ER (F := F)) (crG c st) 0 j))

theorem toks_eq : bigSep toks (fun x => (dutyTok (ER (F := F)) x.1 x.2.1 x.2.2 : sProp 𝕄))
    = bigSep Finset.univ fun c : Dev nD => iprop(dirToks (F := F) 0 c ∗ dirToks (F := F) 1 c
        ∗ dutyTok (ER (F := F)) (barG c) 0 0 ∗ dutyTok (ER (F := F)) (barG c) 0 1) := by
  unfold toks
  rw [bigSep_map, bigSep_prod]
  exact bigSep_congr fun c _ => by rw [bigSep_devToks]; rfl

/-! ## The slots' writes -/

def slotKeys : Finset (Dev nD × Fin 4) := Finset.univ

def wrS (st : Fin 2) : ℕ ↪ Fin 4 × ℕ :=
  ⟨fun j => (sidx st (par j), j / 2), fun _ _ h => par_half (sendS_par st _ _ (congrArg sendS (congrArg Prod.fst h))) (congrArg Prod.snd h)⟩

theorem wr_dis : Disjoint ((Finset.Ico 0 (nM 0)).map (wrS 0)) ((Finset.Ico 0 (nM 1)).map (wrS 1)) := by decide +kernel
theorem wr_sub : (Finset.Ico 0 (nM 0)).map (wrS 0) ∪ (Finset.Ico 0 (nM 1)).map (wrS 1) ⊆ (Finset.univ : Finset (Fin 4)) ×ˢ Finset.range 8 := by
  decide +kernel

def dirWrites (st : Fin 2) (c : Dev nD) : sProp 𝕄 :=
  bigSep (Finset.Ico 0 (nM st)) fun j => writeTok (ES (F := F)) (c, sidx st (par j)) (j / 2 + 1)

theorem writes : (bigSep (slotKeys ×ˢ Finset.range 8) (fun x => writeTok (ES (F := F)) x.1 (x.2 + 1)) : sProp 𝕄)
    ⊢ bigSep Finset.univ fun c : Dev nD => iprop(dirWrites (F := F) 0 c ∗ dirWrites (F := F) 1 c) := by
  unfold slotKeys
  rw [bigSep_prod, bigSep_univ_prod]
  refine bigSep_mono fun c _ => ?_
  rw [← bigSep_prod (Finset.univ : Finset (Fin 4)) (Finset.range 8) (fun x => writeTok (ES (F := F)) (c, x.1) (x.2 + 1))]
  have h : (bigSep ((Finset.Ico 0 (nM 0)).map (wrS 0) ∪ (Finset.Ico 0 (nM 1)).map (wrS 1))
      (fun x => writeTok (ES (F := F)) (c, x.1) (x.2 + 1)) : sProp 𝕄) = iprop(dirWrites (F := F) 0 c ∗ dirWrites (F := F) 1 c) := by
    rw [bigSep_union wr_dis, bigSep_map, bigSep_map]
    rfl
  rw [← h]
  exact bigSep_subset wr_sub

theorem readers : (bigSep slotKeys (fun k => readerAt (ES (F := F)) k 0) : sProp 𝕄)
    = bigSep Finset.univ fun c : Dev nD => iprop(readerAt (ES (F := F)) (c, sidx 0 0) 0 ∗ readerAt (ES (F := F)) (c, sidx 0 1) 0
        ∗ readerAt (ES (F := F)) (c, sidx 1 0) 0 ∗ readerAt (ES (F := F)) (c, sidx 1 1) 0) := by
  unfold slotKeys
  rw [bigSep_univ_prod]
  refine bigSep_congr fun c _ => ?_
  rw [show (Finset.univ : Finset (Fin 4)) = {0, 1, 2, 3} from by decide, bigSep_insert (by decide), bigSep_insert (by decide),
    bigSep_insert (by decide), bigSep_singleton]
  rfl

/-! ## Handing round -/

/-- What a device sends and frees with, in one direction. -/
def dirDue (st : Fin 2) (c : Dev nD) : sProp 𝕄 :=
  iprop(TK (F := F) c st 0 ∗ bigSep (Finset.Ico 0 (nCr st)) (fun j => dutyTok (ER (F := F)) (crG (src st c) st) 0 j))

theorem dir_round (st : Fin 2) : iprop((bigSep Finset.univ fun c : Dev nD => dirToks (F := F) st c) ∗ (bigSep Finset.univ fun c : Dev nD => dirWrites (F := F) st c))
    ⊢ (bigSep Finset.univ fun c : Dev nD => dirDue (F := F) st c : sProp 𝕄) := by
  have h1 : (bigSep Finset.univ fun c : Dev nD => dirToks (F := F) st c : sProp 𝕄)
      = iprop((bigSep Finset.univ fun c : Dev nD => bigSep (Finset.Ico 0 (nM st)) fun j => dutyTok (ER (F := F)) (sendG c st (par j)) (j / 2) 0)
        ∗ (bigSep Finset.univ fun c : Dev nD => bigSep (Finset.Ico 0 (nM st)) fun j => dutyTok (ER (F := F)) (recvG (dst st c) st (par j)) (j / 2) 0)
        ∗ (bigSep Finset.univ fun c : Dev nD => bigSep (Finset.Ico 0 (nCr st)) fun j => dutyTok (ER (F := F)) (crG (src st c) st) 0 j)) := by
    unfold dirToks
    rw [bigSep_sep', bigSep_sep',
      bigSep_univ_equiv (along st) (fun c : Dev nD => bigSep (Finset.Ico 0 (nM st)) fun j => (dutyTok (ER (F := F)) (recvG c st (par j)) (j / 2) 0 : sProp 𝕄)),
      bigSep_univ_equiv (along st).symm (fun c : Dev nD => bigSep (Finset.Ico 0 (nCr st)) fun j => (dutyTok (ER (F := F)) (crG c st) 0 j : sProp 𝕄))]
    rfl
  have h2 : (bigSep Finset.univ fun c : Dev nD => dirWrites (F := F) st c : sProp 𝕄)
      = bigSep Finset.univ fun c : Dev nD => dirWrites (F := F) st (dst st c) :=
    bigSep_univ_equiv (along st) (fun c : Dev nD => dirWrites (F := F) st c)
  rw [h1, h2]
  unfold dirDue dirWrites TK
  rw [bigSep_sep']
  iintro ⟨⟨HS, HR, HC⟩, HW⟩
  isplitr [HC]
  · simp only [bigSep_sep']
    isplitl [HS]; · iexact HS
    isplitl [HR]; · iexact HR
    iexact HW
  · iexact HC

theorem bar_round : (bigSep Finset.univ fun c : Dev nD => iprop(dutyTok (ER (F := F)) (barG c) 0 0 ∗ dutyTok (ER (F := F)) (barG c) 0 1) : sProp 𝕄)
    = bigSep Finset.univ fun c : Dev nD => iprop(dutyTok (ER (F := F)) (barG (src 0 c)) 0 0 ∗ dutyTok (ER (F := F)) (barG (src 1 c)) 0 1) := by
  rw [bigSep_sep', bigSep_sep',
    bigSep_univ_equiv (along 0).symm (fun c : Dev nD => (dutyTok (ER (F := F)) (barG c) 0 0 : sProp 𝕄)),
    bigSep_univ_equiv (along 1).symm (fun c : Dev nD => (dutyTok (ER (F := F)) (barG c) 0 1 : sProp 𝕄))]
  rfl

/-! ## What each device may wait for -/

/-- The claims on arrivals and credits in one direction. -/
def dirCred (st : Fin 2) (c : Dev nD) : sProp 𝕄 :=
  iprop((bigSep (Finset.Ico 0 (nM st)) fun j => cred (tallyAt (recvG c st (par j)) j N))
    ∗ bigSep (Finset.Ico 0 (nCr st)) (fun j => cred (tallyAt (crG c st) j 1)))

theorem cred_M (st : Fin 2) (c : Dev nD) : (Pipeline.launchCred (owM st 0) c : sProp 𝕄)
    ⊢ bigSep (Finset.Ico 0 (nM st)) fun j => cred (tallyAt (recvG c st (par j)) j N) := by
  rw [show owM st 0 = fun d => ∑ h ∈ Finset.Ico 0 (nM st), tallyAt (recvG (dst st d) st (par h)) h N from funext fun d => rfl,
    Pipeline.launchCred_sum]
  exact bigSep_mono fun j _ => Pipeline.launchCred_tallyAt (.dma (recvS (sidx st (par j)))) (dst st) (src st) (dst_src st) (src_dst st) j N c
theorem cred_C (st : Fin 2) (c : Dev nD) : (Pipeline.launchCred (owC st 0) c : sProp 𝕄)
    ⊢ bigSep (Finset.Ico 0 (nCr st)) fun j => cred (tallyAt (crG c st) j 1) := by
  rw [show owC st 0 = fun d => ∑ h ∈ Finset.Ico 0 (nCr st), tallyAt (crG (src st d) st) h 1 from funext fun d => rfl,
    Pipeline.launchCred_sum]
  exact bigSep_mono fun j _ => Pipeline.launchCred_tallyAt (.reg (crS st)) (src st) (dst st) (src_dst st) (dst_src st) j 1 c

theorem creds (c : Dev nD) : (Pipeline.launchCred ow₀ c : sProp 𝕄)
    ⊢ iprop(dirCred (F := F) 0 c ∗ dirCred (F := F) 1 c ∗ cred (tallyAt (barG c) 0 2)) := by
  rw [show (ow₀ : Dev nD → CellTallies nD τ sig ℕ) = fun d => ((owM 0 0 d + owM 1 0 d) + (owC 0 0 d + owC 1 0 d))
      + tallyAt (barG (nxt d)) 0 1 + tallyAt (barG (prv d)) 0 1 from funext fun d => rfl,
    Pipeline.launchCred_add, Pipeline.launchCred_add, Pipeline.launchCred_add, Pipeline.launchCred_add, Pipeline.launchCred_add]
  unfold dirCred
  iintro ⟨⟨⟨⟨M0, M1⟩, C0, C1⟩, B0⟩, B1⟩
  ihave M0 := (cred_M (F := F) 0 c) $$ M0
  ihave M1 := (cred_M (F := F) 1 c) $$ M1
  ihave C0 := (cred_C (F := F) 0 c) $$ C0
  ihave C1 := (cred_C (F := F) 1 c) $$ C1
  ihave B0 := (Pipeline.launchCred_tallyAt (.reg barS) nxt prv nxt_prv prv_nxt 0 1 c) $$ B0
  ihave B1 := (Pipeline.launchCred_tallyAt (.reg barS) prv nxt prv_nxt nxt_prv 0 1 c) $$ B1
  isplitl [M0 C0]; · isplitl [M0] <;> iassumption
  isplitl [M1 C1]; · isplitl [M1] <;> iassumption
  rw [show (2 : ℕ) = 1 + 1 from rfl, ← tallyAt_add]
  iapply (cred_add _ _).2
  isplitl [B0] <;> iassumption

end Cert.RingProof
-- ==== Proof.Region.lean ====
/-
  The kernel's region: the semaphores opened on the way in, found at zero on the way out.
-/
module

public import proofs.«01_k».proof.Proof.Deal

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)

/-! ## Opening the semaphores -/

/-- One direction, its semaphores not yet open. -/
def restDir (st : Fin 2) (c : Dev nD) : sProp 𝕄 :=
  iprop(dirDue (F := F) st c ∗ dirCred (F := F) st c ∗ readerAt (ES (F := F)) (c, sidx st 0) 0 ∗ readerAt (ES (F := F)) (c, sidx st 1) 0)

def shut (c : Dev nD) : sProp 𝕄 := bigSep Finset.univ fun k : Fin 10 => openTok (ER (F := F)) ((c : Thread nD τ), osem k)
def atStart (c : Dev nD) (s : SemLoc sig) : sProp 𝕄 := iprop(atPos (ER (F := F)) ((c : Thread nD τ), s) 0 ∅ 0 ∗ reached (ER (F := F)) ((c : Thread nD τ), s) 0)

/-- What the launch deals a device beside its buffers. -/
def Tk (c : Dev nD) : sProp 𝕄 :=
  iprop((∃ (κ : GSem nD τ sig → ℕ) (ιs : Dev nD × Fin 4 → ℕ), invs (F := F) (inX m) (inW m) κ ιs) ∗ shut (F := F) c
    ∗ restDir (F := F) 0 c ∗ restDir (F := F) 1 c ∗ startBar (F := F) c)
def Yk (c : Dev nD) : sProp 𝕄 := semVal (barG c) 0

theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide, bigSep_insert (by decide), bigSep_insert (by decide),
    bigSep_insert (by decide), bigSep_insert (by decide), bigSep_insert (by decide), bigSep_insert (by decide), bigSep_insert (by decide),
    bigSep_insert (by decide), bigSep_insert (by decide), bigSep_singleton]
  rfl

theorem open_one (κ : GSem nD τ sig → ℕ) (ιs : Dev nD × Fin 4 → ℕ) (c : Dev nD) (k : Fin 10) :
    iprop(invs (F := F) (inX m) (inW m) κ ιs ∗ (openTok (ER (F := F)) ((c : Thread nD τ), osem k) ∗ semVal ((c : Thread nD τ), osem k) 0))
      ⊢ (|={Set.univ}=> atStart (F := F) c (osem k) : sProp 𝕄) := by
  unfold atStart
  iintro ⟨#HI, Ho, Hv⟩
  ihave HC := (invs_cell (F := F) (inX m) (inW m) κ ιs (Finset.mem_union_right _ (mem_dorm c k))) $$ HI
  iapply (Rounds.cell_open (ER (F := F)) (rd (F := F) (inX m) (inW m)) (g := ((c : Thread nD τ), osem k)) (Set.mem_univ (κ ((c : Thread nD τ), osem k))))
  isplitl [HC]; · iexact HC
  isplitl [Ho] <;> iassumption

theorem open_all (κ : GSem nD τ sig → ℕ) (ιs : Dev nD × Fin 4 → ℕ) (c : Dev nD) :
    iprop(invs (F := F) (inX m) (inW m) κ ιs ∗ shut (F := F) c ∗ Pipeline.ownSems0 osem c)
      ⊢ (|={Set.univ}=> bigSep Finset.univ fun k : Fin 10 => atStart (F := F) c (osem k) : sProp 𝕄) := by
  unfold shut Pipeline.ownSems0
  iintro ⟨#HI, Ho, Hv⟩
  iapply (bigSep_fupd Finset.univ fun k : Fin 10 => atStart (F := F) c (osem k))
  iapply (bigSep_with_persistent (R := invs (F := F) (inX m) (inW m) κ ιs)
    (Φ := fun k : Fin 10 => iprop(openTok (ER (F := F)) ((c : Thread nD τ), osem k) ∗ semVal ((c : Thread nD τ), osem k) 0))
    fun k _ => open_one m κ ιs c k)
  isplitr; · iexact HI
  rw [bigSep_sep']
  isplitl [Ho] <;> iassumption

theorem dir_open (c : Dev nD) (st : Fin 2) :
    iprop(restDir (F := F) st c ∗ (atStart (F := F) c (.dma (sendS (sidx st 0))) ∗ atStart (F := F) c (.dma (sendS (sidx st 1))))
      ∗ (atStart (F := F) c (.dma (recvS (sidx st 0))) ∗ atStart (F := F) c (.dma (recvS (sidx st 1)))) ∗ atStart (F := F) c (.reg (crS st)))
    ⊢ startDir (F := F) c st := by
  unfold restDir startDir atStart dirDue dirCred RV SP
  iintro ⟨⟨⟨HT, HdC⟩, ⟨HcM, HcC⟩, Hr0, Hr1⟩, ⟨⟨Ha0, #Hb0⟩, Ha1, #Hb1⟩, ⟨⟨Hv0, #Hw0⟩, Hv1, #Hw1⟩, Hc, #Hd⟩
  isplitl [HcM Hv0 Hv1]
  · isplitl [Hv0]; · iexact Hv0
    isplitl [Hv1]; · iexact Hv1
    iexact HcM
  isplitl [Ha0 Ha1]
  · isplitl [Ha0]; · iexact Ha0
    isplitl [Ha1]; · iexact Ha1
    isplitr; · iexact Hb0
    iexact Hb1
  isplitl [HT]; · iexact HT
  isplitl [Hc HcC]; · isplitl [Hc] <;> iassumption
  isplitl [HdC]; · iexact HdC
  isplitl [Hr0 Hr1]; · isplitl [Hr0] <;> iassumption
  isplitr
  · isplitr; · iexact Hw0
    iexact Hw1
  iexact Hd

theorem hopen (c : Dev nD) : iprop(Tk m c ∗ Pipeline.ownSems0 osem c ∗ levAts L lv) ⊢ (|={Set.univ}=> entry m c : sProp 𝕄) := by
  unfold Tk entry
  iintro ⟨⟨⟨%κ, %ιs, #HI⟩, Hs, H0, H1, HB⟩, Hz, #Hl⟩
  imod (open_all m κ ιs c) $$ [Hs Hz] with HA
  · isplitr; · iexact HI
    isplitl [Hs] <;> iassumption
  ihave HA := (Entails.of_eq (bigSep_fin10 fun k : Fin 10 => atStart (F := F) c (osem k))) $$ HA
  icases HA with ⟨S0, S1, S2, S3, R0, R1, R2, R3, C0, C1⟩
  imodintro
  iexists κ; iexists ιs
  isplitr; · iexact HI
  isplitr; · iexact Hl
  isplitl [H0 S0 S1 R0 R1 C0]
  · iapply (dir_open c 0)
    isplitl [H0]; · iexact H0
    isplitl [S0 S1]; · isplitl [S0]; · iexact S0
                       iexact S1
    isplitl [R0 R1]; · isplitl [R0]; · iexact R0
                       iexact R1
    iexact C0
  isplitl [H1 S2 S3 R2 R3 C1]
  · iapply (dir_open c 1)
    isplitl [H1]; · iexact H1
    isplitl [S2 S3]; · isplitl [S2]; · iexact S2
                       iexact S3
    isplitl [R2 R3]; · isplitl [R2]; · iexact R2
                       iexact R3
    iexact C1
  iexact HB

/-! ## In and out -/

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V9 m c) ∗ entry m c) ⊢ ((pdats m 0 c).Φ 0 : sProp 𝕄) := by
  show _ ⊢ Φa m c
  unfold Φa
  iintro ⟨Hs, Hp, -, HX⟩
  isplitl [Hs]; · iexact Hs
  isplitl [Hp] <;> iassumption

/-- The result array's contents at the end; nothing else is written. -/
def outs : Outs (F := F) := fun _ r c => if h : r = main_v16 then h ▸ (result m c : Vec F S128x2048 .f32) else V9 m c r

theorem outs_eq (c : Dev nD) : outs m 10 main_v16 c = result m c := by unfold outs; rw [dif_pos rfl]

theorem hout (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ (V10 m (outs m) c) ∗ Pipeline.ownSems0 osem c ∗ Yk (F := F) c) := by
  show Φb (F := F) c ⊢ _
  rw [held_none]
  unfold Φb leaving zeros Yk Pipeline.ownSems0
  rw [bigSep_fin10]
  iintro ⟨Hs, Hp, ⟨⟨⟨R0, R1⟩, ⟨S0, S1⟩, C0⟩, ⟨R2, R3⟩, ⟨S2, S3⟩, C1⟩, Hb⟩
  isplitl [Hs]; · iexact Hs
  isplitl [Hp]; · iexact Hp
  isplitr; · iempintro
  isplitr [Hb]
  · isplitl [S0]; · iexact S0
    isplitl [S1]; · iexact S1
    isplitl [S2]; · iexact S2
    isplitl [S3]; · iexact S3
    isplitl [R0]; · iexact R0
    isplitl [R1]; · iexact R1
    isplitl [R2]; · iexact R2
    isplitl [R3]; · iexact R3
    isplitl [C0]; · iexact C0
    iexact C1
  iexact Hb

/-! ## The record -/

theorem kitP : Pipeline.PLaunchFacts (nD := nD) (τ := τ) (pcfgs (F := F)) 0 where
  cellOf_inj a := by rw [Subsingleton.elim a adm]; exact cellOf_inj
  win := launch0.win
  pre := Pipeline.PreFacts.none _
  block_pos := launch0.block_pos
  arr_whole := launch0.arr_whole
  stage_whole := launch0.stage_whole

theorem ow₀_pos (c : Dev nD) (g : GSem nD τ sig) (i : ℕ) (h : 0 < ow₀ c g i) : i ∈ L g ∧ 0 < lv g i := by
  have h' : 0 < ow 0 0 0 0 c g i + tallyAt (barG (nxt c)) 0 1 g i + tallyAt (barG (prv c)) 0 1 g i := h
  have bar : ∀ d : Dev nD, 0 < tallyAt (barG d) 0 1 g i → i ∈ L g ∧ 0 < lv g i := fun d hd => by
    rw [tallyAt_apply] at hd
    split at hd
    · next hg =>
      rw [hg.1, hg.2, L_tc]
      exact ⟨by decide, by show 0 < levOf (.reg barS) 0; decide⟩
    · exact absurd hd (Nat.lt_irrefl 0)
  rcases Nat.add_pos_iff_pos_or_pos.mp h' with h' | h'
  · rcases Nat.add_pos_iff_pos_or_pos.mp h' with h' | h'
    · have := ow_pos 0 0 0 0 c g i h'
      exact ⟨this.1, by omega⟩
    · exact bar _ h'
  · exact bar _ h'

theorem stage_lev : ∀ (w : Fin cfg0.W) (s : Fin (cfg0.win w).nbuf), levOf (.dma ((cfg0.win w).sem s)) 0 ≤ 0 := by decide

theorem cut : Pipeline.LevelCutOwed (pcfgs (F := F)) adm (pdats m) 0 L lv 0 (fun _ => 0) where
  hι c w s := by rw [L_tc]; decide
  hιb c w s := stage_lev w s
  hD c t g i h := by
    rcases t with ⟨_ | n, hn⟩
    · exact ow₀_pos c g i h
    · exact absurd (h : 0 < (0 : CellTallies nD τ sig ℕ) g i) (Nat.lt_irrefl 0)

/-- The buffers that are no window's array. -/
abbrev others : Finset (DevRef τ sig) := Pipeline.ucRefs τ sig \ Pipeline.arrRefs (τ := τ) spec0

theorem arrs_sub : Pipeline.arrRefs (τ := τ) spec0 ⊆ Pipeline.ucRefs τ sig := by decide

theorem out_mem : (Proc.devRef .tc main_v16 : DevRef τ sig) ∈ Pipeline.arrRefs (τ := τ) spec0 := by decide

theorem V10_other (c : Dev nD) (b : DevRef τ sig) (hb : b ≠ Proc.devRef .tc main_v16) : V10 m (outs m) c b = V9 m c b :=
  Function.update_of_ne hb _ _

theorem in_ne : ∀ w : Fin cfg0.W, w ≠ (5 : Fin 6) → (Proc.devRef .tc (Pipeline.arrRef spec0 w) : DevRef τ sig) ≠ Proc.devRef .tc main_v16 := by decide
theorem in_role : ∀ w : Fin cfg0.W, w ≠ (5 : Fin 6) → (cfg0.win w).isOut = false := by decide

theorem arr_end (c : Dev nD) (w : Fin cfg0.W) : (pdats m 0 c).arrAt w cfg0.N = V10 m (outs m) c (Proc.devRef .tc (Pipeline.arrRef spec0 w)) := by
  by_cases h : w = (5 : Fin 6)
  · subst h
    refine (arr_result m c).trans ((outs_eq m c).symm.trans ?_)
    exact (Function.update_self (Proc.devRef .tc main_v16) (outs m 10 main_v16 c) (V9 m c)).symm
  · rw [V10_other m c _ (in_ne w h)]
    exact (pdats m 0 c).arrAt_in w (in_role w h) _

theorem arr_start (c : Dev nD) (w : Fin cfg0.W) : (pdats m 0 c).arrAt w 0 = V9 m c (Proc.devRef .tc (Pipeline.arrRef spec0 w)) := rfl

set_option backward.isDefEq.respectTransparency.types false in
def reg : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    ∅ others (Finset.empty_subset _) kitP rfl (fun c => (body_obligation m c).loose)
    (fun _ => 0) ow₀ (fun c => (zero_add (ow₀ c)).symm) (fun _ => rfl) (fun _ => rfl) (fun c w => share_eq m c w)
    (V9 m) (V10 m (outs m))
    (fun c b hb => V10_other m c b fun h => (Finset.mem_sdiff.mp (Finset.mem_sdiff.mp hb).1).2 (h ▸ out_mem))
    (Tk m) (Yk (F := F)) (entry m) (Yk (F := F)) (hopen m) (hin m) (hout m)
    (fun c => by iintro H; imodintro; iexact H)
    (fun _ => 0) (cut m)
    (fun _ => iprop(emp))
    (fun c w => arr_start m c w) (fun c w => arr_end m c w)

/-! ## The states before and after -/

/-- What rides along the host's operations, and what is kept at the end. -/
def ride (k : Fin 2) (c : Dev nD) : sProp 𝕄 := match k with
  | 0 => iprop(Tk m c ∗ (∃ r, prngReg c r) ∗ ∃ W, owes (c : Thread nD τ) (ow₀ c) W)
  | 1 => iprop(Yk (F := F) c ∗ ∃ W, owes (c : Thread nD τ) (0 : CellTallies nD τ sig ℕ) W)

theorem reg_pre (c : Dev nD) : iprop(StableHlo.held (c : Thread nD τ) (Pipeline.ucRefs τ sig) (V9 m c) ∗ ride m 0 c) ⊢ (reg m).pre c := by
  show _ ⊢ iprop(StableHlo.held (c.tc : Thread nD τ) (Pipeline.arrRefs (τ := τ) spec0) (V9 m c) ∗ (∃ r, prngReg c r)
    ∗ (StableHlo.held (c.tc : Thread nD τ) others (V9 m c) ∗ emp) ∗ Tk m c ∗ ∃ Wd, owes (c : Thread nD τ) (0 + ow₀ c) Wd)
  rw [StableHlo.held_sub_split (c : Thread nD τ) arrs_sub (V9 m c), zero_add]
  unfold ride
  dsimp only
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem reg_post (c : Dev nD) : (reg m).post c ⊢ iprop(StableHlo.held (c : Thread nD τ) (Pipeline.ucRefs τ sig) (V10 m (outs m) c) ∗ ride m 1 c) := by
  show iprop(StableHlo.held (c.tc : Thread nD τ) (Pipeline.arrRefs (τ := τ) spec0) (V10 m (outs m) c) ∗ (∃ r, prngReg c r)
    ∗ (StableHlo.held (c.tc : Thread nD τ) others (V10 m (outs m) c) ∗ emp) ∗ Yk (F := F) c ∗ ∃ Wd, owes (c : Thread nD τ) (0 : CellTallies nD τ sig ℕ) Wd) ⊢ _
  rw [StableHlo.held_sub_split (c : Thread nD τ) arrs_sub (V10 m (outs m) c)]
  unfold ride
  dsimp only
  iintro ⟨Ha, -, ⟨Ho, -⟩, HY, HO⟩
  isplitl [Ha Ho]; · isplitl [Ha] <;> iassumption
  isplitl [HY] <;> iassumption

end Cert.RingProof
-- ==== Proof.Run.lean ====
/-
  THE RUN: launch to last state, over any float values.
-/
module

public import proofs.«01_k».proof.Proof.Region
public import Idealize.ShloMosaic.Lib.Quiescent

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## The launch element -/

def uR : URounds (GSem nD τ sig) ℕ × USlots (Dev nD × Fin 4) := (launchOf liveCells dormCells toks, initSlots slotKeys 8)

def u₀ : UU :=
  (initOf (Pipeline.cells (Pipeline.pin (pcfgs (F := F)) adm) cellOf_inj) (Pipeline.launchToks (Pipeline.pin (pcfgs (F := F)) adm) cellOf_inj), uR)

/-- The protocol's part is kept whole on one device until it is dealt. -/
def G (c : Dev nD) : sProp 𝕄 := if c = 0 then BI.own ((embR : Emb (URounds (GSem nD τ sig) ℕ × USlots (Dev nD × Fin 4)) 𝕄) uR) else iprop(emp)

theorem G_all : bigSep Finset.univ (G (F := F)) = (BI.own ((embR : Emb (URounds (GSem nD τ sig) ℕ × USlots (Dev nD × Fin 4)) 𝕄) uR) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem cells_disjoint : Disjoint liveCells dormCells := by
  rw [Finset.disjoint_left]
  intro g h₁ h₂
  unfold liveCells at h₁; unfold dormCells at h₂
  obtain ⟨c, -, rfl⟩ := Finset.mem_map.mp h₁
  obtain ⟨ck, -, h⟩ := Finset.mem_map.mp h₂
  exact (by decide : ∀ k : Fin 10, osem k ≠ .reg barS) ck.2 (congrArg Prod.snd h)

theorem unscopedSems0_eq (c : Dev nD) : (unscopedSems0 c : sProp 𝕄) = semVal (barG c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

/-! ## Dealing -/

/-- A device's own part, before the invariants are handed to everybody. -/
def share (c : Dev nD) : sProp 𝕄 :=
  iprop((atPos (ER (F := F)) (barG c) 0 ∅ 0 ∗ shut (F := F) c)
    ∗ (dirDue (F := F) 0 c ∗ dirDue (F := F) 1 c)
    ∗ (readerAt (ES (F := F)) (c, sidx 0 0) 0 ∗ readerAt (ES (F := F)) (c, sidx 0 1) 0
        ∗ readerAt (ES (F := F)) (c, sidx 1 0) 0 ∗ readerAt (ES (F := F)) (c, sidx 1 1) 0)
    ∗ (dutyTok (ER (F := F)) (barG (src 0 c)) 0 0 ∗ dutyTok (ER (F := F)) (barG (src 1 c)) 0 1))
/-- What the launch gives it beside the buffers and counters. -/
def own0 (c : Dev nD) : sProp 𝕄 :=
  iprop((dirCred (F := F) 0 c ∗ dirCred (F := F) 1 c ∗ cred (tallyAt (barG c) 0 2)) ∗ (∃ r, prngReg c r) ∗ ∃ W, owes (c : Thread nD τ) (ow₀ c) W)

def records (κ : GSem nD τ sig → ℕ) (ιs : Dev nD × Fin 4 → ℕ) : sProp 𝕄 :=
  iprop(invs (F := F) (inX m) (inW m) κ ιs ∗ bigSep liveCells fun g => reached (ER (F := F)) g 0)
instance records_persistent (κ : GSem nD τ sig → ℕ) (ιs : Dev nD × Fin 4 → ℕ) : BI.Persistent (records (F := F) m κ ιs) := by
  unfold records; infer_instance

theorem bar_reached (c : Dev nD) : (bigSep liveCells fun g => (reached (ER (F := F)) g 0 : sProp 𝕄)) ⊢ reached (ER (F := F)) (barG c) 0 :=
  bigSep_elim (by unfold liveCells; exact Finset.mem_map.mpr ⟨c, Finset.mem_univ _, rfl⟩)

theorem ride_intro (κ : GSem nD τ sig → ℕ) (ιs : Dev nD × Fin 4 → ℕ) (c : Dev nD) :
    iprop(records (F := F) m κ ιs ∗ (share (F := F) c ∗ own0 (F := F) c)) ⊢ ride (F := F) m 0 c := by
  unfold records share own0 ride Tk restDir startBar
  dsimp only
  iintro ⟨⟨#HI, #HR⟩, ⟨⟨Hat, Hsh⟩, ⟨HD0, HD1⟩, ⟨r0, r1, r2, r3⟩, B0, B1⟩, ⟨C0, C1, CB⟩, Hp, HO⟩
  isplitr [Hp HO]
  · isplitr; · iexists κ; iexists ιs; iexact HI
    isplitl [Hsh]; · iexact Hsh
    isplitl [HD0 C0 r0 r1]
    · isplitl [HD0]; · iexact HD0
      isplitl [C0]; · iexact C0
      isplitl [r0] <;> iassumption
    isplitl [HD1 C1 r2 r3]
    · isplitl [HD1]; · iexact HD1
      isplitl [C1]; · iexact C1
      isplitl [r2] <;> iassumption
    isplitl [B0]
    · isplitl [B0]; · iexact B0
      iapply (bar_reached (F := F) (src 0 c)); iexact HR
    isplitl [B1]
    · isplitl [B1]; · iexact B1
      iapply (bar_reached (F := F) (src 1 c)); iexact HR
    isplitl [Hat] <;> iassumption
  isplitl [Hp] <;> iassumption

theorem launch :
    iprop((bigSep Finset.univ fun c : Dev nD => iprop(unscopedSems0 c ∗ owes (c : Thread nD τ) (ow₀ c) ∅ ∗ Pipeline.launchCred ow₀ c ∗ prngReg c (ρ c) ∗ G (F := F) c))
        ∗ levAts L lv)
      ⊢ (|={Set.univ}=> bigSep Finset.univ (ride (F := F) m 0) : sProp 𝕄) := by
  have hcore (c : Dev nD) : iprop(unscopedSems0 c ∗ owes (c : Thread nD τ) (ow₀ c) ∅ ∗ Pipeline.launchCred ow₀ c ∗ prngReg c (ρ c) ∗ G (F := F) c)
      ⊢ (iprop(own0 (F := F) c ∗ semVal (barG c) 0 ∗ G (F := F) c) : sProp 𝕄) := by
    rw [unscopedSems0_eq]
    unfold own0
    iintro ⟨Hus, HO, Hcr, Hp, HG⟩
    ihave Hc := (creds (F := F) c) $$ Hcr
    isplitr [Hus HG]
    · isplitl [Hc]; · iexact Hc
      isplitl [Hp]; · iexists (ρ c); iexact Hp
      iexists ∅; iexact HO
    isplitl [Hus] <;> iassumption
  have hall : (bigSep Finset.univ fun c : Dev nD => iprop(unscopedSems0 c ∗ owes (c : Thread nD τ) (ow₀ c) ∅ ∗ Pipeline.launchCred ow₀ c ∗ prngReg c (ρ c) ∗ G (F := F) c))
      ⊢ (iprop((bigSep Finset.univ fun c : Dev nD => own0 (F := F) c) ∗ (bigSep Finset.univ fun c : Dev nD => semVal (barG c) 0)
          ∗ BI.own ((embR : Emb (URounds (GSem nD τ sig) ℕ × USlots (Dev nD × Fin 4)) 𝕄) uR)) : sProp 𝕄) := by
    rw [← G_all, ← bigSep_sep', ← bigSep_sep']
    exact bigSep_mono fun c _ => hcore c
  have hv : bigSep Finset.univ (fun c : Dev nD => (semVal (barG c) 0 : sProp 𝕄)) = bigSep liveCells (fun g => (semVal g 0 : sProp 𝕄)) := by
    unfold liveCells; rw [bigSep_map]; rfl
  have hat : bigSep liveCells (fun g => (atPos (ER (F := F)) g 0 ∅ 0 : sProp 𝕄)) = bigSep Finset.univ (fun c : Dev nD => atPos (ER (F := F)) (barG c) 0 ∅ 0) := by
    unfold liveCells; rw [bigSep_map]; rfl
  have hop : bigSep dormCells (fun g => (openTok (ER (F := F)) g : sProp 𝕄)) = bigSep Finset.univ (fun c : Dev nD => shut (F := F) c) := by
    unfold dormCells; rw [bigSep_map, bigSep_univ_prod]; rfl
  have hpair : (BI.own ((embR : Emb (URounds (GSem nD τ sig) ℕ × USlots (Dev nD × Fin 4)) 𝕄) uR) : sProp 𝕄)
      ⊢ iprop(BI.own ((ER (F := F)) (launchOf liveCells dormCells toks)) ∗ BI.own ((ES (F := F)) (initSlots slotKeys 8))) :=
    own_pair_emb (embR : Emb (URounds (GSem nD τ sig) ℕ × USlots (Dev nD × Fin 4)) 𝕄) _ _
  have htk : (bigSep Finset.univ fun c : Dev nD => iprop(dirToks (F := F) 0 c ∗ dirToks (F := F) 1 c
        ∗ dutyTok (ER (F := F)) (barG c) 0 0 ∗ dutyTok (ER (F := F)) (barG c) 0 1) : sProp 𝕄)
      = iprop((bigSep Finset.univ fun c : Dev nD => dirToks (F := F) 0 c) ∗ (bigSep Finset.univ fun c : Dev nD => dirToks (F := F) 1 c)
        ∗ (bigSep Finset.univ fun c : Dev nD => iprop(dutyTok (ER (F := F)) (barG c) 0 0 ∗ dutyTok (ER (F := F)) (barG c) 0 1))) := by
    rw [bigSep_sep', bigSep_sep']
  have hwr : (bigSep Finset.univ fun c : Dev nD => iprop(dirWrites (F := F) 0 c ∗ dirWrites (F := F) 1 c) : sProp 𝕄)
      = iprop((bigSep Finset.univ fun c : Dev nD => dirWrites (F := F) 0 c) ∗ (bigSep Finset.univ fun c : Dev nD => dirWrites (F := F) 1 c)) := by
    rw [bigSep_sep']
  have hshare : (bigSep Finset.univ fun c : Dev nD => iprop(share (F := F) c ∗ own0 (F := F) c) : sProp 𝕄)
      = iprop((((bigSep Finset.univ fun c : Dev nD => atPos (ER (F := F)) (barG c) 0 ∅ 0) ∗ (bigSep Finset.univ fun c : Dev nD => shut (F := F) c))
          ∗ ((bigSep Finset.univ fun c : Dev nD => dirDue (F := F) 0 c) ∗ (bigSep Finset.univ fun c : Dev nD => dirDue (F := F) 1 c))
          ∗ (bigSep Finset.univ fun c : Dev nD => iprop(readerAt (ES (F := F)) (c, sidx 0 0) 0 ∗ readerAt (ES (F := F)) (c, sidx 0 1) 0
              ∗ readerAt (ES (F := F)) (c, sidx 1 0) 0 ∗ readerAt (ES (F := F)) (c, sidx 1 1) 0))
          ∗ (bigSep Finset.univ fun c : Dev nD => iprop(dutyTok (ER (F := F)) (barG (src 0 c)) 0 0 ∗ dutyTok (ER (F := F)) (barG (src 1 c)) 0 1)))
        ∗ (bigSep Finset.univ fun c : Dev nD => own0 (F := F) c)) := by
    unfold share
    rw [bigSep_sep', bigSep_sep', bigSep_sep', bigSep_sep', bigSep_sep', bigSep_sep']
  iintro ⟨H, -⟩
  ihave H := hall $$ H
  icases H with ⟨HB, Hv, Hu⟩
  ihave Hu := hpair $$ Hu
  icases Hu with ⟨HuR, HuS⟩
  imod (Rounds.fund_launch (ER (F := F)) (rd (F := F) (inX m) (inW m)) cells_disjoint (fun g _ h => h) toks) $$ [Hv HuR]
    with ⟨%κ, -, #Hinv, #Hr, Hat, Hopen, Htok⟩
  · isplitl [Hv]
    · iapply (Entails.of_eq hv); iexact Hv
    · iexact HuR
  imod (Release.slots_init (ES (F := F)) slotKeys 8 (fun k : Dev nD × Fin 4 => slotAny (F := F) k.1 (stOf k.2) (parOf k.2))) $$ HuS
    with ⟨%ιs, -, #Hslot, Hrd, Hwr⟩
  imodintro
  iapply (bigSep_with_persistent (R := records (F := F) m κ ιs) (Φ := fun c => iprop(share (F := F) c ∗ own0 (F := F) c)) fun c _ => ride_intro m κ ιs c)
  isplitr
  · unfold records invs
    isplitr
    · isplitr; · iexact Hinv
      iexact Hslot
    iexact Hr
  iapply (Entails.of_eq hshare.symm)
  ihave Htok := (Entails.of_eq ((toks_eq (F := F)).trans htk)) $$ Htok
  icases Htok with ⟨T0, T1, TB⟩
  ihave Hwr := (writes (F := F)) $$ Hwr
  ihave Hwr := (Entails.of_eq hwr) $$ Hwr
  icases Hwr with ⟨W0, W1⟩
  isplitr [HB]
  · isplitl [Hat Hopen]
    · isplitl [Hat]; · iapply (Entails.of_eq hat); iexact Hat
      iapply (Entails.of_eq hop); iexact Hopen
    isplitl [T0 T1 W0 W1]
    · isplitl [T0 W0]
      · iapply (dir_round (F := F) 0); isplitl [T0] <;> iassumption
      · iapply (dir_round (F := F) 1); isplitl [T1] <;> iassumption
    isplitl [Hrd]
    · iapply (Entails.of_eq (readers (F := F))); iexact Hrd
    iapply (Entails.of_eq (bar_round (F := F))); iexact TB
  iexact HB

/-! ## The run -/

set_option backward.isDefEq.respectTransparency.types false in
/-- Every weakly fair execution ends, with every counter at zero, the arguments as they were and on each device the result. -/
theorem run_main : θ_run defs (onTc (τ := τ) (main (F := F))) ⟨m, fun _ => 0, ρ⟩ (fun r => (∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  refine Pipeline.θ_run_regions_kit_dev_sems (pcfgs (F := F)) adm (pdats m) 0 cellOf_inj EP defs₀ 𝒱₀ L lv m ρ main
    (segs m 𝒱₀ L lv (ride m) 0 (pdats m) (reg m))
    (fun c Q => by
      rewrite [main_chain c, Pipeline.Seg.run_eq_chain,
        show (segs m 𝒱₀ L lv (ride m) 0 (pdats m) (reg m) c).map Pipeline.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) ow₀ L_of_ne (G (F := F)) u₀
    (by
      unfold u₀
      iintro Hu
      ihave H := (ownU_pair _ _) $$ Hu
      icases H with ⟨HP, HX⟩
      imodintro
      isplitl [HP]; · iexact HP
      rw [G_all]; iexact HX)
    (T₀ := fun c => iprop(StableHlo.held (c : Thread nD τ) (Pipeline.ucRefs τ sig) (V0 m c) ∗ ride m 0 c))
    (Tₙ := fun c => iprop(StableHlo.held (c : Thread nD τ) (Pipeline.ucRefs τ sig) (V10 m (outs m) c) ∗ Yk (F := F) c))
    (hch := fun c => ⟨.rfl, .rfl, .rfl, .rfl, .rfl, .rfl, .rfl, .rfl, .rfl, reg_pre m c, (reg_post m c).trans (by
      unfold ride; dsimp only
      iintro ⟨Hh, Hy, HO⟩
      isplitr [HO]
      · isplitl [Hh] <;> iassumption
      iexact HO)⟩)
    (hinit := ?_) (QY := fun c s => (s.mem ((c.tc : Thread nD τ).loc main_v16) = result m c
      ∧ s.mem ((c.tc : Thread nD τ).loc main_arg0) = m ((c.tc : Thread nD τ).loc main_arg0) ∧ s.mem ((c.tc : Thread nD τ).loc main_arg1) = m ((c.tc : Thread nD τ).loc main_arg1)
      ∧ s.mem ((c.tc : Thread nD τ).loc main_arg2) = m ((c.tc : Thread nD τ).loc main_arg2) ∧ s.mem ((c.tc : Thread nD τ).loc main_arg3) = m ((c.tc : Thread nD τ).loc main_arg3))
      ∧ s.sem (barG c) = 0)
    (hfin := fun c s' => ?_) (hQ := fun s h hs => ⟨fun c => (h c).1, sem_eq_zero hs fun c sm hsm => by
      obtain rfl := unscoped_eq sm hsm
      exact (h c).2⟩)
  · have hsplit : (bigSep Finset.univ fun c : Dev nD => iprop(unscopedBufs c (fun b => m ((c.tc : Thread nD τ).loc b)) ∗ unscopedSems0 c
          ∗ owes (c.tc : Thread nD τ) (ow₀ c) ∅ ∗ Pipeline.launchCred ow₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (ow₀ c) ∅ ∗ Pipeline.launchCred ow₀ c ∗ prngReg c (ρ c) ∗ G (F := F) c))
            : sProp 𝕄) := by
      rw [← bigSep_sep']
      exact bigSep_mono fun c _ => by rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (launch m ρ) $$ [Hr Hla] with HE
    · isplitl [Hr]; · iexact Hr
      iexact Hla
    imodintro
    rw [bigSep_sep']
    isplitl [Hh]; · iexact Hh
    iexact HE
  · unfold StableHlo.held Yk
    iintro ⟨⟨Hh, Hb0⟩, HSI⟩
    icombine HSI Hb0 gives %hb
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      exact ⟨⟨(h (Proc.devRef .tc main_v16) (Finset.mem_filter.mpr ⟨StableHlo.devRef_mem_tcRefs main_v16, by decide⟩)).trans
          ((Function.update_self (Proc.devRef .tc main_v16) (outs m 10 main_v16 c) (V9 m c)).trans (outs_eq m c)),
        (h (Proc.devRef .tc main_arg0) (Finset.mem_filter.mpr ⟨StableHlo.devRef_mem_tcRefs main_arg0, by decide⟩)).trans (V10_main_arg0 m (outs m) c),
        (h (Proc.devRef .tc main_arg1) (Finset.mem_filter.mpr ⟨StableHlo.devRef_mem_tcRefs main_arg1, by decide⟩)).trans (V10_main_arg1 m (outs m) c),
        (h (Proc.devRef .tc main_arg2) (Finset.mem_filter.mpr ⟨StableHlo.devRef_mem_tcRefs main_arg2, by decide⟩)).trans (V10_main_arg2 m (outs m) c),
        (h (Proc.devRef .tc main_arg3) (Finset.mem_filter.mpr ⟨StableHlo.devRef_mem_tcRefs main_arg3, by decide⟩)).trans (V10_main_arg3 m (outs m) c)⟩,
        by simpa using hb⟩
    · iexact HSI

end Cert.RingProof
-- ==== Proof.Same.lean ====
/-
  THE FRAMES: the run at either instance of the float values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run

@[expose] public section

noncomputable section

namespace Cert.RingProof

open Cert.KernelIdeal
open Idealize.ShloMosaic
open Idealize.ShloMosaic.TcCoe
open Idealize.SL.Sem

/-- The kernel's run over the words of the machine formats, in the vocabulary of its twin text. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frame_bits : FrameBits := fun m ρ _ =>
  (θ_run defs _ _).mono (fun _ h => ⟨fun c => (h.1 c).2, h.2⟩) (run_main (F := Bits) m ρ)

theorem frame_ideal : Cert.quiescent_KernelIdeal := fun m ρ _ =>
  (θ_run defs _ _).mono (fun _ h => ⟨fun c => (h.1 c).2, h.2⟩) (run_main (F := Ideal) m ρ)

/-- The two printed texts of the kernel are one text. -/
theorem same_text : Cert.quiescent_Kernel = FrameBits := by sl_kernel_rfl

theorem frame_kernel : Cert.quiescent_Kernel := same_text.mpr frame_bits

end Cert.RingProof

end
-- ==== Proof.RefValue.lean ====
/-
  THE REFERENCE'S RESULT: one product, scaled and clamped, its blocks of rows in the ring's order.
-/
module

public import proofs.«01_k».proof.Proof.Gen.ReferenceIdeal.Value
public import Idealize.ShloMosaic.Lib.Pipeline.ValueKit
public import Idealize.ShloMosaic.Lib.Pipeline.ReadBack
public import Idealize.ShloMosaic.Lib.Pointwise
public import Idealize.ShloMosaic.Lib.Tactic

@[expose] public section

noncomputable section

namespace Cert.RefProof

open Cert.ReferenceIdeal Cert.ReferenceIdeal.Gen
open Idealize.ShloMosaic
open Idealize.ShloMosaic.TcCoe
open Idealize.ShloMosaic.Pipeline (Dat)
open Idealize.SL.Sem

variable {F : FTy → Type} [FloatOps F]
variable (m : (ℓ : Loc nD τ sig) → Buf (Elt F) ℓ) (ρ : Dev nD → PrngReg)

/-- The reference's four arguments as arrays. -/
def argX : Vec F S4096x4096 .fp8e4m3 := m (((0 : Dev nD).tc : Thread nD τ).loc main_arg0)
def argW : Vec F S4096x2048 .fp8e5m2 := m (((0 : Dev nD).tc : Thread nD τ).loc main_arg1)
def argA : Vec F S1 .f32 := m (((0 : Dev nD).tc : Thread nD τ).loc main_arg2)
def argB : Vec F S1 .f32 := m (((0 : Dev nD).tc : Thread nD τ).loc main_arg3)

/-- The one word of a one-element array. -/
def word (f : Vec F S1 .f32) : Elt F .f32 := f (fun a => ⟨0, by fin_cases a; decide⟩)
theorem word_eq (f : Vec F S1 .f32) (i : S1.Idx) : f i = word f :=
  congrArg f (funext fun a => Fin.ext (by
    have h : (i a).val < S1.size a := (i a).isLt
    fin_cases a
    exact Nat.lt_one_iff.mp h))

/-- What the reference computes of its arguments. -/
def refOut : Vec F S4096x2048 .f32 := k0_pay1 (argX m) (argW m) (word (argA m)) (word (argB m))

/-- The one grid point. -/
def t₀ : Fin cfg0.N := ⟨0, by decide⟩

theorem rwhole0 (t : Fin cfg0.N) (f : Vec F S4096x4096 .fp8e4m3) : (win0_0.blk t).view.read (Elt F) f = f := by
  obtain rfl : t = t₀ := Subsingleton.elim (α := Fin 1) t t₀
  funext y
  refine congrArg f (funext fun a => Fin.ext ?_)
  have h : win0_0.index t₀ a = 0 := by revert a; decide
  blk_simp
  rw [h, Nat.zero_mul, Nat.zero_add]
theorem rwhole1 (t : Fin cfg0.N) (f : Vec F S4096x2048 .fp8e5m2) : (win0_1.blk t).view.read (Elt F) f = f := by
  obtain rfl : t = t₀ := Subsingleton.elim (α := Fin 1) t t₀
  funext y
  refine congrArg f (funext fun a => Fin.ext ?_)
  have h : win0_1.index t₀ a = 0 := by revert a; decide
  blk_simp
  rw [h, Nat.zero_mul, Nat.zero_add]
theorem rwhole2 (t : Fin cfg0.N) (f : Vec F S1 .f32) : (win0_2.blk t).view.read (Elt F) f = f := by
  obtain rfl : t = t₀ := Subsingleton.elim (α := Fin 1) t t₀
  funext y
  refine congrArg f (funext fun a => Fin.ext ?_)
  have h : win0_2.index t₀ a = 0 := by revert a; decide
  blk_simp
  rw [h, Nat.zero_mul, Nat.zero_add]
theorem rwhole3 (t : Fin cfg0.N) (f : Vec F S1 .f32) : (win0_3.blk t).view.read (Elt F) f = f := by
  obtain rfl : t = t₀ := Subsingleton.elim (α := Fin 1) t t₀
  funext y
  refine congrArg f (funext fun a => Fin.ext ?_)
  have h : win0_3.index t₀ a = 0 := by revert a; decide
  blk_simp
  rw [h, Nat.zero_mul, Nat.zero_add]

theorem iblk0 (t : Fin cfg0.N) : iblk m 0 0 t = argX m := rwhole0 t _
theorem iblk1 (t : Fin cfg0.N) : iblk m 0 1 t = argW m := rwhole1 t _
theorem iblk2 (t : Fin cfg0.N) : iblk m 0 2 t = argA m := rwhole2 t _
theorem iblk3 (t : Fin cfg0.N) : iblk m 0 3 t = argB m := rwhole3 t _

theorem outs_eq (t : Fin cfg0.N) : outsAt0 m 0 t = refOut m := by
  unfold outsAt0
  frame_out
  simp only [read_unread_whole, iblk0, iblk1, iblk2, iblk3]
  unfold refOut
  rw [word_eq (argA m), word_eq (argB m)]

theorem arr_out : (dats m 0 0).arrAt 4 cfg0.N = refOut m := by
  refine (dats m 0 0).arrAt_eq_of_after_last 4 t₀ (by decide +kernel) _ fun j => ?_
  blk_simp
  rw [after0_4, outs_eq]

/-- The reference's run: its result, and its arguments as they were. -/
theorem run_ref : θ_run defs (onTc (τ := τ) (main (F := F))) ⟨m, fun _ => 0, ρ⟩ fun r =>
    r.2.mem (((0 : Dev nD).tc : Thread nD τ).loc main_v0) = refOut m
    ∧ r.2.mem (((0 : Dev nD).tc : Thread nD τ).loc main_arg0) = m (((0 : Dev nD).tc : Thread nD τ).loc main_arg0)
    ∧ r.2.mem (((0 : Dev nD).tc : Thread nD τ).loc main_arg1) = m (((0 : Dev nD).tc : Thread nD τ).loc main_arg1)
    ∧ r.2.mem (((0 : Dev nD).tc : Thread nD τ).loc main_arg2) = m (((0 : Dev nD).tc : Thread nD τ).loc main_arg2)
    ∧ r.2.mem (((0 : Dev nD).tc : Thread nD τ).loc main_arg3) = m (((0 : Dev nD).tc : Thread nD τ).loc main_arg3) :=
  (θ_run defs _ _).mono (fun _ h => ⟨(h 0).1.trans (arr_out m), (h 0).2⟩) (Value.run_blocks m ρ)

end Cert.RefProof

end
-- ==== Proof.Value.lean ====
/-
  THE VALUE: what a device is left with is its block of what the reference computes.
-/
module

public import proofs.«01_k».proof.Defs
public import proofs.«01_k».proof.Proof.Run
public import proofs.«01_k».proof.Proof.RefValue
public import Idealize.ShloMosaic.Lib.Pipeline.ValueKit
public import Idealize.ShloMosaic.Lib.Pointwise
public import Idealize.ShloMosaic.Lib.Layout

@[expose] public section

noncomputable section

namespace Cert.RingProof

open Cert.KernelIdeal Cert.KernelIdeal.Gen
open Idealize.ShloMosaic
open Idealize.ShloMosaic.TcCoe
open Idealize.SL.Sem

/-! ## The reference's rows in the ring's order -/

section Ref
variable {F : FTy → Type} [FloatOps F]
variable (x : Vec F ⟨2, ![4096, 4096]⟩ .fp8e4m3) (w : Vec F ⟨2, ![4096, 2048]⟩ .fp8e5m2) (a b : Elt F .f32)

/-- The reference's product, scaled and clamped, in the order of the rows of `x`. -/
def plain : FVec F ⟨2, ![4096, 2048]⟩ .f32 :=
  maximumf (mulf (matmul Cert.ReferenceIdeal.dot_S4096x4096_S4096x2048_S4096x2048_1_0_0_1_n_n none
      (extf .f32 x (by decide)) (extf .f32 w (by decide))
      (constant ⟨2, ![4096, 2048]⟩ .f32 0x00000000#32))
    (broadcast ⟨2, ![4096, 2048]⟩ (Scalar.mulf a b))) (broadcast ⟨2, ![4096, 2048]⟩ (Scalar.ofBits .f32 0x00000000#32))

theorem rows_slice (n : Fin 32) : Shape.Slices ⟨2, ![4096, 2048]⟩ ![(pos n).val * 128, 0] S128x2048 := by
  revert n; decide

/-- Its block of rows number `pos n`. -/
def rowsAt (n : Fin 32) : FVec F S128x2048 .f32 :=
  extractStridedSlice S128x2048 ![(pos n).val * 128, 0] (plain x w a b) (rows_slice n)

theorem rows_cat : Shape.Concatenates ((List.ofFn fun n : Fin 32 => (⟨S128x2048, rowsAt x w a b n⟩ : (s : Shape) × (s.Idx → Elt F .f32))).map (·.1))
    ⟨2, ![4096, 2048]⟩ 0 := by
  rw [List.map_ofFn]
  exact (by decide : Shape.Concatenates (List.ofFn fun _ : Fin 32 => S128x2048) ⟨2, ![4096, 2048]⟩ 0)

theorem ref_pay : Cert.ReferenceIdeal.Gen.k0_pay1 x w a b = concatenate ⟨2, ![4096, 2048]⟩ 0
    (List.ofFn fun n : Fin 32 => (⟨S128x2048, rowsAt x w a b n⟩ : (s : Shape) × (s.Idx → Elt F .f32))) (rows_cat x w a b) := by
  sl_kernel_rfl

/-- Block `c` of what the reference computes. -/
theorem ref_block (c : Fin 32) :
    Layout.block S128x2048 ⟨2, ![4096, 2048]⟩ 0 32 c (Cert.ReferenceIdeal.Gen.k0_pay1 x w a b) = rowsAt x w a b c := by
  rw [ref_pay]
  exact Layout.block_concatenate_ofFn (t := ⟨2, ![4096, 2048]⟩) 0 (rowsAt x w a b) (rows_cat x w a b) (by decide) c

end Ref

/-! ## Sums at the extended reals -/

section Ideal
variable (X : Dev nD → Vec Ideal S4096x128 .fp8e4m3) (Wt : Dev nD → Vec Ideal S128x2048 .fp8e5m2)

theorem part_apply (d : Dev nD) (q : Fin 32) (r : Fin 128) (n : Fin 2048) :
    part X Wt d q (ix2 r n) = ∑ k : Fin 128, X d (ix2 ⟨q.val * 128 + r.val, by omega⟩ k) * Wt d (ix2 k n) := by
  unfold part
  pointwise [k0_pay2]
  refine Finset.sum_congr rfl fun k _ => ?_
  have h : (xRect q).emb (ix2 r k) = ix2 ⟨q.val * 128 + r.val, by omega⟩ k := by
    funext a
    fin_cases a
    · refine Fin.ext ?_
      show q.val * 128 + 1 * r.val = q.val * 128 + r.val
      omega
    · refine Fin.ext ?_
      show 0 + 1 * k.val = k.val
      omega
  rw [h]

theorem plain_apply (x : Vec Ideal ⟨2, ![4096, 4096]⟩ .fp8e4m3) (w : Vec Ideal ⟨2, ![4096, 2048]⟩ .fp8e5m2) (a b : Elt Ideal .f32)
    (c : Fin 32) (r : Fin 128) (n : Fin 2048) :
    rowsAt x w a b c (ix2 r n) = max ((∑ k : Fin 4096, x (ix2 ⟨(pos c).val * 128 + r.val, by omega⟩ k) * w (ix2 k n)) * (a * b)) 0 := by
  unfold rowsAt
  pointwise [plain]

/-- A message at an element: the contributions of the devices it has passed. -/
theorem msg_apply (st : Fin 2) (y : S128x2048.Idx) : ∀ (j : ℕ) (_ : j ≤ 16) (c : Dev nD),
    msg X Wt st j c y = ∑ i ∈ Finset.range (j + 1), (part X Wt ((src st)^[i] c) (row st j (pos c)) y : EReal)
  | 0, _, c => by
    rw [Finset.sum_range_one]
    rfl
  | j + 1, hj, c => by
    have ih := msg_apply st y j (by omega) (src st c)
    rw [row_src st c j (by omega)] at ih
    rw [Finset.sum_range_succ']
    show (part X Wt c (row st (j + 1) (pos c)) y : EReal) + msg X Wt st j (src st c) y = _
    rw [ih, add_comm]
    rfl

/-- Every device once: the one itself, fifteen ahead of it and sixteen behind. -/
theorem all_devices : ∀ c : Fin 32, (Finset.univ : Finset (Fin 32)).val
    = c ::ₘ ((Multiset.range 15).map (fun i => (src 1)^[i] (nxt c)) + (Multiset.range 16).map (fun i => (src 0)^[i] (prv c))) := by
  decide +kernel

theorem sum_devices (c : Fin 32) (g : Fin 32 → EReal) :
    ∑ d : Fin 32, g d = g c + (∑ i ∈ Finset.range 15, g ((src 1)^[i] (nxt c)) + ∑ i ∈ Finset.range 16, g ((src 0)^[i] (prv c))) := by
  show ((Finset.univ : Finset (Fin 32)).val.map g).sum = _
  rw [all_devices c, Multiset.map_cons, Multiset.sum_cons, Multiset.map_add, Multiset.sum_add, Multiset.map_map, Multiset.map_map]
  rfl

theorem row_ahead : ∀ c : Dev nD, row 1 14 (pos (nxt c)) = pos c := by decide +kernel
theorem row_behind : ∀ c : Dev nD, row 0 15 (pos (prv c)) = pos c := by decide +kernel

/-- The block a device keeps: every device's contribution to it. -/
theorem own_apply (c : Dev nD) (y : S128x2048.Idx) : own2 X Wt c y = ∑ d : Fin 32, (part X Wt d (pos c) y : EReal) := by
  rw [sum_devices c, ← add_assoc]
  show ((part X Wt c (pos c) y : EReal) + msg X Wt 1 14 (nxt c) y) + msg X Wt 0 15 (prv c) y = _
  rw [msg_apply X Wt 1 y 14 (by decide), msg_apply X Wt 0 y 15 (by decide), row_ahead, row_behind]

/-- The blocks of the operands' columns and rows make up the whole contraction. -/
theorem own_whole (x : Vec Ideal ⟨2, ![4096, 4096]⟩ .fp8e4m3) (w : Vec Ideal ⟨2, ![4096, 2048]⟩ .fp8e5m2)
    (hX : ∀ d : Fin 32, X d = Layout.block S4096x128 ⟨2, ![4096, 4096]⟩ 1 32 d x)
    (hW : ∀ d : Fin 32, Wt d = Layout.block S128x2048 ⟨2, ![4096, 2048]⟩ 0 32 d w) (c : Dev nD) (r : Fin 128) (n : Fin 2048) :
    own2 X Wt c (ix2 r n) = ∑ k : Fin 4096, (x (ix2 ⟨(pos c).val * 128 + r.val, by omega⟩ k) * w (ix2 k n) : EReal) := by
  rw [own_apply]
  refine (Finset.sum_congr rfl fun d _ => part_apply X Wt d (pos c) r n).trans ?_
  refine Fin.sum_mul_add_congr fun d k hl => ?_
  rw [hX, hW]
  refine congrArg₂ (fun u v : EReal => u * v) (congrArg x (funext fun a => ?_)) (congrArg w (funext fun a => ?_))
  · fin_cases a <;> rfl
  · fin_cases a <;> rfl

theorem out_apply (sA sB : Dev nD → Vec Ideal S1 .f32) (c : Dev nD) (y : S128x2048.Idx) :
    outV X Wt sA sB c y = max ((own2 X Wt c y : EReal) * (sc0 (sA c) * sc0 (sB c))) 0 := by
  unfold outV
  pointwise [k0_pay4]

/-- What a device is left with is its block of the reference's result. -/
theorem out_block (x : Vec Ideal ⟨2, ![4096, 4096]⟩ .fp8e4m3) (w : Vec Ideal ⟨2, ![4096, 2048]⟩ .fp8e5m2) (a b : Vec Ideal S1 .f32)
    (sA sB : Dev nD → Vec Ideal S1 .f32)
    (hX : ∀ d : Fin 32, X d = Layout.block S4096x128 ⟨2, ![4096, 4096]⟩ 1 32 d x)
    (hW : ∀ d : Fin 32, Wt d = Layout.block S128x2048 ⟨2, ![4096, 2048]⟩ 0 32 d w)
    (hA : ∀ d, sA d = a) (hB : ∀ d, sB d = b) (c : Fin 32) :
    outV X Wt sA sB c = Layout.block S128x2048 ⟨2, ![4096, 2048]⟩ 0 32 c
      (Cert.ReferenceIdeal.Gen.k0_pay1 x w (Cert.RefProof.word a) (Cert.RefProof.word b)) := by
  rw [ref_block]
  funext y
  obtain ⟨r, n, rfl⟩ : ∃ (r : Fin 128) (n : Fin 2048), y = ix2 r n := ⟨y 0, y 1, eq_ix2 y⟩
  rw [out_apply, own_whole X Wt x w hX hW, plain_apply, hA, hB]
  rfl

end Ideal

/-! ## The claim -/

theorem value : Cert.algebraic_KernelIdeal_ReferenceIdeal := fun m g m' g' _ hm =>
  ⟨Cert.RefProof.refOut m',
    (θ_run defs _ _).mono (fun _ h c => ⟨((h.1 c).1).trans
      (out_block (inX m) (inW m) (Cert.RefProof.argX m') (Cert.RefProof.argW m') (Cert.RefProof.argA m') (Cert.RefProof.argB m')
        (inA m) (inB m) (fun d => (hm d).1) (fun d => (hm d).2.1) (fun d => (hm d).2.2.1) (fun d => (hm d).2.2.2) c), (h.1 c).2⟩)
      (run_main (F := Ideal) m g),
    Cert.RefProof.run_ref (F := Ideal) m' g'⟩

end Cert.RingProof

end
-- ==== Proof.Gather.Ring.lean ====
/-
  The second program's ring: its message counts, the block of rows each message fills, and what the words its kernel reads select.
-/
module

public import proofs.«01_k».proof.Proof.Ring
public import proofs.«01_k».proof.Proof.Gen.GatherIdeal
public import proofs.«01_k».proof.Proof.Gen.GatherIdeal.Skeleton

@[expose] public section

noncomputable section

namespace Cert.GatherProof

open Cert.GatherIdeal Cert.GatherIdeal.Gen
open Cert.RingProof (cyc pos pos_cyc cyc_pos posEquiv nxt prv dst src src_dst dst_src word w0 w1 w2 sidx par)
open Idealize.ShloMosaic
open Idealize.ShloMosaic.TcCoe

/-- How many messages a device sends (and receives) in a direction. -/
def nM (st : Fin 2) : ℕ := if st = 0 then 15 else 16

/-- The block of rows of the result that message `j` of a direction fills on the device at position `p`. -/
def row (st : Fin 2) (j : ℕ) (p : Fin 32) : Fin 32 :=
  if st = 0 then ⟨(p.val + 63 - j) % 32, Nat.mod_lt _ (by decide)⟩ else ⟨(p.val + 1 + j) % 32, Nat.mod_lt _ (by decide)⟩

theorem row_first (st : Fin 2) (c : Dev nD) : cyc (row st 0 (pos c)) = src st c := by revert st c; decide +kernel

theorem row_src (st : Fin 2) (c : Dev nD) (j : ℕ) (hj : j < 16) : row st j (pos (src st c)) = row st (j + 1) (pos c) := by
  have : ∀ (st : Fin 2) (c : Dev nD) (j : Fin 16), row st j.val (pos (src st c)) = row st (j.val + 1) (pos c) := by decide +kernel
  exact this st c ⟨j, hj⟩

/-- Each message of the two directions fills a block of its own, none of them the device's own. -/
theorem rows_disj : ∀ (p : Fin 32) (a b : Fin 2) (i j : Fin 16), i.val < nM a → j.val < nM b →
    row a i.val p = row b j.val p → a = b ∧ i = j := by decide +kernel
theorem rows_ne : ∀ (p : Fin 32) (a : Fin 2) (i : Fin 16), i.val < nM a → row a i.val p ≠ p := by decide +kernel

/-! ## The words the kernel reads -/

set_option maxRecDepth 100000 in
theorem chk1_word : ∀ d : Fin 32, k0_chk1 (word d) := by decide +kernel
set_option maxRecDepth 100000 in
theorem chk2_word : ∀ d : Fin 32, k0_chk2 (word d) := by decide +kernel
set_option maxRecDepth 100000 in
theorem chk3_word : ∀ d : Fin 32, k0_chk3 (word d) := by decide +kernel

abbrev T1 : Type := Fin k0_t1_loop.trips

theorem dev1_word : ∀ d : Fin 32, k0_dev1 (word d) = d.val := by decide +kernel
theorem dev2_word : ∀ d : Fin 32, k0_dev2 (word d) = d.val := by decide +kernel
theorem dev3_word : ∀ d : Fin 32, k0_dev3 (word d) = d.val := by decide +kernel
theorem dev4_word : ∀ d : Fin 32, k0_dev4 (word d) = d.val := by decide +kernel
theorem dev5_word : ∀ d : Fin 32, k0_dev5 (word d) = d.val := by decide +kernel
theorem dev6_word : ∀ d : Fin 32, k0_dev6 (word d) = d.val := by decide +kernel
theorem dev7_word : ∀ d : Fin 32, k0_dev7 (word d) = d.val := by decide +kernel
theorem dev8_word : ∀ d : Fin 32, k0_dev8 (word d) = d.val := by decide +kernel

/-! Rows. -/
theorem off1_word : ∀ d : Fin 32, k0_off1 (word d) = ![d.val * 128, 0] := by decide +kernel
theorem off2_word : ∀ d : Fin 32, k0_off2 (word d) = ![d.val * 128, 0] := by decide +kernel
theorem off9_word : ∀ (d : Fin 32) (s : T1), s.val < 15 → k0_off9 (word d) s = ![(row 0 s.val d).val * 128, 0] := by decide +kernel
theorem off20_word : ∀ (d : Fin 32) (s : T1), k0_off20 (word d) s = ![(row 1 s.val d).val * 128, 0] := by decide +kernel

/-! Slots. -/
theorem off6_eq : ∀ s : T1, k0_off6 s = ![(s.val + 1) % 2, 0, 0] := by decide +kernel
theorem off7_eq : ∀ s : T1, k0_off7 s = ![s.val % 2, 0, 0] := by decide +kernel
theorem off8_eq : ∀ s : T1, k0_off8 s = ![s.val % 2, 0, 0] := by decide +kernel
theorem off17_eq : ∀ s : T1, k0_off17 s = ![(s.val + 1) % 2, 0, 0] := by decide +kernel
theorem off18_eq : ∀ s : T1, k0_off18 s = ![s.val % 2, 0, 0] := by decide +kernel
theorem off19_eq : ∀ s : T1, k0_off19 s = ![s.val % 2, 0, 0] := by decide +kernel

/-! Semaphores. -/
theorem off3_eq : ∀ s : T1, k0_off3 s = ![0, s.val % 2] := by decide +kernel
theorem off5_eq : ∀ s : T1, k0_off5 s = ![0, (s.val + 1) % 2] := by decide +kernel
theorem off11_eq : ∀ s : T1, k0_off11 s = ![0, (s.val + 1) % 2] := by decide +kernel
theorem off14_eq : ∀ s : T1, k0_off14 s = ![1, s.val % 2] := by decide +kernel
theorem off16_eq : ∀ s : T1, k0_off16 s = ![1, (s.val + 1) % 2] := by decide +kernel
theorem off22_eq : ∀ s : T1, k0_off22 s = ![1, (s.val + 1) % 2] := by decide +kernel

/-! Conditions. -/
/-- Whether a trip is not the first, as the kernel asks it before a wait for a credit. -/
abbrev later (s : T1) : BitVec 1 := Scalar.cmpi .ne (Scalar.extui (Scalar.cmpi .sge (Scf.iv (0#32) (1#32) s) 1#32)) (0#32 : BitVec 32)
theorem later_iff : ∀ s : T1, later s = 1#1 ↔ 1 ≤ s.val := by decide +kernel
theorem cond1_iff : ∀ s : T1, k0_cond1 s = 1#1 ↔ s.val < 15 := by decide +kernel
theorem cond2_iff : ∀ s : T1, k0_cond2 s = 1#1 ↔ s.val + 1 < 15 := by decide +kernel
theorem cond4_iff : ∀ s : T1, k0_cond4 s = 1#1 ↔ s.val + 1 < 15 := by decide +kernel
theorem cond5_iff : ∀ s : T1, k0_cond5 s = 1#1 ↔ s.val = 0 := by decide +kernel
theorem cond6_iff : ∀ s : T1, k0_cond6 s = 1#1 ↔ s.val + 2 < 15 := by decide +kernel
theorem cond7_iff : ∀ s : T1, k0_cond7 s = 1#1 ↔ s.val + 1 < 16 := by decide +kernel
theorem cond9_iff : ∀ s : T1, k0_cond9 s = 1#1 ↔ s.val + 1 < 16 := by decide +kernel
theorem cond10_iff : ∀ s : T1, k0_cond10 s = 1#1 ↔ s.val = 0 := by decide +kernel
theorem cond11_iff : ∀ s : T1, k0_cond11 s = 1#1 ↔ s.val + 2 < 16 := by decide +kernel

/-! ## The semaphores -/

abbrev sendS (i : Fin 4) : DmaSem sig := ⟨3 + i.val, by have := i.isLt; change _ < 11; omega⟩
abbrev recvS (i : Fin 4) : DmaSem sig := ⟨7 + i.val, by have := i.isLt; change _ < 11; omega⟩
abbrev crS (st : Fin 2) : Sem sig := ⟨st.val, by have := st.isLt; change _ < 3; omega⟩
abbrev barS : Sem sig := (2 : Fin 3)

theorem send_sem (st par : Fin 2) (o : Fin 2 → ℕ) (ho : o = ![st.val, par.val]) (h) (hs) :
    ((cc0_scratch3.slice (Rect.unit (s := S2x2) o S1x1.size h)).squeeze S_ hs).sem = sendS (sidx st par) := by
  subst ho; revert st par; decide
theorem recv_sem (st par : Fin 2) (o : Fin 2 → ℕ) (ho : o = ![st.val, par.val]) (h) (hs) :
    ((cc0_scratch4.slice (Rect.unit (s := S2x2) o S1x1.size h)).squeeze S_ hs).sem = recvS (sidx st par) := by
  subst ho; revert st par; decide
theorem cr_sem (st : Fin 2) (o : Fin 1 → ℕ) (ho : o = ![st.val]) (h) (hs) :
    ((cc0_scratch5.slice (Rect.unit (s := S2) o S1.size h)).squeeze S_ hs).sem = crS st := by
  subst ho; revert st; decide
theorem bar_sem : (SemArray.scalar (sig.barrier 0 rfl) : Sems sig S_).sem = barS := rfl

end Cert.GatherProof
-- ==== Proof.Gather.Proto.lean ====
/-
  The protocol of the all-gather: what the cells, slots and messages are, and what each credit carries.

  In each direction a device sends its own block first and passes on each message but the last as it came: message `j + 1`
  leaves straight from the slot that message `j` arrived in, while the device reads the same slot for its result. So a
  copy in flight holds half of its source and the device keeps the other half; the two halves meet again when the send
  is waited for, and only then is the slot freed. The first message goes out of the own block in both directions at once,
  half of it to either. Credits carry facts as in the reduce-scatter.
-/
module

public import proofs.«01_k».proof.Proof.Gather.Ring

@[expose] public section

noncomputable section

namespace Cert.GatherProof

open Cert.GatherIdeal Cert.GatherIdeal.Gen
open Cert.RingProof (cyc pos pos_cyc cyc_pos posEquiv nxt prv dst src src_dst dst_src word w0 w1 w2 sidx par)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The algebra -/

/-- The pipeline library's rounds, this protocol's rounds (duties are numbers), and the slots' release counts. -/
abbrev UU : Type := UR sig nD τ × (URounds (GSem nD τ sig) ℕ × USlots (Dev nD × Fin 4))

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) :=
  (Emb.inl : Emb (URounds (GSem nD τ sig) ℕ) (URounds (GSem nD τ sig) ℕ × USlots (Dev nD × Fin 4))).trans embR
def ES : Emb (USlots (Dev nD × Fin 4)) (MT nD τ sig ℕ (Elt F) ℕ UU ℕ) :=
  (Emb.inr : Emb (USlots (Dev nD × Fin 4)) (URounds (GSem nD τ sig) ℕ × USlots (Dev nD × Fin 4))).trans embR

instance ER_landsIn : (ER (F := F)).LandsIn (upEmb : UEmb _ 𝕄) := by unfold ER; infer_instance
instance ES_landsIn : (ES (F := F)).LandsIn (upEmb : UEmb _ 𝕄) := by unfold ES; infer_instance

/-! ## Blocks of rows and slots -/

theorem chunk_inb (q : Fin 32) : ∀ a, (![q.val * 128, 0] : Fin 2 → ℕ) a + S128x2048.size a ≤ S4096x2048.size a := by
  revert q; decide
abbrev chunkRect (q : Fin 32) : Rect S4096x2048 := Rect.unit (s := S4096x2048) ![q.val * 128, 0] S128x2048.size (chunk_inb q)
abbrev accM : Memref sig .tc .vmem S4096x2048 .bf16 := Memref.whole cc0_scratch0
abbrev chunkM (q : Fin 32) : Memref sig .tc .vmem S128x2048 .bf16 := accM.slice (chunkRect q) (fun _ => rfl)

theorem slot_inb (p : Fin 2) : ∀ a, (![p.val, 0, 0] : Fin 3 → ℕ) a + S1x128x2048.size a ≤ S2x128x2048.size a := by
  revert p; decide
abbrev slotRect (p : Fin 2) : Rect S2x128x2048 := Rect.unit (s := S2x128x2048) ![p.val, 0, 0] S1x128x2048.size (slot_inb p)
def rsM : Fin 2 → Memref sig .tc .vmem S2x128x2048 .bf16
  | 0 => Memref.whole cc0_scratch1
  | 1 => Memref.whole cc0_scratch2
abbrev slotM (st p : Fin 2) : Memref sig .tc .vmem S128x2048 .bf16 :=
  ((rsM st).slice (slotRect p) (fun _ => rfl)).squeeze S128x2048 squeezes_S1x128x2048_S128x2048

/-- A block of rows of the accumulator at given contents, and a slot at given contents. -/
abbrev chunkIs (c : Dev nD) (q : Fin 32) (X : FVec F S128x2048 .bf16) : sProp 𝕄 := owns (c : Thread nD τ) (chunkM q) fullShare X
abbrev slotIs (c : Dev nD) (st p : Fin 2) (X : FVec F S128x2048 .bf16) : sProp 𝕄 := owns (c : Thread nD τ) (slotM st p) fullShare X
def chunkAny (c : Dev nD) (q : Fin 32) : sProp 𝕄 := iprop(∃ X, chunkIs (F := F) c q X)
def slotAny (c : Dev nD) (st p : Fin 2) : sProp 𝕄 := iprop(∃ X, slotIs (F := F) c st p X)

instance chunkAny_storable (c : Dev nD) (q : Fin 32) : Storable (upEmb : UEmb _ 𝕄) (chunkAny (F := F) c q) := by
  unfold chunkAny; infer_instance
instance slotAny_storable (c : Dev nD) (st p : Fin 2) : Storable (upEmb : UEmb _ 𝕄) (slotAny (F := F) c st p) := by
  unfold slotAny; infer_instance

/-- What a transfer of one block of rows adds to a DMA semaphore. -/
abbrev N : ℕ := (chunkM 0).view.dmaCredit
theorem N_pos : 0 < N := View.dmaCredit_pos _ (by decide)
theorem slot_credit (st p : Fin 2) : (slotM st p).view.dmaCredit = N := by fin_cases st <;> rfl

theorem slot_excl (c : Dev nD) (st p : Fin 2) : iprop(slotAny (F := F) c st p ∗ slotAny c st p) ⊢ (False : sProp 𝕄) := by
  have hne : (slotM st p).view.set.Nonempty := Finset.card_pos.mp (by rw [View.card_set]; decide)
  obtain ⟨i, hi'⟩ := hne
  have hi : (show Idx ((slotM st p).view.loc (c : Thread nD τ)) from i)
    ∈ (show Finset (Idx ((slotM st p).view.loc (c : Thread nD τ))) from (slotM st p).view.set) := hi'
  unfold slotAny slotIs owns
  iintro ⟨⟨%X, %f, -, Hf⟩, ⟨%Y, %g, -, Hg⟩⟩
  iapply (pointsTo_overlap_false (q := fullShare) (f := f) (g := g) hi hi)
  isplitl [Hf] <;> iassumption

/-! ## The values -/

variable (Y : Dev nD → Vec F S128x2048 .f32)

/-- A device's own block as it is passed round. -/
def own (c : Dev nD) : FVec F S128x2048 .bf16 := k0_pay4 (Y c)

/-- The message `j` a device sends in a direction: its own block, then what it received. -/
def msg (st : Fin 2) : ℕ → Dev nD → FVec F S128x2048 .bf16
  | 0, c => own Y c
  | j + 1, c => msg st j (src st c)

/-- It is the block of the device that many places back. -/
theorem msg_from (st : Fin 2) (j : ℕ) (hj : j < 16) (c : Dev nD) : msg Y st j (src st c) = own Y (cyc (row st j (pos c))) := by
  induction j generalizing c with
  | zero => show own Y (src st c) = _; rw [row_first]
  | succ j ih => show msg Y st j (src st (src st c)) = _; rw [ih (by omega), row_src st c j (by omega)]

/-- The half of the own block lent to a direction, and the half of a slot lent to the next message. -/
def half (st : Fin 2) : PosShare TreeShare := if st = 0 then fullShare.left else fullShare.right
def ownPart (c : Dev nD) (st : Fin 2) : sProp 𝕄 := owns (c : Thread nD τ) (chunkM (pos c)) (half st) (own Y c)
def slotPart (c : Dev nD) (st : Fin 2) (j : ℕ) : sProp 𝕄 :=
  owns (c : Thread nD τ) (slotM st (par j)) fullShare.right (msg Y st j (src st c))

/-- What comes back when a message has left. -/
def sendPay (c : Dev nD) (st : Fin 2) : ℕ → sProp 𝕄
  | 0 => ownPart Y c st
  | j + 1 => slotPart Y c st j

instance sendPay_storable (c : Dev nD) (st : Fin 2) (j : ℕ) : Storable (upEmb : UEmb _ 𝕄) (sendPay (F := F) Y c st j) := by
  cases j
  · show Storable _ (ownPart Y c st); unfold ownPart; infer_instance
  · show Storable _ (slotPart Y c st _); unfold slotPart; infer_instance

/-! ## Cells -/

abbrev sendG (c : Dev nD) (st p : Fin 2) : GSem nD τ sig := ((c : Thread nD τ), .dma (sendS (sidx st p)))
abbrev recvG (c : Dev nD) (st p : Fin 2) : GSem nD τ sig := ((c : Thread nD τ), .dma (recvS (sidx st p)))
abbrev crG (c : Dev nD) (st : Fin 2) : GSem nD τ sig := ((c : Thread nD τ), .reg (crS st))
abbrev barG (c : Dev nD) : GSem nD τ sig := ((c : Thread nD τ), .reg barS)

/-- The direction and the parity an index names. -/
def stOf (i : Fin 4) : Fin 2 := ⟨i.val / 2, by omega⟩
def parOf (i : Fin 4) : Fin 2 := ⟨i.val % 2, by omega⟩
theorem stOf_sidx : ∀ st p : Fin 2, stOf (sidx st p) = st := by decide
theorem parOf_sidx : ∀ st p : Fin 2, parOf (sidx st p) = p := by decide

/-- How many of the first `n` messages have a parity; how many messages wait for a credit. -/
def cnt (n : ℕ) (p : Fin 2) : ℕ := (n + 1 - p.val) / 2
def nCr (st : Fin 2) : ℕ := if st = 0 then 13 else 14

theorem nM_le (st : Fin 2) : nM st ≤ 16 := by revert st; decide
theorem nCr_le (st : Fin 2) : nCr st ≤ 14 := by revert st; decide
theorem nCr_add (st : Fin 2) : nCr st + 2 = nM st := by revert st; decide

theorem cnt_zero (p : Fin 2) : cnt 0 p = 0 := by revert p; decide
theorem cnt_par (j : ℕ) : cnt j (par j) = j / 2 := by unfold cnt par; dsimp only; omega
theorem cnt_succ_par (j : ℕ) : cnt (j + 1) (par j) = j / 2 + 1 := by unfold cnt par; dsimp only; omega
theorem cnt_succ_ne (j : ℕ) (p : Fin 2) (h : p ≠ par j) : cnt (j + 1) p = cnt j p := by
  have h' : p.val ≠ j % 2 := fun e => h (Fin.ext e)
  have := p.isLt
  unfold cnt; omega

/-! ## Facts about other devices -/

/-- Device `e` (whom the messages go to) has taken in message `j` and freed its slot. -/
def fact (st : Fin 2) (e : Dev nD) (j : ℕ) : sProp 𝕄 :=
  iprop(reached (ER (F := F)) (recvG e st (par j)) (j / 2 + 1) ∗ released (ES (F := F)) (e, sidx st (par j)) (j / 2 + 2))

instance fact_persistent (st : Fin 2) (e : Dev nD) (j : ℕ) : BI.Persistent (fact (F := F) st e j) := by unfold fact; infer_instance
instance fact_storable (st : Fin 2) (e : Dev nD) (j : ℕ) : Storable (upEmb : UEmb _ 𝕄) (fact (F := F) st e j) := by
  unfold fact; infer_instance

theorem fact_mono (st : Fin 2) (e : Dev nD) {i j : ℕ} (h : i ≤ j) (hp : par i = par j) : fact (F := F) st e j ⊢ fact st e i := by
  unfold fact
  rw [hp]
  iintro ⟨H1, H2⟩
  isplitl [H1]
  · iapply (reached_mono (E := ER) (show i / 2 + 1 ≤ j / 2 + 1 by omega)); iexact H1
  · iapply (released_mono (E := ES) (show i / 2 + 2 ≤ j / 2 + 2 by omega)); iexact H2

/-- The fact of message `j` and of the one before it. -/
def facts2 (st : Fin 2) (e : Dev nD) : ℕ → sProp 𝕄
  | 0 => fact (F := F) st e 0
  | j + 1 => iprop(fact (F := F) st e (j + 1) ∗ fact (F := F) st e j)

instance facts2_persistent (st : Fin 2) (e : Dev nD) (j : ℕ) : BI.Persistent (facts2 (F := F) st e j) := by
  cases j <;> unfold facts2 <;> infer_instance
instance facts2_storable (st : Fin 2) (e : Dev nD) (j : ℕ) : Storable (upEmb : UEmb _ 𝕄) (facts2 (F := F) st e j) := by
  cases j <;> unfold facts2 <;> infer_instance

/-- The facts of any message give the fact of an earlier one. -/
theorem facts2_elim (st : Fin 2) (e : Dev nD) {i j : ℕ} (h : i ≤ j) : facts2 (F := F) st e j ⊢ fact st e i := by
  cases j with
  | zero => obtain rfl : i = 0 := by omega
            exact .rfl
  | succ j =>
    unfold facts2
    by_cases hp : par i = par (j + 1)
    · iintro ⟨H, -⟩; iapply (fact_mono st e h hp); iexact H
    · have hp' : i % 2 ≠ (j + 1) % 2 := fun e => hp (Fin.ext e)
      have hij : i ≤ j := by rcases Nat.lt_or_eq_of_le h with h | h
                             · omega
                             · subst h; exact absurd rfl hp'
      have hpj : par i = par j := Fin.ext (show i % 2 = j % 2 by omega)
      iintro ⟨-, H⟩; iapply (fact_mono st e hij hpj); iexact H

/-- What a device lets its sender know at the barrier: both slots of the direction are free, nothing has arrived in
    them, and its counter of the other direction's credits is in place. -/
def barPay (st : Fin 2) (e : Dev nD) : sProp 𝕄 :=
  iprop((reached (ER (F := F)) (recvG e st 0) 0 ∗ released (ES (F := F)) (e, sidx st 0) 1)
    ∗ (reached (ER (F := F)) (recvG e st 1) 0 ∗ released (ES (F := F)) (e, sidx st 1) 1)
    ∗ reached (ER (F := F)) (crG e (1 - st)) 0)

instance barPay_persistent (st : Fin 2) (e : Dev nD) : BI.Persistent (barPay (F := F) st e) := by unfold barPay; infer_instance
instance barPay_storable (st : Fin 2) (e : Dev nD) : Storable (upEmb : UEmb _ 𝕄) (barPay (F := F) st e) := by
  unfold barPay; infer_instance

/-! ## The schedule -/

/-- Which direction and parity a DMA semaphore serves. -/
def dmaIx (s : DmaSem sig) : Fin 4 := ⟨(s.val - 3) % 4, Nat.mod_lt _ (by decide)⟩
theorem dmaIx_send : ∀ i : Fin 4, dmaIx (sendS i) = i := by decide
theorem dmaIx_recv : ∀ i : Fin 4, dmaIx (recvS i) = i := by decide

def dutiesOf : SemLoc sig → ℕ → Finset ℕ
  | .reg s, r => if r = 0 then (if s.val = 2 then {0, 1} else if s.val = 0 then Finset.range 13 else Finset.range 14) else ∅
  | .dma s, r => if 3 ≤ s.val ∧ r < cnt (nM (stOf (dmaIx s))) (parOf (dmaIx s)) then {0} else ∅

def amountFor : SemLoc sig → ℕ
  | .reg _ => 1
  | .dma _ => N

def payFor (c : Dev nD) : SemLoc sig → ℕ → ℕ → sProp 𝕄
  | .reg s, _, d =>
    if s.val = 2 then (if d = 0 then barPay (F := F) 0 (dst 0 c) else barPay (F := F) 1 (dst 1 c))
    else if s.val = 0 then facts2 (F := F) 0 (dst 0 c) d else facts2 (F := F) 1 (dst 1 c) d
  | .dma s, r, _ =>
    if s.val < 7 then sendPay (F := F) Y c (stOf (dmaIx s)) (2 * r + (parOf (dmaIx s)).val)
    else slotIs (F := F) c (stOf (dmaIx s)) (parOf (dmaIx s))
      (msg Y (stOf (dmaIx s)) (2 * r + (parOf (dmaIx s)).val) (src (stOf (dmaIx s)) c))

/-- One duty per message on its send and receive cells, one per credit on the credit counters, two on the barrier. -/
def rd : Rounds.Schedule (GSem nD τ sig) ℕ 𝕄 where
  duties g r := if g.1.2 = .tc then dutiesOf g.2 r else ∅
  amount g _ _ := amountFor g.2
  payload g r d := payFor Y g.1.1 g.2 r d
  amount_pos g _ _ _ := by
    show 0 < amountFor g.2
    cases g.2 with
    | reg s => exact Nat.one_pos
    | dma s => exact N_pos

instance rd_storable (g : GSem nD τ sig) (r d : ℕ) : BI.Storable (upEmb : UEmb _ 𝕄) ((rd (F := F) Y).payload g r d) := by
  show BI.Storable upEmb (payFor Y g.1.1 g.2 r d)
  cases g.2 <;> unfold payFor <;> (repeat' split) <;> infer_instance

section Sched

variable (c : Dev nD) (st : Fin 2)

theorem duties_bar : (rd (F := F) Y).duties (barG c) 0 = {0, 1} := rfl
theorem duties_cr : (rd (F := F) Y).duties (crG c st) 0 = Finset.range (nCr st) := by fin_cases st <;> rfl
theorem duties_send (j : ℕ) (hj : j < nM st) : (rd (F := F) Y).duties (sendG c st (par j)) (j / 2) = {0} := by
  show dutiesOf (.dma (sendS (sidx st (par j)))) (j / 2) = {0}
  dsimp only [dutiesOf]
  rw [dmaIx_send, stOf_sidx, parOf_sidx]
  refine if_pos ⟨by show 3 ≤ 3 + _; omega, ?_⟩
  unfold cnt par; dsimp only; omega
theorem duties_recv (j : ℕ) (hj : j < nM st) : (rd (F := F) Y).duties (recvG c st (par j)) (j / 2) = {0} := by
  show dutiesOf (.dma (recvS (sidx st (par j)))) (j / 2) = {0}
  dsimp only [dutiesOf]
  rw [dmaIx_recv, stOf_sidx, parOf_sidx]
  refine if_pos ⟨by show 3 ≤ 7 + _; omega, ?_⟩
  unfold cnt par; dsimp only; omega

theorem duties_bar_later : ∀ r, 1 ≤ r → (rd (F := F) Y).duties (barG c) r = ∅ := fun r hr => by
  show dutiesOf (.reg barS) r = ∅
  dsimp only [dutiesOf]; exact if_neg (by omega)
theorem duties_cr_later : ∀ r, 1 ≤ r → (rd (F := F) Y).duties (crG c st) r = ∅ := fun r hr => by
  show dutiesOf (.reg (crS st)) r = ∅
  dsimp only [dutiesOf]; exact if_neg (by omega)
theorem duties_send_later (p : Fin 2) : ∀ r, cnt (nM st) p ≤ r → (rd (F := F) Y).duties (sendG c st p) r = ∅ := fun r hr => by
  show dutiesOf (.dma (sendS (sidx st p))) r = ∅
  dsimp only [dutiesOf]; rw [dmaIx_send, stOf_sidx, parOf_sidx]; exact if_neg (by omega)
theorem duties_recv_later (p : Fin 2) : ∀ r, cnt (nM st) p ≤ r → (rd (F := F) Y).duties (recvG c st p) r = ∅ := fun r hr => by
  show dutiesOf (.dma (recvS (sidx st p))) r = ∅
  dsimp only [dutiesOf]; rw [dmaIx_recv, stOf_sidx, parOf_sidx]; exact if_neg (by omega)

theorem expect_bar : (rd (F := F) Y).expect (barG c) 0 = 2 := by
  unfold Schedule.expect Schedule.amountOf; rw [duties_bar]; rfl
theorem expect_cr : (rd (F := F) Y).expect (crG c st) 0 = nCr st := by
  unfold Schedule.expect Schedule.amountOf
  rw [duties_cr, Finset.sum_congr rfl (fun d _ => show (rd (F := F) Y).amount (crG c st) 0 d = 1 from rfl)]
  simp
theorem expect_send (j : ℕ) (hj : j < nM st) : (rd (F := F) Y).expect (sendG c st (par j)) (j / 2) = N := by
  unfold Schedule.expect Schedule.amountOf; rw [duties_send Y c st j hj, Finset.sum_singleton]; rfl
theorem expect_recv (j : ℕ) (hj : j < nM st) : (rd (F := F) Y).expect (recvG c st (par j)) (j / 2) = N := by
  unfold Schedule.expect Schedule.amountOf; rw [duties_recv Y c st j hj, Finset.sum_singleton]; rfl

theorem payload_bar0 : (rd (F := F) Y).payload (barG c) 0 0 = barPay 0 (dst 0 c) := rfl
theorem payload_bar1 : (rd (F := F) Y).payload (barG c) 0 1 = barPay 1 (dst 1 c) := rfl
theorem payload_cr (d : ℕ) : (rd (F := F) Y).payload (crG c st) 0 d = facts2 st (dst st c) d := by
  fin_cases st <;> rfl
theorem half_par (j : ℕ) : 2 * (j / 2) + (par j).val = j := by show 2 * (j / 2) + j % 2 = j; omega
theorem payload_send (j d : ℕ) : (rd (F := F) Y).payload (sendG c st (par j)) (j / 2) d = sendPay Y c st j := by
  show payFor Y c (.dma (sendS (sidx st (par j)))) (j / 2) d = _
  dsimp only [payFor]
  rw [dmaIx_send, stOf_sidx, parOf_sidx, half_par]
  exact if_pos (by show 3 + (sidx st (par j)).val < 7; omega)
theorem payload_recv (j d : ℕ) : (rd (F := F) Y).payload (recvG c st (par j)) (j / 2) d
    = slotIs c st (par j) (msg Y st j (src st c)) := by
  show payFor Y c (.dma (recvS (sidx st (par j)))) (j / 2) d = _
  dsimp only [payFor]
  rw [dmaIx_recv, stOf_sidx, parOf_sidx, half_par]
  exact if_neg (by show ¬(7 + (sidx st (par j)).val < 7); omega)

end Sched

/-! ## What a device owes; the levels -/

/-- The messages from `a` on in a direction, and the credits from `p` on. -/
def owM (st : Fin 2) (a : ℕ) (c : Dev nD) : CellTallies nD τ sig ℕ :=
  ∑ h ∈ Finset.Ico a (nM st), tallyAt (recvG (dst st c) st (par h)) h N
def owC (st : Fin 2) (p : ℕ) (c : Dev nD) : CellTallies nD τ sig ℕ :=
  ∑ j ∈ Finset.Ico p (nCr st), tallyAt (crG (src st c) st) j 1
def ow (a b p q : ℕ) (c : Dev nD) : CellTallies nD τ sig ℕ := owM 0 a c + owM 1 b c + (owC 0 p c + owC 1 q c)
/-- At launch: all of them, and one unit to either neighbour's barrier. -/
def ow₀ (c : Dev nD) : CellTallies nD τ sig ℕ := ow 0 0 0 0 c + tallyAt (barG (nxt c)) 0 1 + tallyAt (barG (prv c)) 0 1

theorem Ico_peel {a n : ℕ} (h : a < n) : Finset.Ico a n = insert a (Finset.Ico (a + 1) n) := by
  ext i; simp only [Finset.mem_insert, Finset.mem_Ico]; omega
theorem Ico_peel_not (a n : ℕ) : a ∉ Finset.Ico (a + 1) n := by simp

theorem owM_peel (st : Fin 2) (a : ℕ) (c : Dev nD) (h : a < nM st) :
    owM st a c = owM st (a + 1) c + tallyAt (recvG (dst st c) st (par a)) a N := by
  unfold owM; rw [Ico_peel h, Finset.sum_insert (Ico_peel_not _ _), add_comm]
theorem owC_peel (st : Fin 2) (p : ℕ) (c : Dev nD) (h : p < nCr st) :
    owC st p c = owC st (p + 1) c + tallyAt (crG (src st c) st) p 1 := by
  unfold owC; rw [Ico_peel h, Finset.sum_insert (Ico_peel_not _ _), add_comm]
theorem owM_zero (st : Fin 2) (a : ℕ) (c : Dev nD) (h : nM st ≤ a) : owM st a c = 0 := by
  unfold owM; rw [Finset.Ico_eq_empty (by omega), Finset.sum_empty]
theorem owC_zero (st : Fin 2) (p : ℕ) (c : Dev nD) (h : nCr st ≤ p) : owC st p c = 0 := by
  unfold owC; rw [Finset.Ico_eq_empty (by omega), Finset.sum_empty]
theorem owM_stay (st : Fin 2) (a : ℕ) (c : Dev nD) (h : nM st ≤ a) : owM st a c = owM st (a + 1) c := by
  rw [owM_zero st a c h, owM_zero st (a + 1) c (by omega)]
theorem owC_stay (st : Fin 2) (p : ℕ) (c : Dev nD) (h : nCr st ≤ p) : owC st p c = owC st (p + 1) c := by
  rw [owC_zero st p c h, owC_zero st (p + 1) c (by omega)]

def L (g : GSem nD τ sig) : Finset ℕ := if g.1.2 = .tc then Finset.range 20 else ∅
def levOf : SemLoc sig → ℕ → ℕ
  | .reg s, i => if s.val = 2 then 1 else i + 3
  | .dma s, i => if s.val < 7 then 0 else i + 2
def lv (g : GSem nD τ sig) (i : ℕ) : ℕ := levOf g.2 i

theorem L_of_ne (g : GSem nD τ sig) (h : g.1.2 ≠ .tc) : L g = ∅ := if_neg h
theorem L_tc (c : Dev nD) (sm : SemLoc sig) : L ((c : Thread nD τ), sm) = Finset.range 20 := if_pos rfl

theorem owM_pos (st : Fin 2) (a : ℕ) (c : Dev nD) (g : GSem nD τ sig) (i : ℕ) (h : 0 < owM st a c g i) :
    i ∈ L g ∧ a + 2 ≤ lv g i := by
  unfold owM at h
  rw [Finset.sum_apply, Finsupp.finset_sum_apply] at h
  obtain ⟨j, hj, hp⟩ := Finset.exists_ne_zero_of_sum_ne_zero (Nat.pos_iff_ne_zero.mp h)
  rw [tallyAt_apply] at hp
  have hc : g = recvG (dst st c) st (par j) ∧ i = j := by
    by_contra hn; rw [if_neg hn] at hp; exact hp rfl
  have hb := Finset.mem_Ico.mp hj
  have h16 : nM st ≤ 16 := nM_le st
  rw [hc.1, hc.2, L_tc]
  refine ⟨Finset.mem_range.mpr (by omega), ?_⟩
  show a + 2 ≤ levOf (.dma (recvS (sidx st (par j)))) j
  dsimp only [levOf]
  rw [if_neg (by show ¬(7 + _ < 7); omega)]; omega

theorem owC_pos (st : Fin 2) (p : ℕ) (c : Dev nD) (g : GSem nD τ sig) (i : ℕ) (h : 0 < owC st p c g i) :
    i ∈ L g ∧ p + 3 ≤ lv g i := by
  unfold owC at h
  rw [Finset.sum_apply, Finsupp.finset_sum_apply] at h
  obtain ⟨j, hj, hp⟩ := Finset.exists_ne_zero_of_sum_ne_zero (Nat.pos_iff_ne_zero.mp h)
  rw [tallyAt_apply] at hp
  have hc : g = crG (src st c) st ∧ i = j := by
    by_contra hn; rw [if_neg hn] at hp; exact hp rfl
  have hb := Finset.mem_Ico.mp hj
  have h16 : nCr st ≤ 14 := nCr_le st
  rw [hc.1, hc.2, L_tc]
  refine ⟨Finset.mem_range.mpr (by omega), ?_⟩
  show p + 3 ≤ levOf (.reg (crS st)) j
  dsimp only [levOf]
  rw [if_neg (by show ¬(st.val = 2); omega)]; omega

theorem ow_pos (a b p q : ℕ) (c : Dev nD) (g : GSem nD τ sig) (i : ℕ) (h : 0 < ow a b p q c g i) :
    i ∈ L g ∧ (a + 2 ≤ lv g i ∨ b + 2 ≤ lv g i ∨ p + 3 ≤ lv g i ∨ q + 3 ≤ lv g i) := by
  have h' : 0 < owM 0 a c g i + owM 1 b c g i + (owC 0 p c g i + owC 1 q c g i) := h
  by_cases h1 : 0 < owM 0 a c g i
  · exact ⟨(owM_pos 0 a c g i h1).1, .inl (owM_pos 0 a c g i h1).2⟩
  by_cases h2 : 0 < owM 1 b c g i
  · exact ⟨(owM_pos 1 b c g i h2).1, .inr (.inl (owM_pos 1 b c g i h2).2)⟩
  by_cases h3 : 0 < owC 0 p c g i
  · exact ⟨(owC_pos 0 p c g i h3).1, .inr (.inr (.inl (owC_pos 0 p c g i h3).2))⟩
  have h4 : 0 < owC 1 q c g i := by omega
  exact ⟨(owC_pos 1 q c g i h4).1, .inr (.inr (.inr (owC_pos 1 q c g i h4).2))⟩

/-- A device may wait on a cell whose level is below everything it still owes. -/
theorem mayWait_ow (c : Dev nD) (sm : SemLoc sig) (i a b p q : ℕ) (hi : i < 20)
    (h : levOf sm i < a + 2 ∧ levOf sm i < b + 2 ∧ levOf sm i < p + 3 ∧ levOf sm i < q + 3) :
    (levAts L lv : sProp 𝕄) ⊢ MayWait (c : Thread nD τ) sm i (ow a b p q c) :=
  MayOwe.of_cut (L := L) (lev := lv) (levOf sm i)
    (fun x hx => by rw [Finset.mem_singleton.mp hx, L_tc]; exact Finset.mem_range.mpr hi)
    (fun g u hg => (ow_pos a b p q c g u hg).1)
    (fun x hx => by rw [Finset.mem_singleton.mp hx]; exact le_refl _)
    (fun g u hg => by have := (ow_pos a b p q c g u hg).2; omega)

/-! ## The cells and the slots, all together -/

/-- The scoped semaphores of the kernel: sends, receives, credits. -/
def osem : Fin 10 → SemLoc sig :=
  ![.dma (sendS 0), .dma (sendS 1), .dma (sendS 2), .dma (sendS 3), .dma (recvS 0), .dma (recvS 1), .dma (recvS 2), .dma (recvS 3),
    .reg (crS 0), .reg (crS 1)]

theorem osem_inj : Function.Injective osem := by decide

def liveCells : Finset (GSem nD τ sig) := Finset.univ.map ⟨fun c : Dev nD => barG c, fun a b h => by simpa using h⟩
def dormCells : Finset (GSem nD τ sig) :=
  Finset.univ.map ⟨fun x : Dev nD × Fin 10 => (((x.1 : Dev nD) : Thread nD τ), osem x.2), fun a b h => by
    have h1 := congrArg (fun g => g.1.1) h
    have h2 := congrArg (fun g => g.2) h
    exact Prod.ext h1 (osem_inj h2)⟩

theorem mem_dorm (c : Dev nD) (k : Fin 10) : (((c : Thread nD τ), osem k) : GSem nD τ sig) ∈ dormCells :=
  Finset.mem_map.mpr ⟨(c, k), Finset.mem_univ _, rfl⟩
theorem send_mem (c : Dev nD) (st p : Fin 2) : sendG c st p ∈ liveCells ∪ dormCells := by
  refine Finset.mem_union_right _ ?_
  have h : osem ⟨(sidx st p).val, by omega⟩ = .dma (sendS (sidx st p)) := by revert st p; decide
  have := mem_dorm c ⟨(sidx st p).val, by omega⟩; rwa [h] at this
theorem recv_mem (c : Dev nD) (st p : Fin 2) : recvG c st p ∈ liveCells ∪ dormCells := by
  refine Finset.mem_union_right _ ?_
  have h : osem ⟨4 + (sidx st p).val, by omega⟩ = .dma (recvS (sidx st p)) := by revert st p; decide
  have := mem_dorm c ⟨4 + (sidx st p).val, by omega⟩; rwa [h] at this
theorem cr_mem (c : Dev nD) (st : Fin 2) : crG c st ∈ liveCells ∪ dormCells := by
  refine Finset.mem_union_right _ ?_
  have h : osem ⟨8 + st.val, by omega⟩ = .reg (crS st) := by revert st; decide
  have := mem_dorm c ⟨8 + st.val, by omega⟩; rwa [h] at this
theorem bar_mem (c : Dev nD) : barG c ∈ liveCells ∪ dormCells :=
  Finset.mem_union_left _ (Finset.mem_map.mpr ⟨c, Finset.mem_univ _, rfl⟩)

/-- Every cell's and every slot's invariant, at the names the launch gave them. -/
def invs (κ : GSem nD τ sig → ℕ) (ιs : Dev nD × Fin 4 → ℕ) : sProp 𝕄 :=
  iprop(bigSep (liveCells ∪ dormCells) (fun g => cellInv (ER (F := F)) (rd Y) (κ g) g)
    ∗ bigSep Finset.univ (fun k : Dev nD × Fin 4 => slotInv (ES (F := F)) (ιs k) k (slotAny k.1 (stOf k.2) (parOf k.2))))

instance invs_persistent (κ : GSem nD τ sig → ℕ) (ιs : Dev nD × Fin 4 → ℕ) : BI.Persistent (invs (F := F) Y κ ιs) := by
  unfold invs; infer_instance

variable (κ : GSem nD τ sig → ℕ) (ιs : Dev nD × Fin 4 → ℕ)

theorem invs_cell {g : GSem nD τ sig} (hg : g ∈ liveCells ∪ dormCells) :
    invs (F := F) Y κ ιs ⊢ cellInv (ER (F := F)) (rd Y) (κ g) g := by
  unfold invs
  iintro ⟨H, -⟩
  iapply (show bigSep (liveCells ∪ dormCells) (fun g => cellInv (ER (F := F)) (rd Y) (κ g) g)
    ⊢ cellInv (ER (F := F)) (rd Y) (κ g) g from bigSep_elim hg)
  iexact H
theorem invs_slot (c : Dev nD) (st p : Fin 2) :
    invs (F := F) Y κ ιs ⊢ slotInv (ES (F := F)) (ιs (c, sidx st p)) (c, sidx st p) (slotAny c st p) := by
  unfold invs
  iintro ⟨-, H⟩
  have h : bigSep Finset.univ (fun k : Dev nD × Fin 4 => slotInv (ES (F := F)) (ιs k) k (slotAny k.1 (stOf k.2) (parOf k.2)))
      ⊢ slotInv (ES (F := F)) (ιs (c, sidx st p)) (c, sidx st p) (slotAny c (stOf (sidx st p)) (parOf (sidx st p))) :=
    bigSep_elim (Finset.mem_univ (c, sidx st p))
  rw [stOf_sidx, parOf_sidx] at h
  iapply h
  iexact H

end Cert.GatherProof
-- ==== Proof.Gather.Steps.lean ====
/-
  The steps of a hop, in either direction: taking a message in, waiting until a slot may be written again, sending, and
  freeing a slot. Each is stated with the part of the device's holdings it moves.
-/
module

public import proofs.«01_k».proof.Proof.Gather.Proto

@[expose] public section

noncomputable section

namespace Cert.GatherProof

open Cert.GatherIdeal Cert.GatherIdeal.Gen
open Cert.RingProof (cyc pos pos_cyc cyc_pos posEquiv nxt prv dst src src_dst dst_src word w0 w1 w2 sidx par)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

/-! ## Taking from and adding to a numbered family -/

theorem bs_take {a n : ℕ} (h : a < n) (Φ : ℕ → sProp 𝕄) :
    bigSep (Finset.Ico a n) Φ = iprop(Φ a ∗ bigSep (Finset.Ico (a + 1) n) Φ) := by
  rw [Ico_peel h, bigSep_insert (Ico_peel_not _ _)]
  rfl
theorem bs_put {a n : ℕ} (h : a ≤ n) (Φ : ℕ → sProp 𝕄) :
    bigSep (Finset.Ico a (n + 1)) Φ = iprop(Φ n ∗ bigSep (Finset.Ico a n) Φ) := by
  rw [show Finset.Ico a (n + 1) = insert n (Finset.Ico a n) from by ext i; simp only [Finset.mem_insert, Finset.mem_Ico]; omega,
    bigSep_insert (by simp)]
  rfl

theorem par_two (n : ℕ) : par (n + 2) = par n := Fin.ext (show (n + 2) % 2 = n % 2 by omega)

/-! ## What a device holds -/

variable (Y : Dev nD → Vec F S128x2048 .f32)
variable (κ : GSem nD τ sig → ℕ) (ιs : Dev nD × Fin 4 → ℕ)
variable (c : Dev nD) (st : Fin 2)

/-- What is owed, whatever was waited on. -/
def ows (O : CellTallies nD τ sig ℕ) : sProp 𝕄 := iprop(∃ W, owes (c : Thread nD τ) O W)

/-- For receiving message `s` and the later ones. -/
def RV (s : ℕ) : sProp 𝕄 :=
  iprop(atPos (ER (F := F)) (recvG c st (par s)) (s / 2) ∅ 0 ∗ atPos (ER (F := F)) (recvG c st (par (s + 1))) ((s + 1) / 2) ∅ 0
    ∗ bigSep (Finset.Ico s (nM st)) (fun j => cred (tallyAt (recvG c st (par j)) j N)))

/-- For waiting for the sends from `w` on to have left. -/
def SP (w : ℕ) : sProp 𝕄 :=
  iprop(atPos (ER (F := F)) (sendG c st (par w)) (w / 2) ∅ 0 ∗ atPos (ER (F := F)) (sendG c st (par (w + 1))) ((w + 1) / 2) ∅ 0
    ∗ reached (ER (F := F)) (sendG c st (par w)) (w / 2) ∗ reached (ER (F := F)) (sendG c st (par (w + 1))) ((w + 1) / 2))
/-- For sending message `n` and the later ones. -/
def TK (n : ℕ) : sProp 𝕄 :=
  bigSep (Finset.Ico n (nM st)) (fun j => iprop(dutyTok (ER (F := F)) (sendG c st (par j)) (j / 2) 0
    ∗ dutyTok (ER (F := F)) (recvG (dst st c) st (par j)) (j / 2) 0 ∗ writeTok (ES (F := F)) (dst st c, sidx st (par j)) (j / 2 + 1)))
/-- The messages sent and not yet waited for. -/
def IFL (w n : ℕ) : sProp 𝕄 := bigSep (Finset.Ico w n) (fun j => cred (tallyAt (sendG c st (par j)) 0 N))
def SD (n w : ℕ) : sProp 𝕄 := iprop(SP (F := F) c st w ∗ TK (F := F) c st n ∗ IFL (F := F) c st w n)

/-- For waiting for the credits from `m` on. -/
def CRp (m : ℕ) : sProp 𝕄 :=
  if m < nCr st then iprop(∃ T, atPos (ER (F := F)) (crG c st) 0 T m ∗ bigSep T (fun d => facts2 (F := F) st (dst st c) d))
  else atPos (ER (F := F)) (crG c st) 1 ∅ 0
def CR (m : ℕ) : sProp 𝕄 :=
  iprop(CRp (F := F) c st m ∗ bigSep (Finset.Ico m (nCr st)) (fun j => cred (tallyAt (crG c st) j 1)))

/-- For freeing the slots of the messages from `i` on. -/
def prevFact : ℕ → sProp 𝕄
  | 0 => iprop(emp)
  | i + 1 => fact (F := F) st c i
def SG (i : ℕ) : sProp 𝕄 :=
  iprop(bigSep (Finset.Ico i (nCr st)) (fun j => dutyTok (ER (F := F)) (crG (src st c) st) 0 j)
    ∗ reached (ER (F := F)) (crG (src st c) st) 0
    ∗ readerAt (ES (F := F)) (c, sidx st (par i)) (i / 2 + 1) ∗ readerAt (ES (F := F)) (c, sidx st (par (i + 1))) ((i + 1) / 2 + 1)
    ∗ prevFact (F := F) c st i)

instance prevFact_persistent (i : ℕ) : BI.Persistent (prevFact (F := F) c st i) := by
  cases i <;> unfold prevFact <;> infer_instance

theorem facts2_of (i : ℕ) : iprop(fact (F := F) st c i ∗ prevFact (F := F) c st i) ⊢ facts2 (F := F) st c i := by
  cases i with
  | zero => dsimp only [facts2]; iintro ⟨H, -⟩; iexact H
  | succ i => exact .rfl
theorem prevFact_succ (i : ℕ) : fact (F := F) st c i ⊢ prevFact (F := F) c st (i + 1) := .rfl

/-- Message `j` may be sent to `e`. -/
def sendOk (e : Dev nD) (j : ℕ) : sProp 𝕄 :=
  iprop(reached (ER (F := F)) (recvG e st (par j)) (j / 2) ∗ released (ES (F := F)) (e, sidx st (par j)) (j / 2 + 1))

instance sendOk_persistent (e : Dev nD) (j : ℕ) : BI.Persistent (sendOk (F := F) st e j) := by unfold sendOk; infer_instance

theorem sendOk_of_fact (e : Dev nD) (j : ℕ) : fact (F := F) st e j ⊢ sendOk st e (j + 2) := by
  unfold fact sendOk
  rw [par_two, show (j + 2) / 2 = j / 2 + 1 from by omega]

/-! ## Taking a message in -/

/-- The wait for message `s`. -/
theorem recv_wait {sem : DmaSem sig} {sp sp' : Space} {s s' : Shape} {e e' : EltTy}
    {srcM : Memref sig .tc sp s e} {dstM : Memref sig .tc sp' s' e'} {h1 : srcM.view.WordExact} {h2 : dstM.view.WordExact}
    {α : Type} {k : PUnit → Prog (TpuEff nD τ sig (Elt F) Λ₀ .tc) α} {Q : α → sProp 𝕄}
    (j : ℕ) (hj : j < nM st) (hsem : sem = recvS (sidx st (par j))) (hN : dstM.view.dmaCredit = N) (O : CellTallies nD τ sig ℕ)
    (hW : (levAts L lv : sProp 𝕄) ⊢ MayWait (c : Thread nD τ) (.dma (recvS (sidx st (par j)))) j O) :
    iprop(invs (F := F) Y κ ιs ∗ levAts L lv ∗ RV (F := F) c st j ∗ ows (F := F) c O)
      ⊢ iprop(((RV (F := F) c st (j + 1) ∗ ows (F := F) c O ∗ reached (ER (F := F)) (recvG c st (par j)) (j / 2 + 1)
              ∗ slotIs c st (par j) (msg Y st j (src st c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM h1 h2) k) Q) := by
  subst hsem
  unfold RV ows
  rw [bs_take hj]
  iintro ⟨#HI, #Hlev, ⟨Hat, Hat', Hc, Hcs⟩, ⟨%W, HO⟩⟩ Hk
  iapply (Rounds.wp_wait_rest_token 𝒱₀ (ER (F := F)) (rd Y) (c : Thread nD τ) none (κ := κ (recvG c st (par j)))
      (wpE_waitDma2_eq (src := srcM) (dst := dstM) 𝒱₀ (c : Thread nD τ) none Set.univ) (Set.mem_univ _) j (O := O) (W := W) (R := j / 2) (m := 0) (T := ∅)
      (by rw [expect_recv Y c st j hj, Nat.zero_add]; exact hN)) $$ [Hc HO Hat]
  · isplitr; · iapply (invs_cell Y κ ιs (recv_mem c st (par j))); iexact HI
    isplitl [Hc]; · rw [hN]; iexact Hc
    isplitl [HO]; · iexact HO
    isplitr; · iapply hW; iexact Hlev
    iexact Hat
  iintro ⟨HO, Hat, #Hr, Hpay⟩
  ihave Hp := (Entails.of_eq (show bigSep ((rd (F := F) Y).duties (recvG c st (par j)) (j / 2) \ ∅)
      (fun d => (rd (F := F) Y).payload (recvG c st (par j)) (j / 2) d) = slotIs c st (par j) (msg Y st j (src st c)) from by
    rw [Finset.sdiff_empty, duties_recv Y c st j hj, bigSep_singleton, payload_recv])) $$ Hpay
  iapply Hk
  isplitl [Hat Hat' Hcs]
  · rw [par_two, show (j + 1 + 1) / 2 = j / 2 + 1 from by omega]
    isplitl [Hat']; · iexact Hat'
    isplitl [Hat]; · iexact Hat
    iexact Hcs
  isplitl [HO]; · iexists _; iexact HO
  isplitr; · iexact Hr
  iexact Hp

/-- The wait for message `w` to have left. -/
theorem send_wait {sem : DmaSem sig} {sp sp' : Space} {s s' : Shape} {e e' : EltTy}
    {srcM : Memref sig .tc sp s e} {dstM : Memref sig .tc sp' s' e'} {h1 : srcM.view.WordExact} {h2 : dstM.view.WordExact}
    {α : Type} {k : PUnit → Prog (TpuEff nD τ sig (Elt F) Λ₀ .tc) α} {Q : α → sProp 𝕄}
    (n w : ℕ) (hw : w < n) (hn : n ≤ nM st) (hsem : sem = sendS (sidx st (par w))) (hN : dstM.view.dmaCredit = N) (O : CellTallies nD τ sig ℕ)
    (hW : (levAts L lv : sProp 𝕄) ⊢ MayWait (c : Thread nD τ) (.dma (sendS (sidx st (par w)))) 0 O) :
    iprop(invs (F := F) Y κ ιs ∗ levAts L lv ∗ SD (F := F) c st n w ∗ ows (F := F) c O)
      ⊢ iprop(((SD (F := F) c st n (w + 1) ∗ ows (F := F) c O ∗ sendPay Y c st w)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM h1 h2) k) Q) := by
  subst hsem
  have hj : w < nM st := by omega
  unfold SD SP IFL ows
  rw [bs_take hw]
  iintro ⟨#HI, #Hlev, ⟨⟨Hat, Hat', -, #Hr'⟩, HT, Hc, Hcs⟩, ⟨%W, HO⟩⟩ Hk
  iapply (Rounds.wp_wait_rest_token 𝒱₀ (ER (F := F)) (rd Y) (c : Thread nD τ) none (κ := κ (sendG c st (par w)))
      (wpE_waitDma2_eq (src := srcM) (dst := dstM) 𝒱₀ (c : Thread nD τ) none Set.univ) (Set.mem_univ _) 0 (O := O) (W := W) (R := w / 2) (m := 0) (T := ∅)
      (by rw [expect_send Y c st w hj, Nat.zero_add]; exact hN)) $$ [Hc HO Hat]
  · isplitr; · iapply (invs_cell Y κ ιs (send_mem c st (par w))); iexact HI
    isplitl [Hc]; · rw [hN]; iexact Hc
    isplitl [HO]; · iexact HO
    isplitr; · iapply hW; iexact Hlev
    iexact Hat
  iintro ⟨HO, Hat, #Hr, Hpay⟩
  ihave Hp := (Entails.of_eq (show bigSep ((rd (F := F) Y).duties (sendG c st (par w)) (w / 2) \ ∅)
      (fun d => (rd (F := F) Y).payload (sendG c st (par w)) (w / 2) d) = sendPay Y c st w from by
    rw [Finset.sdiff_empty, duties_send Y c st w hj, bigSep_singleton, payload_send])) $$ Hpay
  iapply Hk
  isplitr [HO Hp]
  · rw [par_two, show (w + 1 + 1) / 2 = w / 2 + 1 from by omega]
    isplitl [Hat Hat']
    · isplitl [Hat']; · iexact Hat'
      isplitl [Hat]; · iexact Hat
      isplitr; · iexact Hr'
      iexact Hr
    isplitl [HT]; · iexact HT
    iexact Hcs
  isplitl [HO]; · iexists _; iexact HO
  iexact Hp

/-- The wait for credit `m`: afterwards the slot of message `m` is known to be free. -/
theorem credit_wait {sem : Sem sig} {k' : ℕ}
    {α : Type} {k : PUnit → Prog (TpuEff nD τ sig (Elt F) Λ₀ .tc) α} {Q : α → sProp 𝕄}
    (m : ℕ) (hm : m < nCr st) (hsem : sem = crS st) (hk' : k' = 1) (O : CellTallies nD τ sig ℕ)
    (hW : (levAts L lv : sProp 𝕄) ⊢ MayWait (c : Thread nD τ) (.reg (crS st)) m O) :
    iprop(invs (F := F) Y κ ιs ∗ levAts L lv ∗ CR (F := F) c st m ∗ ows (F := F) c O)
      ⊢ iprop(((CR (F := F) c st (m + 1) ∗ ows (F := F) c O ∗ fact st (dst st c) m)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem k') k) Q) := by
  subst hsem hk'
  unfold CR ows
  rw [bs_take hm]
  by_cases hlast : m + 1 < nCr st
  · unfold CRp
    rw [if_pos hm, if_pos hlast]
    iintro ⟨#HI, #Hlev, ⟨⟨%T, Hat, #HT⟩, Hc, Hcs⟩, ⟨%W, HO⟩⟩ Hk
    iapply (Rounds.wp_wait 𝒱₀ (ER (F := F)) (rd Y) (c : Thread nD τ) none (κ := κ (crG c st))
      (wpE_semWait_eq 𝒱₀ (c : Thread nD τ) none Set.univ) (Set.mem_univ _) {(SemLoc.reg (crS st), m)} (cr := Finsupp.single m 1) (O := O) (W := W) (R := 0) (m := m) (T := T)
      (Util.total_single _ _) (image_single_subset _ m 1)) $$ [Hc HO Hat]
    · isplitr; · iapply (invs_cell Y κ ιs (cr_mem c st)); iexact HI
      isplitl [Hc]; · iexact Hc
      isplitl [HO]; · iexact HO
      isplitr; · iapply hW; iexact Hlev
      iexact Hat
    iintro %S ⟨%hS, HO, Hat, Hpay⟩
    obtain ⟨hTS, hSd, hcard⟩ := hS
    rw [duties_cr] at hSd hcard
    rw [expect_cr] at hcard
    have hsum : (Finset.range (nCr st) \ S).card + S.card = nCr st := by
      rw [Finset.card_sdiff_add_card_eq_card hSd, Finset.card_range]
    have hex : ∃ d ∈ S, m ≤ d := by
      by_contra hn
      push Not at hn
      have : S ⊆ Finset.range m := fun d hd => Finset.mem_range.mpr (hn d hd)
      have := Finset.card_le_card this
      rw [Finset.card_range] at this
      omega
    obtain ⟨d, hd, hmd⟩ := hex
    ihave Hpay' := (Entails.of_eq (show bigSep (S \ T) (fun d => (rd (F := F) Y).payload (crG c st) 0 d)
      = bigSep (S \ T) (fun d => facts2 st (dst st c) d) from bigSep_congr fun d _ => payload_cr Y c st d)) $$ Hpay
    icases Hpay' with #Hpay'
    ihave #HS := (show iprop(bigSep T (fun d => facts2 (F := F) st (dst st c) d) ∗ bigSep (S \ T) (fun d => facts2 (F := F) st (dst st c) d))
      ⊢ bigSep S (fun d => facts2 (F := F) st (dst st c) d) from Entails.of_eq (by
        rw [show S = T ∪ (S \ T) from (Finset.union_sdiff_of_subset hTS).symm, Finset.union_sdiff_cancel_left Finset.disjoint_sdiff,
          bigSep_union Finset.disjoint_sdiff]; rfl)) $$ []
    · isplitr; · iexact HT
      iexact Hpay'
    iapply Hk
    isplitl [Hat Hcs]
    · isplitl [Hat]
      · iexists S
        isplitl [Hat]; · iexact Hat
        iexact HS
      iexact Hcs
    isplitl [HO]; · iexists _; iexact HO
    iapply (facts2_elim st (dst st c) hmd)
    iapply (show bigSep S (fun d => facts2 (F := F) st (dst st c) d) ⊢ facts2 st (dst st c) d from bigSep_elim hd)
    iexact HS
  · unfold CRp
    rw [if_pos hm, if_neg hlast]
    iintro ⟨#HI, #Hlev, ⟨⟨%T, Hat, #HT⟩, Hc, Hcs⟩, ⟨%W, HO⟩⟩ Hk
    iapply (Rounds.wp_wait_rest_token 𝒱₀ (ER (F := F)) (rd Y) (c : Thread nD τ) none (κ := κ (crG c st))
      (wpE_semWait_eq 𝒱₀ (c : Thread nD τ) none Set.univ) (Set.mem_univ _) m (O := O) (W := W) (R := 0) (m := m) (T := T)
      (by rw [expect_cr]; omega)) $$ [Hc HO Hat]
    · isplitr; · iapply (invs_cell Y κ ιs (cr_mem c st)); iexact HI
      isplitl [Hc]; · iexact Hc
      isplitl [HO]; · iexact HO
      isplitr; · iapply hW; iexact Hlev
      iexact Hat
    iintro ⟨HO, Hat, -, Hpay⟩
    ihave Hpay' := (Entails.of_eq (show bigSep ((rd (F := F) Y).duties (crG c st) 0 \ T) (fun d => (rd (F := F) Y).payload (crG c st) 0 d)
      = bigSep (Finset.range (nCr st) \ T) (fun d => facts2 st (dst st c) d) from by
        rw [duties_cr]; exact bigSep_congr fun d _ => payload_cr Y c st d)) $$ Hpay
    icases Hpay' with #Hpay'
    iapply Hk
    isplitl [Hat Hcs]
    · isplitl [Hat]; · iexact Hat
      iexact Hcs
    isplitl [HO]; · iexists _; iexact HO
    iapply (facts2_elim st (dst st c) (le_refl m))
    by_cases hmT : m ∈ T
    · iapply (show bigSep T (fun d => facts2 (F := F) st (dst st c) d) ⊢ facts2 st (dst st c) m from bigSep_elim hmT)
      iexact HT
    · iapply (show bigSep (Finset.range (nCr st) \ T) (fun d => facts2 (F := F) st (dst st c) d) ⊢ facts2 st (dst st c) m from
        bigSep_elim (Finset.mem_sdiff.mpr ⟨Finset.mem_range.mpr hm, hmT⟩))
      iexact Hpay'

/-- Freeing the slot of message `i`, and the credit that says so. -/
theorem credit_signal {sem : Sem sig} {n : Dev nD} {k' : ℤ}
    {α : Type} {k : PUnit → Prog (TpuEff nD τ sig (Elt F) Λ₀ .tc) α} {Q : α → sProp 𝕄}
    (i : ℕ) (hi : i < nCr st) (hsem : sem = crS st) (hn : n = src st c) (hk' : k' = ((1 : ℕ) : ℤ)) (O₀ O : CellTallies nD τ sig ℕ)
    (hO : O₀ = O + tallyAt (crG (src st c) st) i 1) :
    iprop(invs (F := F) Y κ ιs ∗ SG (F := F) c st i ∗ slotAny c st (par i)
        ∗ reached (ER (F := F)) (recvG c st (par i)) (i / 2 + 1) ∗ ows (F := F) c O₀)
      ⊢ iprop(((SG (F := F) c st (i + 1) ∗ ows (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) sem k') k) Q) := by
  subst hsem hn hk'
  unfold SG ows
  rw [bs_take hi]
  iintro ⟨#HI, ⟨⟨Ht, Hts⟩, #Hrc, Hrd, Hrd', #Hpf⟩, Hslot, #Hr, ⟨%W, HO⟩⟩ Hk
  imod (slot_release (ES (F := F)) (Set.mem_univ (ιs (c, sidx st (par i)))) (slot_excl c st (par i)) (i / 2 + 1)) $$ [Hrd Hslot] with ⟨Hrd, #Hrel⟩
  · isplitr; · iapply (invs_slot Y κ ιs c st (par i)); iexact HI
    isplitl [Hrd]; · iexact Hrd
    iexact Hslot
  ihave #Hf := (show iprop(reached (ER (F := F)) (recvG c st (par i)) (i / 2 + 1) ∗ released (ES (F := F)) (c, sidx st (par i)) (i / 2 + 1 + 1))
    ⊢ fact (F := F) st c i from .rfl) $$ []
  · isplitr; · iexact Hr
    iexact Hrel
  iapply (Rounds.wp_signal 𝒱₀ (ER (F := F)) (rd Y) (c : Thread nD τ) none (dst := ((src st c : Dev nD) : Thread nD τ)) (sem := crS st) (r := 0) (d := i)
      (κ := κ (crG (src st c) st)) (by rw [duties_cr]; exact Finset.mem_range.mpr hi) (show (rd (F := F) Y).amount (crG (src st c) st) 0 i = 1 from rfl) i O hO)
    $$ [HO Ht]
  · isplitr; · iapply (invs_cell Y κ ιs (cr_mem (src st c) st)); iexact HI
    isplitl [HO]; · iexact HO
    isplitl [Ht]; · iexact Ht
    isplitr
    · rw [payload_cr, dst_src]
      iapply (facts2_of (F := F) c st i)
      isplitr; · iexact Hf
      iexact Hpf
    iexact Hrc
  iintro HO
  iapply Hk
  isplitr [HO]
  · isplitl [Hts]; · iexact Hts
    isplitr; · iexact Hrc
    rw [par_two, show (i + 1 + 1) / 2 = i / 2 + 1 from by omega]
    isplitl [Hrd']; · iexact Hrd'
    isplitl [Hrd]; · iexact Hrd
    iapply (prevFact_succ (F := F) c st i); iexact Hf
  iexists W; iexact HO

/-- Sending message `n`. -/
theorem send_step {n' : Dev nD} {sS sR : DmaSem sig} {srcM : Memref sig .tc .vmem S128x2048 .bf16} {qs : PosShare TreeShare}
    {rs : Memref sig .tc .vmem S2x128x2048 .bf16} {o3 : Fin 3 → ℕ} {ho3' : ∀ a, o3 a + S1x128x2048.size a ≤ S2x128x2048.size a}
    {hq : S1x128x2048.Squeezes S128x2048}
    {hr3 : ∀ a, (Rect.unit (s := S2x128x2048) o3 S1x128x2048.size ho3').stride a = 1}
    {hx : _} {hs : _} {hd : _} {hp : _}
    {α : Type} {k : PUnit → Prog (TpuEff nD τ sig (Elt F) Λ₀ .tc) α} {Q : α → sProp 𝕄}
    (n w : ℕ) (hwn : w ≤ n) (hnw : n ≤ w + 1) (hn : n < nM st)
    (hn' : n' = dst st c) (hsS : sS = sendS (sidx st (par n))) (hsR : sR = recvS (sidx st (par n)))
    (hback : owns (c : Thread nD τ) srcM qs (msg Y st n c) ⊢ sendPay Y c st n) (hrs : rs = rsM st) (ho3 : o3 = ![(par n).val, 0, 0])
    (O₀ O : CellTallies nD τ sig ℕ) (hO : O₀ = O + tallyAt (recvG (dst st c) st (par n)) n N) :
    iprop(invs (F := F) Y κ ιs ∗ SD (F := F) c st n w ∗ sendOk st (dst st c) n ∗ owns (c : Thread nD τ) srcM qs (msg Y st n c) ∗ ows (F := F) c O₀)
      ⊢ iprop(((SD (F := F) c st (n + 1) w ∗ ows (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma srcM
              (.remote (Dev.tc n') ((rs.slice (Rect.unit (s := S2x128x2048) o3 S1x128x2048.size ho3') hr3).squeeze S128x2048 hq) (.dma sS) hx)
              (.dma sR) hs hd hp) k) Q) := by
  subst hn' hsS hsR hrs ho3
  unfold SD IFL TK ows
  rw [bs_take hn, bs_put hwn]
  iintro ⟨#HI, ⟨Hsp, ⟨⟨Ht1, Ht2, Hwt⟩, Hts⟩, Hif⟩, #Hok, Hch, ⟨%W, HO⟩⟩ Hk
  unfold sendOk
  icases Hok with ⟨#Hrr, #Hrel⟩
  unfold SP
  icases Hsp with ⟨Ha, Ha', #Hr1, #Hr2⟩
  imod (slot_take (ES (F := F)) (S := slotAny (F := F) (dst st c) st (par n)) (Set.mem_univ (ιs (dst st c, sidx st (par n)))) (n / 2 + 1)) $$ [Hwt] with Hslot
  · isplitr; · iapply (invs_slot Y κ ιs (dst st c) st (par n)); iexact HI
    isplitr; · iexact Hrel
    iexact Hwt
  unfold slotAny slotIs
  icases Hslot with ⟨%V, Hslot⟩
  ihave Hslot := (show owns ((dst st c : Dev nD) : Thread nD τ) (slotM st (par n)) fullShare V
    ⊢ iprop(∃ fd, (slotM st (par n)).view.loc ((dst st c : Dev nD) : Thread nD τ) ↦[(slotM st (par n)).view.set]{fullShare} fd) from by
      unfold owns; iintro ⟨%fd, -, H⟩; iexists fd; iexact H) $$ Hslot
  icases Hslot with ⟨%fd, Hfd⟩
  ihave Hch := (show owns (c : Thread nD τ) srcM qs (msg Y st n c)
    ⊢ iprop(∃ fs, ⌜srcM.view.read (Elt F) fs = msg Y st n c⌝ ∗ (srcM.view.loc (c : Thread nD τ) ↦[srcM.view.set]{qs} fs)) from .rfl) $$ Hch
  icases Hch with ⟨%fs, %hfs, Hfs⟩
  iapply (Rounds.wp_send_pointsTo 𝒱₀ (ER (F := F)) (rd Y) (c : Thread nD τ) none (c' := ((dst st c : Dev nD) : Thread nD τ)) (src := srcM) (dst := slotM st (par n))
      (sS := .dma (sendS (sidx st (par n)))) (sem := .dma (recvS (sidx st (par n)))) (q := qs) (fs := fs) (fd := fd)
      (κ₁ := κ (sendG c st (par n))) (κ₂ := κ (recvG (dst st c) st (par n)))
      (r₁ := n / 2) (r₂ := n / 2) (d₁ := 0) (d₂ := 0)
      (by rw [duties_send Y c st n hn]; exact Finset.mem_singleton_self _) (by rw [duties_recv Y (dst st c) st n hn]; exact Finset.mem_singleton_self _)
      n 0 N (slot_credit st (par n)) rfl rfl O hO (W := W)
      (by rw [payload_send]; iintro H; iapply hback; unfold owns; iexists fs; isplitr; · ipureintro; exact hfs
          iexact H)
      (by rw [payload_recv, src_dst]; unfold slotIs owns; iintro H; iexists ((slotM st (par n)).view.write (Elt F) fd (srcM.view.read (Elt F) fs) Finset.univ); isplitr
          · ipureintro; exact (View.read_write_univ _ _).trans hfs
          iexact H)) $$ [Hfs Hfd HO Ht1 Ht2]
  · isplitr; · iapply (invs_cell Y κ ιs (send_mem c st (par n))); iexact HI
    isplitr; · iapply (invs_cell Y κ ιs (recv_mem (dst st c) st (par n))); iexact HI
    isplitl [Hfs]; · iexact Hfs
    isplitl [Hfd]; · iexact Hfd
    isplitl [HO]; · iexact HO
    isplitl [Ht1]; · iexact Ht1
    isplitr
    · rcases Nat.lt_or_ge w n with h | h
      · obtain rfl : n = w + 1 := by omega
        iexact Hr2
      · obtain rfl : n = w := by omega
        iexact Hr1
    isplitl [Ht2]; · iexact Ht2
    iexact Hrr
  iintro ⟨Hc, HO⟩
  iapply Hk
  isplitr [HO]
  · isplitl [Ha Ha']
    · isplitl [Ha]; · iexact Ha
      isplitl [Ha']; · iexact Ha'
      isplitr; · iexact Hr1
      iexact Hr2
    isplitl [Hts]; · iexact Hts
    isplitl [Hc]; · iexact Hc
    iexact Hif
  iexists W; iexact HO

/-- A block of rows of the result, at given contents or any. -/
abbrev oM : Memref sig .tc .vmem S4096x2048 .f32 := Memref.whole cc0_stg2_0
abbrev blockM (q : Fin 32) : Memref sig .tc .vmem S128x2048 .f32 := oM.slice (chunkRect q) (fun _ => rfl)
abbrev blockIs (q : Fin 32) (V : FVec F S128x2048 .f32) : sProp 𝕄 := owns (c : Thread nD τ) (blockM q) fullShare V
def blockAny (q : Fin 32) : sProp 𝕄 := iprop(∃ V, blockIs (F := F) c q V)

/-- A block of the result loaded, which is not used, and stored. -/
theorem block_store {q : Fin 32} {o o' : Fin 2 → ℕ} {ho1 : _} {ho1' : _} {l1 : _} {x1 : _} {x2 : _}
    {α : Type} {k : PUnit → Prog (TpuEff nD τ sig (Elt F) Λ₀ .tc) α} {Q : α → sProp 𝕄}
    (ho : o = ![q.val * 128, 0]) (ho' : o' = ![q.val * 128, 0]) (V : FVec F S128x2048 .f32) :
    blockAny (F := F) c q
      ⊢ iprop((blockIs c q V -∗ wp frame (wpE (defs₀ (F := F)) 𝒱₀ (c : Thread nD τ) none) Set.univ (k ⟨⟩) Q)
          -∗ wp frame (wpE (defs₀ (F := F)) 𝒱₀ (c : Thread nD τ) none) Set.univ
            (.op (.load oM (Rect.unit (s := S4096x2048) o S128x2048.size ho1).toLoadRect l1) fun _ =>
             .op (.store oM (Rect.unit (s := S4096x2048) o' S128x2048.size ho1') V Finset.univ x1 x2) k) Q) := by
  subst ho ho'
  unfold blockAny blockIs owns
  iintro ⟨%_, %f, -, Ha⟩ Hk
  iapply (wp_load_rect 𝒱₀ (c : Thread nD τ) none Set.univ (m := oM) (r := chunkRect q) (Finset.Subset.refl _)) $$ Ha
  iintro Ha
  iapply (wp_store 𝒱₀ (c : Thread nD τ) none Set.univ (m := oM) (r := chunkRect q) (View.setOn_subset_set _ _)) $$ Ha
  iintro Ha
  iapply Hk
  iexists ((oM.access (chunkRect q)).write (Elt F) f V Finset.univ)
  isplitr
  · ipureintro
    exact View.read_write_univ (v := oM.access (chunkRect q)) _ _
  iexact Ha

/-- A slot's message read into a block of the result. -/
theorem take_step {q : Fin 32} {p : Fin 2} {o o' : Fin 2 → ℕ} {ho1 : _} {ho1' : _}
    {rs : Memref sig .tc .vmem S2x128x2048 .bf16} {o3 : Fin 3 → ℕ} {ho3' : _}
    {l1 : _} {l2 : _} {x1 : _} {x2 : _} {qs : PosShare TreeShare}
    {f : Vec F S1x128x2048 .bf16 → FVec F S128x2048 .f32}
    {α : Type} {k : PUnit → Prog (TpuEff nD τ sig (Elt F) Λ₀ .tc) α} {Q : α → sProp 𝕄}
    (ho : o = ![q.val * 128, 0]) (ho' : o' = ![q.val * 128, 0]) (hrs : rs = rsM st) (ho3 : o3 = ![p.val, 0, 0])
    (hf : ∀ b, f b = extf .f32 (shapeCast S128x2048 b shapeCasts_S1x128x2048_S128x2048) bitsLt_bf16_f32)
    (v : FVec F S128x2048 .bf16) :
    iprop(blockAny (F := F) c q ∗ owns (c : Thread nD τ) (slotM st p) qs v)
      ⊢ iprop(((blockIs c q (extf .f32 v bitsLt_bf16_f32) ∗ owns (c : Thread nD τ) (slotM st p) qs v)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load rs (Rect.unit (s := S2x128x2048) o3 S1x128x2048.size ho3').toLoadRect l2) fun b =>
             .op (.load oM (Rect.unit (s := S4096x2048) o S128x2048.size ho1).toLoadRect l1) fun _ =>
             .op (.store oM (Rect.unit (s := S4096x2048) o' S128x2048.size ho1') (f b) Finset.univ x1 x2) k) Q) := by
  subst hrs ho3
  iintro ⟨Ha, Hb⟩ Hk
  ihave Hb := (show owns (c : Thread nD τ) (slotM st p) qs v
    ⊢ iprop(∃ fb, ⌜(slotM st p).view.read (Elt F) fb = v⌝ ∗ ((slotM st p).view.loc (c : Thread nD τ) ↦[(slotM st p).view.set]{qs} fb)) from .rfl) $$ Hb
  icases Hb with ⟨%fb, %hfb, Hb⟩
  iapply (wp_load_rect 𝒱₀ (c : Thread nD τ) none Set.univ (m := rsM st) (r := slotRect p)
    (S := (slotM st p).view.set) (by rw [View.set_reshape])) $$ Hb
  iintro Hb
  have hval : f (((rsM st).access (slotRect p)).read (Elt F) fb) = extf .f32 v bitsLt_bf16_f32 := by
    rw [hf]; exact congrArg (fun v => extf .f32 v bitsLt_bf16_f32) hfb
  iapply (block_store c ho ho' (f (((rsM st).access (slotRect p)).read (Elt F) fb))) $$ Ha
  iintro Ha
  ihave Ha := (Entails.of_eq (congrArg (blockIs c q) hval)) $$ Ha
  iapply Hk
  isplitl [Ha]; · iexact Ha
  unfold owns
  iexists fb
  isplitr; · ipureintro; exact hfb
  iexact Hb

end Cert.GatherProof
-- ==== Proof.Gather.Hop.lean ====
/-
  One hop: what a device holds between two hops, and that a trip of the kernel's loop takes it from one to the next.
-/
module

public import proofs.«01_k».proof.Proof.Gather.Steps
public import Idealize.ShloMosaic.Lib.MemrefSat
public import proofs.«01_k».proof.Proof.Gen.GatherIdeal.Skeleton

@[expose] public section

noncomputable section

namespace Cert.GatherProof

open Cert.GatherIdeal Cert.GatherIdeal.Gen
open Cert.RingProof (cyc pos pos_cyc cyc_pos posEquiv nxt prv dst src src_dst dst_src word w0 w1 w2 sidx par)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (Y : Dev nD → Vec F S128x2048 .f32)
variable (κ : GSem nD τ sig → ℕ) (ιs : Dev nD × Fin 4 → ℕ)
variable (c : Dev nD) (st : Fin 2)

/-- The blocks of the result that message `f` and the later ones fill. -/
def FR (f : ℕ) : sProp 𝕄 := bigSep (Finset.Ico f (nM st)) (fun j => blockAny (F := F) c (row st j (pos c)))
/-- The blocks filled by the first `f` messages. -/
def OD (f : ℕ) : sProp 𝕄 :=
  bigSep (Finset.Ico 0 f) (fun j => blockIs c (row st j (pos c)) (extf .f32 (msg Y st j (src st c)) bitsLt_bf16_f32))
/-- The device's own chunk, back from its first send. -/
def BK (s : ℕ) : sProp 𝕄 := if s = 0 then iprop(emp) else ownPart Y c st
/-- The sends waited for when `s` messages were taken in. -/
def sent (st : Fin 2) (s : ℕ) : ℕ := if s = 0 then 0 else min (s + 1) (nM st)
/-- The slots a device no longer frees. -/
def KS (r : ℕ) : sProp 𝕄 := bigSep (Finset.Ico (nCr st) r) (fun j => slotAny (F := F) c st (par j))

/-- A device's holdings of one direction: next to receive `r`, to send `n`, sends waited for `w`, credits taken `m`, slots freed `i`,
    blocks filled before `f`. -/
def core (r n w m i f : ℕ) : sProp 𝕄 :=
  iprop(RV (F := F) c st r ∗ SD (F := F) c st n w ∗ CR (F := F) c st m ∗ SG (F := F) c st i ∗ FR (F := F) c st f ∗ OD (F := F) Y c st f
    ∗ sendOk (F := F) st (dst st c) 1)

def Dir (s : ℕ) : sProp 𝕄 :=
  iprop(core (F := F) Y c st s (min (s + 1) (nM st)) (sent st s) (min (s - 1) (nCr st)) (min s (nCr st)) s
    ∗ BK (F := F) Y c st s ∗ KS (F := F) c st s)

/-- What is owed, from the side of one direction. -/
def owX (st : Fin 2) (a p b q : ℕ) (c : Dev nD) : CellTallies nD τ sig ℕ :=
  owM st a c + owC st p c + (owM (1 - st) b c + owC (1 - st) q c)

theorem owX_zero (a p b q : ℕ) : owX 0 a p b q c = ow a b p q c := by
  show owM 0 a c + owC 0 p c + (owM 1 b c + owC 1 q c) = owM 0 a c + owM 1 b c + (owC 0 p c + owC 1 q c)
  ac_rfl
theorem owX_one (a p b q : ℕ) : owX 1 a p b q c = ow b a q p c := by
  show owM 1 a c + owC 1 p c + (owM 0 b c + owC 0 q c) = owM 0 b c + owM 1 a c + (owC 0 q c + owC 1 p c)
  ac_rfl
theorem owX_msg (a p b q : ℕ) (h : a < nM st) :
    owX st a p b q c = owX st (a + 1) p b q c + tallyAt (recvG (dst st c) st (par a)) a N := by
  unfold owX; rw [owM_peel st a c h]; ac_rfl
theorem owX_cr (a p b q : ℕ) (h : p < nCr st) :
    owX st a p b q c = owX st a (p + 1) b q c + tallyAt (crG (src st c) st) p 1 := by
  unfold owX; rw [owC_peel st p c h]; ac_rfl
theorem owX_msg_stay (a p b q : ℕ) (h : nM st ≤ a) : owX st a p b q c = owX st (a + 1) p b q c := by
  unfold owX; rw [owM_stay st a c h]
theorem owX_cr_stay (a p b q : ℕ) (h : nCr st ≤ p) : owX st a p b q c = owX st a (p + 1) b q c := by
  unfold owX; rw [owC_stay st p c h]
theorem mayWait_owX (sm : SemLoc sig) (i a p b q : ℕ) (hi : i < 20)
    (h : levOf sm i < a + 2 ∧ levOf sm i < p + 3 ∧ levOf sm i < b + 2 ∧ levOf sm i < q + 3) :
    (levAts L lv : sProp 𝕄) ⊢ MayWait (c : Thread nD τ) sm i (owX st a p b q c) := by
  by_cases hst : st = 0
  · subst hst; rw [owX_zero]; exact mayWait_ow c sm i a b p q hi ⟨h.1, h.2.2.1, h.2.1, h.2.2.2⟩
  · obtain rfl : st = 1 := by revert hst; revert st; decide
    rw [owX_one]; exact mayWait_ow c sm i b a q p hi ⟨h.2.2.1, h.1, h.2.2.2, h.2.1⟩

theorem lev_recv (p : Fin 2) (j : ℕ) : levOf (.dma (recvS (sidx st p))) j = j + 2 := by
  have : ∀ st p : Fin 2, ¬ (recvS (sidx st p)).val < 7 := by decide
  show (if (recvS (sidx st p)).val < 7 then 0 else j + 2) = _
  rw [if_neg (this st p)]
theorem lev_send (p : Fin 2) : levOf (.dma (sendS (sidx st p))) 0 = 0 := by
  have : ∀ st p : Fin 2, (sendS (sidx st p)).val < 7 := by decide
  show (if (sendS (sidx st p)).val < 7 then 0 else 0 + 2) = _
  rw [if_pos (this st p)]
theorem lev_cr (j : ℕ) : levOf (.reg (crS st)) j = j + 3 := by
  have : ∀ st : Fin 2, ¬ (crS st).val = 2 := by decide
  show (if (crS st).val = 2 then 1 else j + 3) = _
  rw [if_neg (this st)]

theorem ks_stay (s : ℕ) (h : s < nCr st) : KS (F := F) c st s = KS (F := F) c st (s + 1) := by
  unfold KS; rw [Finset.Ico_eq_empty (by omega), Finset.Ico_eq_empty (by omega)]

/-! ## The steps, over all that is held -/

section steps
variable (s b q : ℕ)

/-- After the wait for message `s`. -/
def afterRecv : sProp 𝕄 :=
  iprop(core (F := F) Y c st (s + 1) (min (s + 1) (nM st)) (sent st s) (min (s - 1) (nCr st)) (min s (nCr st)) s
    ∗ BK (F := F) Y c st s ∗ KS (F := F) c st s
    ∗ slotIs c st (par s) (msg Y st s (src st c)) ∗ reached (ER (F := F)) (recvG c st (par s)) (s / 2 + 1)
    ∗ ows (F := F) c (owX st (s + 1) s b q c))

/-- The message may be sent on. -/
def ready : sProp 𝕄 :=
  iprop(core (F := F) Y c st (s + 1) (s + 1) (sent st s) (min s (nCr st)) (min s (nCr st)) s
    ∗ sendOk (F := F) st (dst st c) (s + 1)
    ∗ BK (F := F) Y c st s ∗ KS (F := F) c st s
    ∗ slotIs c st (par s) (msg Y st s (src st c)) ∗ reached (ER (F := F)) (recvG c st (par s)) (s / 2 + 1)
    ∗ ows (F := F) c (owX st (s + 1) s b q c))

/-- The share of a slot a device keeps while it reads it. -/
def kept (st : Fin 2) (s : ℕ) : PosShare TreeShare := if s + 1 < nM st then fullShare.left else fullShare

/-- After sending on, with `f` blocks filled. -/
def afterSend (f : ℕ) : sProp 𝕄 :=
  iprop(core (F := F) Y c st (s + 1) (min (s + 2) (nM st)) (sent st s) (min s (nCr st)) (min s (nCr st)) f
    ∗ BK (F := F) Y c st s ∗ KS (F := F) c st s
    ∗ owns (c : Thread nD τ) (slotM st (par s)) (kept st s) (msg Y st s (src st c)) ∗ reached (ER (F := F)) (recvG c st (par s)) (s / 2 + 1)
    ∗ ows (F := F) c (owX st (s + 2) s b q c))

/-- After the waits for the sends, with the slot whole again. -/
def afterBack : sProp 𝕄 :=
  iprop(core (F := F) Y c st (s + 1) (min (s + 2) (nM st)) (sent st (s + 1)) (min s (nCr st)) (min s (nCr st)) (s + 1)
    ∗ BK (F := F) Y c st (s + 1) ∗ KS (F := F) c st s
    ∗ slotAny (F := F) c st (par s) ∗ reached (ER (F := F)) (recvG c st (par s)) (s / 2 + 1)
    ∗ ows (F := F) c (owX st (s + 2) s b q c))

/-- After the hop. -/
def afterHop : sProp 𝕄 :=
  iprop(Dir (F := F) Y c st (s + 1) ∗ ows (F := F) c (owX st (s + 2) (s + 1) b q c))

theorem ready_first (hs : s = 0) : afterRecv Y c st s b q ⊢ ready Y c st s b q := by
  subst hs
  have hc := nCr_add st
  unfold afterRecv ready
  rw [show min (0 + 1) (nM st) = 0 + 1 from by omega]
  unfold core
  iintro ⟨⟨HRV, HSD, HCR, HSG, HFR, HOD, #Hok⟩, HB, HK, Hs, #Hr, HO⟩
  isplitl [HRV HSD HCR HSG HFR HOD]
  · isplitl [HRV]; · iexact HRV
    isplitl [HSD]; · iexact HSD
    isplitl [HCR]; · iexact HCR
    isplitl [HSG]; · iexact HSG
    isplitl [HFR]; · iexact HFR
    isplitl [HOD]; · iexact HOD
    iexact Hok
  isplitr; · iexact Hok
  isplitl [HB]; · iexact HB
  isplitl [HK]; · iexact HK
  isplitl [Hs]; · iexact Hs
  isplitr; · iexact Hr
  iexact HO

theorem afterSend_last (h : ¬ s + 1 < nM st) (hs : s < nM st) :
    afterRecv Y c st s b q ⊢ afterSend Y c st s b q s := by
  have hc := nCr_add st
  unfold afterRecv afterSend kept slotIs
  rw [if_neg h, show min (s + 1) (nM st) = min (s + 2) (nM st) from by omega, show min (s - 1) (nCr st) = min s (nCr st) from by omega,
    owX_msg_stay c st (s + 1) s b q (by omega)]

theorem afterBack_last (h : ¬ s + 1 < nM st) (hs : s < nM st) :
    afterSend Y c st s b q (s + 1) ⊢ afterBack Y c st s b q := by
  have hc := nCr_add st
  have h0 : ¬ s = 0 := by omega
  unfold afterSend afterBack kept sent BK slotAny slotIs
  rw [if_neg h, if_neg h0, if_neg h0, if_neg (Nat.succ_ne_zero s), if_neg (Nat.succ_ne_zero s), show min (s + 1 + 1) (nM st) = min (s + 1) (nM st) from by omega]
  iintro ⟨Hc, HB, HK, Hs, #Hr, HO⟩
  isplitl [Hc]; · iexact Hc
  isplitl [HB]; · iexact HB
  isplitl [HK]; · iexact HK
  isplitl [Hs]; · iexists _; iexact Hs
  isplitr; · iexact Hr
  iexact HO

theorem afterHop_last (h : ¬ s + 2 < nM st) (hs : s < nM st) :
    afterBack Y c st s b q ⊢ afterHop Y c st s b q := by
  have hc := nCr_add st
  unfold afterBack afterHop Dir
  rw [show min s (nCr st) = min (s + 1) (nCr st) from by omega, show (s + 1 - 1) = s from rfl, show min (s + 1) (nCr st) = min s (nCr st) from by omega,
    owX_cr_stay c st (s + 2) s b q (by omega), show KS (F := F) c st (s + 1) = iprop(slotAny (F := F) c st (par s) ∗ KS (F := F) c st s) from by
      unfold KS; exact bs_put (by omega) _]
  iintro ⟨Hc, HB, HK, Hs, -, HO⟩
  isplitl [Hc HB HK Hs]
  · isplitl [Hc]; · iexact Hc
    isplitl [HB]; · iexact HB
    isplitl [Hs]; · iexact Hs
    iexact HK
  iexact HO

/-- Taking message `s` in. -/
theorem recv {sem : DmaSem sig} {sp sp' : Space} {sh sh' : Shape} {e e' : EltTy}
    {srcM : Memref sig .tc sp sh e} {dstM : Memref sig .tc sp' sh' e'} {h1 : srcM.view.WordExact} {h2 : dstM.view.WordExact}
    {k : PUnit → Prog (TpuEff nD τ sig (Elt F) Λ₀ .tc) PUnit} {Q : PUnit → sProp 𝕄}
    (hs : s < nM st) (hsem : sem = recvS (sidx st (par s))) (hN : dstM.view.dmaCredit = N)
    (hb : s < b) (hq : s ≤ q) :
    iprop(invs (F := F) Y κ ιs ∗ levAts L lv ∗ Dir (F := F) Y c st s ∗ ows (F := F) c (owX st (s + 1) s b q c))
      ⊢ iprop((afterRecv (F := F) Y c st s b q
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM h1 h2) k) Q) := by
  have hc := nCr_add st
  have h16 := nM_le st
  unfold Dir core afterRecv core
  iintro ⟨#HI, #Hlev, ⟨⟨HRV, HSD, HCR, HSG, HFR, HOD, #Hok⟩, HB, HK⟩, HO⟩ Hk
  iapply (recv_wait Y κ ιs c st (srcM := srcM) (dstM := dstM) (h1 := h1) (h2 := h2) s hs hsem hN (owX st (s + 1) s b q c)
    (mayWait_owX c st _ s (s + 1) s b q (by omega) (by rw [lev_recv]; omega))) $$ [HRV HO]
  · isplitr; · iexact HI
    isplitr; · iexact Hlev
    isplitl [HRV]; · iexact HRV
    iexact HO
  iintro ⟨HRV, HO, #Hr, Hslot⟩
  iapply Hk
  isplitl [HRV HSD HCR HSG HFR HOD]
  · isplitl [HRV]; · iexact HRV
    isplitl [HSD]; · iexact HSD
    isplitl [HCR]; · iexact HCR
    isplitl [HSG]; · iexact HSG
    isplitl [HFR]; · iexact HFR
    isplitl [HOD]; · iexact HOD
    iexact Hok
  isplitl [HB]; · iexact HB
  isplitl [HK]; · iexact HK
  isplitl [Hslot]; · iexact Hslot
  isplitr; · iexact Hr
  iexact HO

/-- The wait for a credit before every send on but the first. -/
theorem wait_credit {sem' : Sem sig} {k' : ℕ}
    {k : PUnit → Prog (TpuEff nD τ sig (Elt F) Λ₀ .tc) PUnit} {Q : PUnit → sProp 𝕄}
    (h0 : 1 ≤ s) (hs : s + 1 < nM st)
    (hsem' : sem' = crS st) (hk' : k' = 1) (hb : s < b) (hq : s ≤ q) :
    iprop(invs (F := F) Y κ ιs ∗ levAts L lv ∗ afterRecv (F := F) Y c st s b q)
      ⊢ iprop((ready (F := F) Y c st s b q
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem' k') k) Q) := by
  have hc := nCr_add st
  have h16 := nM_le st
  obtain ⟨r, rfl⟩ : ∃ r, s = r + 1 := ⟨s - 1, by omega⟩
  unfold afterRecv ready
  rw [show min (r + 1 + 1) (nM st) = r + 1 + 1 from by omega, show min (r + 1 - 1) (nCr st) = r from by omega,
    show min (r + 1) (nCr st) = r + 1 from by omega]
  unfold core
  iintro ⟨#HI, #Hlev, ⟨HRV, HSD, HCR, HSG, HFR, HOD, #Hok⟩, HB, HK, Hs, #Hr, HO⟩ Hk
  iapply (credit_wait Y κ ιs c st r (by omega) hsem' hk' (owX st (r + 1 + 1) (r + 1) b q c)
    (mayWait_owX c st _ r _ _ b q (by omega) (by rw [lev_cr]; omega))) $$ [HCR HO]
  · isplitr; · iexact HI
    isplitr; · iexact Hlev
    isplitl [HCR]; · iexact HCR
    iexact HO
  iintro ⟨HCR, HO, #Hf⟩
  iapply Hk
  isplitl [HRV HSD HCR HSG HFR HOD]
  · isplitl [HRV]; · iexact HRV
    isplitl [HSD]; · iexact HSD
    isplitl [HCR]; · iexact HCR
    isplitl [HSG]; · iexact HSG
    isplitl [HFR]; · iexact HFR
    isplitl [HOD]; · iexact HOD
    iexact Hok
  isplitr; · iapply (sendOk_of_fact (F := F) st (dst st c) r); iexact Hf
  isplitl [HB]; · iexact HB
  isplitl [HK]; · iexact HK
  isplitl [Hs]; · iexact Hs
  isplitr; · iexact Hr
  iexact HO

/-- The send on: half of the slot goes with it. -/
theorem pass_on {n' : Dev nD} {sS sR : DmaSem sig} {srcM : Memref sig .tc .vmem S128x2048 .bf16}
    {rs : Memref sig .tc .vmem S2x128x2048 .bf16} {o3 : Fin 3 → ℕ} {ho3' : ∀ a, o3 a + S1x128x2048.size a ≤ S2x128x2048.size a}
    {hsq : S1x128x2048.Squeezes S128x2048}
    {hr3 : ∀ a, (Rect.unit (s := S2x128x2048) o3 S1x128x2048.size ho3').stride a = 1}
    {hx : _} {hs : _} {hd : _} {hp : _}
    {k : PUnit → Prog (TpuEff nD τ sig (Elt F) Λ₀ .tc) PUnit} {Q : PUnit → sProp 𝕄}
    (hn : s + 1 < nM st) (hsrc : srcM = slotM st (par s))
    (hn' : n' = dst st c) (hsS : sS = sendS (sidx st (par (s + 1)))) (hsR : sR = recvS (sidx st (par (s + 1))))
    (hrs : rs = rsM st) (ho3 : o3 = ![(par (s + 1)).val, 0, 0]) :
    iprop(invs (F := F) Y κ ιs ∗ ready (F := F) Y c st s b q)
      ⊢ iprop((afterSend (F := F) Y c st s b q s
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma srcM
              (.remote (Dev.tc n') ((rs.slice (Rect.unit (s := S2x128x2048) o3 S1x128x2048.size ho3') hr3).squeeze S128x2048 hsq) (.dma sS) hx)
              (.dma sR) hs hd hp) k) Q) := by
  subst hsrc
  have hc := nCr_add st
  have hw1 : sent st s ≤ s + 1 := by unfold sent; split <;> omega
  have hw2 : s + 1 ≤ sent st s + 1 := by unfold sent; split <;> omega
  unfold ready afterSend core kept slotIs
  rw [if_pos hn, show min (s + 2) (nM st) = s + 1 + 1 from by omega]
  iintro ⟨#HI, ⟨HRV, HSD, HCR, HSG, HFR, HOD, #Hok⟩, #Hsok, HB, HK, Hs, #Hr, HO⟩ Hk
  ihave Hs := (owns_halves (c : Thread nD τ) (slotM st (par s)) fullShare (msg Y st s (src st c))).1 $$ Hs
  icases Hs with ⟨Hl, Hs⟩
  iapply (send_step Y κ ιs c st (s + 1) (sent st s) hw1 hw2 hn hn' hsS hsR (srcM := slotM st (par s)) (qs := fullShare.right) .rfl hrs ho3
    _ _ (owX_msg c st (s + 1) s b q hn)) $$ [HSD Hs HO]
  · isplitr; · iexact HI
    isplitl [HSD]; · iexact HSD
    isplitr; · iexact Hsok
    isplitl [Hs]; · iexact Hs
    iexact HO
  iintro ⟨HSD, HO⟩
  iapply Hk
  isplitl [HRV HSD HCR HSG HFR HOD]
  · isplitl [HRV]; · iexact HRV
    isplitl [HSD]; · iexact HSD
    isplitl [HCR]; · iexact HCR
    isplitl [HSG]; · iexact HSG
    isplitl [HFR]; · iexact HFR
    isplitl [HOD]; · iexact HOD
    iexact Hok
  isplitl [HB]; · iexact HB
  isplitl [HK]; · iexact HK
  isplitl [Hl]; · iexact Hl
  isplitr; · iexact Hr
  iexact HO

/-- The message read into its block of the result. -/
theorem fill {o o' : Fin 2 → ℕ} {ho1 : _} {ho1' : _}
    {rs : Memref sig .tc .vmem S2x128x2048 .bf16} {o3 : Fin 3 → ℕ} {ho3' : _}
    {l1 : _} {l2 : _} {x1 : _} {x2 : _}
    {f : Vec F S1x128x2048 .bf16 → FVec F S128x2048 .f32}
    {k : PUnit → Prog (TpuEff nD τ sig (Elt F) Λ₀ .tc) PUnit} {Q : PUnit → sProp 𝕄}
    (hs : s < nM st)
    (ho : o = ![(row st s (pos c)).val * 128, 0]) (ho' : o' = ![(row st s (pos c)).val * 128, 0])
    (hrs : rs = rsM st) (ho3 : o3 = ![(par s).val, 0, 0])
    (hf : ∀ b, f b = extf .f32 (shapeCast S128x2048 b shapeCasts_S1x128x2048_S128x2048) bitsLt_bf16_f32) :
    afterSend (F := F) Y c st s b q s
      ⊢ iprop((afterSend (F := F) Y c st s b q (s + 1)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load rs (Rect.unit (s := S2x128x2048) o3 S1x128x2048.size ho3').toLoadRect l2) fun b =>
             .op (.load oM (Rect.unit (s := S4096x2048) o S128x2048.size ho1).toLoadRect l1) fun _ =>
             .op (.store oM (Rect.unit (s := S4096x2048) o' S128x2048.size ho1') (f b) Finset.univ x1 x2) k) Q) := by
  unfold afterSend core FR OD
  rw [bs_take hs, show bigSep (Finset.Ico 0 (s + 1)) (fun j => blockIs (F := F) c (row st j (pos c)) (extf .f32 (msg Y st j (src st c)) bitsLt_bf16_f32)) = _
    from bs_put (Nat.zero_le s) _]
  iintro ⟨⟨HRV, HSD, HCR, HSG, ⟨Hb, HFR⟩, HOD, #Hok⟩, HB, HK, Hs, #Hr, HO⟩ Hk
  iapply (take_step c st (q := row st s (pos c)) (p := par s) (f := f) ho ho' hrs ho3 hf (msg Y st s (src st c))) $$ [Hb Hs]
  · isplitl [Hb]; · iexact Hb
    iexact Hs
  iintro ⟨Hb, Hs⟩
  iapply Hk
  isplitl [HRV HSD HCR HSG HFR HOD Hb]
  · isplitl [HRV]; · iexact HRV
    isplitl [HSD]; · iexact HSD
    isplitl [HCR]; · iexact HCR
    isplitl [HSG]; · iexact HSG
    isplitl [HFR]; · iexact HFR
    isplitl [HOD Hb]
    · isplitl [Hb]; · iexact Hb
      iexact HOD
    iexact Hok
  isplitl [HB]; · iexact HB
  isplitl [HK]; · iexact HK
  isplitl [Hs]; · iexact Hs
  isplitr; · iexact Hr
  iexact HO

theorem back_first : sendPay Y c st 0 ⊢ ownPart Y c st := .rfl
theorem back_next : sendPay Y c st (s + 1) ⊢ owns (c : Thread nD τ) (slotM st (par s)) fullShare.right (msg Y st s (src st c)) := .rfl

/-- The wait for the send on to have left. -/
theorem wait_sent {sem : DmaSem sig} {sp sp' : Space} {sh sh' : Shape} {e e' : EltTy}
    {srcM : Memref sig .tc sp sh e} {dstM : Memref sig .tc sp' sh' e'} {h1 : srcM.view.WordExact} {h2 : dstM.view.WordExact}
    {k : PUnit → Prog (TpuEff nD τ sig (Elt F) Λ₀ .tc) PUnit} {Q : PUnit → sProp 𝕄}
    (h0 : 1 ≤ s) (hs : s + 1 < nM st) (hsem : sem = sendS (sidx st (par (s + 1)))) (hN : dstM.view.dmaCredit = N) (hb : s < b) (hq : s ≤ q) :
    iprop(invs (F := F) Y κ ιs ∗ levAts L lv ∗ afterSend (F := F) Y c st s b q (s + 1))
      ⊢ iprop((afterBack (F := F) Y c st s b q
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM h1 h2) k) Q) := by
  have hc := nCr_add st
  have h16 := nM_le st
  have h0' : ¬ s = 0 := by omega
  unfold afterSend afterBack core sent kept BK slotAny slotIs
  rw [if_pos hs, if_neg h0', if_neg h0', if_neg (Nat.succ_ne_zero s), if_neg (Nat.succ_ne_zero s), show min (s + 2) (nM st) = s + 2 from by omega,
    show min (s + 1) (nM st) = s + 1 from by omega]
  iintro ⟨#HI, #Hlev, ⟨HRV, HSD, HCR, HSG, HFR, HOD, #Hok⟩, HB, HK, Hs, #Hr, HO⟩ Hk
  iapply (send_wait Y κ ιs c st (srcM := srcM) (dstM := dstM) (h1 := h1) (h2 := h2) (s + 2) (s + 1) (by omega) (by omega) hsem hN (owX st (s + 2) s b q c)
    (mayWait_owX c st _ 0 _ _ b q (by omega) (by rw [lev_send]; omega))) $$ [HSD HO]
  · isplitr; · iexact HI
    isplitr; · iexact Hlev
    isplitl [HSD]; · iexact HSD
    iexact HO
  iintro ⟨HSD, HO, Hback⟩
  ihave Hback := (back_next Y c st _) $$ Hback
  ihave Hs := (owns_halves (c : Thread nD τ) (slotM st (par s)) fullShare (msg Y st s (src st c))).2 $$ [Hs Hback]
  · isplitl [Hs]; · iexact Hs
    iexact Hback
  iapply Hk
  isplitl [HRV HSD HCR HSG HFR HOD]
  · isplitl [HRV]; · iexact HRV
    isplitl [HSD]; · iexact HSD
    isplitl [HCR]; · iexact HCR
    isplitl [HSG]; · iexact HSG
    isplitl [HFR]; · iexact HFR
    isplitl [HOD]; · iexact HOD
    iexact Hok
  isplitl [HB]; · iexact HB
  isplitl [HK]; · iexact HK
  isplitl [Hs]; · iexists _; iexact Hs
  isplitr; · iexact Hr
  iexact HO

/-- The same in the first hop, where the first send is waited for too. -/
theorem wait_sent_two {sem sem' : DmaSem sig} {sp sp' : Space} {sh sh' : Shape} {e e' : EltTy} {sp₂ sp₂' : Space} {sh₂ sh₂' : Shape} {e₂ e₂' : EltTy}
    {srcM : Memref sig .tc sp sh e} {dstM : Memref sig .tc sp' sh' e'} {h1 : srcM.view.WordExact} {h2 : dstM.view.WordExact}
    {srcM' : Memref sig .tc sp₂ sh₂ e₂} {dstM' : Memref sig .tc sp₂' sh₂' e₂'} {h1' : srcM'.view.WordExact} {h2' : dstM'.view.WordExact}
    {k : PUnit → Prog (TpuEff nD τ sig (Elt F) Λ₀ .tc) PUnit} {Q : PUnit → sProp 𝕄}
    (h0 : s = 0) (hsem : sem = sendS (sidx st (par 0))) (hN : dstM.view.dmaCredit = N)
    (hsem' : sem' = sendS (sidx st (par (s + 1)))) (hN' : dstM'.view.dmaCredit = N) (hb : s < b) :
    iprop(invs (F := F) Y κ ιs ∗ levAts L lv ∗ afterSend (F := F) Y c st s b q (s + 1))
      ⊢ iprop((afterBack (F := F) Y c st s b q
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 sem srcM dstM h1 h2) fun _ => .op (.waitDma2 sem' srcM' dstM' h1' h2') k) Q) := by
  subst h0
  have hc := nCr_add st
  have h16 := nM_le st
  have hlt : 0 + 1 < nM st := by omega
  unfold afterSend afterBack core sent kept BK slotAny slotIs
  rw [if_pos hlt, if_pos rfl, if_pos rfl, if_neg (Nat.succ_ne_zero 0), if_neg (Nat.succ_ne_zero 0), show min (0 + 2) (nM st) = 0 + 1 + 1 from by omega]
  iintro ⟨#HI, #Hlev, ⟨HRV, HSD, HCR, HSG, HFR, HOD, #Hok⟩, HB, HK, Hs, #Hr, HO⟩ Hk
  iapply (send_wait Y κ ιs c st (srcM := srcM) (dstM := dstM) (h1 := h1) (h2 := h2) (0 + 1 + 1) 0 (by omega) (by omega) hsem hN (owX st (0 + 2) 0 b q c)
    (mayWait_owX c st _ 0 _ _ b q (by omega) (by rw [lev_send]; omega))) $$ [HSD HO]
  · isplitr; · iexact HI
    isplitr; · iexact Hlev
    isplitl [HSD]; · iexact HSD
    iexact HO
  iintro ⟨HSD, HO, Hown⟩
  ihave Hown := (back_first Y c st) $$ Hown
  iapply (send_wait Y κ ιs c st (srcM := srcM') (dstM := dstM') (h1 := h1') (h2 := h2') (0 + 1 + 1) (0 + 1) (by omega) (by omega) hsem' hN' (owX st (0 + 2) 0 b q c)
    (mayWait_owX c st _ 0 _ _ b q (by omega) (by rw [lev_send]; omega))) $$ [HSD HO]
  · isplitr; · iexact HI
    isplitr; · iexact Hlev
    isplitl [HSD]; · iexact HSD
    iexact HO
  iintro ⟨HSD, HO, Hback⟩
  ihave Hback := (back_next Y c st _) $$ Hback
  ihave Hs := (owns_halves (c : Thread nD τ) (slotM st (par 0)) fullShare (msg Y st 0 (src st c))).2 $$ [Hs Hback]
  · isplitl [Hs]; · iexact Hs
    iexact Hback
  iapply Hk
  isplitl [HRV HSD HCR HSG HFR HOD]
  · isplitl [HRV]; · iexact HRV
    isplitl [HSD]; · iexact HSD
    isplitl [HCR]; · iexact HCR
    isplitl [HSG]; · iexact HSG
    isplitl [HFR]; · iexact HFR
    isplitl [HOD]; · iexact HOD
    iexact Hok
  isplitl [Hown]; · iexact Hown
  isplitl [HK]; · iexact HK
  isplitl [Hs]; · iexists _; iexact Hs
  isplitr; · iexact Hr
  iexact HO

/-- The credit back. -/
theorem give_back {sem : Sem sig} {n : Dev nD} {k' : ℤ}
    {k : PUnit → Prog (TpuEff nD τ sig (Elt F) Λ₀ .tc) PUnit} {Q : PUnit → sProp 𝕄}
    (hs : s + 2 < nM st) (hsem : sem = crS st) (hn : n = src st c) (hk' : k' = ((1 : ℕ) : ℤ)) :
    iprop(invs (F := F) Y κ ιs ∗ afterBack (F := F) Y c st s b q)
      ⊢ iprop((afterHop (F := F) Y c st s b q
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) sem k') k) Q) := by
  have hc := nCr_add st
  have hsn : s < nCr st := by omega
  unfold afterBack afterHop Dir core
  rw [show s + 1 - 1 = s from rfl, show min s (nCr st) = s from by omega, show min (s + 1) (nCr st) = s + 1 from by omega]
  iintro ⟨#HI, ⟨HRV, HSD, HCR, HSG, HFR, HOD, #Hok⟩, HB, HK, Hs, #Hr, HO⟩ Hk
  iapply (credit_signal Y κ ιs c st s hsn hsem hn hk' _ _ (owX_cr c st (s + 2) s b q hsn)) $$ [HSG Hs HO]
  · isplitr; · iexact HI
    isplitl [HSG]; · iexact HSG
    isplitl [Hs]; · iexact Hs
    isplitr; · iexact Hr
    iexact HO
  iintro ⟨HSG, HO⟩
  iapply Hk
  rw [← ks_stay c st s hsn]
  isplitl [HRV HSD HCR HSG HFR HOD HB HK]
  · isplitl [HRV HSD HCR HSG HFR HOD]
    · isplitl [HRV]; · iexact HRV
      isplitl [HSD]; · iexact HSD
      isplitl [HCR]; · iexact HCR
      isplitl [HSG]; · iexact HSG
      isplitl [HFR]; · iexact HFR
      isplitl [HOD]; · iexact HOD
      iexact Hok
    isplitl [HB]; · iexact HB
    iexact HK
  iexact HO

end steps

end Cert.GatherProof
-- ==== Proof.Gather.Trip.lean ====
/-
  A trip of the kernel's ring loop: a hop to the right, then a hop to the left.
-/
module

public import proofs.«01_k».proof.Proof.Gather.Hop

@[expose] public section

noncomputable section

namespace Cert.GatherProof

open Cert.GatherIdeal Cert.GatherIdeal.Gen
open Cert.RingProof (cyc pos pos_cyc cyc_pos posEquiv nxt prv dst src src_dst dst_src word w0 w1 w2 sidx par)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (Y : Dev nD → Vec F S128x2048 .f32)
variable (κ : GSem nD τ sig → ℕ) (ιs : Dev nD × Fin 4 → ℕ)
variable (c : Dev nD)

theorem pay1_eq (b : Vec F S1x128x2048 .bf16) :
    k0_pay1 b = extf .f32 (shapeCast S128x2048 b shapeCasts_S1x128x2048_S128x2048) bitsLt_bf16_f32 := rfl
theorem pay2_eq (b : Vec F S1x128x2048 .bf16) :
    k0_pay2 b = extf .f32 (shapeCast S128x2048 b shapeCasts_S1x128x2048_S128x2048) bitsLt_bf16_f32 := rfl

theorem credit_of (M : Memref sig .tc .vmem S128x2048 .bf16) : M.view.dmaCredit = N := rfl

/-- A slot, as the kernel's text names it. -/
theorem slot_eq (st p : Fin 2) (o : Fin 3 → ℕ) (ho : o = ![p.val, 0, 0]) (h) (h') (hs) :
    ((rsM st).slice (Rect.unit (s := S2x128x2048) o S1x128x2048.size h) h').squeeze S128x2048 hs = slotM st p := by
  subst ho; rfl

/-- What a device holds before trip `k`. -/
def between (k : ℕ) : sProp 𝕄 :=
  iprop(invs (F := F) Y κ ιs ∗ levAts L lv ∗ Dir (F := F) Y c 0 (min k 15) ∗ Dir (F := F) Y c 1 k
    ∗ ows (F := F) c (ow (k + 1) (k + 1) k k c))

section
variable (a0 : Memref sig .tc .vmem S128x2048 .f32) (h0 : a0.IsWhole) (a1 : Memref sig .tc .smem S3 .i32) (h1 : a1.IsWhole)
variable (hw3 : k0_chk3 (w0 c)) (hw1 : k0_chk1 (w1 c)) (hw2 : k0_chk2 (w2 c)) (k : T1)

/-- The hop to the right, the hop to the left. -/
def tripGoal : Prop :=
    between (F := F) Y κ ιs c k.val
      ⊢ wp frame (wpE (defs₀ (F := F)) 𝒱₀ (c : Thread nD τ) none) Set.univ
          (k0_t1_body (F := F) a0 h0 a1 h1 oM (Memref.isWhole_whole _) accM (Memref.isWhole_whole _) (rsM 0) (Memref.isWhole_whole _)
            (rsM 1) (Memref.isWhole_whole _) cc0_scratch3 cc0_scratch4 cc0_scratch5 (w0 c) hw3 (w1 c) hw1 (w2 c) hw2 k ())
          (fun _ => between (F := F) Y κ ιs c (k.val + 1))

theorem right_done (hk : k.val < 15) :
    iprop(Dir (F := F) Y c 1 k.val ∗ afterHop (F := F) Y c 0 k.val (k.val + 1) k.val)
      ⊢ iprop(Dir (F := F) Y c 0 (min (k.val + 1) 15) ∗ Dir (F := F) Y c 1 k.val
        ∗ ows (F := F) c (owX 1 (k.val + 1) k.val (k.val + 1 + 1) (k.val + 1) c)) := by
  unfold afterHop
  rw [show min (k.val + 1) 15 = k.val + 1 from by omega, owX_zero, owX_one]
  iintro ⟨HL, HR, HO⟩
  isplitl [HR]; · iexact HR
  isplitl [HL]; · iexact HL
  iexact HO

theorem none_right (hk : k.val = 15) :
    iprop(Dir (F := F) Y c 0 (min k.val 15) ∗ Dir (F := F) Y c 1 k.val ∗ ows (F := F) c (ow (k.val + 1) (k.val + 1) k.val k.val c))
      ⊢ iprop(Dir (F := F) Y c 0 (min (k.val + 1) 15) ∗ Dir (F := F) Y c 1 k.val
        ∗ ows (F := F) c (owX 1 (k.val + 1) k.val (k.val + 1 + 1) (k.val + 1) c)) := by
  rw [show min (k.val + 1) 15 = min k.val 15 from by omega, owX_one,
    show ow (k.val + 1) (k.val + 1) k.val k.val c = ow (k.val + 1 + 1) (k.val + 1) (k.val + 1) k.val c from by
      unfold ow
      rw [owM_stay 0 (k.val + 1) c (by rw [hk]; decide), owC_stay 0 k.val c (by rw [hk]; decide)]]

theorem left_done :
    iprop(invs (F := F) Y κ ιs ∗ levAts L lv ∗ Dir (F := F) Y c 0 (min (k.val + 1) 15)
        ∗ afterHop (F := F) Y c 1 k.val (k.val + 1 + 1) (k.val + 1))
      ⊢ between (F := F) Y κ ιs c (k.val + 1) := by
  unfold afterHop between
  rw [owX_one]

set_option maxHeartbeats 4000000 in
theorem trip_first (hk : k.val = 0) : tripGoal (F := F) Y κ ιs c a0 h0 a1 h1 hw3 hw1 hw2 k := by
  have e1 : k0_cond1 k = 1#1 := (cond1_iff k).mpr (by omega)
  have e2 : k0_cond2 k = 1#1 := (cond2_iff k).mpr (by omega)
  have e4 : k0_cond4 k = 1#1 := (cond4_iff k).mpr (by omega)
  have e5 : k0_cond5 k = 1#1 := (cond5_iff k).mpr (by omega)
  have e6 : k0_cond6 k = 1#1 := (cond6_iff k).mpr (by omega)
  have e7 : k0_cond7 k = 1#1 := (cond7_iff k).mpr (by omega)
  have e9 : k0_cond9 k = 1#1 := (cond9_iff k).mpr (by omega)
  have e10 : k0_cond10 k = 1#1 := (cond10_iff k).mpr (by omega)
  have e11 : k0_cond11 k = 1#1 := (cond11_iff k).mpr (by omega)
  have eL : ¬ later k = 1#1 := fun h => absurd ((later_iff k).mp h) (by omega)
  unfold tripGoal between k0_t1_body
  simp only [k0_part2_eq_skeleton, k0_part2_skel, k0_part1_eq_skeleton, k0_part1_skel, Prog.lift, Prog.bind_op, Prog.bind_ret, Prog.pure_eq_ret, Prog.bind_assoc, semSignalWord, semWaitWord,
    dif_pos e1, dif_pos e2, dif_pos e4, dif_pos e5, dif_pos e6, dif_pos e7, dif_pos e9, dif_pos e10, dif_pos e11, dif_neg eL]
  rw [← owX_zero, show min k.val 15 = k.val from by omega]
  iintro ⟨#HI, #Hlev, HR, HL, HO⟩
  iapply (recv Y κ ιs c 0 k.val (k.val + 1) k.val (show k.val < 15 from by omega) (recv_sem 0 (par k.val) _ (off3_eq k) _ _) (credit_of _) (by omega) (by omega)) $$ [HR HO]
  · isplitr; · iexact HI
    isplitr; · iexact Hlev
    isplitl [HR]; · iexact HR
    iexact HO
  iintro H
  ihave H := (ready_first Y c 0 k.val (k.val + 1) k.val (by omega)) $$ H
  iapply (pass_on Y κ ιs c 0 k.val (k.val + 1) k.val (show _ < 15 from by omega) (slot_eq 0 (par k.val) _ (off7_eq k) _ _ _) (Fin.ext (dev5_word _)) (send_sem 0 (par (k.val + 1)) _ (off5_eq k) _ _)
    (recv_sem 0 (par (k.val + 1)) _ (off5_eq k) _ _) rfl (off6_eq k)) $$ [H]
  · isplitr; · iexact HI
    iexact H
  iintro H
  iapply (fill Y c 0 k.val (k.val + 1) k.val (f := k0_pay2) (show _ < 15 from by omega) (off9_word _ k (by omega)) (off9_word _ k (by omega)) rfl (off8_eq k) pay2_eq) $$ [H]
  · iexact H
  iintro H
  iapply (wait_sent_two Y κ ιs c 0 k.val (k.val + 1) k.val (by omega) (send_sem 0 (par 0) _ rfl _ _) (credit_of _) (send_sem 0 (par (k.val + 1)) _ (off11_eq k) _ _) (credit_of _) (by omega)) $$ [H]
  · isplitr; · iexact HI
    isplitr; · iexact Hlev
    iexact H
  iintro H
  iapply (give_back Y κ ιs c 0 k.val (k.val + 1) k.val (show _ < 15 from by omega) (cr_sem 0 _ rfl _ _) (Fin.ext (dev6_word _)) rfl) $$ [H]
  · isplitr; · iexact HI
    iexact H
  iintro H
  ihave H := (right_done Y c k (by omega)) $$ [HL H]
  · isplitl [HL]; · iexact HL
    iexact H
  icases H with ⟨HR, HL, HO⟩
  iapply (recv Y κ ιs c 1 k.val (k.val + 1 + 1) (k.val + 1) (show k.val < 16 from by omega) (recv_sem 1 (par k.val) _ (off14_eq k) _ _) (credit_of _) (by omega) (by omega)) $$ [HL HO]
  · isplitr; · iexact HI
    isplitr; · iexact Hlev
    isplitl [HL]; · iexact HL
    iexact HO
  iintro H
  ihave H := (ready_first Y c 1 k.val (k.val + 1 + 1) (k.val + 1) (by omega)) $$ H
  iapply (pass_on Y κ ιs c 1 k.val (k.val + 1 + 1) (k.val + 1) (show _ < 16 from by omega) (slot_eq 1 (par k.val) _ (off18_eq k) _ _ _) (Fin.ext (dev7_word _)) (send_sem 1 (par (k.val + 1)) _ (off16_eq k) _ _)
    (recv_sem 1 (par (k.val + 1)) _ (off16_eq k) _ _) rfl (off17_eq k)) $$ [H]
  · isplitr; · iexact HI
    iexact H
  iintro H
  iapply (fill Y c 1 k.val (k.val + 1 + 1) (k.val + 1) (f := k0_pay1) (show _ < 16 from by omega) (off20_word _ k) (off20_word _ k) rfl (off19_eq k) pay1_eq) $$ [H]
  · iexact H
  iintro H
  iapply (wait_sent_two Y κ ιs c 1 k.val (k.val + 1 + 1) (k.val + 1) (by omega) (send_sem 1 (par 0) _ rfl _ _) (credit_of _) (send_sem 1 (par (k.val + 1)) _ (off22_eq k) _ _) (credit_of _) (by omega)) $$ [H]
  · isplitr; · iexact HI
    isplitr; · iexact Hlev
    iexact H
  iintro H
  iapply (give_back Y κ ιs c 1 k.val (k.val + 1 + 1) (k.val + 1) (show _ < 16 from by omega) (cr_sem 1 _ rfl _ _) (Fin.ext (dev8_word _)) rfl) $$ [H]
  · isplitr; · iexact HI
    iexact H
  iintro H
  rw [wp_ret]
  imodintro
  have hd := left_done Y κ ιs c k
  unfold between at hd
  iapply hd
  isplitr; · iexact HI
  isplitr; · iexact Hlev
  isplitl [HR]; · iexact HR
  iexact H

set_option maxHeartbeats 4000000 in
theorem trip_mid (hk : 1 ≤ k.val) (hk' : k.val ≤ 12) : tripGoal (F := F) Y κ ιs c a0 h0 a1 h1 hw3 hw1 hw2 k := by
  have e1 : k0_cond1 k = 1#1 := (cond1_iff k).mpr (by omega)
  have e2 : k0_cond2 k = 1#1 := (cond2_iff k).mpr (by omega)
  have e4 : k0_cond4 k = 1#1 := (cond4_iff k).mpr (by omega)
  have e5 : ¬ k0_cond5 k = 1#1 := fun h => absurd ((cond5_iff k).mp h) (by omega)
  have e6 : k0_cond6 k = 1#1 := (cond6_iff k).mpr (by omega)
  have e7 : k0_cond7 k = 1#1 := (cond7_iff k).mpr (by omega)
  have e9 : k0_cond9 k = 1#1 := (cond9_iff k).mpr (by omega)
  have e10 : ¬ k0_cond10 k = 1#1 := fun h => absurd ((cond10_iff k).mp h) (by omega)
  have e11 : k0_cond11 k = 1#1 := (cond11_iff k).mpr (by omega)
  have eL : later k = 1#1 := (later_iff k).mpr (by omega)
  unfold tripGoal between k0_t1_body
  simp only [k0_part2_eq_skeleton, k0_part2_skel, k0_part1_eq_skeleton, k0_part1_skel, Prog.lift, Prog.bind_op, Prog.bind_ret, Prog.pure_eq_ret, Prog.bind_assoc, semSignalWord, semWaitWord,
    dif_pos e1, dif_pos e2, dif_pos e4, dif_neg e5, dif_pos e6, dif_pos e7, dif_pos e9, dif_neg e10, dif_pos e11, dif_pos eL]
  rw [← owX_zero, show min k.val 15 = k.val from by omega]
  iintro ⟨#HI, #Hlev, HR, HL, HO⟩
  iapply (recv Y κ ιs c 0 k.val (k.val + 1) k.val (show k.val < 15 from by omega) (recv_sem 0 (par k.val) _ (off3_eq k) _ _) (credit_of _) (by omega) (by omega)) $$ [HR HO]
  · isplitr; · iexact HI
    isplitr; · iexact Hlev
    isplitl [HR]; · iexact HR
    iexact HO
  iintro H
  iapply (wait_credit Y κ ιs c 0 k.val (k.val + 1) k.val (by omega) (show _ < 15 from by omega) (cr_sem 0 _ rfl _ _) rfl (by omega) (by omega)) $$ [H]
  · isplitr; · iexact HI
    isplitr; · iexact Hlev
    iexact H
  iintro H
  iapply (pass_on Y κ ιs c 0 k.val (k.val + 1) k.val (show _ < 15 from by omega) (slot_eq 0 (par k.val) _ (off7_eq k) _ _ _) (Fin.ext (dev5_word _)) (send_sem 0 (par (k.val + 1)) _ (off5_eq k) _ _)
    (recv_sem 0 (par (k.val + 1)) _ (off5_eq k) _ _) rfl (off6_eq k)) $$ [H]
  · isplitr; · iexact HI
    iexact H
  iintro H
  iapply (fill Y c 0 k.val (k.val + 1) k.val (f := k0_pay2) (show _ < 15 from by omega) (off9_word _ k (by omega)) (off9_word _ k (by omega)) rfl (off8_eq k) pay2_eq) $$ [H]
  · iexact H
  iintro H
  iapply (wait_sent Y κ ιs c 0 k.val (k.val + 1) k.val (by omega) (show _ < 15 from by omega) (send_sem 0 (par (k.val + 1)) _ (off11_eq k) _ _) (credit_of _) (by omega) (by omega)) $$ [H]
  · isplitr; · iexact HI
    isplitr; · iexact Hlev
    iexact H
  iintro H
  iapply (give_back Y κ ιs c 0 k.val (k.val + 1) k.val (show _ < 15 from by omega) (cr_sem 0 _ rfl _ _) (Fin.ext (dev6_word _)) rfl) $$ [H]
  · isplitr; · iexact HI
    iexact H
  iintro H
  ihave H := (right_done Y c k (by omega)) $$ [HL H]
  · isplitl [HL]; · iexact HL
    iexact H
  icases H with ⟨HR, HL, HO⟩
  iapply (recv Y κ ιs c 1 k.val (k.val + 1 + 1) (k.val + 1) (show k.val < 16 from by omega) (recv_sem 1 (par k.val) _ (off14_eq k) _ _) (credit_of _) (by omega) (by omega)) $$ [HL HO]
  · isplitr; · iexact HI
    isplitr; · iexact Hlev
    isplitl [HL]; · iexact HL
    iexact HO
  iintro H
  iapply (wait_credit Y κ ιs c 1 k.val (k.val + 1 + 1) (k.val + 1) (by omega) (show _ < 16 from by omega) (cr_sem 1 _ rfl _ _) rfl (by omega) (by omega)) $$ [H]
  · isplitr; · iexact HI
    isplitr; · iexact Hlev
    iexact H
  iintro H
  iapply (pass_on Y κ ιs c 1 k.val (k.val + 1 + 1) (k.val + 1) (show _ < 16 from by omega) (slot_eq 1 (par k.val) _ (off18_eq k) _ _ _) (Fin.ext (dev7_word _)) (send_sem 1 (par (k.val + 1)) _ (off16_eq k) _ _)
    (recv_sem 1 (par (k.val + 1)) _ (off16_eq k) _ _) rfl (off17_eq k)) $$ [H]
  · isplitr; · iexact HI
    iexact H
  iintro H
  iapply (fill Y c 1 k.val (k.val + 1 + 1) (k.val + 1) (f := k0_pay1) (show _ < 16 from by omega) (off20_word _ k) (off20_word _ k) rfl (off19_eq k) pay1_eq) $$ [H]
  · iexact H
  iintro H
  iapply (wait_sent Y κ ιs c 1 k.val (k.val + 1 + 1) (k.val + 1) (by omega) (show _ < 16 from by omega) (send_sem 1 (par (k.val + 1)) _ (off22_eq k) _ _) (credit_of _) (by omega) (by omega)) $$ [H]
  · isplitr; · iexact HI
    isplitr; · iexact Hlev
    iexact H
  iintro H
  iapply (give_back Y κ ιs c 1 k.val (k.val + 1 + 1) (k.val + 1) (show _ < 16 from by omega) (cr_sem 1 _ rfl _ _) (Fin.ext (dev8_word _)) rfl) $$ [H]
  · isplitr; · iexact HI
    iexact H
  iintro H
  rw [wp_ret]
  imodintro
  have hd := left_done Y κ ιs c k
  unfold between at hd
  iapply hd
  isplitr; · iexact HI
  isplitr; · iexact Hlev
  isplitl [HR]; · iexact HR
  iexact H

set_option maxHeartbeats 4000000 in
theorem trip_thirteen (hk : k.val = 13) : tripGoal (F := F) Y κ ιs c a0 h0 a1 h1 hw3 hw1 hw2 k := by
  have e1 : k0_cond1 k = 1#1 := (cond1_iff k).mpr (by omega)
  have e2 : k0_cond2 k = 1#1 := (cond2_iff k).mpr (by omega)
  have e4 : k0_cond4 k = 1#1 := (cond4_iff k).mpr (by omega)
  have e5 : ¬ k0_cond5 k = 1#1 := fun h => absurd ((cond5_iff k).mp h) (by omega)
  have e6 : ¬ k0_cond6 k = 1#1 := fun h => absurd ((cond6_iff k).mp h) (by omega)
  have e7 : k0_cond7 k = 1#1 := (cond7_iff k).mpr (by omega)
  have e9 : k0_cond9 k = 1#1 := (cond9_iff k).mpr (by omega)
  have e10 : ¬ k0_cond10 k = 1#1 := fun h => absurd ((cond10_iff k).mp h) (by omega)
  have e11 : k0_cond11 k = 1#1 := (cond11_iff k).mpr (by omega)
  have eL : later k = 1#1 := (later_iff k).mpr (by omega)
  unfold tripGoal between k0_t1_body
  simp only [k0_part2_eq_skeleton, k0_part2_skel, k0_part1_eq_skeleton, k0_part1_skel, Prog.lift, Prog.bind_op, Prog.bind_ret, Prog.pure_eq_ret, Prog.bind_assoc, semSignalWord, semWaitWord,
    dif_pos e1, dif_pos e2, dif_pos e4, dif_neg e5, dif_neg e6, dif_pos e7, dif_pos e9, dif_neg e10, dif_pos e11, dif_pos eL]
  rw [← owX_zero, show min k.val 15 = k.val from by omega]
  iintro ⟨#HI, #Hlev, HR, HL, HO⟩
  iapply (recv Y κ ιs c 0 k.val (k.val + 1) k.val (show k.val < 15 from by omega) (recv_sem 0 (par k.val) _ (off3_eq k) _ _) (credit_of _) (by omega) (by omega)) $$ [HR HO]
  · isplitr; · iexact HI
    isplitr; · iexact Hlev
    isplitl [HR]; · iexact HR
    iexact HO
  iintro H
  iapply (wait_credit Y κ ιs c 0 k.val (k.val + 1) k.val (by omega) (show _ < 15 from by omega) (cr_sem 0 _ rfl _ _) rfl (by omega) (by omega)) $$ [H]
  · isplitr; · iexact HI
    isplitr; · iexact Hlev
    iexact H
  iintro H
  iapply (pass_on Y κ ιs c 0 k.val (k.val + 1) k.val (show _ < 15 from by omega) (slot_eq 0 (par k.val) _ (off7_eq k) _ _ _) (Fin.ext (dev5_word _)) (send_sem 0 (par (k.val + 1)) _ (off5_eq k) _ _)
    (recv_sem 0 (par (k.val + 1)) _ (off5_eq k) _ _) rfl (off6_eq k)) $$ [H]
  · isplitr; · iexact HI
    iexact H
  iintro H
  iapply (fill Y c 0 k.val (k.val + 1) k.val (f := k0_pay2) (show _ < 15 from by omega) (off9_word _ k (by omega)) (off9_word _ k (by omega)) rfl (off8_eq k) pay2_eq) $$ [H]
  · iexact H
  iintro H
  iapply (wait_sent Y κ ιs c 0 k.val (k.val + 1) k.val (by omega) (show _ < 15 from by omega) (send_sem 0 (par (k.val + 1)) _ (off11_eq k) _ _) (credit_of _) (by omega) (by omega)) $$ [H]
  · isplitr; · iexact HI
    isplitr; · iexact Hlev
    iexact H
  iintro H
  ihave H := (afterHop_last Y c 0 k.val (k.val + 1) k.val (show ¬ _ < 15 from by omega) (show _ < 15 from by omega)) $$ H
  ihave H := (right_done Y c k (by omega)) $$ [HL H]
  · isplitl [HL]; · iexact HL
    iexact H
  icases H with ⟨HR, HL, HO⟩
  iapply (recv Y κ ιs c 1 k.val (k.val + 1 + 1) (k.val + 1) (show k.val < 16 from by omega) (recv_sem 1 (par k.val) _ (off14_eq k) _ _) (credit_of _) (by omega) (by omega)) $$ [HL HO]
  · isplitr; · iexact HI
    isplitr; · iexact Hlev
    isplitl [HL]; · iexact HL
    iexact HO
  iintro H
  iapply (wait_credit Y κ ιs c 1 k.val (k.val + 1 + 1) (k.val + 1) (by omega) (show _ < 16 from by omega) (cr_sem 1 _ rfl _ _) rfl (by omega) (by omega)) $$ [H]
  · isplitr; · iexact HI
    isplitr; · iexact Hlev
    iexact H
  iintro H
  iapply (pass_on Y κ ιs c 1 k.val (k.val + 1 + 1) (k.val + 1) (show _ < 16 from by omega) (slot_eq 1 (par k.val) _ (off18_eq k) _ _ _) (Fin.ext (dev7_word _)) (send_sem 1 (par (k.val + 1)) _ (off16_eq k) _ _)
    (recv_sem 1 (par (k.val + 1)) _ (off16_eq k) _ _) rfl (off17_eq k)) $$ [H]
  · isplitr; · iexact HI
    iexact H
  iintro H
  iapply (fill Y c 1 k.val (k.val + 1 + 1) (k.val + 1) (f := k0_pay1) (show _ < 16 from by omega) (off20_word _ k) (off20_word _ k) rfl (off19_eq k) pay1_eq) $$ [H]
  · iexact H
  iintro H
  iapply (wait_sent Y κ ιs c 1 k.val (k.val + 1 + 1) (k.val + 1) (by omega) (show _ < 16 from by omega) (send_sem 1 (par (k.val + 1)) _ (off22_eq k) _ _) (credit_of _) (by omega) (by omega)) $$ [H]
  · isplitr; · iexact HI
    isplitr; · iexact Hlev
    iexact H
  iintro H
  iapply (give_back Y κ ιs c 1 k.val (k.val + 1 + 1) (k.val + 1) (show _ < 16 from by omega) (cr_sem 1 _ rfl _ _) (Fin.ext (dev8_word _)) rfl) $$ [H]
  · isplitr; · iexact HI
    iexact H
  iintro H
  rw [wp_ret]
  imodintro
  have hd := left_done Y κ ιs c k
  unfold between at hd
  iapply hd
  isplitr; · iexact HI
  isplitr; · iexact Hlev
  isplitl [HR]; · iexact HR
  iexact H

set_option maxHeartbeats 4000000 in
theorem trip_fourteen (hk : k.val = 14) : tripGoal (F := F) Y κ ιs c a0 h0 a1 h1 hw3 hw1 hw2 k := by
  have e1 : k0_cond1 k = 1#1 := (cond1_iff k).mpr (by omega)
  have e2 : ¬ k0_cond2 k = 1#1 := fun h => absurd ((cond2_iff k).mp h) (by omega)
  have e4 : ¬ k0_cond4 k = 1#1 := fun h => absurd ((cond4_iff k).mp h) (by omega)
  have e6 : ¬ k0_cond6 k = 1#1 := fun h => absurd ((cond6_iff k).mp h) (by omega)
  have e7 : k0_cond7 k = 1#1 := (cond7_iff k).mpr (by omega)
  have e9 : k0_cond9 k = 1#1 := (cond9_iff k).mpr (by omega)
  have e10 : ¬ k0_cond10 k = 1#1 := fun h => absurd ((cond10_iff k).mp h) (by omega)
  have e11 : ¬ k0_cond11 k = 1#1 := fun h => absurd ((cond11_iff k).mp h) (by omega)
  have eL : later k = 1#1 := (later_iff k).mpr (by omega)
  unfold tripGoal between k0_t1_body
  simp only [k0_part2_eq_skeleton, k0_part2_skel, k0_part1_eq_skeleton, k0_part1_skel, Prog.lift, Prog.bind_op, Prog.bind_ret, Prog.pure_eq_ret, Prog.bind_assoc, semSignalWord, semWaitWord,
    dif_pos e1, dif_neg e2, dif_neg e4, dif_neg e6, dif_pos e7, dif_pos e9, dif_neg e10, dif_neg e11, dif_pos eL]
  rw [← owX_zero, show min k.val 15 = k.val from by omega]
  iintro ⟨#HI, #Hlev, HR, HL, HO⟩
  iapply (recv Y κ ιs c 0 k.val (k.val + 1) k.val (show k.val < 15 from by omega) (recv_sem 0 (par k.val) _ (off3_eq k) _ _) (credit_of _) (by omega) (by omega)) $$ [HR HO]
  · isplitr; · iexact HI
    isplitr; · iexact Hlev
    isplitl [HR]; · iexact HR
    iexact HO
  iintro H
  ihave H := (afterSend_last Y c 0 k.val (k.val + 1) k.val (show ¬ _ < 15 from by omega) (show _ < 15 from by omega)) $$ H
  iapply (fill Y c 0 k.val (k.val + 1) k.val (f := k0_pay2) (show _ < 15 from by omega) (off9_word _ k (by omega)) (off9_word _ k (by omega)) rfl (off8_eq k) pay2_eq) $$ [H]
  · iexact H
  iintro H
  ihave H := (afterBack_last Y c 0 k.val (k.val + 1) k.val (show ¬ _ < 15 from by omega) (show _ < 15 from by omega)) $$ H
  ihave H := (afterHop_last Y c 0 k.val (k.val + 1) k.val (show ¬ _ < 15 from by omega) (show _ < 15 from by omega)) $$ H
  ihave H := (right_done Y c k (by omega)) $$ [HL H]
  · isplitl [HL]; · iexact HL
    iexact H
  icases H with ⟨HR, HL, HO⟩
  iapply (recv Y κ ιs c 1 k.val (k.val + 1 + 1) (k.val + 1) (show k.val < 16 from by omega) (recv_sem 1 (par k.val) _ (off14_eq k) _ _) (credit_of _) (by omega) (by omega)) $$ [HL HO]
  · isplitr; · iexact HI
    isplitr; · iexact Hlev
    isplitl [HL]; · iexact HL
    iexact HO
  iintro H
  iapply (wait_credit Y κ ιs c 1 k.val (k.val + 1 + 1) (k.val + 1) (by omega) (show _ < 16 from by omega) (cr_sem 1 _ rfl _ _) rfl (by omega) (by omega)) $$ [H]
  · isplitr; · iexact HI
    isplitr; · iexact Hlev
    iexact H
  iintro H
  iapply (pass_on Y κ ιs c 1 k.val (k.val + 1 + 1) (k.val + 1) (show _ < 16 from by omega) (slot_eq 1 (par k.val) _ (off18_eq k) _ _ _) (Fin.ext (dev7_word _)) (send_sem 1 (par (k.val + 1)) _ (off16_eq k) _ _)
    (recv_sem 1 (par (k.val + 1)) _ (off16_eq k) _ _) rfl (off17_eq k)) $$ [H]
  · isplitr; · iexact HI
    iexact H
  iintro H
  iapply (fill Y c 1 k.val (k.val + 1 + 1) (k.val + 1) (f := k0_pay1) (show _ < 16 from by omega) (off20_word _ k) (off20_word _ k) rfl (off19_eq k) pay1_eq) $$ [H]
  · iexact H
  iintro H
  iapply (wait_sent Y κ ιs c 1 k.val (k.val + 1 + 1) (k.val + 1) (by omega) (show _ < 16 from by omega) (send_sem 1 (par (k.val + 1)) _ (off22_eq k) _ _) (credit_of _) (by omega) (by omega)) $$ [H]
  · isplitr; · iexact HI
    isplitr; · iexact Hlev
    iexact H
  iintro H
  ihave H := (afterHop_last Y c 1 k.val (k.val + 1 + 1) (k.val + 1) (show ¬ _ < 16 from by omega) (show _ < 16 from by omega)) $$ H
  rw [wp_ret]
  imodintro
  have hd := left_done Y κ ιs c k
  unfold between at hd
  iapply hd
  isplitr; · iexact HI
  isplitr; · iexact Hlev
  isplitl [HR]; · iexact HR
  iexact H

set_option maxHeartbeats 4000000 in
theorem trip_last (hk : k.val = 15) : tripGoal (F := F) Y κ ιs c a0 h0 a1 h1 hw3 hw1 hw2 k := by
  have e1 : ¬ k0_cond1 k = 1#1 := fun h => absurd ((cond1_iff k).mp h) (by omega)
  have e7 : ¬ k0_cond7 k = 1#1 := fun h => absurd ((cond7_iff k).mp h) (by omega)
  have e9 : ¬ k0_cond9 k = 1#1 := fun h => absurd ((cond9_iff k).mp h) (by omega)
  have e11 : ¬ k0_cond11 k = 1#1 := fun h => absurd ((cond11_iff k).mp h) (by omega)
  unfold tripGoal between k0_t1_body
  simp only [k0_part2_eq_skeleton, k0_part2_skel, k0_part1_eq_skeleton, k0_part1_skel, Prog.lift, Prog.bind_op, Prog.bind_ret, Prog.pure_eq_ret, Prog.bind_assoc, semSignalWord, semWaitWord,
    dif_neg e1, dif_neg e7, dif_neg e9, dif_neg e11]
  iintro ⟨#HI, #Hlev, HR, HL, HO⟩
  ihave H := (none_right Y c k hk) $$ [HR HL HO]
  · isplitl [HR]; · iexact HR
    isplitl [HL]; · iexact HL
    iexact HO
  icases H with ⟨HR, HL, HO⟩
  iapply (recv Y κ ιs c 1 k.val (k.val + 1 + 1) (k.val + 1) (show k.val < 16 from by omega) (recv_sem 1 (par k.val) _ (off14_eq k) _ _) (credit_of _) (by omega) (by omega)) $$ [HL HO]
  · isplitr; · iexact HI
    isplitr; · iexact Hlev
    isplitl [HL]; · iexact HL
    iexact HO
  iintro H
  ihave H := (afterSend_last Y c 1 k.val (k.val + 1 + 1) (k.val + 1) (show ¬ _ < 16 from by omega) (show _ < 16 from by omega)) $$ H
  iapply (fill Y c 1 k.val (k.val + 1 + 1) (k.val + 1) (f := k0_pay1) (show _ < 16 from by omega) (off20_word _ k) (off20_word _ k) rfl (off19_eq k) pay1_eq) $$ [H]
  · iexact H
  iintro H
  ihave H := (afterBack_last Y c 1 k.val (k.val + 1 + 1) (k.val + 1) (show ¬ _ < 16 from by omega) (show _ < 16 from by omega)) $$ H
  ihave H := (afterHop_last Y c 1 k.val (k.val + 1 + 1) (k.val + 1) (show ¬ _ < 16 from by omega) (show _ < 16 from by omega)) $$ H
  rw [wp_ret]
  imodintro
  have hd := left_done Y κ ιs c k
  unfold between at hd
  iapply hd
  isplitr; · iexact HI
  isplitr; · iexact Hlev
  isplitl [HR]; · iexact HR
  iexact H

theorem t1_lt (k : T1) : k.val < 16 := k.isLt

theorem trip : tripGoal (F := F) Y κ ιs c a0 h0 a1 h1 hw3 hw1 hw2 k := by
  have hk := t1_lt k
  rcases (by omega : k.val = 0 ∨ (1 ≤ k.val ∧ k.val ≤ 12) ∨ k.val = 13 ∨ k.val = 14 ∨ k.val = 15) with h | ⟨h, h'⟩ | h | h | h
  · exact trip_first Y κ ιs c a0 h0 a1 h1 hw3 hw1 hw2 k h
  · exact trip_mid Y κ ιs c a0 h0 a1 h1 hw3 hw1 hw2 k h h'
  · exact trip_thirteen Y κ ιs c a0 h0 a1 h1 hw3 hw1 hw2 k h
  · exact trip_fourteen Y κ ιs c a0 h0 a1 h1 hw3 hw1 hw2 k h
  · exact trip_last Y κ ιs c a0 h0 a1 h1 hw3 hw1 hw2 k h

end

end Cert.GatherProof
-- ==== Proof.Gather.Start.lean ====
/-
  Buffers cut into the blocks and slots the protocol hands around, and put together again; the barrier at the kernel's
  start; the waits at its end; what the counters are at the end.
-/
module

public import proofs.«01_k».proof.Proof.Gather.Trip

@[expose] public section

noncomputable section

namespace Cert.GatherProof

open Cert.GatherIdeal Cert.GatherIdeal.Gen
open Cert.RingProof (cyc pos pos_cyc cyc_pos posEquiv nxt prv dst src src_dst dst_src word w0 w1 w2 sidx par)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Cutting and joining buffers -/

theorem chunks_disj : ∀ t t' : Fin 32, t ≠ t' → Disjoint (chunkRect t).set (chunkRect t').set := by
  intro t t' h
  refine Rect.unit_disjoint 0 ?_
  have : t.val ≠ t'.val := fun e => h (Fin.ext e)
  show t.val * 128 + 128 ≤ t'.val * 128 ∨ t'.val * 128 + 128 ≤ t.val * 128
  omega
theorem chunks_cover : (Finset.univ : Finset (Fin 32)).biUnion (fun t => (chunkRect t).set) = Finset.univ := by
  refine Finset.eq_univ_of_forall fun i => Finset.mem_biUnion.mpr ?_
  have h0 : (i 0).val < 4096 := (i 0).isLt
  refine ⟨⟨(i 0).val / 128, by omega⟩, Finset.mem_univ _, Rect.mem_set_unit.mpr fun a => ?_⟩
  fin_cases a
  · show (i 0).val / 128 * 128 ≤ (i 0).val ∧ (i 0).val < (i 0).val / 128 * 128 + 128
    omega
  · have h1 : (i 1).val < 2048 := (i 1).isLt
    exact ⟨Nat.zero_le _, show (i 1).val < 0 + 2048 by omega⟩
theorem slots_disj : ∀ t t' : Fin 2, t ≠ t' → Disjoint (slotRect t).set (slotRect t').set := by
  intro t t' h
  refine Rect.unit_disjoint 0 ?_
  have : t.val ≠ t'.val := fun e => h (Fin.ext e)
  show t.val + 1 ≤ t'.val ∨ t'.val + 1 ≤ t.val
  omega
theorem slots_cover : (Finset.univ : Finset (Fin 2)).biUnion (fun t => (slotRect t).set) = Finset.univ := by
  refine Finset.eq_univ_of_forall fun i => Finset.mem_biUnion.mpr ?_
  refine ⟨i 0, Finset.mem_univ _, Rect.mem_set_unit.mpr fun a => ?_⟩
  fin_cases a
  · exact ⟨le_refl _, Nat.lt_succ_self _⟩
  · have h1 : (i 1).val < 128 := (i 1).isLt
    exact ⟨Nat.zero_le _, show (i 1).val < 0 + 128 by omega⟩
  · have h1 : (i 2).val < 2048 := (i 2).isLt
    exact ⟨Nat.zero_le _, show (i 2).val < 0 + 2048 by omega⟩

theorem elt_nonempty (e : EltTy) : Nonempty (Elt F e) := by infer_instance

variable (c : Dev nD)

/-- A device's accumulator, and a direction's two slots, at some contents. -/
def accAny : sProp 𝕄 := iprop(∃ X, owns (c : Thread nD τ) accM fullShare X)
def rsAny (st : Fin 2) : sProp 𝕄 := iprop(∃ X, owns (c : Thread nD τ) (rsM st) fullShare X)

theorem chunk_any (q : Fin 32) (Y : FVec F S128x2048 .bf16) : chunkIs (F := F) c q Y ⊢ chunkAny c q := by
  unfold chunkAny; iintro H; iexists Y; iexact H

theorem acc_cut : accAny (F := F) c ⊢ bigSep Finset.univ (fun q => chunkAny (F := F) c q) := by
  unfold accAny
  iintro ⟨%X, H⟩
  iapply (show owns (c : Thread nD τ) accM fullShare X ⊢ bigSep Finset.univ (fun q => chunkAny (F := F) c q) from
    (owns_rects (c : Thread nD τ) accM fullShare chunkRect (fun _ _ => rfl) chunks_disj chunks_cover X).trans
      (bigSep_mono fun q _ => chunk_any (F := F) c q _))
  iexact H

theorem acc_join : bigSep Finset.univ (fun q => chunkAny (F := F) c q) ⊢ accAny (F := F) c := by
  haveI : ∀ e, Nonempty (Elt F e) := elt_nonempty
  haveI : Nonempty (FVec F S128x2048 .bf16) := inferInstanceAs (Nonempty (S128x2048.Idx → Elt F .bf16))
  unfold chunkAny accAny
  refine (bigSep_exists_pi Finset.univ (fun q (X : FVec F S128x2048 .bf16) => chunkIs (F := F) c q X)).trans ?_
  iintro ⟨%Xs, H⟩
  have hg (t : Fin 32) : (fun j => Rect.glue chunkRect chunks_cover Xs ((chunkRect t).emb j)) = Xs t :=
    funext fun y => Rect.glue_emb chunkRect chunks_cover chunks_disj Xs t y
  iexists (Rect.glue chunkRect chunks_cover Xs)
  iapply (owns_of_rects (c : Thread nD τ) accM fullShare chunkRect (fun _ _ => rfl) chunks_disj chunks_cover (Rect.glue chunkRect chunks_cover Xs))
  simp only [hg]
  iexact H

/-- A staging buffer held whole at given contents. -/
abbrev stg (b : Ref sig .tc) (f : b.ty.Contents (Elt F)) : sProp 𝕄 := ((c : Thread nD τ).loc b) ↦{fullShare} f
abbrev yM : Memref sig .tc .vmem S128x2048 .f32 := Memref.whole cc0_stg0_0
abbrev idM : Memref sig .tc .smem S3 .i32 := Memref.whole cc0_stg1_0

theorem block_any (q : Fin 32) (V : FVec F S128x2048 .f32) : blockIs (F := F) c q V ⊢ blockAny c q := by
  unfold blockAny; iintro H; iexists V; iexact H

/-- The result cut into its blocks. -/
theorem out_cut (f : Vec F S4096x2048 .f32) : (stg c cc0_stg2_0 f : sProp 𝕄) ⊢ bigSep Finset.univ (fun q => blockAny (F := F) c q) :=
  (Entails.of_eq (owns_whole (c : Thread nD τ) cc0_stg2_0 fullShare f).symm).trans
    ((owns_rects (c : Thread nD τ) oM fullShare chunkRect (fun _ _ => rfl) chunks_disj chunks_cover f).trans
      (bigSep_mono fun q _ => block_any (F := F) c q _))

/-- Blocks put together. -/
def glued (V : Fin 32 → FVec F S128x2048 .f32) : Vec F S4096x2048 .f32 := Rect.glue chunkRect chunks_cover V

theorem out_join (V : Fin 32 → FVec F S128x2048 .f32) :
    bigSep Finset.univ (fun q => blockIs (F := F) c q (V q)) ⊢ (stg c cc0_stg2_0 (glued V) : sProp 𝕄) := by
  have hg (t : Fin 32) : (fun j => glued V ((chunkRect t).emb j)) = V t :=
    funext fun y => Rect.glue_emb chunkRect chunks_cover chunks_disj V t y
  iintro H
  iapply (Entails.of_eq (owns_whole (c : Thread nD τ) cc0_stg2_0 fullShare (glued V)))
  iapply (owns_of_rects (c : Thread nD τ) oM fullShare chunkRect (fun _ _ => rfl) chunks_disj chunks_cover (glued V))
  simp only [hg]
  iexact H

variable (st : Fin 2)

theorem slot_squeeze (p : Fin 2) (X : FVec F S1x128x2048 .bf16) :
    owns (c : Thread nD τ) ((rsM st).slice (slotRect p) (fun _ => rfl)) fullShare X ⊢ slotAny (F := F) c st p := by
  unfold slotAny slotIs owns
  iintro ⟨%f, -, H⟩
  iexists ((slotM st p).view.read (Elt F) f)
  iexists f
  isplitr; · ipureintro; rfl
  iapply (show _ ⊢ _ from Entails.of_eq (by rw [View.set_reshape])) $$ H
theorem slot_unsqueeze (p : Fin 2) :
    slotAny (F := F) c st p ⊢ iprop(∃ X, owns (c : Thread nD τ) ((rsM st).slice (slotRect p) (fun _ => rfl)) fullShare X) := by
  unfold slotAny slotIs owns
  iintro ⟨%X, %f, -, H⟩
  iexists (((rsM st).slice (slotRect p) (fun _ => rfl)).view.read (Elt F) f)
  iexists f
  isplitr; · ipureintro; rfl
  iapply (show _ ⊢ _ from Entails.of_eq (by rw [View.set_reshape])) $$ H

theorem rs_cut : rsAny (F := F) c st ⊢ iprop(slotAny (F := F) c st 0 ∗ slotAny (F := F) c st 1) := by
  unfold rsAny
  iintro ⟨%X, H⟩
  iapply (show owns (c : Thread nD τ) (rsM st) fullShare X ⊢ iprop(slotAny (F := F) c st 0 ∗ slotAny (F := F) c st 1) from
    ((owns_rects (c : Thread nD τ) (rsM st) fullShare slotRect (fun _ _ => rfl) slots_disj slots_cover X).trans
      (bigSep_mono fun p _ => slot_squeeze (F := F) c st p _)).trans (Entails.of_eq (BI.bigSep_fin_two _)))
  iexact H

theorem rs_join : iprop(slotAny (F := F) c st 0 ∗ slotAny (F := F) c st 1) ⊢ rsAny (F := F) c st := by
  haveI : ∀ e, Nonempty (Elt F e) := elt_nonempty
  refine (Entails.of_eq (BI.bigSep_fin_two (fun p => slotAny (F := F) c st p)).symm).trans ?_
  haveI : Nonempty (FVec F S1x128x2048 .bf16) := inferInstanceAs (Nonempty (S1x128x2048.Idx → Elt F .bf16))
  refine (bigSep_mono fun p _ => slot_unsqueeze (F := F) c st p).trans ?_
  unfold rsAny
  refine (bigSep_exists_pi Finset.univ (fun p (X : FVec F S1x128x2048 .bf16) => owns (Val := Elt F) (c : Thread nD τ) ((rsM st).slice (slotRect p) (fun _ => rfl)) fullShare X)).trans ?_
  iintro ⟨%Xs, H⟩
  have hg (t : Fin 2) : (fun j => Rect.glue slotRect slots_cover Xs ((slotRect t).emb j)) = Xs t :=
    funext fun y => Rect.glue_emb slotRect slots_cover slots_disj Xs t y
  iexists (Rect.glue slotRect slots_cover Xs)
  iapply (owns_of_rects (c : Thread nD τ) (rsM st) fullShare slotRect (fun _ _ => rfl) slots_disj slots_cover (Rect.glue slotRect slots_cover Xs))
  simp only [hg]
  iexact H

/-! ## The blocks of the two directions -/

theorem row_family (Φ : Fin 32 → sProp 𝕄) (p : Fin 32) (n : ℕ) (hn : n ≤ nM st) :
    bigSep (Finset.Ico 0 n) (fun j => Φ (row st j p)) = bigSep ((Finset.Ico 0 n).image (fun j => row st j p)) Φ := by
  induction n with
  | zero => rfl
  | succ n ih =>
    have hl := nM_le st
    have hni : row st n p ∉ (Finset.Ico 0 n).image (fun j => row st j p) := by
      intro h
      obtain ⟨j, hj, e⟩ := Finset.mem_image.mp h
      have hj' := (Finset.mem_Ico.mp hj).2
      have := (rows_disj p st st ⟨j, by omega⟩ ⟨n, by omega⟩ (show j < nM st by omega) (show n < nM st by omega) e).2
      have := Fin.mk.inj_iff.mp this
      omega
    rw [bs_put (Nat.zero_le n), ih (by omega),
      show (Finset.Ico 0 (n + 1)).image (fun j => row st j p) = insert (row st n p) ((Finset.Ico 0 n).image (fun j => row st j p)) from by
        rw [show Finset.Ico 0 (n + 1) = insert n (Finset.Ico 0 n) from by ext i; simp only [Finset.mem_insert, Finset.mem_Ico]; omega,
          Finset.image_insert],
      bigSep_insert hni]
    rfl

set_option maxRecDepth 100000 in
theorem rows_split : ∀ p : Fin 32, (Finset.univ : Finset (Fin 32))
      = insert p ((Finset.Ico 0 (nM 0)).image (fun j => row 0 j p) ∪ (Finset.Ico 0 (nM 1)).image (fun j => row 1 j p))
    ∧ p ∉ (Finset.Ico 0 (nM 0)).image (fun j => row 0 j p) ∪ (Finset.Ico 0 (nM 1)).image (fun j => row 1 j p)
    ∧ Disjoint ((Finset.Ico 0 (nM 0)).image (fun j => row 0 j p)) ((Finset.Ico 0 (nM 1)).image (fun j => row 1 j p)) := by
  decide +kernel

theorem rows_all (Φ : Fin 32 → sProp 𝕄) (p : Fin 32) :
    bigSep Finset.univ Φ = iprop(Φ p ∗ bigSep (Finset.Ico 0 (nM 0)) (fun j => Φ (row 0 j p)) ∗ bigSep (Finset.Ico 0 (nM 1)) (fun j => Φ (row 1 j p))) := by
  obtain ⟨h1, h2, h3⟩ := rows_split p
  rw [row_family (F := F) 0 Φ p _ (le_refl _), row_family (F := F) 1 Φ p _ (le_refl _), h1, bigSep_insert h2, bigSep_union h3]
  rfl

/-! ## The barrier -/

variable (Y : Dev nD → Vec F S128x2048 .f32)
variable (κ : GSem nD τ sig → ℕ) (ιs : Dev nD × Fin 4 → ℕ)

/-- Giving a direction's two slots to the neighbour that writes them. -/
theorem lend : iprop(invs (F := F) Y κ ιs ∗ slotAny (F := F) c st 0 ∗ slotAny (F := F) c st 1
      ∗ readerAt (ES (F := F)) (c, sidx st 0) 0 ∗ readerAt (ES (F := F)) (c, sidx st 1) 0)
    ⊢ |={Set.univ}=> iprop((readerAt (ES (F := F)) (c, sidx st 0) 1 ∗ readerAt (ES (F := F)) (c, sidx st 1) 1)
        ∗ released (ES (F := F)) (c, sidx st 0) 1 ∗ released (ES (F := F)) (c, sidx st 1) 1) := by
  iintro ⟨#HI, H0, H1, R0, R1⟩
  imod (slot_release (ES (F := F)) (Set.mem_univ (ιs (c, sidx st 0))) (slot_excl c st 0) 0) $$ [R0 H0] with ⟨R0, #Hr0⟩
  · isplitr; · iapply (invs_slot Y κ ιs c st 0); iexact HI
    isplitl [R0]; · iexact R0
    iexact H0
  imod (slot_release (ES (F := F)) (Set.mem_univ (ιs (c, sidx st 1))) (slot_excl c st 1) 0) $$ [R1 H1] with ⟨R1, #Hr1⟩
  · isplitr; · iapply (invs_slot Y κ ιs c st 1); iexact HI
    isplitl [R1]; · iexact R1
    iexact H1
  imodintro
  isplitl [R0 R1]
  · isplitl [R0] <;> iassumption
  isplitr <;> iassumption

/-- Telling the device that sends to this one in a direction. -/
theorem bar_signal {sem : Sem sig} {n : Dev nD} {k' : ℤ} {α : Type} {k : PUnit → Prog (TpuEff nD τ sig (Elt F) Λ₀ .tc) α} {Q : α → sProp 𝕄}
    (hsem : sem = barS) (hn : n = src st c) (hk' : k' = ((1 : ℕ) : ℤ)) (O₀ O : CellTallies nD τ sig ℕ)
    (hO : O₀ = O + tallyAt (barG (src st c)) 0 1) :
    iprop(invs (F := F) Y κ ιs ∗ dutyTok (ER (F := F)) (barG (src st c)) 0 st.val ∗ reached (ER (F := F)) (barG (src st c)) 0
        ∗ barPay (F := F) st c ∗ ows (F := F) c O₀)
      ⊢ iprop((ows (F := F) c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) sem k') k) Q) := by
  subst hsem hn hk'
  unfold ows
  iintro ⟨#HI, Ht, #Hr, #Hp, ⟨%W, HO⟩⟩ Hk
  iapply (Rounds.wp_signal 𝒱₀ (ER (F := F)) (rd Y) (c : Thread nD τ) none (dst := ((src st c : Dev nD) : Thread nD τ)) (sem := barS) (r := 0) (d := st.val)
      (κ := κ (barG (src st c))) (by rw [duties_bar]; fin_cases st <;> decide) (show (rd (F := F) Y).amount (barG (src st c)) 0 st.val = 1 from rfl) 0 O hO)
    $$ [HO Ht]
  · isplitr; · iapply (invs_cell Y κ ιs (bar_mem (src st c))); iexact HI
    isplitl [HO]; · iexact HO
    isplitl [Ht]; · iexact Ht
    isplitr
    · iapply (show barPay (F := F) st c ⊢ (rd (F := F) Y).payload (barG (src st c)) 0 st.val from Entails.of_eq (by
        fin_cases st
        · exact (congrArg (barPay (F := F) 0) (dst_src 0 c)).symm
        · exact (congrArg (barPay (F := F) 1) (dst_src 1 c)).symm))
      iexact Hp
    iexact Hr
  iintro HO
  iapply Hk
  iexists W; iexact HO

theorem bar_wait {sem : Sem sig} {k' : ℕ} {α : Type} {k : PUnit → Prog (TpuEff nD τ sig (Elt F) Λ₀ .tc) α} {Q : α → sProp 𝕄}
    (hsem : sem = barS) (hk' : k' = 2) (O : CellTallies nD τ sig ℕ)
    (hW : (levAts L lv : sProp 𝕄) ⊢ MayWait (c : Thread nD τ) (.reg barS) 0 O) :
    iprop(invs (F := F) Y κ ιs ∗ levAts L lv ∗ atPos (ER (F := F)) (barG c) 0 ∅ 0 ∗ cred (tallyAt (barG c) 0 2) ∗ ows (F := F) c O)
      ⊢ iprop(((atPos (ER (F := F)) (barG c) 1 ∅ 0 ∗ ows (F := F) c O ∗ barPay (F := F) 0 (dst 0 c) ∗ barPay (F := F) 1 (dst 1 c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem k') k) Q) := by
  subst hsem hk'
  unfold ows
  iintro ⟨#HI, #Hlev, Hat, Hc, ⟨%W, HO⟩⟩ Hk
  iapply (Rounds.wp_wait_rest_token 𝒱₀ (ER (F := F)) (rd Y) (c : Thread nD τ) none (κ := κ (barG c))
      (wpE_semWait_eq 𝒱₀ (c : Thread nD τ) none Set.univ) (Set.mem_univ _) 0 (O := O) (W := W) (R := 0) (m := 0) (T := ∅)
      (by rw [expect_bar])) $$ [Hc HO Hat]
  · isplitr; · iapply (invs_cell Y κ ιs (bar_mem c)); iexact HI
    isplitl [Hc]; · iexact Hc
    isplitl [HO]; · iexact HO
    isplitr; · iapply hW; iexact Hlev
    iexact Hat
  iintro ⟨HO, Hat, -, Hpay⟩
  ihave Hp := (Entails.of_eq (show bigSep ((rd (F := F) Y).duties (barG c) 0 \ ∅) (fun d => (rd (F := F) Y).payload (barG c) 0 d)
      = iprop(barPay (F := F) 0 (dst 0 c) ∗ barPay (F := F) 1 (dst 1 c)) from by
    rw [Finset.sdiff_empty, duties_bar, bigSep_insert (by decide), bigSep_singleton, payload_bar0, payload_bar1]; rfl)) $$ Hpay
  iapply Hk
  isplitl [Hat]; · iexact Hat
  isplitl [HO]; · iexists _; iexact HO
  iexact Hp

/-! ## The counters at the end -/

/-- All of one direction's counters at zero, and the barrier's. -/
theorem close_recv (p : Fin 2) : iprop(invs (F := F) Y κ ιs ∗ atPos (ER (F := F)) (recvG c st p) (cnt (nM st) p) ∅ 0)
    ⊢ |={Set.univ}=> (semVal (recvG c st p) 0 : sProp 𝕄) := by
  iintro ⟨#HI, H⟩
  iapply (Rounds.cell_close (ER (F := F)) (rd Y) (Set.mem_univ (κ (recvG c st p))) id (duties_recv_later Y c st p))
  isplitr; · iapply (invs_cell Y κ ιs (recv_mem c st p)); iexact HI
  iexact H
theorem close_send (p : Fin 2) : iprop(invs (F := F) Y κ ιs ∗ atPos (ER (F := F)) (sendG c st p) (cnt (nM st) p) ∅ 0)
    ⊢ |={Set.univ}=> (semVal (sendG c st p) 0 : sProp 𝕄) := by
  iintro ⟨#HI, H⟩
  iapply (Rounds.cell_close (ER (F := F)) (rd Y) (Set.mem_univ (κ (sendG c st p))) id (duties_send_later Y c st p))
  isplitr; · iapply (invs_cell Y κ ιs (send_mem c st p)); iexact HI
  iexact H
theorem close_cr : iprop(invs (F := F) Y κ ιs ∗ atPos (ER (F := F)) (crG c st) 1 ∅ 0)
    ⊢ |={Set.univ}=> (semVal (crG c st) 0 : sProp 𝕄) := by
  iintro ⟨#HI, H⟩
  iapply (Rounds.cell_close (ER (F := F)) (rd Y) (Set.mem_univ (κ (crG c st))) id (duties_cr_later Y c st))
  isplitr; · iapply (invs_cell Y κ ιs (cr_mem c st)); iexact HI
  iexact H
theorem close_bar : iprop(invs (F := F) Y κ ιs ∗ atPos (ER (F := F)) (barG c) 1 ∅ 0)
    ⊢ |={Set.univ}=> (semVal (barG c) 0 : sProp 𝕄) := by
  iintro ⟨#HI, H⟩
  iapply (Rounds.cell_close (ER (F := F)) (rd Y) (Set.mem_univ (κ (barG c))) id (duties_bar_later Y c))
  isplitr; · iapply (invs_cell Y κ ιs (bar_mem c)); iexact HI
  iexact H

end Cert.GatherProof
-- ==== Proof.Gather.Open.lean ====
/-
  The kernel up to its ring loop: the words read, the products, the barrier, the first message of each direction.
-/
module

public import proofs.«01_k».proof.Proof.Gather.Start

@[expose] public section

noncomputable section

namespace Cert.GatherProof

open Cert.GatherIdeal Cert.GatherIdeal.Gen
open Cert.RingProof (cyc pos pos_cyc cyc_pos posEquiv nxt prv dst src src_dst dst_src word w0 w1 w2 sidx par)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (Y : Dev nD → Vec F S128x2048 .f32)
variable (κ : GSem nD τ sig → ℕ) (ιs : Dev nD × Fin 4 → ℕ)
variable (c : Dev nD) (st : Fin 2)

/-- The words a device reads: its position, its left neighbour, its right neighbour. -/
def idsV : (cc0_stg1_0 : Ref sig .tc).ty.Contents (Elt F) :=
  fun i => if (i (0 : Fin 1)).val = 0 then w0 c else if (i (0 : Fin 1)).val = 1 then w1 c else w2 c

/-- One word read. -/
theorem word_load {s : Shape} {e : EltTy} {M : Memref sig .tc .smem s e} {r : Rect s} {h1 : r.shape.numel = 1} {hp : e.packing = 1}
    {α : Type} {k : Elt F e → Prog (TpuEff nD τ sig (Elt F) Λ₀ .tc) α} {Q : α → sProp 𝕄} {f : M.view.ty.Contents (Elt F)} (v : Elt F e)
    (hv : (M.access r).read (Elt F) f (Shape.Idx.first (h1.symm ▸ Nat.one_pos)) = v) :
    (M.view.loc (c : Thread nD τ) ↦{fullShare} f : sProp 𝕄)
      ⊢ iprop(((M.view.loc (c : Thread nD τ) ↦{fullShare} f)
            -∗ wp frame (wpE (defs₀ (F := F)) 𝒱₀ (c : Thread nD τ) none) Set.univ (k v) Q)
          -∗ wp frame (wpE (defs₀ (F := F)) 𝒱₀ (c : Thread nD τ) none) Set.univ (smemLoad M r h1 hp >>= k) Q) := by
  subst hv
  simp only [smemLoad, smemLoadElt, Prog.bind_op, Prog.bind_ret]
  iintro H Hk
  iapply (wp_load_rect 𝒱₀ (c : Thread nD τ) none Set.univ (m := M) (r := r) (Finset.subset_univ _)) $$ H
  iintro H
  iapply Hk; iexact H

theorem two_zero : (![0, 0] : Fin 2 → ℕ) = fun _ => 0 := funext fun a => by fin_cases a <;> rfl

/-- The device's block read whole. -/
theorem y_load {hb : ∀ a, (![0, 0] : Fin 2 → ℕ) a + S128x2048.size a ≤ S128x2048.size a} {hl : _} {α : Type}
    {k : Vec F S128x2048 .f32 → Prog (TpuEff nD τ sig (Elt F) Λ₀ .tc) α} {Q : α → sProp 𝕄} (w : Vec F S128x2048 .f32) :
    (stg c cc0_stg0_0 w : sProp 𝕄)
      ⊢ iprop((stg c cc0_stg0_0 w -∗ wp frame (wpE (defs₀ (F := F)) 𝒱₀ (c : Thread nD τ) none) Set.univ (k w) Q)
          -∗ wp frame (wpE (defs₀ (F := F)) 𝒱₀ (c : Thread nD τ) none) Set.univ
            (.op (.load yM (Rect.unit (s := S128x2048) ![0, 0] S128x2048.size hb).toLoadRect hl) k) Q) := by
  have hr := Memref.readAt_unit_zero (Elt F) cc0_stg0_0 two_zero hb w
  iintro H Hk
  iapply (wp_load 𝒱₀ (c : Thread nD τ) none Set.univ (m := yM) (Finset.subset_univ _)) $$ H; iintro H
  ihave Hk := (Entails.of_eq (congrArg (fun v => iprop(stg c cc0_stg0_0 w -∗ wp frame (wpE (defs₀ (F := F)) 𝒱₀ (c : Thread nD τ) none) Set.univ (k v) Q)) hr.symm)) $$ Hk
  iapply Hk; iexact H

/-- A block of the accumulator loaded, which is not used, and stored. -/
theorem chunk_store {q : Fin 32} {o o' : Fin 2 → ℕ} {ho1 : _} {ho1' : _} {l1 : _} {x1 : _} {x2 : _}
    {α : Type} {k : PUnit → Prog (TpuEff nD τ sig (Elt F) Λ₀ .tc) α} {Q : α → sProp 𝕄}
    (ho : o = ![q.val * 128, 0]) (ho' : o' = ![q.val * 128, 0]) (V : FVec F S128x2048 .bf16) :
    chunkAny (F := F) c q
      ⊢ iprop((chunkIs c q V -∗ wp frame (wpE (defs₀ (F := F)) 𝒱₀ (c : Thread nD τ) none) Set.univ (k ⟨⟩) Q)
          -∗ wp frame (wpE (defs₀ (F := F)) 𝒱₀ (c : Thread nD τ) none) Set.univ
            (.op (.load accM (Rect.unit (s := S4096x2048) o S128x2048.size ho1).toLoadRect l1) fun _ =>
             .op (.store accM (Rect.unit (s := S4096x2048) o' S128x2048.size ho1') V Finset.univ x1 x2) k) Q) := by
  subst ho ho'
  unfold chunkAny chunkIs owns
  iintro ⟨%_, %f, -, Ha⟩ Hk
  iapply (wp_load_rect 𝒱₀ (c : Thread nD τ) none Set.univ (m := accM) (r := chunkRect q) (Finset.Subset.refl _)) $$ Ha
  iintro Ha
  iapply (wp_store 𝒱₀ (c : Thread nD τ) none Set.univ (m := accM) (r := chunkRect q) (View.setOn_subset_set _ _)) $$ Ha
  iintro Ha
  iapply Hk
  iexists ((accM.access (chunkRect q)).write (Elt F) f V Finset.univ)
  isplitr
  · ipureintro
    exact View.read_write_univ (v := accM.access (chunkRect q)) _ _
  iexact Ha

/-! ## What the kernel starts with -/

/-- For one direction. -/
def startDir : sProp 𝕄 :=
  iprop(RV (F := F) c st 0 ∗ SP (F := F) c st 0 ∗ TK (F := F) c st 0
    ∗ (atPos (ER (F := F)) (crG c st) 0 ∅ 0 ∗ bigSep (Finset.Ico 0 (nCr st)) (fun j => cred (tallyAt (crG c st) j 1)))
    ∗ bigSep (Finset.Ico 0 (nCr st)) (fun j => dutyTok (ER (F := F)) (crG (src st c) st) 0 j)
    ∗ (readerAt (ES (F := F)) (c, sidx st 0) 0 ∗ readerAt (ES (F := F)) (c, sidx st 1) 0)
    ∗ (reached (ER (F := F)) (recvG c st 0) 0 ∗ reached (ER (F := F)) (recvG c st 1) 0) ∗ reached (ER (F := F)) (crG c st) 0)
/-- For the barrier. -/
def startBar : sProp 𝕄 :=
  iprop((dutyTok (ER (F := F)) (barG (src 0 c)) 0 0 ∗ reached (ER (F := F)) (barG (src 0 c)) 0)
    ∗ (dutyTok (ER (F := F)) (barG (src 1 c)) 0 1 ∗ reached (ER (F := F)) (barG (src 1 c)) 0)
    ∗ atPos (ER (F := F)) (barG c) 0 ∅ 0 ∗ cred (tallyAt (barG c) 0 2))

/-- One direction after the barrier. -/
def ready0 : sProp 𝕄 :=
  iprop(RV (F := F) c st 0 ∗ SP (F := F) c st 0 ∗ TK (F := F) c st 0
    ∗ (atPos (ER (F := F)) (crG c st) 0 ∅ 0 ∗ bigSep (Finset.Ico 0 (nCr st)) (fun j => cred (tallyAt (crG c st) j 1)))
    ∗ bigSep (Finset.Ico 0 (nCr st)) (fun j => dutyTok (ER (F := F)) (crG (src st c) st) 0 j)
    ∗ (readerAt (ES (F := F)) (c, sidx st 0) 1 ∗ readerAt (ES (F := F)) (c, sidx st 1) 1))

theorem opened : iprop(invs (F := F) Y κ ιs ∗ startDir (F := F) c st ∗ rsAny (F := F) c st ∗ reached (ER (F := F)) (crG c (1 - st)) 0)
    ⊢ |={Set.univ}=> iprop(ready0 (F := F) c st ∗ barPay (F := F) st c) := by
  unfold startDir ready0 barPay
  iintro ⟨#HI, ⟨H1, H2, H3, H4, H5, ⟨R0, R1⟩, ⟨#Hr0, #Hr1⟩, -⟩, Hrs, #Hcr⟩
  ihave Hs := (rs_cut (F := F) c st) $$ Hrs
  icases Hs with ⟨S0, S1⟩
  imod (lend c st Y κ ιs) $$ [S0 S1 R0 R1] with ⟨R, #Hl0, #Hl1⟩
  · isplitr; · iexact HI
    isplitl [S0]; · iexact S0
    isplitl [S1]; · iexact S1
    isplitl [R0] <;> iassumption
  imodintro
  isplitl [H1 H2 H3 H4 H5 R]
  · isplitl [H1]; · iexact H1
    isplitl [H2]; · iexact H2
    isplitl [H3]; · iexact H3
    isplitl [H4]; · iexact H4
    isplitl [H5]; · iexact H5
    iexact R
  isplitr
  · isplitr <;> iassumption
  isplitr
  · isplitr <;> iassumption
  iexact Hcr

theorem cr_of_start : startDir (F := F) c st ⊢ reached (ER (F := F)) (crG c st) 0 := by
  unfold startDir
  iintro ⟨-, -, -, -, -, -, -, H⟩
  iexact H

def pre3 : sProp 𝕄 :=
  iprop(invs (F := F) Y κ ιs ∗ levAts L lv ∗ stg c cc0_stg0_0 (Y c) ∗ stg c cc0_stg1_0 (idsV (F := F) c)
    ∗ (blockAny (F := F) c (pos c) ∗ chunkAny (F := F) c (pos c)) ∗ (startDir (F := F) c 0 ∗ rsAny (F := F) c 0) ∗ (startDir (F := F) c 1 ∗ rsAny (F := F) c 1)
    ∗ startBar (F := F) c ∗ ows (F := F) c (ow₀ c))
def post3 : sProp 𝕄 :=
  iprop(stg c cc0_stg0_0 (Y c) ∗ stg c cc0_stg1_0 (idsV (F := F) c)
    ∗ (blockIs c (pos c) (k0_pay3 (Y c)) ∗ chunkIs c (pos c) (own Y c))
    ∗ (ready0 (F := F) c 0 ∗ barPay (F := F) 0 (dst 0 c)) ∗ (ready0 (F := F) c 1 ∗ barPay (F := F) 1 (dst 1 c))
    ∗ atPos (ER (F := F)) (barG c) 1 ∅ 0 ∗ ows (F := F) c (ow 0 0 0 0 c))

theorem start_wait : (levAts L lv : sProp 𝕄) ⊢ MayWait (c : Thread nD τ) (.reg barS) 0 (ow 0 0 0 0 c) :=
  mayWait_ow c (.reg barS) 0 0 0 0 0 (by decide) (by
    have : levOf (.reg barS) 0 = 1 := rfl
    rw [this]; decide)

theorem part3_run :
    pre3 Y κ ιs c ⊢ wp frame (wpE (defs₀ (F := F)) 𝒱₀ (c : Thread nD τ) none) Set.univ
      (k0_part3 yM (Memref.isWhole_whole _) idM (Memref.isWhole_whole _) oM (Memref.isWhole_whole _) accM (Memref.isWhole_whole _)
        (rsM 0) (Memref.isWhole_whole _) (rsM 1) (Memref.isWhole_whole _) cc0_scratch3 cc0_scratch4 cc0_scratch5)
      (fun r => iprop(⌜r = ⟨w0 c, chk3_word (pos c), w1 c, chk1_word (prv c), w2 c, chk2_word (nxt c)⟩⌝ ∗ post3 Y c)) := by
  simp only [k0_part3_eq_skeleton]
  unfold k0_part3_skel pre3
  simp only [Prog.lift, Prog.bind_op, Prog.bind_ret, Prog.pure_eq_ret, Prog.bind_assoc, semSignalWord, semWaitWord]
  iintro ⟨#HI, #Hlev, Hx, Hid, ⟨Hob, Hac⟩, ⟨HR, HrsR⟩, ⟨HL, HrsL⟩, HB, HO⟩
  iapply (word_load c (M := idM) (w0 c) rfl) $$ Hid; iintro Hid
  simp only [wp_assume_of _ _ _ _ (d := k0_chk3.dec _) (chk3_word (pos c))]
  iapply (word_load c (M := idM) (w1 c) rfl) $$ Hid; iintro Hid
  simp only [wp_assume_of _ _ _ _ (d := k0_chk1.dec _) (chk1_word (prv c))]
  iapply (word_load c (M := idM) (w2 c) rfl) $$ Hid; iintro Hid
  simp only [wp_assume_of _ _ _ _ (d := k0_chk2.dec _) (chk2_word (nxt c))]
  ihave #HcR := (cr_of_start (F := F) c 0) $$ HR
  ihave #HcL := (cr_of_start (F := F) c 1) $$ HL
  imod (opened Y κ ιs c 0) $$ [HR HrsR] with ⟨HR, #HbR⟩
  · isplitr; · iexact HI
    isplitl [HR]; · iexact HR
    isplitl [HrsR]; · iexact HrsR
    iexact HcL
  imod (opened Y κ ιs c 1) $$ [HL HrsL] with ⟨HL, #HbL⟩
  · isplitr; · iexact HI
    isplitl [HL]; · iexact HL
    isplitl [HrsL]; · iexact HrsL
    iexact HcR
  unfold startBar
  icases HB with ⟨⟨Ht0, #Hr0⟩, ⟨Ht1, #Hr1⟩, Hat, Hc⟩
  iapply (bar_signal c 0 Y κ ιs bar_sem (Fin.ext (dev1_word (prv c))) rfl (ow₀ c) (ow 0 0 0 0 c + tallyAt (barG (nxt c)) 0 1) rfl) $$ [Ht0 HO]
  · isplitr; · iexact HI
    isplitl [Ht0]; · iexact Ht0
    isplitr; · iexact Hr0
    isplitr; · iexact HbR
    iexact HO
  iintro HO
  iapply (bar_signal c 1 Y κ ιs bar_sem (Fin.ext (dev2_word (nxt c))) rfl (ow 0 0 0 0 c + tallyAt (barG (nxt c)) 0 1) (ow 0 0 0 0 c) rfl) $$ [Ht1 HO]
  · isplitr; · iexact HI
    isplitl [Ht1]; · iexact Ht1
    isplitr; · iexact Hr1
    isplitr; · iexact HbL
    iexact HO
  iintro HO
  iapply (bar_wait c Y κ ιs bar_sem rfl (ow 0 0 0 0 c) (start_wait (F := F) c)) $$ [Hat Hc HO]
  · isplitr; · iexact HI
    isplitr; · iexact Hlev
    isplitl [Hat]; · iexact Hat
    isplitl [Hc]; · iexact Hc
    iexact HO
  iintro ⟨Hat, HO, #HpR, #HpL⟩
  iapply (y_load c (Y c)) $$ Hx; iintro Hx
  iapply (block_store c (off1_word (pos c)) (off1_word (pos c)) (k0_pay3 (Y c))) $$ Hob; iintro Hob
  iapply (chunk_store c (off1_word (pos c)) (off1_word (pos c)) (k0_pay4 (Y c))) $$ Hac; iintro Hac
  rw [wp_ret]; imodintro
  isplitr; · ipureintro; rfl
  unfold post3
  isplitl [Hx]; · iexact Hx
  isplitl [Hid]; · iexact Hid
  isplitl [Hob Hac]
  · isplitl [Hob]; · iexact Hob
    iexact Hac
  isplitl [HR]
  · isplitl [HR]; · iexact HR
    iexact HpR
  isplitl [HL]
  · isplitl [HL]; · iexact HL
    iexact HpL
  isplitl [Hat]; · iexact Hat
  iexact HO

/-! ## The first message of each direction -/

theorem sendOk_of_bar (e : Dev nD) : barPay (F := F) st e ⊢ iprop(sendOk (F := F) st e 0 ∗ sendOk (F := F) st e 1 ∗ reached (ER (F := F)) (crG e (1 - st)) 0) := by
  unfold barPay sendOk
  iintro ⟨H0, H1, H2⟩
  isplitl [H0]; · iexact H0
  isplitl [H1]; · iexact H1
  iexact H2

theorem dir_first : core (F := F) Y c st 0 1 0 0 0 0 ⊢ Dir Y c st 0 := by
  have hc := nCr_add st
  unfold Dir KS BK sent
  rw [show min (0 + 1) (nM st) = 1 from by omega, show min (0 - 1) (nCr st) = 0 from by omega, if_pos rfl, if_pos rfl]
  rw [Finset.Ico_eq_empty (by omega), bigSep_empty]
  iintro H
  isplitl [H]; · iexact H
  isplitr <;> iempintro

theorem first_send {n' : Dev nD} {sS sR : DmaSem sig} {o : Fin 2 → ℕ} {ho' : ∀ a, o a + S128x2048.size a ≤ S4096x2048.size a}
    {rs : Memref sig .tc .vmem S2x128x2048 .bf16} {o3 : Fin 3 → ℕ} {ho3' : ∀ a, o3 a + S1x128x2048.size a ≤ S2x128x2048.size a}
    {hq : S1x128x2048.Squeezes S128x2048}
    {hr1 : ∀ a, (Rect.unit (s := S4096x2048) o S128x2048.size ho').stride a = 1}
    {hr3 : ∀ a, (Rect.unit (s := S2x128x2048) o3 S1x128x2048.size ho3').stride a = 1}
    {hx : _} {hs : _} {hd : _} {hp : _}
    {α : Type} {k : PUnit → Prog (TpuEff nD τ sig (Elt F) Λ₀ .tc) α} {Q : α → sProp 𝕄}
    (hn' : n' = dst st c) (hsS : sS = sendS (sidx st (par 0))) (hsR : sR = recvS (sidx st (par 0)))
    (ho : o = ![(pos c).val * 128, 0]) (hrs : rs = rsM st) (ho3 : o3 = ![(par 0).val, 0, 0])
    (O₀ O : CellTallies nD τ sig ℕ) (hO : O₀ = O + tallyAt (recvG (dst st c) st (par 0)) 0 N) :
    iprop(invs (F := F) Y κ ιs ∗ (ready0 (F := F) c st ∗ barPay (F := F) st (dst st c)) ∗ reached (ER (F := F)) (crG (src st c) st) 0
        ∗ ownPart (F := F) Y c st ∗ FR (F := F) c st 0 ∗ ows (F := F) c O₀)
      ⊢ iprop(((Dir (F := F) Y c st 0 ∗ ows (F := F) c O)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (accM.slice (Rect.unit (s := S4096x2048) o S128x2048.size ho') hr1)
              (.remote (Dev.tc n') ((rs.slice (Rect.unit (s := S2x128x2048) o3 S1x128x2048.size ho3') hr3).squeeze S128x2048 hq) (.dma sS) hx)
              (.dma sR) hs hd hp) k) Q) := by
  have hpos : 0 < nM st := (by decide : ∀ st, 0 < nM st) st
  have hpc : 0 < nCr st := (by decide : ∀ st, 0 < nCr st) st
  subst ho
  unfold ready0
  iintro ⟨#HI, ⟨⟨HRV, HSP, HTK, ⟨Hat, Hcs⟩, Hts, ⟨R0, R1⟩⟩, #Hb⟩, #Hcr, Hch, Hchs, HO⟩ Hk
  ihave #Hok := (sendOk_of_bar (F := F) st (dst st c)) $$ Hb
  icases Hok with ⟨#Hok0, #Hok1, -⟩
  ihave Hch := (show ownPart Y c st ⊢ owns (c : Thread nD τ) (chunkM (pos c)) (half st) (msg Y st 0 c) from .rfl) $$ Hch
  iapply (send_step Y κ ιs c st 0 0 (le_refl _) (by omega) hpos hn' hsS hsR (srcM := chunkM (pos c)) (qs := half st) .rfl hrs ho3 O₀ O hO) $$ [HSP HTK Hch HO]
  · isplitr; · iexact HI
    isplitl [HSP HTK]
    · unfold SD IFL
      isplitl [HSP]; · iexact HSP
      isplitl [HTK]; · iexact HTK
      rw [Finset.Ico_self, bigSep_empty]; iempintro
    isplitr; · iexact Hok0
    isplitl [Hch]; · iexact Hch
    iexact HO
  iintro ⟨HSD, HO⟩
  iapply Hk
  isplitr [HO]
  · iapply (dir_first Y c st)
    unfold core
    isplitl [HRV]; · iexact HRV
    isplitl [HSD]; · iexact HSD
    isplitl [Hat Hcs]
    · unfold CR CRp
      rw [if_pos hpc]
      isplitl [Hat]
      · iexists ∅
        isplitl [Hat]; · iexact Hat
        rw [bigSep_empty]; iempintro
      iexact Hcs
    isplitl [Hts R0 R1]
    · unfold SG
      isplitl [Hts]; · iexact Hts
      isplitr; · iexact Hcr
      isplitl [R0]; · iexact R0
      isplitl [R1]; · iexact R1
      dsimp only [prevFact]; iempintro
    isplitl [Hchs]; · iexact Hchs
    isplitr
    · unfold OD; rw [Finset.Ico_self, bigSep_empty]; iempintro
    iexact Hok1
  iexact HO

theorem ow_right (c : Dev nD) : ow 0 0 0 0 c = ow 1 0 0 0 c + tallyAt (recvG (dst 0 c) 0 (par 0)) 0 N := by
  rw [← owX_zero c 0 0 0 0, ← owX_zero c 1 0 0 0]; exact owX_msg c 0 0 0 0 0 (by decide)
theorem ow_left (c : Dev nD) : ow 1 0 0 0 c = ow 1 1 0 0 c + tallyAt (recvG (dst 1 c) 1 (par 0)) 0 N := by
  rw [← owX_one c 0 0 1 0, ← owX_one c 1 0 1 0]; exact owX_msg c 1 0 0 1 0 (by decide)

/-- The device's own chunk lent to both directions, and back. -/
theorem own_lend : chunkIs c (pos c) (own Y c) ⊢ iprop(ownPart Y c 0 ∗ ownPart Y c 1) := by
  unfold ownPart half
  rw [if_pos rfl, if_neg (by decide)]
  exact (owns_halves (Val := Elt F) (c : Thread nD τ) (chunkM (pos c)) fullShare (own Y c)).1
theorem own_back : iprop(ownPart Y c 0 ∗ ownPart Y c 1) ⊢ chunkIs c (pos c) (own Y c) := by
  unfold ownPart half
  rw [if_pos rfl, if_neg (by decide)]
  exact (owns_halves (Val := Elt F) (c : Thread nD τ) (chunkM (pos c)) fullShare (own Y c)).2

end Cert.GatherProof
-- ==== Proof.Gather.Body.lean ====
/-
  The whole kernel: from what it starts with to its result, with every buffer whole again and every counter at zero.
-/
module

public import proofs.«01_k».proof.Proof.Gather.Open

@[expose] public section

noncomputable section

namespace Cert.GatherProof

open Cert.GatherIdeal Cert.GatherIdeal.Gen
open Cert.RingProof (cyc pos pos_cyc cyc_pos posEquiv nxt prv dst src src_dst dst_src word w0 w1 w2 sidx par)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (Y : Dev nD → Vec F S128x2048 .f32)
variable (κ : GSem nD τ sig → ℕ) (ιs : Dev nD × Fin 4 → ℕ)
variable (c : Dev nD) (st : Fin 2)

/-- A part of the kernel, run by a lemma of its own. -/
theorem run_part {α β : Type} {p : Prog (TpuEff nD τ sig (Elt F) Λ₀ .tc) α} {k : α → Prog (TpuEff nD τ sig (Elt F) Λ₀ .tc) β} {P : sProp 𝕄}
    {R : α → sProp 𝕄} {Q : β → sProp 𝕄} (h : P ⊢ wp frame (wpE (defs₀ (F := F)) 𝒱₀ (c : Thread nD τ) none) Set.univ p R) :
    P ⊢ iprop((∀ a, R a -∗ wp frame (wpE (defs₀ (F := F)) 𝒱₀ (c : Thread nD τ) none) Set.univ (k a) Q)
        -∗ wp frame (wpE (defs₀ (F := F)) 𝒱₀ (c : Thread nD τ) none) Set.univ (p >>= k) Q) := by
  iintro HP Hk
  rw [wp_bind]
  iapply wp_wand_r
  isplitl [HP]; · iapply h; iexact HP
  iexact Hk

/-! ## One direction, its messages all taken in -/

/-- Both receive counters and the credit counter at their ends, both slots back. -/
def done : sProp 𝕄 :=
  iprop((atPos (ER (F := F)) (recvG c st 0) (cnt (nM st) 0) ∅ 0 ∗ atPos (ER (F := F)) (recvG c st 1) (cnt (nM st) 1) ∅ 0)
    ∗ atPos (ER (F := F)) (crG c st) 1 ∅ 0 ∗ (slotAny (F := F) c st 0 ∗ slotAny (F := F) c st 1))

theorem recv_done : RV (F := F) c st (nM st)
    ⊢ iprop(atPos (ER (F := F)) (recvG c st 0) (cnt (nM st) 0) ∅ 0 ∗ atPos (ER (F := F)) (recvG c st 1) (cnt (nM st) 1) ∅ 0) := by
  unfold RV
  match st with
  | 0 => iintro ⟨H1, H0, -⟩; isplitl [H0]; · iexact H0
         iexact H1
  | 1 => iintro ⟨H0, H1, -⟩; isplitl [H0]; · iexact H0
         iexact H1

theorem slots_done : KS (F := F) c st (nM st) ⊢ iprop(slotAny (F := F) c st 0 ∗ slotAny (F := F) c st 1) := by
  unfold KS
  rw [bs_take (by have := nCr_add st; omega), bs_take (by have := nCr_add st; omega)]
  match st with
  | 0 => iintro ⟨H1, H0, -⟩; isplitl [H0]; · iexact H0
         iexact H1
  | 1 => iintro ⟨H0, H1, -⟩; isplitl [H0]; · iexact H0
         iexact H1

/-- Both send counters at their ends. -/
theorem send_done : SP (F := F) c st (nM st)
    ⊢ iprop(atPos (ER (F := F)) (sendG c st 0) (cnt (nM st) 0) ∅ 0 ∗ atPos (ER (F := F)) (sendG c st 1) (cnt (nM st) 1) ∅ 0) := by
  unfold SP
  match st with
  | 0 => iintro ⟨H1, H0, -, -⟩; isplitl [H0]; · iexact H0
         iexact H1
  | 1 => iintro ⟨H0, H1, -, -⟩; isplitl [H0]; · iexact H0
         iexact H1

theorem finish : Dir Y c st (nM st)
    ⊢ iprop(done (F := F) c st
      ∗ (atPos (ER (F := F)) (sendG c st 0) (cnt (nM st) 0) ∅ 0 ∗ atPos (ER (F := F)) (sendG c st 1) (cnt (nM st) 1) ∅ 0)
      ∗ ownPart Y c st ∗ OD (F := F) Y c st (nM st)) := by
  have hc := nCr_add st
  have h0 : ¬ nM st = 0 := by omega
  unfold Dir core done SD sent BK
  rw [if_neg h0, if_neg h0, show min (nM st + 1) (nM st) = nM st from by omega, show min (nM st - 1) (nCr st) = nCr st from by omega]
  iintro ⟨⟨HR, ⟨HS, -, -⟩, HC, -, -, HD, -⟩, HB, HK⟩
  isplitl [HR HC HK]
  · isplitl [HR]; · iapply (recv_done (F := F) c st); iexact HR
    isplitl [HC]
    · unfold CR CRp
      rw [if_neg (lt_irrefl _)]
      icases HC with ⟨HC, -⟩
      iexact HC
    iapply (slots_done (F := F) c st); iexact HK
  isplitl [HS]; · iapply (send_done c st); iexact HS
  isplitl [HB]; · iexact HB
  iexact HD

/-! ## The counters -/

def zeros : sProp 𝕄 :=
  iprop((semVal (recvG c st 0) 0 ∗ semVal (recvG c st 1) 0) ∗ (semVal (sendG c st 0) 0 ∗ semVal (sendG c st 1) 0) ∗ semVal (crG c st) 0)

theorem close_dir : iprop(invs (F := F) Y κ ιs
      ∗ (atPos (ER (F := F)) (recvG c st 0) (cnt (nM st) 0) ∅ 0 ∗ atPos (ER (F := F)) (recvG c st 1) (cnt (nM st) 1) ∅ 0)
      ∗ atPos (ER (F := F)) (crG c st) 1 ∅ 0
      ∗ (atPos (ER (F := F)) (sendG c st 0) (cnt (nM st) 0) ∅ 0 ∗ atPos (ER (F := F)) (sendG c st 1) (cnt (nM st) 1) ∅ 0))
    ⊢ |={Set.univ}=> zeros (F := F) c st := by
  unfold zeros
  iintro ⟨#HI, ⟨R0, R1⟩, C, ⟨S0, S1⟩⟩
  imod (close_recv c st Y κ ιs 0) $$ [R0] with R0
  · isplitr; · iexact HI
    iexact R0
  imod (close_recv c st Y κ ιs 1) $$ [R1] with R1
  · isplitr; · iexact HI
    iexact R1
  imod (close_send c st Y κ ιs 0) $$ [S0] with S0
  · isplitr; · iexact HI
    iexact S0
  imod (close_send c st Y κ ιs 1) $$ [S1] with S1
  · isplitr; · iexact HI
    iexact S1
  imod (close_cr c st Y κ ιs) $$ [C] with C
  · isplitr; · iexact HI
    iexact C
  imodintro
  isplitl [R0 R1]
  · isplitl [R0] <;> iassumption
  isplitl [S0 S1]
  · isplitl [S0] <;> iassumption
  iexact C

/-! ## The kernel -/

/-- The blocks of the result a device ends with: its own, and what the others rounded of theirs. -/
def blockV (q : Fin 32) : FVec F S128x2048 .f32 :=
  if q = pos c then k0_pay3 (Y c) else extf .f32 (own Y (cyc q)) bitsLt_bf16_f32
/-- What a device's kernel stores. -/
def outV : Vec F S4096x2048 .f32 := glued (blockV Y c)

theorem blockV_own : blockV Y c (pos c) = k0_pay3 (Y c) := if_pos rfl
theorem blockV_row (j : ℕ) (hj : j < nM st) : blockV Y c (row st j (pos c)) = extf .f32 (msg Y st j (src st c)) bitsLt_bf16_f32 := by
  have h16 := nM_le st
  unfold blockV
  rw [if_neg (rows_ne (pos c) st ⟨j, by omega⟩ hj), msg_from Y st j (by omega) c]

theorem all_blocks : iprop(blockIs c (pos c) (k0_pay3 (Y c)) ∗ OD (F := F) Y c 0 (nM 0) ∗ OD (F := F) Y c 1 (nM 1))
    ⊢ (stg c cc0_stg2_0 (outV Y c) : sProp 𝕄) := by
  have hd (st : Fin 2) : OD (F := F) Y c st (nM st) = bigSep (Finset.Ico 0 (nM st)) (fun j => blockIs (F := F) c (row st j (pos c)) (blockV Y c (row st j (pos c)))) := by
    unfold OD
    exact bigSep_congr fun j hj => by rw [blockV_row Y c st j (Finset.mem_Ico.mp hj).2]
  iintro H
  iapply (out_join (F := F) c (blockV Y c))
  rw [rows_all (F := F) (fun q => blockIs c q (blockV Y c q)) (pos c), hd 0, hd 1, blockV_own]
  iexact H

/-- What the kernel starts with. -/
def kernelPre (f : Vec F S4096x2048 .f32) : sProp 𝕄 :=
  iprop((stg c cc0_stg0_0 (Y c) ∗ stg c cc0_stg1_0 (idsV (F := F) c) ∗ stg c cc0_stg2_0 f)
    ∗ (invs (F := F) Y κ ιs ∗ levAts L lv) ∗ (accAny (F := F) c ∗ rsAny (F := F) c 0 ∗ rsAny (F := F) c 1)
    ∗ (startDir (F := F) c 0 ∗ startDir (F := F) c 1 ∗ startBar (F := F) c) ∗ ows (F := F) c (ow₀ c))
/-- What it ends with. -/
def kernelPost : sProp 𝕄 :=
  iprop((stg c cc0_stg0_0 (Y c) ∗ stg c cc0_stg1_0 (idsV (F := F) c) ∗ stg c cc0_stg2_0 (outV Y c))
    ∗ (accAny (F := F) c ∗ rsAny (F := F) c 0 ∗ rsAny (F := F) c 1)
    ∗ (zeros (F := F) c 0 ∗ zeros (F := F) c 1) ∗ semVal (barG c) 0 ∗ ows (F := F) c 0)

theorem ow_end : ow 17 17 16 16 c = 0 := by
  unfold ow
  rw [owM_zero, owM_zero, owC_zero, owC_zero, add_zero, add_zero] <;> decide

set_option maxHeartbeats 1000000 in
theorem kernel_run (f : Vec F S4096x2048 .f32) :
    kernelPre Y κ ιs c f ⊢ wp frame (wpE (defs₀ (F := F)) 𝒱₀ (c : Thread nD τ) none) Set.univ
      (cc0_body yM (Memref.isWhole_whole _) idM (Memref.isWhole_whole _)
        oM (Memref.isWhole_whole _) accM (Memref.isWhole_whole _)
        (rsM 0) (Memref.isWhole_whole _) (rsM 1) (Memref.isWhole_whole _) cc0_scratch3 cc0_scratch4 cc0_scratch5)
      (fun _ => kernelPost Y c) := by
  simp only [cc0_body_eq_skeleton]
  unfold cc0_body_skel kernelPre
  simp only [Prog.lift, Prog.bind_op, Prog.bind_ret, Prog.pure_eq_ret, Prog.bind_assoc]
  iintro ⟨⟨Hx, Hid, Ho⟩, ⟨#HI, #Hlev⟩, ⟨Hacc, HrsR, HrsL⟩, ⟨HR, HL, HB⟩, HO⟩
  ihave Ho := (out_cut (F := F) c f) $$ Ho
  ihave Ho := (Entails.of_eq (rows_all (F := F) (fun q => blockAny c q) (pos c))) $$ Ho
  icases Ho with ⟨Hob, HfR, HfL⟩
  ihave Hacc := (acc_cut (F := F) c) $$ Hacc
  ihave Hacc := (Entails.of_eq (rows_all (F := F) (fun q => chunkAny c q) (pos c))) $$ Hacc
  icases Hacc with ⟨Hac, HaR, HaL⟩
  iapply (run_part c (part3_run Y κ ιs c))
    $$ [Hx Hid Hob Hac HrsR HrsL HR HL HB HO]
  · unfold pre3
    isplitr; · iexact HI
    isplitr; · iexact Hlev
    isplitl [Hx]; · iexact Hx
    isplitl [Hid]; · iexact Hid
    isplitl [Hob Hac]
    · isplitl [Hob] <;> iassumption
    isplitl [HR HrsR]
    · isplitl [HR] <;> iassumption
    isplitl [HL HrsL]
    · isplitl [HL] <;> iassumption
    isplitl [HB]; · iexact HB
    iexact HO
  iintro %r ⟨%hr, H⟩
  subst hr
  dsimp only
  unfold post3
  icases H with ⟨Hx, Hid, ⟨Hob, Hac⟩, ⟨HR, #HbR⟩, ⟨HL, #HbL⟩, Hbar, HO⟩
  ihave Hac := (own_lend (F := F) Y c) $$ Hac
  icases Hac with ⟨HoR, HoL⟩
  ihave #HkR := (sendOk_of_bar (F := F) 0 (dst 0 c)) $$ HbR
  icases HkR with ⟨-, -, #HcL⟩
  ihave #HkL := (sendOk_of_bar (F := F) 1 (dst 1 c)) $$ HbL
  icases HkL with ⟨-, -, #HcR⟩
  iapply (first_send Y κ ιs c 0 (Fin.ext (dev3_word (nxt c))) (send_sem 0 0 _ rfl _ _) (recv_sem 0 0 _ rfl _ _) (off2_word (pos c)) rfl rfl
    (ow 0 0 0 0 c) (ow 1 0 0 0 c) (ow_right c)) $$ [HR HoR HfR HO]
  · isplitr; · iexact HI
    isplitl [HR]
    · isplitl [HR]; · iexact HR
      iexact HbR
    isplitr; · iexact HcR
    isplitl [HoR]; · iexact HoR
    isplitl [HfR]; · unfold FR; iexact HfR
    iexact HO
  iintro ⟨HR, HO⟩
  iapply (first_send Y κ ιs c 1 (Fin.ext (dev4_word (prv c))) (send_sem 1 0 _ rfl _ _) (recv_sem 1 0 _ rfl _ _) (off2_word (pos c)) rfl rfl
    (ow 1 0 0 0 c) (ow 1 1 0 0 c) (ow_left c)) $$ [HL HoL HfL HO]
  · isplitr; · iexact HI
    isplitl [HL]
    · isplitl [HL]; · iexact HL
      iexact HbL
    isplitr; · iexact HcL
    isplitl [HoL]; · iexact HoL
    isplitl [HfL]; · unfold FR; iexact HfL
    iexact HO
  iintro ⟨HL, HO⟩
  iapply (Scf.wp_for_bind frame (wpE (defs₀ (F := F)) 𝒱₀ c none) Set.univ k0_t1_loop.lb k0_t1_loop.ub k0_t1_loop.st k0_t1_ok _ _
      (fun k _ => between Y κ ιs c k)
      (fun k u => trip Y κ ιs c yM (Memref.isWhole_whole _) idM (Memref.isWhole_whole _)
        (chk3_word (pos c)) (chk1_word (prv c)) (chk2_word (nxt c)) k)) $$ [HR HL HO]
  · unfold between
    isplitr; · iexact HI
    isplitr; · iexact Hlev
    isplitl [HR]; · iexact HR
    isplitl [HL]; · iexact HL
    iexact HO
  iintro %u H
  ihave H := (Entails.of_eq (show between Y κ ιs c (Scf.trips k0_t1_loop.lb k0_t1_loop.ub k0_t1_loop.st) =
      iprop(invs (F := F) Y κ ιs ∗ levAts L lv ∗ Dir (F := F) Y c 0 (nM 0) ∗ Dir (F := F) Y c 1 (nM 1)
        ∗ ows (F := F) c 0) from by
    rw [← ow_end c]; rfl)) $$ H
  icases H with ⟨-, -, HR, HL, HO⟩
  ihave HR := (finish Y c 0) $$ HR
  ihave HL := (finish Y c 1) $$ HL
  unfold done
  icases HR with ⟨⟨RR, CR, SR⟩, SSR, HoR, HdR⟩
  icases HL with ⟨⟨RL, CL, SL⟩, SSL, HoL, HdL⟩
  rw [wp_ret]
  imod (close_dir Y κ ιs c 0) $$ [RR CR SSR] with ZR
  · isplitr; · iexact HI
    isplitl [RR]; · iexact RR
    isplitl [CR]; · iexact CR
    iexact SSR
  imod (close_dir Y κ ιs c 1) $$ [RL CL SSL] with ZL
  · isplitr; · iexact HI
    isplitl [RL]; · iexact RL
    isplitl [CL]; · iexact CL
    iexact SSL
  imod (close_bar c Y κ ιs) $$ [Hbar] with Zb
  · isplitr; · iexact HI
    iexact Hbar
  imodintro
  unfold kernelPost
  isplitl [Hx Hid Hob HdR HdL]
  · isplitl [Hx]; · iexact Hx
    isplitl [Hid]; · iexact Hid
    iapply (all_blocks (F := F) Y c)
    isplitl [Hob]; · iexact Hob
    isplitl [HdR] <;> iassumption
  isplitl [HoR HoL HaR HaL SR SL]
  · isplitl [HoR HoL HaR HaL]
    · iapply (acc_join (F := F) c)
      rw [rows_all (F := F) (fun q => chunkAny c q) (pos c)]
      isplitl [HoR HoL]
      · iapply (chunk_any (F := F) c (pos c))
        iapply (own_back (F := F) Y c)
        isplitl [HoR] <;> iassumption
      isplitl [HaR] <;> iassumption
    isplitl [SR]; · iapply (rs_join (F := F) c 0); iexact SR
    iapply (rs_join (F := F) c 1); iexact SL
  isplitl [ZR ZL]
  · isplitl [ZR] <;> iassumption
  isplitl [Zb]; · iexact Zb
  iexact HO

end Cert.GatherProof
-- ==== Proof.Gather.Words.lean ====
/-
  The words the host computes for the kernel: a device's position along the cycle, and its two neighbours on it.
-/
module

public import proofs.«01_k».proof.Proof.Gather.Body
public import proofs.«01_k».proof.Proof.Gen.GatherIdeal.Regions
public import Idealize.ShloMosaic.Lib.Claim

@[expose] public section

noncomputable section

namespace Cert.GatherProof

open Cert.GatherIdeal Cert.GatherIdeal.Gen
open Cert.RingProof (cyc pos pos_cyc cyc_pos posEquiv nxt prv dst src src_dst dst_src word w0 w1 w2 sidx par)
open Idealize.ShloMosaic
open Idealize.ShloMosaic.TcCoe

variable {F : FTy → Type} [FloatOps F]
variable (m : (ℓ : Loc nD τ sig) → Buf (Elt F) ℓ) (c : Dev nD)

/-- The device's own number, as the host computes it. -/
theorem v4_eq : V1 m c main_v4 = fun _ => word c := by
  unfold_abbrev_sides
  after_results
  funext i
  fin_cases c <;> sl_kernel_rfl

/-- The table of positions. -/
theorem tab_eq : V1 m c main_c = fun i => lit0 (S32.rowMajor i) := by
  unfold_abbrev_sides
  after_results
  rfl

/-- The table of the cycle. -/
theorem cyc_eq : V1 m c main_c_0 = fun i => lit1 (S32.rowMajor i) := by
  unfold_abbrev_sides
  after_results
  rfl

/-- The device's position along the cycle. -/
theorem v5_eq : V2 m c main_v5 = fun _ => w0 c := by
  have h0 : V1 m c main_v4 = fun _ => word c := v4_eq m c
  have h1 : V1 m c main_c = fun i => lit0 (S32.rowMajor i) := tab_eq m c
  generalize hW : V1 m c = W at h0 h1
  show StableHlo.after hostOps0_1 (V1 m c) _ = _
  rw [hW]
  unfold_abbrev_sides
  after_results_simp
  rw [h0, h1]
  simp only [StableHlo.TRef.ofBuf_toBuf]
  funext i
  fin_cases c <;> sl_kernel_rfl

/-- The position before it, as a word that may be below zero. -/
def before (c : Dev nD) : BitVec 32 := w0 c - 1#32
/-- The position after it, as a word that may be past the last. -/
def behind (c : Dev nD) : BitVec 32 := w0 c + 1#32

/-- One place back. -/
theorem v6_eq : V3 m c main_v6 = fun _ => before c := by
  have h0 : V2 m c main_v5 = fun _ => w0 c := v5_eq m c
  generalize hW : V2 m c = W at h0
  show StableHlo.after hostOps0_2 (V2 m c) _ = _
  rw [hW]
  unfold_abbrev_sides
  after_results_simp
  rw [h0]
  funext i
  fin_cases c <;> sl_kernel_rfl

/-- The number of devices, as the host's remainders use it. -/
theorem c4_eq : V3 m c main_c_4 = fun _ => 32#32 := by
  unfold_abbrev_sides
  after_results
  rfl

/-- One place back, around the cycle. -/
theorem v7_eq : V4 m c main_v7 = fun _ => word (pos (prv c)) := by
  have h0 : V3 m c main_v6 = fun _ => before c := v6_eq m c
  have h1 : V3 m c main_c_4 = fun _ => 32#32 := c4_eq m c
  generalize hW : V3 m c = W at h0 h1
  show StableHlo.after hostOps0_3 (V3 m c) _ = _
  rw [hW]
  unfold_abbrev_sides
  after_results_simp
  rw [h0, h1]
  simp only [StableHlo.TRef.ofBuf_toBuf]
  funext i
  fin_cases c <;> sl_kernel_rfl

/-- The device one place back. -/
theorem v8_eq : V5 m c main_v8 = fun _ => w1 c := by
  have h0 : V4 m c main_v7 = fun _ => word (pos (prv c)) := v7_eq m c
  have h1 : V4 m c main_c_0 = fun i => lit1 (S32.rowMajor i) := (V4_of m c main_c_0 (by decide)).trans <| (V3_of m c main_c_0 (by decide)).trans <| (V2_of m c main_c_0 (by decide)).trans <| cyc_eq m c
  generalize hW : V4 m c = W at h0 h1
  show StableHlo.after hostOps0_4 (V4 m c) _ = _
  rw [hW]
  unfold_abbrev_sides
  after_results_simp
  rw [h0, h1]
  simp only [StableHlo.TRef.ofBuf_toBuf]
  funext i
  fin_cases c <;> sl_kernel_rfl

/-- One place on. -/
theorem v9_eq : V6 m c main_v9 = fun _ => behind c := by
  have h0 : V5 m c main_v5 = fun _ => w0 c := (V5_of m c main_v5 (by decide)).trans <| (V4_of m c main_v5 (by decide)).trans <| (V3_of m c main_v5 (by decide)).trans <| v5_eq m c
  generalize hW : V5 m c = W at h0
  show StableHlo.after hostOps0_5 (V5 m c) _ = _
  rw [hW]
  unfold_abbrev_sides
  after_results_simp
  rw [h0]
  funext i
  fin_cases c <;> sl_kernel_rfl

/-- The number of devices, as the host's second remainder uses it. -/
theorem c6_eq : V6 m c main_c_6 = fun _ => 32#32 := by
  unfold_abbrev_sides
  after_results
  rfl

/-- One place on, around the cycle. -/
theorem v10_eq : V7 m c main_v10 = fun _ => word (pos (nxt c)) := by
  have h0 : V6 m c main_v9 = fun _ => behind c := v9_eq m c
  have h1 : V6 m c main_c_6 = fun _ => 32#32 := c6_eq m c
  generalize hW : V6 m c = W at h0 h1
  show StableHlo.after hostOps0_6 (V6 m c) _ = _
  rw [hW]
  unfold_abbrev_sides
  after_results_simp
  rw [h0, h1]
  simp only [StableHlo.TRef.ofBuf_toBuf]
  funext i
  fin_cases c <;> sl_kernel_rfl

/-- The device one place on. -/
theorem v11_eq : V8 m c main_v11 = fun _ => w2 c := by
  have h0 : V7 m c main_v10 = fun _ => word (pos (nxt c)) := v10_eq m c
  have h1 : V7 m c main_c_0 = fun i => lit1 (S32.rowMajor i) := (V7_of m c main_c_0 (by decide)).trans <| (V6_of m c main_c_0 (by decide)).trans <| (V5_of m c main_c_0 (by decide)).trans <| (V4_of m c main_c_0 (by decide)).trans <| (V3_of m c main_c_0 (by decide)).trans <| (V2_of m c main_c_0 (by decide)).trans <| cyc_eq m c
  generalize hW : V7 m c = W at h0 h1
  show StableHlo.after hostOps0_7 (V7 m c) _ = _
  rw [hW]
  unfold_abbrev_sides
  after_results_simp
  rw [h0, h1]
  simp only [StableHlo.TRef.ofBuf_toBuf]
  funext i
  fin_cases c <;> sl_kernel_rfl

/-- The last stretch puts its three words side by side. -/
theorem ids_after (W : Valuation τ sig (Elt F)) : StableHlo.after hostOps0_8 W main_v15
    = concatenate S3 0
      [⟨S1, broadcastInDim S1 ![] bcast_S_S1 (W main_v5)⟩, ⟨S1, broadcastInDim S1 ![] bcast_S_S1 (W main_v8)⟩,
        ⟨S1, broadcastInDim S1 ![] bcast_S_S1 (W main_v11)⟩] concatenates_S1_S1_S1_S3_d0 := by
  unfold_abbrev_sides
  after_results_simp
  sl_kernel_rfl

/-- Three single words side by side. -/
theorem three_words (a b d : BitVec 32) (i : S3.Idx) :
    concatenate (α := BitVec 32) S3 0 [⟨S1, broadcastInDim S1 ![] bcast_S_S1 (fun _ : S_.Idx => a)⟩, ⟨S1, broadcastInDim S1 ![] bcast_S_S1 (fun _ : S_.Idx => b)⟩,
        ⟨S1, broadcastInDim S1 ![] bcast_S_S1 (fun _ : S_.Idx => d)⟩] concatenates_S1_S1_S1_S3_d0 i
      = if (i (0 : Fin 1)).val = 0 then a else if (i (0 : Fin 1)).val = 1 then b else d := by
  obtain ⟨n, hn, rfl⟩ : ∃ (n : ℕ) (h : n < 3), i = fun k => ⟨n, by fin_cases k; exact h⟩ :=
    ⟨(i (0 : Fin 1)).val, (i (0 : Fin 1)).isLt, by funext k; fin_cases k; rfl⟩
  rcases n with _ | _ | _ | n
  · rfl
  · rfl
  · rfl
  · omega

/-- The three words the kernel is given. -/
theorem ids_eq : V9 m c main_v15 = idsV c := by
  show StableHlo.after hostOps0_8 (V8 m c) main_v15 = _
  have h0 : V8 m c main_v5 = fun _ => w0 c := (V8_of m c main_v5 (by decide)).trans <| (V7_of m c main_v5 (by decide)).trans <| (V6_of m c main_v5 (by decide)).trans <| (V5_of m c main_v5 (by decide)).trans <| (V4_of m c main_v5 (by decide)).trans <| (V3_of m c main_v5 (by decide)).trans <| v5_eq m c
  have h1 : V8 m c main_v8 = fun _ => w1 c := (V8_of m c main_v8 (by decide)).trans <| (V7_of m c main_v8 (by decide)).trans <| (V6_of m c main_v8 (by decide)).trans <| v8_eq m c
  have h2 : V8 m c main_v11 = fun _ => w2 c := v11_eq m c
  rw [ids_after, h0, h1, h2]
  funext i
  exact three_words _ _ _ i

/-- No host line writes argument 0. -/
theorem arg0_eq : V9 m c main_arg0 = m ((c : Thread nD τ).loc main_arg0) :=
  (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl

end Cert.GatherProof
-- ==== Proof.Gather.Point.lean ====
/-
  The one grid point: the kernel's run stated over the staging buffers the pipeline fills and drains.
-/
module

public import proofs.«01_k».proof.Proof.Gather.Words
public import proofs.«01_k».proof.Proof.Gen.GatherIdeal.Points
public import Idealize.ShloMosaic.Lib.Pipeline.RegionTalk
public import Idealize.ShloMosaic.Lib.Pipeline.ValueKit

@[expose] public section

noncomputable section

namespace Cert.GatherProof

open Cert.GatherIdeal Cert.GatherIdeal.Gen
open Cert.RingProof (cyc pos pos_cyc cyc_pos posEquiv nxt prv dst src src_dst dst_src word w0 w1 w2 sidx par)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-- The argument as each device is given it. -/
def inY (c : Dev nD) : Vec F S128x2048 .f32 := m ((c : Thread nD τ).loc main_arg0)
/-- What each device computes. -/
def result (c : Dev nD) : Vec F S4096x2048 .f32 := outV (inY m) c

/-- What enters the kernel's one point beside the buffers. -/
def entry (c : Dev nD) : sProp 𝕄 :=
  iprop(∃ (κ : GSem nD τ sig → ℕ) (ιs : Dev nD × Fin 4 → ℕ), invs (F := F) (inY m) κ ιs ∗ levAts L lv
    ∗ startDir (F := F) c 0 ∗ startDir (F := F) c 1 ∗ startBar (F := F) c)
/-- What leaves it. -/
def leaving (c : Dev nD) : sProp 𝕄 := iprop((zeros (F := F) c 0 ∗ zeros (F := F) c 1) ∗ semVal (barG c) 0)

def Φa (c : Dev nD) : sProp 𝕄 := iprop(Pipeline.scopedRest spec0 c ∗ (∃ r, prngReg c r) ∗ entry m c)
def Φb (c : Dev nD) : sProp 𝕄 := iprop(Pipeline.scopedRest spec0 c ∗ (∃ r, prngReg c r) ∗ leaving (F := F) c)

def pdats (_ : Fin 1) (c : Dev nD) : Dat τ (Elt F) ℕ ℕ UU ℕ cfg0 c where
  A w := V9 m c (Proc.devRef .tc (Pipeline.arrRef spec0 w))
  after w _ := match w with
    | ⟨0, _⟩ => inY m c
    | ⟨1, _⟩ => idsV (F := F) c
    | ⟨2, _⟩ => result m c
  Φ t := match t with
    | ⟨0, _⟩ => Φa m c
    | ⟨_ + 1, _⟩ => Φb (F := F) c
  q _ := fullShare
  owed t := match t with
    | ⟨0, _⟩ => ow₀ c
    | ⟨_ + 1, _⟩ => 0

theorem whole0 (t : Fin cfg0.N) (f : Vec F S128x2048 .f32) : (win0_0.blk t).view.read (Elt F) f = f := by
  obtain rfl := fin_N0 t
  funext y
  refine congrArg f (funext fun a => Fin.ext ?_)
  have h : win0_0.index t0_0 a = 0 := by revert a; decide
  blk_simp
  rw [h, Nat.zero_mul, Nat.zero_add]
theorem whole1 (t : Fin cfg0.N) (f : Vec F S3 .i32) : (win0_1.blk t).view.read (Elt F) f = f := by
  obtain rfl := fin_N0 t
  funext y
  refine congrArg f (funext fun a => Fin.ext ?_)
  have h : win0_1.index t0_0 a = 0 := by revert a; decide
  blk_simp
  rw [h, Nat.zero_mul, Nat.zero_add]

/-! ## What each window holds when the body starts -/

variable (c : Dev nD)

theorem before0 (t : Fin cfg0.N) (d : Vec F S128x2048 .f32) : (pdats m 0 c).before (0 : Fin 3) t d = inY m c := by
  unfold Dat.before
  rw [if_pos (fetch0_0 t)]
  show (win0_0.blk t).view.read (Elt F) (V9 m c main_arg0) = _
  rw [whole0, arg0_eq]; rfl
theorem before1 (t : Fin cfg0.N) (d : Vec F S3 .i32) : (pdats m 0 c).before (1 : Fin 3) t d = idsV (F := F) c := by
  unfold Dat.before
  rw [if_pos (fetch0_1 t)]
  show (win0_1.blk t).view.read (Elt F) (V9 m c main_v15) = _
  rw [whole1, ids_eq]

/-! ## The body's obligation -/

theorem owes_in {t : Fin (cfg0.N + 1)} (O : CellTallies nD τ sig ℕ) (h0 : (pdats m 0 c).owed t = O) :
    (ows (F := F) c O) ⊢ ((pdats m 0 c).owesAt 0 t : sProp 𝕄) := by
  unfold ows Dat.owesAt Pipeline.owesWithin Dat.bound
  rw [h0]
  iintro ⟨%W, HO⟩; iexists W; isplitr; · ipureintro; exact fun _ _ => Or.inl trivial
  iexact HO
theorem owes_out {t : Fin (cfg0.N + 1)} (O : CellTallies nD τ sig ℕ) (h0 : (pdats m 0 c).owed t = O) :
    ((pdats m 0 c).owesAt 0 t : sProp 𝕄) ⊢ ows (F := F) c O := by
  unfold ows Dat.owesAt Pipeline.owesWithin
  rw [h0]
  iintro ⟨%W, -, HO⟩; iexists W; iexact HO

theorem owns_form (b : Ref sig .tc) (X : b.ty.Contents (Elt F)) :
    (owns (Ix := ℕ) (Name := ℕ) (U := UU) (Lvl := ℕ) (c : Thread nD τ) (Memref.whole b) fullShare X : sProp 𝕄)
      = iprop(∃ f, ⌜f = X⌝ ∗ stg c b f) := by
  unfold owns; simp only [Memref.view_whole, View.read_whole, View.set_whole]
theorem whole_out (b : Ref sig .tc) (X : b.ty.Contents (Elt F)) :
    (iprop(∃ f, ⌜f = X⌝ ∗ stg c b f) : sProp 𝕄) ⊢ stg c b X := by
  iintro ⟨%f, %h, H⟩; subst h; iexact H
theorem whole_in (b : Ref sig .tc) (X : b.ty.Contents (Elt F)) :
    (stg c b X : sProp 𝕄) ⊢ iprop(∃ f, ⌜f = X⌝ ∗ stg c b f) := by
  iintro H; iexists X; isplitr; · ipureintro; rfl
  iexact H
/-- A buffer held whole, as the whole memref owned. -/
theorem whole_owns (b : Ref sig .tc) (X : b.ty.Contents (Elt F)) :
    (owns (Ix := ℕ) (Name := ℕ) (U := UU) (Lvl := ℕ) (c : Thread nD τ) (Memref.whole b) fullShare X : sProp 𝕄)
      = stg c b X :=
  (owns_form c b X).trans (BI.Entails.antisymm (whole_out c b X) (whole_in c b X))

theorem rest_eq : (Pipeline.scopedRest spec0 c : sProp 𝕄) = iprop(accAny (F := F) c ∗ rsAny (F := F) c 0 ∗ rsAny (F := F) c 1) := by
  rw [scopedRest0_eq]
  unfold accAny rsAny rsM
  dsimp only
  simp only [whole_owns]
  rfl

/-- What the body starts with, windows resolved. -/
def bodyPre : sProp 𝕄 :=
  iprop(Φa m c ∗ (pdats m 0 c).owesAt 0 t0_0.castSucc
    ∗ (∃ d, stg c cc0_stg0_0 ((pdats m 0 c).before (0 : Fin 3) t0_0 d)) ∗ (∃ d, stg c cc0_stg1_0 ((pdats m 0 c).before (1 : Fin 3) t0_0 d))
    ∗ (∃ d, stg c cc0_stg2_0 ((pdats m 0 c).before (2 : Fin 3) t0_0 d)))
def bodyPost : sProp 𝕄 :=
  iprop(Φb (F := F) c ∗ (pdats m 0 c).owesAt 0 t0_0.succ
    ∗ stg c cc0_stg0_0 (inY m c) ∗ stg c cc0_stg1_0 (idsV (F := F) c) ∗ stg c cc0_stg2_0 (result m c))

theorem pre_kernel : bodyPre m c ⊢ iprop((∃ r, prngReg c r)
    ∗ ∃ (κ : GSem nD τ sig → ℕ) (ιs : Dev nD × Fin 4 → ℕ) (f : Vec F S4096x2048 .f32), kernelPre (inY m) κ ιs c f) := by
  unfold bodyPre Φa entry
  rw [rest_eq]
  simp only [before0, before1]
  iintro ⟨⟨Hs, Hp, ⟨%κ, %ιs, HI, Hl, HR, HL, HB⟩⟩, HO, ⟨%d0, H0⟩, ⟨%d1, H1⟩, ⟨%d2, H2⟩⟩
  isplitl [Hp]; · iexact Hp
  iexists κ; iexists ιs; iexists ((pdats m 0 c).before (2 : Fin 3) t0_0 d2)
  unfold kernelPre
  isplitl [H0 H1 H2]
  · isplitl [H0]; · iexact H0
    isplitl [H1] <;> iassumption
  isplitl [HI Hl]; · isplitl [HI] <;> iassumption
  isplitl [Hs]; · iexact Hs
  isplitl [HR HL HB]
  · isplitl [HR]; · iexact HR
    isplitl [HL] <;> iassumption
  iapply (owes_out m c (t := t0_0.castSucc) (ow₀ c) rfl); iexact HO

theorem post_kernel : iprop((∃ r, prngReg c r) ∗ kernelPost (inY m) c) ⊢ bodyPost m c := by
  unfold bodyPost Φb kernelPost leaving
  rw [rest_eq]
  iintro ⟨Hp, ⟨H0, H1, H2⟩, Hs, HZ, Hb, HO⟩
  isplitl [Hp Hs HZ Hb]
  · isplitl [Hs]; · iexact Hs
    isplitl [Hp]; · iexact Hp
    isplitl [HZ] <;> iassumption
  isplitl [HO]; · iapply (owes_in m c (t := t0_0.succ) 0 rfl); iexact HO
  isplitl [H0]; · iexact H0
  isplitl [H1]; · iexact H1
  iexact H2

set_option maxRecDepth 4000 in
theorem body_obligation : BodyObligation (pdats m 0 c) (defs₀ (F := F)) 𝒱₀ 0 Set.univ := fun t => by
  obtain rfl := fin_N0 t
  rw [bigSep_W0, bigSep_W0]
  simp only [whole_owns]
  show bodyPre m c ⊢ wp frame (wpE (defs₀ (F := F)) 𝒱₀ (c : Thread nD τ) none) Set.univ
    (cc0_body yM (Memref.isWhole_whole _) idM (Memref.isWhole_whole _)
        oM (Memref.isWhole_whole _) accM (Memref.isWhole_whole _)
        (rsM 0) (Memref.isWhole_whole _) (rsM 1) (Memref.isWhole_whole _) cc0_scratch3 cc0_scratch4 cc0_scratch5) (fun _ => bodyPost m c)
  iintro H
  ihave H := (pre_kernel m c) $$ H
  icases H with ⟨Hp, ⟨%κ, %ιs, %f, H⟩⟩
  iapply wp_wand_r
  isplitl [H]; · iapply (kernel_run (inY m) κ ιs c f); iexact H
  iintro %a H
  iapply (post_kernel m c)
  isplitl [Hp] <;> iassumption

theorem share_eq (w : Fin cfg0.W) : (pdats m 0 c).share w = fullShare := by unfold Dat.share; split <;> rfl

/-- The result array at the end. -/
theorem arr_result : (pdats m 0 c).arrAt (2 : Fin 3) cfg0.N = result m c := by
  refine (pdats m 0 c).arrAt_eq_of_after_last (2 : Fin 3) t0_0 (by decide +kernel) _ fun j => ?_
  blk_simp
  rfl

end Cert.GatherProof
-- ==== Proof.Gather.Deal.lean ====
/-
  What the launch deals: every duty's token and every slot's writes, each to the device that spends it; and the
  counters' claims, each to the device that waits.
-/
module

public import proofs.«01_k».proof.Proof.Gather.Point

@[expose] public section

noncomputable section

namespace Cert.GatherProof

open Cert.GatherIdeal Cert.GatherIdeal.Gen
open Cert.RingProof (cyc pos pos_cyc cyc_pos posEquiv nxt prv dst src src_dst dst_src word w0 w1 w2 sidx par along nxt_prv prv_nxt)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## One device's tokens: semaphore, round, duty -/

theorem sendS_par : ∀ st p q : Fin 2, sendS (sidx st p) = sendS (sidx st q) → p = q := by decide
theorem recvS_par : ∀ st p q : Fin 2, recvS (sidx st p) = recvS (sidx st q) → p = q := by decide

theorem par_half {i j : ℕ} (hp : par i = par j) (hh : i / 2 = j / 2) : i = j := by
  rw [← half_par i, ← half_par j, hp, hh]

def tkS (st : Fin 2) : ℕ ↪ SemLoc sig × ℕ × ℕ :=
  ⟨fun j => (.dma (sendS (sidx st (par j))), j / 2, 0), fun _ _ h => par_half (sendS_par st _ _ (SemLoc.dma.inj (congrArg Prod.fst h)))
    (congrArg (fun x : SemLoc sig × ℕ × ℕ => x.2.1) h)⟩
def tkR (st : Fin 2) : ℕ ↪ SemLoc sig × ℕ × ℕ :=
  ⟨fun j => (.dma (recvS (sidx st (par j))), j / 2, 0), fun _ _ h => par_half (recvS_par st _ _ (SemLoc.dma.inj (congrArg Prod.fst h)))
    (congrArg (fun x : SemLoc sig × ℕ × ℕ => x.2.1) h)⟩
def tkC (st : Fin 2) : ℕ ↪ SemLoc sig × ℕ × ℕ :=
  ⟨fun j => (.reg (crS st), 0, j), fun _ _ h => congrArg (fun x : SemLoc sig × ℕ × ℕ => x.2.2) h⟩
def tkB : ℕ ↪ SemLoc sig × ℕ × ℕ :=
  ⟨fun j => (.reg barS, 0, j), fun _ _ h => congrArg (fun x : SemLoc sig × ℕ × ℕ => x.2.2) h⟩

def setS (st : Fin 2) : Finset (SemLoc sig × ℕ × ℕ) := (Finset.Ico 0 (nM st)).map (tkS st)
def setR (st : Fin 2) : Finset (SemLoc sig × ℕ × ℕ) := (Finset.Ico 0 (nM st)).map (tkR st)
def setC (st : Fin 2) : Finset (SemLoc sig × ℕ × ℕ) := (Finset.Ico 0 (nCr st)).map (tkC st)
def setB : Finset (SemLoc sig × ℕ × ℕ) := (Finset.range 2).map tkB
def setD (st : Fin 2) : Finset (SemLoc sig × ℕ × ℕ) := setS st ∪ (setR st ∪ setC st)
/-- All of one device's. -/
def devToks : Finset (SemLoc sig × ℕ × ℕ) := setD 0 ∪ (setD 1 ∪ setB)

theorem dis_rc : ∀ st, Disjoint (setR st) (setC st) := by decide +kernel
theorem dis_s : ∀ st, Disjoint (setS st) (setR st ∪ setC st) := by decide +kernel
theorem dis_b : Disjoint (setD 1) setB := by decide +kernel
theorem dis_d : Disjoint (setD 0) (setD 1 ∪ setB) := by decide +kernel

theorem bigSep_devToks (Φ : SemLoc sig × ℕ × ℕ → sProp 𝕄) :
    bigSep devToks Φ = iprop(((bigSep (Finset.Ico 0 (nM 0)) fun j => Φ (tkS 0 j)) ∗ (bigSep (Finset.Ico 0 (nM 0)) fun j => Φ (tkR 0 j))
        ∗ (bigSep (Finset.Ico 0 (nCr 0)) fun j => Φ (tkC 0 j)))
      ∗ ((bigSep (Finset.Ico 0 (nM 1)) fun j => Φ (tkS 1 j)) ∗ (bigSep (Finset.Ico 0 (nM 1)) fun j => Φ (tkR 1 j))
        ∗ (bigSep (Finset.Ico 0 (nCr 1)) fun j => Φ (tkC 1 j)))
      ∗ Φ (tkB 0) ∗ Φ (tkB 1)) := by
  unfold devToks
  rw [bigSep_union dis_d, bigSep_union dis_b]
  unfold setD
  rw [bigSep_union (dis_s 0), bigSep_union (dis_s 1), bigSep_union (dis_rc 0), bigSep_union (dis_rc 1)]
  unfold setS setR setC setB
  rw [bigSep_map, bigSep_map, bigSep_map, bigSep_map, bigSep_map, bigSep_map, bigSep_map,
    show Finset.range 2 = {0, 1} from rfl, bigSep_insert (by decide), bigSep_singleton]
  rfl

theorem bigSep_prod {α β : Type} [DecidableEq α] [DecidableEq β] (s : Finset α) (t : Finset β) (Φ : α × β → sProp 𝕄) :
    bigSep (s ×ˢ t) Φ = bigSep s fun a => bigSep t fun b => Φ (a, b) := by
  induction s using Finset.induction_on with
  | empty => rw [Finset.empty_product, BI.bigSep_empty, BI.bigSep_empty]
  | insert a s ha ih =>
    have hd : Disjoint ({a} ×ˢ t) (s ×ˢ t) := Finset.disjoint_product.mpr (.inl (Finset.disjoint_singleton_left.mpr ha))
    have hm : bigSep ({a} ×ˢ t) Φ = bigSep t fun b => Φ (a, b) := by
      rw [Finset.singleton_product, bigSep_map]; rfl
    rw [Finset.insert_eq, Finset.union_product, bigSep_union hd, hm, ih, ← Finset.insert_eq, bigSep_insert ha]

/-- All the tokens: of every device, each of these. -/
def toks : Finset (GSem nD τ sig × ℕ × ℕ) :=
  ((Finset.univ : Finset (Dev nD)) ×ˢ devToks).map ⟨fun x => (((x.1 : Thread nD τ), x.2.1), x.2.2.1, x.2.2.2), fun a b h => by
    have h1 : a.1 = b.1 := congrArg (fun t : GSem nD τ sig × ℕ × ℕ => t.1.1.1) h
    have h2 : a.2.1 = b.2.1 := congrArg (fun t : GSem nD τ sig × ℕ × ℕ => t.1.2) h
    have h3 : a.2.2 = b.2.2 := congrArg (fun t : GSem nD τ sig × ℕ × ℕ => t.2) h
    exact Prod.ext h1 (Prod.ext h2 h3)⟩

def dirToks (st : Fin 2) (c : Dev nD) : sProp 𝕄 :=
  iprop((bigSep (Finset.Ico 0 (nM st)) fun j => dutyTok (ER (F := F)) (sendG c st (par j)) (j / 2) 0)
    ∗ (bigSep (Finset.Ico 0 (nM st)) fun j => dutyTok (ER (F := F)) (recvG c st (par j)) (j / 2) 0)
    ∗ (bigSep (Finset.Ico 0 (nCr st)) fun j => dutyTok (ER (F := F)) (crG c st) 0 j))

theorem toks_eq : bigSep toks (fun x => (dutyTok (ER (F := F)) x.1 x.2.1 x.2.2 : sProp 𝕄))
    = bigSep Finset.univ fun c : Dev nD => iprop(dirToks (F := F) 0 c ∗ dirToks (F := F) 1 c
        ∗ dutyTok (ER (F := F)) (barG c) 0 0 ∗ dutyTok (ER (F := F)) (barG c) 0 1) := by
  unfold toks
  rw [bigSep_map, bigSep_prod]
  exact bigSep_congr fun c _ => by rw [bigSep_devToks]; rfl

/-! ## The slots' writes -/

def slotKeys : Finset (Dev nD × Fin 4) := Finset.univ

def wrS (st : Fin 2) : ℕ ↪ Fin 4 × ℕ :=
  ⟨fun j => (sidx st (par j), j / 2), fun _ _ h => par_half (sendS_par st _ _ (congrArg sendS (congrArg Prod.fst h))) (congrArg Prod.snd h)⟩

theorem wr_dis : Disjoint ((Finset.Ico 0 (nM 0)).map (wrS 0)) ((Finset.Ico 0 (nM 1)).map (wrS 1)) := by decide +kernel
theorem wr_sub : (Finset.Ico 0 (nM 0)).map (wrS 0) ∪ (Finset.Ico 0 (nM 1)).map (wrS 1) ⊆ (Finset.univ : Finset (Fin 4)) ×ˢ Finset.range 8 := by
  decide +kernel

def dirWrites (st : Fin 2) (c : Dev nD) : sProp 𝕄 :=
  bigSep (Finset.Ico 0 (nM st)) fun j => writeTok (ES (F := F)) (c, sidx st (par j)) (j / 2 + 1)

theorem writes : (bigSep (slotKeys ×ˢ Finset.range 8) (fun x => writeTok (ES (F := F)) x.1 (x.2 + 1)) : sProp 𝕄)
    ⊢ bigSep Finset.univ fun c : Dev nD => iprop(dirWrites (F := F) 0 c ∗ dirWrites (F := F) 1 c) := by
  unfold slotKeys
  rw [bigSep_prod, bigSep_univ_prod]
  refine bigSep_mono fun c _ => ?_
  rw [← bigSep_prod (Finset.univ : Finset (Fin 4)) (Finset.range 8) (fun x => writeTok (ES (F := F)) (c, x.1) (x.2 + 1))]
  have h : (bigSep ((Finset.Ico 0 (nM 0)).map (wrS 0) ∪ (Finset.Ico 0 (nM 1)).map (wrS 1))
      (fun x => writeTok (ES (F := F)) (c, x.1) (x.2 + 1)) : sProp 𝕄) = iprop(dirWrites (F := F) 0 c ∗ dirWrites (F := F) 1 c) := by
    rw [bigSep_union wr_dis, bigSep_map, bigSep_map]
    rfl
  rw [← h]
  exact bigSep_subset wr_sub

theorem readers : (bigSep slotKeys (fun k => readerAt (ES (F := F)) k 0) : sProp 𝕄)
    = bigSep Finset.univ fun c : Dev nD => iprop(readerAt (ES (F := F)) (c, sidx 0 0) 0 ∗ readerAt (ES (F := F)) (c, sidx 0 1) 0
        ∗ readerAt (ES (F := F)) (c, sidx 1 0) 0 ∗ readerAt (ES (F := F)) (c, sidx 1 1) 0) := by
  unfold slotKeys
  rw [bigSep_univ_prod]
  refine bigSep_congr fun c _ => ?_
  rw [show (Finset.univ : Finset (Fin 4)) = {0, 1, 2, 3} from by decide, bigSep_insert (by decide), bigSep_insert (by decide),
    bigSep_insert (by decide), bigSep_singleton]
  rfl

/-! ## Handing round -/

/-- What a device sends and frees with, in one direction. -/
def dirDue (st : Fin 2) (c : Dev nD) : sProp 𝕄 :=
  iprop(TK (F := F) c st 0 ∗ bigSep (Finset.Ico 0 (nCr st)) (fun j => dutyTok (ER (F := F)) (crG (src st c) st) 0 j))

theorem dir_round (st : Fin 2) : iprop((bigSep Finset.univ fun c : Dev nD => dirToks (F := F) st c) ∗ (bigSep Finset.univ fun c : Dev nD => dirWrites (F := F) st c))
    ⊢ (bigSep Finset.univ fun c : Dev nD => dirDue (F := F) st c : sProp 𝕄) := by
  have h1 : (bigSep Finset.univ fun c : Dev nD => dirToks (F := F) st c : sProp 𝕄)
      = iprop((bigSep Finset.univ fun c : Dev nD => bigSep (Finset.Ico 0 (nM st)) fun j => dutyTok (ER (F := F)) (sendG c st (par j)) (j / 2) 0)
        ∗ (bigSep Finset.univ fun c : Dev nD => bigSep (Finset.Ico 0 (nM st)) fun j => dutyTok (ER (F := F)) (recvG (dst st c) st (par j)) (j / 2) 0)
        ∗ (bigSep Finset.univ fun c : Dev nD => bigSep (Finset.Ico 0 (nCr st)) fun j => dutyTok (ER (F := F)) (crG (src st c) st) 0 j)) := by
    unfold dirToks
    rw [bigSep_sep', bigSep_sep',
      bigSep_univ_equiv (along st) (fun c : Dev nD => bigSep (Finset.Ico 0 (nM st)) fun j => (dutyTok (ER (F := F)) (recvG c st (par j)) (j / 2) 0 : sProp 𝕄)),
      bigSep_univ_equiv (along st).symm (fun c : Dev nD => bigSep (Finset.Ico 0 (nCr st)) fun j => (dutyTok (ER (F := F)) (crG c st) 0 j : sProp 𝕄))]
    rfl
  have h2 : (bigSep Finset.univ fun c : Dev nD => dirWrites (F := F) st c : sProp 𝕄)
      = bigSep Finset.univ fun c : Dev nD => dirWrites (F := F) st (dst st c) :=
    bigSep_univ_equiv (along st) (fun c : Dev nD => dirWrites (F := F) st c)
  rw [h1, h2]
  unfold dirDue dirWrites TK
  rw [bigSep_sep']
  iintro ⟨⟨HS, HR, HC⟩, HW⟩
  isplitr [HC]
  · simp only [bigSep_sep']
    isplitl [HS]; · iexact HS
    isplitl [HR]; · iexact HR
    iexact HW
  · iexact HC

theorem bar_round : (bigSep Finset.univ fun c : Dev nD => iprop(dutyTok (ER (F := F)) (barG c) 0 0 ∗ dutyTok (ER (F := F)) (barG c) 0 1) : sProp 𝕄)
    = bigSep Finset.univ fun c : Dev nD => iprop(dutyTok (ER (F := F)) (barG (src 0 c)) 0 0 ∗ dutyTok (ER (F := F)) (barG (src 1 c)) 0 1) := by
  rw [bigSep_sep', bigSep_sep',
    bigSep_univ_equiv (along 0).symm (fun c : Dev nD => (dutyTok (ER (F := F)) (barG c) 0 0 : sProp 𝕄)),
    bigSep_univ_equiv (along 1).symm (fun c : Dev nD => (dutyTok (ER (F := F)) (barG c) 0 1 : sProp 𝕄))]
  rfl

/-! ## What each device may wait for -/

/-- The claims on arrivals and credits in one direction. -/
def dirCred (st : Fin 2) (c : Dev nD) : sProp 𝕄 :=
  iprop((bigSep (Finset.Ico 0 (nM st)) fun j => cred (tallyAt (recvG c st (par j)) j N))
    ∗ bigSep (Finset.Ico 0 (nCr st)) (fun j => cred (tallyAt (crG c st) j 1)))

theorem cred_M (st : Fin 2) (c : Dev nD) : (Pipeline.launchCred (owM st 0) c : sProp 𝕄)
    ⊢ bigSep (Finset.Ico 0 (nM st)) fun j => cred (tallyAt (recvG c st (par j)) j N) := by
  rw [show owM st 0 = fun d => ∑ h ∈ Finset.Ico 0 (nM st), tallyAt (recvG (dst st d) st (par h)) h N from funext fun d => rfl,
    Pipeline.launchCred_sum]
  exact bigSep_mono fun j _ => Pipeline.launchCred_tallyAt (.dma (recvS (sidx st (par j)))) (dst st) (src st) (dst_src st) (src_dst st) j N c
theorem cred_C (st : Fin 2) (c : Dev nD) : (Pipeline.launchCred (owC st 0) c : sProp 𝕄)
    ⊢ bigSep (Finset.Ico 0 (nCr st)) fun j => cred (tallyAt (crG c st) j 1) := by
  rw [show owC st 0 = fun d => ∑ h ∈ Finset.Ico 0 (nCr st), tallyAt (crG (src st d) st) h 1 from funext fun d => rfl,
    Pipeline.launchCred_sum]
  exact bigSep_mono fun j _ => Pipeline.launchCred_tallyAt (.reg (crS st)) (src st) (dst st) (src_dst st) (dst_src st) j 1 c

theorem creds (c : Dev nD) : (Pipeline.launchCred ow₀ c : sProp 𝕄)
    ⊢ iprop(dirCred (F := F) 0 c ∗ dirCred (F := F) 1 c ∗ cred (tallyAt (barG c) 0 2)) := by
  rw [show (ow₀ : Dev nD → CellTallies nD τ sig ℕ) = fun d => ((owM 0 0 d + owM 1 0 d) + (owC 0 0 d + owC 1 0 d))
      + tallyAt (barG (nxt d)) 0 1 + tallyAt (barG (prv d)) 0 1 from funext fun d => rfl,
    Pipeline.launchCred_add, Pipeline.launchCred_add, Pipeline.launchCred_add, Pipeline.launchCred_add, Pipeline.launchCred_add]
  unfold dirCred
  iintro ⟨⟨⟨⟨M0, M1⟩, C0, C1⟩, B0⟩, B1⟩
  ihave M0 := (cred_M (F := F) 0 c) $$ M0
  ihave M1 := (cred_M (F := F) 1 c) $$ M1
  ihave C0 := (cred_C (F := F) 0 c) $$ C0
  ihave C1 := (cred_C (F := F) 1 c) $$ C1
  ihave B0 := (Pipeline.launchCred_tallyAt (.reg barS) nxt prv nxt_prv prv_nxt 0 1 c) $$ B0
  ihave B1 := (Pipeline.launchCred_tallyAt (.reg barS) prv nxt prv_nxt nxt_prv 0 1 c) $$ B1
  isplitl [M0 C0]; · isplitl [M0] <;> iassumption
  isplitl [M1 C1]; · isplitl [M1] <;> iassumption
  rw [show (2 : ℕ) = 1 + 1 from rfl, ← tallyAt_add]
  iapply (cred_add _ _).2
  isplitl [B0] <;> iassumption

end Cert.GatherProof
-- ==== Proof.Gather.Region.lean ====
/-
  The kernel's region: the semaphores opened on the way in, found at zero on the way out.
-/
module

public import proofs.«01_k».proof.Proof.Gather.Deal

@[expose] public section

noncomputable section

namespace Cert.GatherProof

open Cert.GatherIdeal Cert.GatherIdeal.Gen
open Cert.RingProof (cyc pos pos_cyc cyc_pos posEquiv nxt prv dst src src_dst dst_src word w0 w1 w2 sidx par)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)

/-! ## Opening the semaphores -/

/-- One direction, its semaphores not yet open. -/
def restDir (st : Fin 2) (c : Dev nD) : sProp 𝕄 :=
  iprop(dirDue (F := F) st c ∗ dirCred (F := F) st c ∗ readerAt (ES (F := F)) (c, sidx st 0) 0 ∗ readerAt (ES (F := F)) (c, sidx st 1) 0)

def shut (c : Dev nD) : sProp 𝕄 := bigSep Finset.univ fun k : Fin 10 => openTok (ER (F := F)) ((c : Thread nD τ), osem k)
def atStart (c : Dev nD) (s : SemLoc sig) : sProp 𝕄 := iprop(atPos (ER (F := F)) ((c : Thread nD τ), s) 0 ∅ 0 ∗ reached (ER (F := F)) ((c : Thread nD τ), s) 0)

/-- What the launch deals a device beside its buffers. -/
def Tk (c : Dev nD) : sProp 𝕄 :=
  iprop((∃ (κ : GSem nD τ sig → ℕ) (ιs : Dev nD × Fin 4 → ℕ), invs (F := F) (inY m) κ ιs) ∗ shut (F := F) c
    ∗ restDir (F := F) 0 c ∗ restDir (F := F) 1 c ∗ startBar (F := F) c)
def Yk (c : Dev nD) : sProp 𝕄 := semVal (barG c) 0

theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide, bigSep_insert (by decide), bigSep_insert (by decide),
    bigSep_insert (by decide), bigSep_insert (by decide), bigSep_insert (by decide), bigSep_insert (by decide), bigSep_insert (by decide),
    bigSep_insert (by decide), bigSep_insert (by decide), bigSep_singleton]
  rfl

theorem open_one (κ : GSem nD τ sig → ℕ) (ιs : Dev nD × Fin 4 → ℕ) (c : Dev nD) (k : Fin 10) :
    iprop(invs (F := F) (inY m) κ ιs ∗ (openTok (ER (F := F)) ((c : Thread nD τ), osem k) ∗ semVal ((c : Thread nD τ), osem k) 0))
      ⊢ (|={Set.univ}=> atStart (F := F) c (osem k) : sProp 𝕄) := by
  unfold atStart
  iintro ⟨#HI, Ho, Hv⟩
  ihave HC := (invs_cell (F := F) (inY m) κ ιs (Finset.mem_union_right _ (mem_dorm c k))) $$ HI
  iapply (Rounds.cell_open (ER (F := F)) (rd (F := F) (inY m)) (g := ((c : Thread nD τ), osem k)) (Set.mem_univ (κ ((c : Thread nD τ), osem k))))
  isplitl [HC]; · iexact HC
  isplitl [Ho] <;> iassumption

theorem open_all (κ : GSem nD τ sig → ℕ) (ιs : Dev nD × Fin 4 → ℕ) (c : Dev nD) :
    iprop(invs (F := F) (inY m) κ ιs ∗ shut (F := F) c ∗ Pipeline.ownSems0 osem c)
      ⊢ (|={Set.univ}=> bigSep Finset.univ fun k : Fin 10 => atStart (F := F) c (osem k) : sProp 𝕄) := by
  unfold shut Pipeline.ownSems0
  iintro ⟨#HI, Ho, Hv⟩
  iapply (bigSep_fupd Finset.univ fun k : Fin 10 => atStart (F := F) c (osem k))
  iapply (bigSep_with_persistent (R := invs (F := F) (inY m) κ ιs)
    (Φ := fun k : Fin 10 => iprop(openTok (ER (F := F)) ((c : Thread nD τ), osem k) ∗ semVal ((c : Thread nD τ), osem k) 0))
    fun k _ => open_one m κ ιs c k)
  isplitr; · iexact HI
  rw [bigSep_sep']
  isplitl [Ho] <;> iassumption

theorem dir_open (c : Dev nD) (st : Fin 2) :
    iprop(restDir (F := F) st c ∗ (atStart (F := F) c (.dma (sendS (sidx st 0))) ∗ atStart (F := F) c (.dma (sendS (sidx st 1))))
      ∗ (atStart (F := F) c (.dma (recvS (sidx st 0))) ∗ atStart (F := F) c (.dma (recvS (sidx st 1)))) ∗ atStart (F := F) c (.reg (crS st)))
    ⊢ startDir (F := F) c st := by
  unfold restDir startDir atStart dirDue dirCred RV SP
  iintro ⟨⟨⟨HT, HdC⟩, ⟨HcM, HcC⟩, Hr0, Hr1⟩, ⟨⟨Ha0, #Hb0⟩, Ha1, #Hb1⟩, ⟨⟨Hv0, #Hw0⟩, Hv1, #Hw1⟩, Hc, #Hd⟩
  isplitl [HcM Hv0 Hv1]
  · isplitl [Hv0]; · iexact Hv0
    isplitl [Hv1]; · iexact Hv1
    iexact HcM
  isplitl [Ha0 Ha1]
  · isplitl [Ha0]; · iexact Ha0
    isplitl [Ha1]; · iexact Ha1
    isplitr; · iexact Hb0
    iexact Hb1
  isplitl [HT]; · iexact HT
  isplitl [Hc HcC]; · isplitl [Hc] <;> iassumption
  isplitl [HdC]; · iexact HdC
  isplitl [Hr0 Hr1]; · isplitl [Hr0] <;> iassumption
  isplitr
  · isplitr; · iexact Hw0
    iexact Hw1
  iexact Hd

theorem hopen (c : Dev nD) : iprop(Tk m c ∗ Pipeline.ownSems0 osem c ∗ levAts L lv) ⊢ (|={Set.univ}=> entry m c : sProp 𝕄) := by
  unfold Tk entry
  iintro ⟨⟨⟨%κ, %ιs, #HI⟩, Hs, H0, H1, HB⟩, Hz, #Hl⟩
  imod (open_all m κ ιs c) $$ [Hs Hz] with HA
  · isplitr; · iexact HI
    isplitl [Hs] <;> iassumption
  ihave HA := (Entails.of_eq (bigSep_fin10 fun k : Fin 10 => atStart (F := F) c (osem k))) $$ HA
  icases HA with ⟨S0, S1, S2, S3, R0, R1, R2, R3, C0, C1⟩
  imodintro
  iexists κ; iexists ιs
  isplitr; · iexact HI
  isplitr; · iexact Hl
  isplitl [H0 S0 S1 R0 R1 C0]
  · iapply (dir_open c 0)
    isplitl [H0]; · iexact H0
    isplitl [S0 S1]; · isplitl [S0]; · iexact S0
                       iexact S1
    isplitl [R0 R1]; · isplitl [R0]; · iexact R0
                       iexact R1
    iexact C0
  isplitl [H1 S2 S3 R2 R3 C1]
  · iapply (dir_open c 1)
    isplitl [H1]; · iexact H1
    isplitl [S2 S3]; · isplitl [S2]; · iexact S2
                       iexact S3
    isplitl [R2 R3]; · isplitl [R2]; · iexact R2
                       iexact R3
    iexact C1
  iexact HB

/-! ## In and out -/

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V9 m c) ∗ entry m c) ⊢ ((pdats m 0 c).Φ 0 : sProp 𝕄) := by
  show _ ⊢ Φa m c
  unfold Φa
  iintro ⟨Hs, Hp, -, HX⟩
  isplitl [Hs]; · iexact Hs
  isplitl [Hp] <;> iassumption

/-- The result array's contents at the end; nothing else is written. -/
def outs : Outs (F := F) := fun _ r c => if h : r = main_v16 then h ▸ (result m c : Vec F S4096x2048 .f32) else V9 m c r

theorem outs_eq (c : Dev nD) : outs m 10 main_v16 c = result m c := by unfold outs; rw [dif_pos rfl]

theorem hout (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ (V10 m (outs m) c) ∗ Pipeline.ownSems0 osem c ∗ Yk (F := F) c) := by
  show Φb (F := F) c ⊢ _
  rw [held_none]
  unfold Φb leaving zeros Yk Pipeline.ownSems0
  rw [bigSep_fin10]
  iintro ⟨Hs, Hp, ⟨⟨⟨R0, R1⟩, ⟨S0, S1⟩, C0⟩, ⟨R2, R3⟩, ⟨S2, S3⟩, C1⟩, Hb⟩
  isplitl [Hs]; · iexact Hs
  isplitl [Hp]; · iexact Hp
  isplitr; · iempintro
  isplitr [Hb]
  · isplitl [S0]; · iexact S0
    isplitl [S1]; · iexact S1
    isplitl [S2]; · iexact S2
    isplitl [S3]; · iexact S3
    isplitl [R0]; · iexact R0
    isplitl [R1]; · iexact R1
    isplitl [R2]; · iexact R2
    isplitl [R3]; · iexact R3
    isplitl [C0]; · iexact C0
    iexact C1
  iexact Hb

/-! ## The record -/

theorem kitP : Pipeline.PLaunchFacts (nD := nD) (τ := τ) (pcfgs (F := F)) 0 where
  cellOf_inj a := by rw [Subsingleton.elim a adm]; exact cellOf_inj
  win := launch0.win
  pre := Pipeline.PreFacts.none _
  block_pos := launch0.block_pos
  arr_whole := launch0.arr_whole
  stage_whole := launch0.stage_whole

theorem ow₀_pos (c : Dev nD) (g : GSem nD τ sig) (i : ℕ) (h : 0 < ow₀ c g i) : i ∈ L g ∧ 0 < lv g i := by
  have h' : 0 < ow 0 0 0 0 c g i + tallyAt (barG (nxt c)) 0 1 g i + tallyAt (barG (prv c)) 0 1 g i := h
  have bar : ∀ d : Dev nD, 0 < tallyAt (barG d) 0 1 g i → i ∈ L g ∧ 0 < lv g i := fun d hd => by
    rw [tallyAt_apply] at hd
    split at hd
    · next hg =>
      rw [hg.1, hg.2, L_tc]
      exact ⟨by decide, by show 0 < levOf (.reg barS) 0; decide⟩
    · exact absurd hd (Nat.lt_irrefl 0)
  rcases Nat.add_pos_iff_pos_or_pos.mp h' with h' | h'
  · rcases Nat.add_pos_iff_pos_or_pos.mp h' with h' | h'
    · have := ow_pos 0 0 0 0 c g i h'
      exact ⟨this.1, by omega⟩
    · exact bar _ h'
  · exact bar _ h'

theorem stage_lev : ∀ (w : Fin cfg0.W) (s : Fin (cfg0.win w).nbuf), levOf (.dma ((cfg0.win w).sem s)) 0 ≤ 0 := by decide

theorem cut : Pipeline.LevelCutOwed (pcfgs (F := F)) adm (pdats m) 0 L lv 0 (fun _ => 0) where
  hι c w s := by rw [L_tc]; decide
  hιb c w s := stage_lev w s
  hD c t g i h := by
    rcases t with ⟨_ | n, hn⟩
    · exact ow₀_pos c g i h
    · exact absurd (h : 0 < (0 : CellTallies nD τ sig ℕ) g i) (Nat.lt_irrefl 0)

/-- The buffers that are no window's array. -/
abbrev others : Finset (DevRef τ sig) := Pipeline.ucRefs τ sig \ Pipeline.arrRefs (τ := τ) spec0

theorem arrs_sub : Pipeline.arrRefs (τ := τ) spec0 ⊆ Pipeline.ucRefs τ sig := by decide

theorem out_mem : (Proc.devRef .tc main_v16 : DevRef τ sig) ∈ Pipeline.arrRefs (τ := τ) spec0 := by decide

theorem V10_other (c : Dev nD) (b : DevRef τ sig) (hb : b ≠ Proc.devRef .tc main_v16) : V10 m (outs m) c b = V9 m c b :=
  Function.update_of_ne hb _ _

theorem in_ne : ∀ w : Fin cfg0.W, w ≠ (2 : Fin 3) → (Proc.devRef .tc (Pipeline.arrRef spec0 w) : DevRef τ sig) ≠ Proc.devRef .tc main_v16 := by decide
theorem in_role : ∀ w : Fin cfg0.W, w ≠ (2 : Fin 3) → (cfg0.win w).isOut = false := by decide

theorem arr_end (c : Dev nD) (w : Fin cfg0.W) : (pdats m 0 c).arrAt w cfg0.N = V10 m (outs m) c (Proc.devRef .tc (Pipeline.arrRef spec0 w)) := by
  by_cases h : w = (2 : Fin 3)
  · subst h
    refine (arr_result m c).trans ((outs_eq m c).symm.trans ?_)
    exact (Function.update_self (Proc.devRef .tc main_v16) (outs m 10 main_v16 c) (V9 m c)).symm
  · rw [V10_other m c _ (in_ne w h)]
    exact (pdats m 0 c).arrAt_in w (in_role w h) _

theorem arr_start (c : Dev nD) (w : Fin cfg0.W) : (pdats m 0 c).arrAt w 0 = V9 m c (Proc.devRef .tc (Pipeline.arrRef spec0 w)) := rfl

set_option backward.isDefEq.respectTransparency.types false in
def reg : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    ∅ others (Finset.empty_subset _) kitP rfl (fun c => (body_obligation m c).loose)
    (fun _ => 0) ow₀ (fun c => (zero_add (ow₀ c)).symm) (fun _ => rfl) (fun _ => rfl) (fun c w => share_eq m c w)
    (V9 m) (V10 m (outs m))
    (fun c b hb => V10_other m c b fun h => (Finset.mem_sdiff.mp (Finset.mem_sdiff.mp hb).1).2 (h ▸ out_mem))
    (Tk m) (Yk (F := F)) (entry m) (Yk (F := F)) (hopen m) (hin m) (hout m)
    (fun c => by iintro H; imodintro; iexact H)
    (fun _ => 0) (cut m)
    (fun _ => iprop(emp))
    (fun c w => arr_start m c w) (fun c w => arr_end m c w)

/-! ## The states before and after -/

/-- What rides along the host's operations, and what is kept at the end. -/
def ride (k : Fin 2) (c : Dev nD) : sProp 𝕄 := match k with
  | 0 => iprop(Tk m c ∗ (∃ r, prngReg c r) ∗ ∃ W, owes (c : Thread nD τ) (ow₀ c) W)
  | 1 => iprop(Yk (F := F) c ∗ ∃ W, owes (c : Thread nD τ) (0 : CellTallies nD τ sig ℕ) W)

theorem reg_pre (c : Dev nD) : iprop(StableHlo.held (c : Thread nD τ) (Pipeline.ucRefs τ sig) (V9 m c) ∗ ride m 0 c) ⊢ (reg m).pre c := by
  show _ ⊢ iprop(StableHlo.held (c.tc : Thread nD τ) (Pipeline.arrRefs (τ := τ) spec0) (V9 m c) ∗ (∃ r, prngReg c r)
    ∗ (StableHlo.held (c.tc : Thread nD τ) others (V9 m c) ∗ emp) ∗ Tk m c ∗ ∃ Wd, owes (c : Thread nD τ) (0 + ow₀ c) Wd)
  rw [StableHlo.held_sub_split (c : Thread nD τ) arrs_sub (V9 m c), zero_add]
  unfold ride
  dsimp only
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem reg_post (c : Dev nD) : (reg m).post c ⊢ iprop(StableHlo.held (c : Thread nD τ) (Pipeline.ucRefs τ sig) (V10 m (outs m) c) ∗ ride m 1 c) := by
  show iprop(StableHlo.held (c.tc : Thread nD τ) (Pipeline.arrRefs (τ := τ) spec0) (V10 m (outs m) c) ∗ (∃ r, prngReg c r)
    ∗ (StableHlo.held (c.tc : Thread nD τ) others (V10 m (outs m) c) ∗ emp) ∗ Yk (F := F) c ∗ ∃ Wd, owes (c : Thread nD τ) (0 : CellTallies nD τ sig ℕ) Wd) ⊢ _
  rw [StableHlo.held_sub_split (c : Thread nD τ) arrs_sub (V10 m (outs m) c)]
  unfold ride
  dsimp only
  iintro ⟨Ha, -, ⟨Ho, -⟩, HY, HO⟩
  isplitl [Ha Ho]; · isplitl [Ha] <;> iassumption
  isplitl [HY] <;> iassumption

end Cert.GatherProof
-- ==== Proof.Gather.Run.lean ====
/-
  THE RUN: launch to last state, over any float values.
-/
module

public import proofs.«01_k».proof.Proof.Gather.Region
public import Idealize.ShloMosaic.Lib.Quiescent

@[expose] public section

noncomputable section

namespace Cert.GatherProof

open Cert.GatherIdeal Cert.GatherIdeal.Gen
open Cert.RingProof (cyc pos pos_cyc cyc_pos posEquiv nxt prv dst src src_dst dst_src word w0 w1 w2 sidx par)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## The launch element -/

def uR : URounds (GSem nD τ sig) ℕ × USlots (Dev nD × Fin 4) := (launchOf liveCells dormCells toks, initSlots slotKeys 8)

def u₀ : UU :=
  (initOf (Pipeline.cells (Pipeline.pin (pcfgs (F := F)) adm) cellOf_inj) (Pipeline.launchToks (Pipeline.pin (pcfgs (F := F)) adm) cellOf_inj), uR)

/-- The protocol's part is kept whole on one device until it is dealt. -/
def G (c : Dev nD) : sProp 𝕄 := if c = 0 then BI.own ((embR : Emb (URounds (GSem nD τ sig) ℕ × USlots (Dev nD × Fin 4)) 𝕄) uR) else iprop(emp)

theorem G_all : bigSep Finset.univ (G (F := F)) = (BI.own ((embR : Emb (URounds (GSem nD τ sig) ℕ × USlots (Dev nD × Fin 4)) 𝕄) uR) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem cells_disjoint : Disjoint liveCells dormCells := by
  rw [Finset.disjoint_left]
  intro g h₁ h₂
  unfold liveCells at h₁; unfold dormCells at h₂
  obtain ⟨c, -, rfl⟩ := Finset.mem_map.mp h₁
  obtain ⟨ck, -, h⟩ := Finset.mem_map.mp h₂
  exact (by decide : ∀ k : Fin 10, osem k ≠ .reg barS) ck.2 (congrArg Prod.snd h)

theorem unscopedSems0_eq (c : Dev nD) : (unscopedSems0 c : sProp 𝕄) = semVal (barG c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

/-! ## Dealing -/

/-- A device's own part, before the invariants are handed to everybody. -/
def share (c : Dev nD) : sProp 𝕄 :=
  iprop((atPos (ER (F := F)) (barG c) 0 ∅ 0 ∗ shut (F := F) c)
    ∗ (dirDue (F := F) 0 c ∗ dirDue (F := F) 1 c)
    ∗ (readerAt (ES (F := F)) (c, sidx 0 0) 0 ∗ readerAt (ES (F := F)) (c, sidx 0 1) 0
        ∗ readerAt (ES (F := F)) (c, sidx 1 0) 0 ∗ readerAt (ES (F := F)) (c, sidx 1 1) 0)
    ∗ (dutyTok (ER (F := F)) (barG (src 0 c)) 0 0 ∗ dutyTok (ER (F := F)) (barG (src 1 c)) 0 1))
/-- What the launch gives it beside the buffers and counters. -/
def own0 (c : Dev nD) : sProp 𝕄 :=
  iprop((dirCred (F := F) 0 c ∗ dirCred (F := F) 1 c ∗ cred (tallyAt (barG c) 0 2)) ∗ (∃ r, prngReg c r) ∗ ∃ W, owes (c : Thread nD τ) (ow₀ c) W)

def records (κ : GSem nD τ sig → ℕ) (ιs : Dev nD × Fin 4 → ℕ) : sProp 𝕄 :=
  iprop(invs (F := F) (inY m) κ ιs ∗ bigSep liveCells fun g => reached (ER (F := F)) g 0)
instance records_persistent (κ : GSem nD τ sig → ℕ) (ιs : Dev nD × Fin 4 → ℕ) : BI.Persistent (records (F := F) m κ ιs) := by
  unfold records; infer_instance

theorem bar_reached (c : Dev nD) : (bigSep liveCells fun g => (reached (ER (F := F)) g 0 : sProp 𝕄)) ⊢ reached (ER (F := F)) (barG c) 0 :=
  bigSep_elim (by unfold liveCells; exact Finset.mem_map.mpr ⟨c, Finset.mem_univ _, rfl⟩)

theorem ride_intro (κ : GSem nD τ sig → ℕ) (ιs : Dev nD × Fin 4 → ℕ) (c : Dev nD) :
    iprop(records (F := F) m κ ιs ∗ (share (F := F) c ∗ own0 (F := F) c)) ⊢ ride (F := F) m 0 c := by
  unfold records share own0 ride Tk restDir startBar
  dsimp only
  iintro ⟨⟨#HI, #HR⟩, ⟨⟨Hat, Hsh⟩, ⟨HD0, HD1⟩, ⟨r0, r1, r2, r3⟩, B0, B1⟩, ⟨C0, C1, CB⟩, Hp, HO⟩
  isplitr [Hp HO]
  · isplitr; · iexists κ; iexists ιs; iexact HI
    isplitl [Hsh]; · iexact Hsh
    isplitl [HD0 C0 r0 r1]
    · isplitl [HD0]; · iexact HD0
      isplitl [C0]; · iexact C0
      isplitl [r0] <;> iassumption
    isplitl [HD1 C1 r2 r3]
    · isplitl [HD1]; · iexact HD1
      isplitl [C1]; · iexact C1
      isplitl [r2] <;> iassumption
    isplitl [B0]
    · isplitl [B0]; · iexact B0
      iapply (bar_reached (F := F) (src 0 c)); iexact HR
    isplitl [B1]
    · isplitl [B1]; · iexact B1
      iapply (bar_reached (F := F) (src 1 c)); iexact HR
    isplitl [Hat] <;> iassumption
  isplitl [Hp] <;> iassumption

theorem launch :
    iprop((bigSep Finset.univ fun c : Dev nD => iprop(unscopedSems0 c ∗ owes (c : Thread nD τ) (ow₀ c) ∅ ∗ Pipeline.launchCred ow₀ c ∗ prngReg c (ρ c) ∗ G (F := F) c))
        ∗ levAts L lv)
      ⊢ (|={Set.univ}=> bigSep Finset.univ (ride (F := F) m 0) : sProp 𝕄) := by
  have hcore (c : Dev nD) : iprop(unscopedSems0 c ∗ owes (c : Thread nD τ) (ow₀ c) ∅ ∗ Pipeline.launchCred ow₀ c ∗ prngReg c (ρ c) ∗ G (F := F) c)
      ⊢ (iprop(own0 (F := F) c ∗ semVal (barG c) 0 ∗ G (F := F) c) : sProp 𝕄) := by
    rw [unscopedSems0_eq]
    unfold own0
    iintro ⟨Hus, HO, Hcr, Hp, HG⟩
    ihave Hc := (creds (F := F) c) $$ Hcr
    isplitr [Hus HG]
    · isplitl [Hc]; · iexact Hc
      isplitl [Hp]; · iexists (ρ c); iexact Hp
      iexists ∅; iexact HO
    isplitl [Hus] <;> iassumption
  have hall : (bigSep Finset.univ fun c : Dev nD => iprop(unscopedSems0 c ∗ owes (c : Thread nD τ) (ow₀ c) ∅ ∗ Pipeline.launchCred ow₀ c ∗ prngReg c (ρ c) ∗ G (F := F) c))
      ⊢ (iprop((bigSep Finset.univ fun c : Dev nD => own0 (F := F) c) ∗ (bigSep Finset.univ fun c : Dev nD => semVal (barG c) 0)
          ∗ BI.own ((embR : Emb (URounds (GSem nD τ sig) ℕ × USlots (Dev nD × Fin 4)) 𝕄) uR)) : sProp 𝕄) := by
    rw [← G_all, ← bigSep_sep', ← bigSep_sep']
    exact bigSep_mono fun c _ => hcore c
  have hv : bigSep Finset.univ (fun c : Dev nD => (semVal (barG c) 0 : sProp 𝕄)) = bigSep liveCells (fun g => (semVal g 0 : sProp 𝕄)) := by
    unfold liveCells; rw [bigSep_map]; rfl
  have hat : bigSep liveCells (fun g => (atPos (ER (F := F)) g 0 ∅ 0 : sProp 𝕄)) = bigSep Finset.univ (fun c : Dev nD => atPos (ER (F := F)) (barG c) 0 ∅ 0) := by
    unfold liveCells; rw [bigSep_map]; rfl
  have hop : bigSep dormCells (fun g => (openTok (ER (F := F)) g : sProp 𝕄)) = bigSep Finset.univ (fun c : Dev nD => shut (F := F) c) := by
    unfold dormCells; rw [bigSep_map, bigSep_univ_prod]; rfl
  have hpair : (BI.own ((embR : Emb (URounds (GSem nD τ sig) ℕ × USlots (Dev nD × Fin 4)) 𝕄) uR) : sProp 𝕄)
      ⊢ iprop(BI.own ((ER (F := F)) (launchOf liveCells dormCells toks)) ∗ BI.own ((ES (F := F)) (initSlots slotKeys 8))) :=
    own_pair_emb (embR : Emb (URounds (GSem nD τ sig) ℕ × USlots (Dev nD × Fin 4)) 𝕄) _ _
  have htk : (bigSep Finset.univ fun c : Dev nD => iprop(dirToks (F := F) 0 c ∗ dirToks (F := F) 1 c
        ∗ dutyTok (ER (F := F)) (barG c) 0 0 ∗ dutyTok (ER (F := F)) (barG c) 0 1) : sProp 𝕄)
      = iprop((bigSep Finset.univ fun c : Dev nD => dirToks (F := F) 0 c) ∗ (bigSep Finset.univ fun c : Dev nD => dirToks (F := F) 1 c)
        ∗ (bigSep Finset.univ fun c : Dev nD => iprop(dutyTok (ER (F := F)) (barG c) 0 0 ∗ dutyTok (ER (F := F)) (barG c) 0 1))) := by
    rw [bigSep_sep', bigSep_sep']
  have hwr : (bigSep Finset.univ fun c : Dev nD => iprop(dirWrites (F := F) 0 c ∗ dirWrites (F := F) 1 c) : sProp 𝕄)
      = iprop((bigSep Finset.univ fun c : Dev nD => dirWrites (F := F) 0 c) ∗ (bigSep Finset.univ fun c : Dev nD => dirWrites (F := F) 1 c)) := by
    rw [bigSep_sep']
  have hshare : (bigSep Finset.univ fun c : Dev nD => iprop(share (F := F) c ∗ own0 (F := F) c) : sProp 𝕄)
      = iprop((((bigSep Finset.univ fun c : Dev nD => atPos (ER (F := F)) (barG c) 0 ∅ 0) ∗ (bigSep Finset.univ fun c : Dev nD => shut (F := F) c))
          ∗ ((bigSep Finset.univ fun c : Dev nD => dirDue (F := F) 0 c) ∗ (bigSep Finset.univ fun c : Dev nD => dirDue (F := F) 1 c))
          ∗ (bigSep Finset.univ fun c : Dev nD => iprop(readerAt (ES (F := F)) (c, sidx 0 0) 0 ∗ readerAt (ES (F := F)) (c, sidx 0 1) 0
              ∗ readerAt (ES (F := F)) (c, sidx 1 0) 0 ∗ readerAt (ES (F := F)) (c, sidx 1 1) 0))
          ∗ (bigSep Finset.univ fun c : Dev nD => iprop(dutyTok (ER (F := F)) (barG (src 0 c)) 0 0 ∗ dutyTok (ER (F := F)) (barG (src 1 c)) 0 1)))
        ∗ (bigSep Finset.univ fun c : Dev nD => own0 (F := F) c)) := by
    unfold share
    rw [bigSep_sep', bigSep_sep', bigSep_sep', bigSep_sep', bigSep_sep', bigSep_sep']
  iintro ⟨H, -⟩
  ihave H := hall $$ H
  icases H with ⟨HB, Hv, Hu⟩
  ihave Hu := hpair $$ Hu
  icases Hu with ⟨HuR, HuS⟩
  imod (Rounds.fund_launch (ER (F := F)) (rd (F := F) (inY m)) cells_disjoint (fun g _ h => h) toks) $$ [Hv HuR]
    with ⟨%κ, -, #Hinv, #Hr, Hat, Hopen, Htok⟩
  · isplitl [Hv]
    · iapply (Entails.of_eq hv); iexact Hv
    · iexact HuR
  imod (Release.slots_init (ES (F := F)) slotKeys 8 (fun k : Dev nD × Fin 4 => slotAny (F := F) k.1 (stOf k.2) (parOf k.2))) $$ HuS
    with ⟨%ιs, -, #Hslot, Hrd, Hwr⟩
  imodintro
  iapply (bigSep_with_persistent (R := records (F := F) m κ ιs) (Φ := fun c => iprop(share (F := F) c ∗ own0 (F := F) c)) fun c _ => ride_intro m κ ιs c)
  isplitr
  · unfold records invs
    isplitr
    · isplitr; · iexact Hinv
      iexact Hslot
    iexact Hr
  iapply (Entails.of_eq hshare.symm)
  ihave Htok := (Entails.of_eq ((toks_eq (F := F)).trans htk)) $$ Htok
  icases Htok with ⟨T0, T1, TB⟩
  ihave Hwr := (writes (F := F)) $$ Hwr
  ihave Hwr := (Entails.of_eq hwr) $$ Hwr
  icases Hwr with ⟨W0, W1⟩
  isplitr [HB]
  · isplitl [Hat Hopen]
    · isplitl [Hat]; · iapply (Entails.of_eq hat); iexact Hat
      iapply (Entails.of_eq hop); iexact Hopen
    isplitl [T0 T1 W0 W1]
    · isplitl [T0 W0]
      · iapply (dir_round (F := F) 0); isplitl [T0] <;> iassumption
      · iapply (dir_round (F := F) 1); isplitl [T1] <;> iassumption
    isplitl [Hrd]
    · iapply (Entails.of_eq (readers (F := F))); iexact Hrd
    iapply (Entails.of_eq (bar_round (F := F))); iexact TB
  iexact HB

/-! ## The run -/

set_option backward.isDefEq.respectTransparency.types false in
/-- Every weakly fair execution ends, with every counter at zero, the arguments as they were and on each device the result. -/
theorem run_main : θ_run defs (onTc (τ := τ) (main (F := F))) ⟨m, fun _ => 0, ρ⟩ (fun r => (∀ c : Dev nD,
      r.2.mem ((c.tc : Thread nD τ).loc main_v16) = result m c
      ∧ r.2.mem ((c.tc : Thread nD τ).loc main_arg0) = m ((c.tc : Thread nD τ).loc main_arg0)) ∧ r.2.sem = fun _ => 0) := by
  refine Pipeline.θ_run_regions_kit_dev_sems (pcfgs (F := F)) adm (pdats m) 0 cellOf_inj EP defs₀ 𝒱₀ L lv m ρ main
    (segs m 𝒱₀ L lv (ride m) 0 (pdats m) (reg m))
    (fun c Q => by
      rewrite [main_chain c, Pipeline.Seg.run_eq_chain,
        show (segs m 𝒱₀ L lv (ride m) 0 (pdats m) (reg m) c).map Pipeline.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) ow₀ L_of_ne (G (F := F)) u₀
    (by
      unfold u₀
      iintro Hu
      ihave H := (ownU_pair _ _) $$ Hu
      icases H with ⟨HP, HX⟩
      imodintro
      isplitl [HP]; · iexact HP
      rw [G_all]; iexact HX)
    (T₀ := fun c => iprop(StableHlo.held (c : Thread nD τ) (Pipeline.ucRefs τ sig) (V0 m c) ∗ ride m 0 c))
    (Tₙ := fun c => iprop(StableHlo.held (c : Thread nD τ) (Pipeline.ucRefs τ sig) (V10 m (outs m) c) ∗ Yk (F := F) c))
    (hch := fun c => ⟨.rfl, .rfl, .rfl, .rfl, .rfl, .rfl, .rfl, .rfl, .rfl, reg_pre m c, (reg_post m c).trans (by
      unfold ride; dsimp only
      iintro ⟨Hh, Hy, HO⟩
      isplitr [HO]
      · isplitl [Hh] <;> iassumption
      iexact HO)⟩)
    (hinit := ?_) (QY := fun c s => (s.mem ((c.tc : Thread nD τ).loc main_v16) = result m c
      ∧ s.mem ((c.tc : Thread nD τ).loc main_arg0) = m ((c.tc : Thread nD τ).loc main_arg0))
      ∧ s.sem (barG c) = 0)
    (hfin := fun c s' => ?_) (hQ := fun s h hs => ⟨fun c => (h c).1, sem_eq_zero hs fun c sm hsm => by
      obtain rfl := unscoped_eq sm hsm
      exact (h c).2⟩)
  · have hsplit : (bigSep Finset.univ fun c : Dev nD => iprop(unscopedBufs c (fun b => m ((c.tc : Thread nD τ).loc b)) ∗ unscopedSems0 c
          ∗ owes (c.tc : Thread nD τ) (ow₀ c) ∅ ∗ Pipeline.launchCred ow₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (ow₀ c) ∅ ∗ Pipeline.launchCred ow₀ c ∗ prngReg c (ρ c) ∗ G (F := F) c))
            : sProp 𝕄) := by
      rw [← bigSep_sep']
      exact bigSep_mono fun c _ => by rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (launch m ρ) $$ [Hr Hla] with HE
    · isplitl [Hr]; · iexact Hr
      iexact Hla
    imodintro
    rw [bigSep_sep']
    isplitl [Hh]; · iexact Hh
    iexact HE
  · unfold StableHlo.held Yk
    iintro ⟨⟨Hh, Hb0⟩, HSI⟩
    icombine HSI Hb0 gives %hb
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      exact ⟨⟨(h (Proc.devRef .tc main_v16) (Finset.mem_filter.mpr ⟨StableHlo.devRef_mem_tcRefs main_v16, by decide⟩)).trans
          ((Function.update_self (Proc.devRef .tc main_v16) (outs m 10 main_v16 c) (V9 m c)).trans (outs_eq m c)),
        (h (Proc.devRef .tc main_arg0) (Finset.mem_filter.mpr ⟨StableHlo.devRef_mem_tcRefs main_arg0, by decide⟩)).trans (V10_main_arg0 m (outs m) c)⟩,
        by simpa using hb⟩
    · iexact HSI

end Cert.GatherProof
-- ==== Proof.Gather.Same.lean ====
/-
  THE FRAMES: the run at either instance of the float values.
-/
module

public import proofs.«01_k».proof.Defs
public import proofs.«01_k».proof.Proof.Gen.Gather
public import proofs.«01_k».proof.Proof.Gen.GatherIdeal
public import proofs.«01_k».proof.Proof.Gather.Run

@[expose] public section

noncomputable section

namespace Cert.GatherProof

open Cert.GatherIdeal
open Idealize.ShloMosaic
open Idealize.ShloMosaic.TcCoe
open Idealize.SL.Sem

/-- The kernel's run over the words of the machine formats, in the vocabulary of its twin text. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0))
      ∧ r.2.sem = fun _ => 0)

theorem frame_bits : FrameBits := fun m ρ _ =>
  (θ_run defs _ _).mono (fun _ h => ⟨fun c => (h.1 c).2, h.2⟩) (run_main (F := Bits) m ρ)

theorem frame_ideal : Cert.quiescent_GatherIdeal := fun m ρ _ =>
  (θ_run defs _ _).mono (fun _ h => ⟨fun c => (h.1 c).2, h.2⟩) (run_main (F := Ideal) m ρ)

/-- The two printed texts of the kernel are one text. -/
theorem same_text : Cert.quiescent_Gather = FrameBits := by sl_kernel_rfl

theorem frame_gather : Cert.quiescent_Gather := same_text.mpr frame_bits

end Cert.GatherProof

end
-- ==== Proof.Gather.Value.lean ====
/-
  THE VALUE: what every device is left with is the whole of what the reference puts together.
-/
module

public import proofs.«01_k».proof.Defs
public import proofs.«01_k».proof.Proof.Gather.Run
public import proofs.«01_k».proof.Proof.Gen.GatherReferenceIdeal.Run
public import Idealize.ShloMosaic.Lib.Pipeline.ValueKit
public import Idealize.ShloMosaic.Lib.Pointwise
public import Idealize.ShloMosaic.Lib.Layout
public import Idealize.ShloMosaic.Lib.Quiescent

@[expose] public section

noncomputable section

namespace Cert.GatherProof

open Cert.GatherIdeal Cert.GatherIdeal.Gen
open Cert.RingProof (cyc pos cyc_pos)
open Idealize.ShloMosaic
open Idealize.ShloMosaic.TcCoe
open Idealize.SL.Sem

/-! ## The reference's blocks in the ring's order -/

section Ref
variable {F : FTy → Type} [FloatOps F] (z : Vec F ⟨2, ![4096, 2048]⟩ .f32)

theorem from_slice (q : Fin 32) : Shape.Slices ⟨2, ![4096, 2048]⟩ ![(cyc q).val * 128, 0] S128x2048 := by
  revert q; decide

/-- The block that comes at place `q` of the result. -/
def takenAt (q : Fin 32) : FVec F S128x2048 .f32 :=
  extractStridedSlice S128x2048 ![(cyc q).val * 128, 0] z (from_slice q)

/-- Place `p` of half `h`. -/
def place (h : Fin 2) (p : Fin 16) : Fin 32 := ⟨h.val * 16 + p.val, by omega⟩

theorem half_cat (h : Fin 2) : Shape.Concatenates
    ((List.ofFn fun p : Fin 16 => (⟨S128x2048, takenAt z (place h p)⟩ : (s : Shape) × (s.Idx → Elt F .f32))).map (·.1)) ⟨2, ![2048, 2048]⟩ 0 := by
  rw [List.map_ofFn]
  exact (by decide : Shape.Concatenates (List.ofFn fun _ : Fin 16 => S128x2048) ⟨2, ![2048, 2048]⟩ 0)

/-- One half of the result. -/
def halfOf (h : Fin 2) : FVec F ⟨2, ![2048, 2048]⟩ .f32 :=
  concatenate ⟨2, ![2048, 2048]⟩ 0 (List.ofFn fun p : Fin 16 => (⟨S128x2048, takenAt z (place h p)⟩ : (s : Shape) × (s.Idx → Elt F .f32))) (half_cat z h)

theorem whole_cat : Shape.Concatenates
    ((List.ofFn fun h : Fin 2 => (⟨⟨2, ![2048, 2048]⟩, halfOf z h⟩ : (s : Shape) × (s.Idx → Elt F .f32))).map (·.1)) ⟨2, ![4096, 2048]⟩ 0 := by
  rw [List.map_ofFn]
  exact (by decide : Shape.Concatenates (List.ofFn fun _ : Fin 2 => (⟨2, ![2048, 2048]⟩ : Shape)) ⟨2, ![4096, 2048]⟩ 0)

/-- The whole result. -/
def wholeOf : FVec F ⟨2, ![4096, 2048]⟩ .f32 :=
  concatenate ⟨2, ![4096, 2048]⟩ 0 (List.ofFn fun h : Fin 2 => (⟨⟨2, ![2048, 2048]⟩, halfOf z h⟩ : (s : Shape) × (s.Idx → Elt F .f32))) (whole_cat z)

theorem res_whole (m : (ℓ : Loc Cert.GatherReferenceIdeal.nD Cert.GatherReferenceIdeal.τ Cert.GatherReferenceIdeal.sig) → Buf (Elt F) ℓ) :
    Cert.GatherReferenceIdeal.Value.res_out0 m 0
      = wholeOf (m (((0 : Dev Cert.GatherReferenceIdeal.nD).tc : Thread Cert.GatherReferenceIdeal.nD Cert.GatherReferenceIdeal.τ).loc Cert.GatherReferenceIdeal.main_arg0)) := by
  sl_kernel_rfl

theorem half_block (h : Fin 2) : Layout.block ⟨2, ![2048, 2048]⟩ ⟨2, ![4096, 2048]⟩ 0 2 h (wholeOf z) = halfOf z h :=
  Layout.block_concatenate_ofFn (t := ⟨2, ![4096, 2048]⟩) 0 (halfOf z) (whole_cat z) (by decide) h

theorem taken_block (h : Fin 2) (p : Fin 16) : Layout.block S128x2048 ⟨2, ![2048, 2048]⟩ 0 16 p (halfOf z h) = takenAt z (place h p) :=
  Layout.block_concatenate_ofFn (t := ⟨2, ![2048, 2048]⟩) 0 (fun p => takenAt z (place h p)) (half_cat z h) (by decide) p

/-- The result's rows at place `q` are the block of the device at position `q`. -/
theorem whole_block (q : Fin 32) (y : S128x2048.Idx) : wholeOf z ((chunkRect q).emb y) = (Layout.block S128x2048 ⟨2, ![4096, 2048]⟩ 0 32 (cyc q) z) y := by
  obtain ⟨h, p, rfl⟩ : ∃ (h : Fin 2) (p : Fin 16), q = place h p := ⟨⟨q.val / 16, by omega⟩, ⟨q.val % 16, by omega⟩, Fin.ext (by simp only [place]; omega)⟩
  have hh := congrFun (half_block z h) ((by decide : Layout.Tiles S128x2048 ⟨2, ![2048, 2048]⟩ 0 16).idx p y)
  have hp := congrFun (taken_block z h p) y
  rw [Layout.block_apply] at hh hp
  rw [show (chunkRect (place h p)).emb y
      = (by decide : Layout.Tiles ⟨2, ![2048, 2048]⟩ ⟨2, ![4096, 2048]⟩ 0 2).idx h ((by decide : Layout.Tiles S128x2048 ⟨2, ![2048, 2048]⟩ 0 16).idx p y) from ?_, hh, hp]
  · unfold takenAt
    rw [Layout.block_apply]
    refine congrArg z (funext fun a => Fin.ext ?_)
    fin_cases a
    · rfl
    · show 0 + (y 1).val = (y 1).val
      omega
  · funext a
    refine Fin.ext ?_
    fin_cases a
    · show (h.val * 16 + p.val) * 128 + 1 * (y 0).val = h.val * 2048 + (p.val * 128 + (y 0).val)
      omega
    · show 0 + 1 * (y 1).val = (y 1).val
      omega

end Ref

/-! ## Against the kernel's -/

/-- At the extended reals a block arrives as it was sent. -/
theorem blockV_ideal (Y : Dev nD → Vec Ideal S128x2048 .f32) (c : Dev nD) (q : Fin 32) : blockV Y c q = Y (cyc q) := by
  unfold blockV
  split
  · next h =>
    subst h
    rw [cyc_pos]
    funext y
    pointwise [k0_pay3]
  · funext y
    unfold own
    pointwise [k0_pay3, k0_pay4]

theorem out_whole (Y : Dev nD → Vec Ideal S128x2048 .f32) (z : Vec Ideal ⟨2, ![4096, 2048]⟩ .f32)
    (hY : ∀ d : Fin 32, Y d = Layout.block S128x2048 ⟨2, ![4096, 2048]⟩ 0 32 d z) (c : Dev nD) : outV Y c = wholeOf z := by
  funext x
  obtain ⟨q, -, hx⟩ := Finset.mem_biUnion.mp (chunks_cover ▸ Finset.mem_univ x)
  rw [← Rect.map_emb_univ] at hx
  obtain ⟨y, -, rfl⟩ := Finset.mem_map.mp hx
  refine (Rect.glue_emb chunkRect chunks_cover chunks_disj (blockV Y c) q y).trans ?_
  rw [blockV_ideal, hY]
  exact (whole_block z q y).symm

/-! ## The claims -/

/-- The reference has no semaphores: its frame is its run. -/
theorem frame_ref : Cert.quiescent_GatherReferenceIdeal := fun m ρ _ =>
  (θ_run _ _ _).mono (fun r h => ⟨fun c => (h c).2, sem_eq_zero_of_no_sems (by decide) r.2⟩)
    (Cert.GatherReferenceIdeal.Value.run (F := Ideal) m ρ)

theorem value : Cert.algebraic_GatherIdeal_GatherReferenceIdeal := fun m g m' g' _ hm =>
  ⟨Cert.GatherReferenceIdeal.Value.res_out0 m' 0,
    (θ_run defs _ _).mono (fun _ h c => ⟨((h.1 c).1).trans
      ((out_whole (inY m) _ (fun d => hm d) c).trans (res_whole m').symm), (h.1 c).2⟩)
      (run_main (F := Ideal) m g),
    (θ_run _ _ _).mono (fun _ h => h 0) (Cert.GatherReferenceIdeal.Value.run (F := Ideal) m' g')⟩

end Cert.GatherProof

end
-- ==== Proof.lean ====
/-
  THE CLAIM, for the kernel up to its epilogue and for its all-gather alike: the frames of the two readings and of the
  reference, and the value against the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Gather
public import proofs.«01_k».proof.Proof.Gen.GatherIdeal
public import proofs.«01_k».proof.Proof.Gen.GatherReferenceIdeal
public import proofs.«01_k».proof.Proof.Same
public import proofs.«01_k».proof.Proof.Value
public import proofs.«01_k».proof.Proof.Gather.Same
public import proofs.«01_k».proof.Proof.Gather.Value

@[expose] public section

noncomputable section

namespace Cert.Proof

open Idealize.ShloMosaic Idealize.SL.Sem

theorem frame_ref : Cert.quiescent_ReferenceIdeal := fun m ρ _ => Cert.ReferenceIdeal.Gen.frame m ρ

theorem frame_gather_ref : Cert.quiescent_GatherReferenceIdeal := Cert.GatherProof.frame_ref

theorem claim : Cert.Claim := ⟨Cert.Kernel.Gen.facts, Cert.KernelIdeal.Gen.facts, Cert.ReferenceIdeal.Gen.facts,
  Cert.Gather.Gen.facts, Cert.GatherIdeal.Gen.facts, Cert.GatherReferenceIdeal.Gen.facts,
  Cert.RingProof.frame_kernel, Cert.RingProof.frame_ideal, frame_ref,
  Cert.GatherProof.frame_gather, Cert.GatherProof.frame_ideal, frame_gather_ref,
  trivial, Cert.RingProof.value, trivial, Cert.GatherProof.value⟩

end Cert.Proof

end
